-- ==== Defs.lean ====
def Pre_EvenAttn (m : (ℓ : Loc Cert.EvenAttn.nD Cert.EvenAttn.τ Cert.EvenAttn.sig) → Buf (Elt Bits) ℓ) : Prop :=
  True

def Pre_EvenAttnIdeal (m : (ℓ : Loc Cert.EvenAttnIdeal.nD Cert.EvenAttnIdeal.τ Cert.EvenAttnIdeal.sig) → Buf (Elt Ideal) ℓ) : Prop :=
  True

def Pre_EvenAttnIdeal_even_attention_finite [hPre_even_attention_finite : Cert.Pre_even_attention_finite.Facts] (m : (ℓ : Loc Cert.EvenAttnIdeal.nD Cert.EvenAttnIdeal.τ Cert.EvenAttnIdeal.sig) → Buf (Elt Ideal) ℓ) : Prop :=
  ∀ c : Dev Cert.EvenAttnIdeal.nD,
    (Cert.Pre_even_attention_finite.fn (F := Ideal) (m ((c.tc : Thread Cert.EvenAttnIdeal.nD Cert.EvenAttnIdeal.τ).loc Cert.EvenAttnIdeal.main_arg0)) (m ((c.tc : Thread Cert.EvenAttnIdeal.nD Cert.EvenAttnIdeal.τ).loc Cert.EvenAttnIdeal.main_arg1)) (m ((c.tc : Thread Cert.EvenAttnIdeal.nD Cert.EvenAttnIdeal.τ).loc Cert.EvenAttnIdeal.main_arg2)) (m ((c.tc : Thread Cert.EvenAttnIdeal.nD Cert.EvenAttnIdeal.τ).loc Cert.EvenAttnIdeal.main_arg3)) (m ((c.tc : Thread Cert.EvenAttnIdeal.nD Cert.EvenAttnIdeal.τ).loc Cert.EvenAttnIdeal.main_arg4)) (m ((c.tc : Thread Cert.EvenAttnIdeal.nD Cert.EvenAttnIdeal.τ).loc Cert.EvenAttnIdeal.main_arg5)) (m ((c.tc : Thread Cert.EvenAttnIdeal.nD Cert.EvenAttnIdeal.τ).loc Cert.EvenAttnIdeal.main_arg6)) (m ((c.tc : Thread Cert.EvenAttnIdeal.nD Cert.EvenAttnIdeal.τ).loc Cert.EvenAttnIdeal.main_arg7)) (m ((c.tc : Thread Cert.EvenAttnIdeal.nD Cert.EvenAttnIdeal.τ).loc Cert.EvenAttnIdeal.main_arg8)) (m ((c.tc : Thread Cert.EvenAttnIdeal.nD Cert.EvenAttnIdeal.τ).loc Cert.EvenAttnIdeal.main_arg9)) (m ((c.tc : Thread Cert.EvenAttnIdeal.nD Cert.EvenAttnIdeal.τ).loc Cert.EvenAttnIdeal.main_arg10)) (m ((c.tc : Thread Cert.EvenAttnIdeal.nD Cert.EvenAttnIdeal.τ).loc Cert.EvenAttnIdeal.main_arg11)) (m ((c.tc : Thread Cert.EvenAttnIdeal.nD Cert.EvenAttnIdeal.τ).loc Cert.EvenAttnIdeal.main_arg12)) (m ((c.tc : Thread Cert.EvenAttnIdeal.nD Cert.EvenAttnIdeal.τ).loc Cert.EvenAttnIdeal.main_arg13)) (m ((c.tc : Thread Cert.EvenAttnIdeal.nD Cert.EvenAttnIdeal.τ).loc Cert.EvenAttnIdeal.main_arg14)) (m ((c.tc : Thread Cert.EvenAttnIdeal.nD Cert.EvenAttnIdeal.τ).loc Cert.EvenAttnIdeal.main_arg15)) (m ((c.tc : Thread Cert.EvenAttnIdeal.nD Cert.EvenAttnIdeal.τ).loc Cert.EvenAttnIdeal.main_arg16))) = (fun _ => 1#1)

def Pre_EvenRefIdeal (m : (ℓ : Loc Cert.EvenRefIdeal.nD Cert.EvenRefIdeal.τ Cert.EvenRefIdeal.sig) → Buf (Elt Ideal) ℓ) : Prop :=
  True

def Pre_EvenRefIdeal_even_attention_finite [hPre_even_attention_finite : Cert.Pre_even_attention_finite.Facts] (m : (ℓ : Loc Cert.EvenRefIdeal.nD Cert.EvenRefIdeal.τ Cert.EvenRefIdeal.sig) → Buf (Elt Ideal) ℓ) : Prop :=
  ∀ c : Dev Cert.EvenRefIdeal.nD,
    (Cert.Pre_even_attention_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddIdeal_project_odd_finite [hPre_project_odd_finite : Cert.Pre_project_odd_finite.Facts] (m : (ℓ : Loc Cert.InOddIdeal.nD Cert.InOddIdeal.τ Cert.InOddIdeal.sig) → Buf (Elt Ideal) ℓ) : Prop :=
  ∀ c : Dev Cert.InOddIdeal.nD,
    (Cert.Pre_project_odd_finite.fn (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)) (m ((c.tc : Thread Cert.InOddIdeal.nD Cert.InOddIdeal.τ).loc Cert.InOddIdeal.main_arg3)) (m ((c.tc : Thread Cert.InOddIdeal.nD Cert.InOddIdeal.τ).loc Cert.InOddIdeal.main_arg4))) = (fun _ => 1#1)

def Pre_InOddRefIdeal (m : (ℓ : Loc Cert.InOddRefIdeal.nD Cert.InOddRefIdeal.τ Cert.InOddRefIdeal.sig) → Buf (Elt Ideal) ℓ) : Prop :=
  True

def Pre_InOddRefIdeal_project_odd_finite [hPre_project_odd_finite : Cert.Pre_project_odd_finite.Facts] (m : (ℓ : Loc Cert.InOddRefIdeal.nD Cert.InOddRefIdeal.τ Cert.InOddRefIdeal.sig) → Buf (Elt Ideal) ℓ) : Prop :=
  ∀ c : Dev Cert.InOddRefIdeal.nD,
    (Cert.Pre_project_odd_finite.fn (F := Ideal) (m ((c.tc : Thread Cert.InOddRefIdeal.nD Cert.InOddRefIdeal.τ).loc Cert.InOddRefIdeal.main_arg0)) (m ((c.tc : Thread Cert.InOddRefIdeal.nD Cert.InOddRefIdeal.τ).loc Cert.InOddRefIdeal.main_arg1)) (m ((c.tc : Thread Cert.InOddRefIdeal.nD Cert.InOddRefIdeal.τ).loc Cert.InOddRefIdeal.main_arg2)) (m ((c.tc : Thread Cert.InOddRefIdeal.nD Cert.InOddRefIdeal.τ).loc Cert.InOddRefIdeal.main_arg3)) (m ((c.tc : Thread Cert.InOddRefIdeal.nD Cert.InOddRefIdeal.τ).loc Cert.InOddRefIdeal.main_arg4))) = (fun _ => 1#1)

def quiescent_EvenAttn [hEvenAttn : Cert.EvenAttn.Facts] : Prop :=
  ∀ (m : (ℓ : Loc Cert.EvenAttn.nD Cert.EvenAttn.τ Cert.EvenAttn.sig) → Buf (Elt Bits) ℓ) (g : Dev Cert.EvenAttn.nD → PrngReg), Pre_EvenAttn m →
    θ_run (Cert.EvenAttn.defs (F := Bits)) (onTc (τ := Cert.EvenAttn.τ) (Cert.EvenAttn.main (F := Bits))) ⟨m, fun _ => 0, g⟩ (fun r => (∀ c : Dev Cert.EvenAttn.nD,
      r.2.mem ((c.tc : Thread Cert.EvenAttn.nD Cert.EvenAttn.τ).loc Cert.EvenAttn.main_arg0) = m ((c.tc : Thread Cert.EvenAttn.nD Cert.EvenAttn.τ).loc Cert.EvenAttn.main_arg0)
      ∧ r.2.mem ((c.tc : Thread Cert.EvenAttn.nD Cert.EvenAttn.τ).loc Cert.EvenAttn.main_arg1) = m ((c.tc : Thread Cert.EvenAttn.nD Cert.EvenAttn.τ).loc Cert.EvenAttn.main_arg1)
      ∧ r.2.mem ((c.tc : Thread Cert.EvenAttn.nD Cert.EvenAttn.τ).loc Cert.EvenAttn.main_arg2) = m ((c.tc : Thread Cert.EvenAttn.nD Cert.EvenAttn.τ).loc Cert.EvenAttn.main_arg2)
      ∧ r.2.mem ((c.tc : Thread Cert.EvenAttn.nD Cert.EvenAttn.τ).loc Cert.EvenAttn.main_arg3) = m ((c.tc : Thread Cert.EvenAttn.nD Cert.EvenAttn.τ).loc Cert.EvenAttn.main_arg3)
      ∧ r.2.mem ((c.tc : Thread Cert.EvenAttn.nD Cert.EvenAttn.τ).loc Cert.EvenAttn.main_arg4) = m ((c.tc : Thread Cert.EvenAttn.nD Cert.EvenAttn.τ).loc Cert.EvenAttn.main_arg4)
      ∧ r.2.mem ((c.tc : Thread Cert.EvenAttn.nD Cert.EvenAttn.τ).loc Cert.EvenAttn.main_arg5) = m ((c.tc : Thread Cert.EvenAttn.nD Cert.EvenAttn.τ).loc Cert.EvenAttn.main_arg5)
      ∧ r.2.mem ((c.tc : Thread Cert.EvenAttn.nD Cert.EvenAttn.τ).loc Cert.EvenAttn.main_arg6) = m ((c.tc : Thread Cert.EvenAttn.nD Cert.EvenAttn.τ).loc Cert.EvenAttn.main_arg6)
      ∧ r.2.mem ((c.tc : Thread Cert.EvenAttn.nD Cert.EvenAttn.τ).loc Cert.EvenAttn.main_arg7) = m ((c.tc : Thread Cert.EvenAttn.nD Cert.EvenAttn.τ).loc Cert.EvenAttn.main_arg7)
      ∧ r.2.mem ((c.tc : Thread Cert.EvenAttn.nD Cert.EvenAttn.τ).loc Cert.EvenAttn.main_arg8) = m ((c.tc : Thread Cert.EvenAttn.nD Cert.EvenAttn.τ).loc Cert.EvenAttn.main_arg8)
      ∧ r.2.mem ((c.tc : Thread Cert.EvenAttn.nD Cert.EvenAttn.τ).loc Cert.EvenAttn.main_arg9) = m ((c.tc : Thread Cert.EvenAttn.nD Cert.EvenAttn.τ).loc Cert.EvenAttn.main_arg9)
      ∧ r.2.mem ((c.tc : Thread Cert.EvenAttn.nD Cert.EvenAttn.τ).loc Cert.EvenAttn.main_arg10) = m ((c.tc : Thread Cert.EvenAttn.nD Cert.EvenAttn.τ).loc Cert.EvenAttn.main_arg10)
      ∧ r.2.mem ((c.tc : Thread Cert.EvenAttn.nD Cert.EvenAttn.τ).loc Cert.EvenAttn.main_arg11) = m ((c.tc : Thread Cert.EvenAttn.nD Cert.EvenAttn.τ).loc Cert.EvenAttn.main_arg11)
      ∧ r.2.mem ((c.tc : Thread Cert.EvenAttn.nD Cert.EvenAttn.τ).loc Cert.EvenAttn.main_arg12) = m ((c.tc : Thread Cert.EvenAttn.nD Cert.EvenAttn.τ).loc Cert.EvenAttn.main_arg12)
      ∧ r.2.mem ((c.tc : Thread Cert.EvenAttn.nD Cert.EvenAttn.τ).loc Cert.EvenAttn.main_arg13) = m ((c.tc : Thread Cert.EvenAttn.nD Cert.EvenAttn.τ).loc Cert.EvenAttn.main_arg13)
      ∧ r.2.mem ((c.tc : Thread Cert.EvenAttn.nD Cert.EvenAttn.τ).loc Cert.EvenAttn.main_arg14) = m ((c.tc : Thread Cert.EvenAttn.nD Cert.EvenAttn.τ).loc Cert.EvenAttn.main_arg14)
      ∧ r.2.mem ((c.tc : Thread Cert.EvenAttn.nD Cert.EvenAttn.τ).loc Cert.EvenAttn.main_arg15) = m ((c.tc : Thread Cert.EvenAttn.nD Cert.EvenAttn.τ).loc Cert.EvenAttn.main_arg15)
      ∧ r.2.mem ((c.tc : Thread Cert.EvenAttn.nD Cert.EvenAttn.τ).loc Cert.EvenAttn.main_arg16) = m ((c.tc : Thread Cert.EvenAttn.nD Cert.EvenAttn.τ).loc Cert.EvenAttn.main_arg16))
      ∧ r.2.sem = fun _ => 0)

def quiescent_EvenAttnIdeal [hEvenAttnIdeal : Cert.EvenAttnIdeal.Facts] : Prop :=
  ∀ (m : (ℓ : Loc Cert.EvenAttnIdeal.nD Cert.EvenAttnIdeal.τ Cert.EvenAttnIdeal.sig) → Buf (Elt Ideal) ℓ) (g : Dev Cert.EvenAttnIdeal.nD → PrngReg), Pre_EvenAttnIdeal m →
    θ_run (Cert.EvenAttnIdeal.defs (F := Ideal)) (onTc (τ := Cert.EvenAttnIdeal.τ) (Cert.EvenAttnIdeal.main (F := Ideal))) ⟨m, fun _ => 0, g⟩ (fun r => (∀ c : Dev Cert.EvenAttnIdeal.nD,
      r.2.mem ((c.tc : Thread Cert.EvenAttnIdeal.nD Cert.EvenAttnIdeal.τ).loc Cert.EvenAttnIdeal.main_arg0) = m ((c.tc : Thread Cert.EvenAttnIdeal.nD Cert.EvenAttnIdeal.τ).loc Cert.EvenAttnIdeal.main_arg0)
      ∧ r.2.mem ((c.tc : Thread Cert.EvenAttnIdeal.nD Cert.EvenAttnIdeal.τ).loc Cert.EvenAttnIdeal.main_arg1) = m ((c.tc : Thread Cert.EvenAttnIdeal.nD Cert.EvenAttnIdeal.τ).loc Cert.EvenAttnIdeal.main_arg1)
      ∧ r.2.mem ((c.tc : Thread Cert.EvenAttnIdeal.nD Cert.EvenAttnIdeal.τ).loc Cert.EvenAttnIdeal.main_arg2) = m ((c.tc : Thread Cert.EvenAttnIdeal.nD Cert.EvenAttnIdeal.τ).loc Cert.EvenAttnIdeal.main_arg2)
      ∧ r.2.mem ((c.tc : Thread Cert.EvenAttnIdeal.nD Cert.EvenAttnIdeal.τ).loc Cert.EvenAttnIdeal.main_arg3) = m ((c.tc : Thread Cert.EvenAttnIdeal.nD Cert.EvenAttnIdeal.τ).loc Cert.EvenAttnIdeal.main_arg3)
      ∧ r.2.mem ((c.tc : Thread Cert.EvenAttnIdeal.nD Cert.EvenAttnIdeal.τ).loc Cert.EvenAttnIdeal.main_arg4) = m ((c.tc : Thread Cert.EvenAttnIdeal.nD Cert.EvenAttnIdeal.τ).loc Cert.EvenAttnIdeal.main_arg4)
      ∧ r.2.mem ((c.tc : Thread Cert.EvenAttnIdeal.nD Cert.EvenAttnIdeal.τ).loc Cert.EvenAttnIdeal.main_arg5) = m ((c.tc : Thread Cert.EvenAttnIdeal.nD Cert.EvenAttnIdeal.τ).loc Cert.EvenAttnIdeal.main_arg5)
      ∧ r.2.mem ((c.tc : Thread Cert.EvenAttnIdeal.nD Cert.EvenAttnIdeal.τ).loc Cert.EvenAttnIdeal.main_arg6) = m ((c.tc : Thread Cert.EvenAttnIdeal.nD Cert.EvenAttnIdeal.τ).loc Cert.EvenAttnIdeal.main_arg6)
      ∧ r.2.mem ((c.tc : Thread Cert.EvenAttnIdeal.nD Cert.EvenAttnIdeal.τ).loc Cert.EvenAttnIdeal.main_arg7) = m ((c.tc : Thread Cert.EvenAttnIdeal.nD Cert.EvenAttnIdeal.τ).loc Cert.EvenAttnIdeal.main_arg7)
      ∧ r.2.mem ((c.tc : Thread Cert.EvenAttnIdeal.nD Cert.EvenAttnIdeal.τ).loc Cert.EvenAttnIdeal.main_arg8) = m ((c.tc : Thread Cert.EvenAttnIdeal.nD Cert.EvenAttnIdeal.τ).loc Cert.EvenAttnIdeal.main_arg8)
      ∧ r.2.mem ((c.tc : Thread Cert.EvenAttnIdeal.nD Cert.EvenAttnIdeal.τ).loc Cert.EvenAttnIdeal.main_arg9) = m ((c.tc : Thread Cert.EvenAttnIdeal.nD Cert.EvenAttnIdeal.τ).loc Cert.EvenAttnIdeal.main_arg9)
      ∧ r.2.mem ((c.tc : Thread Cert.EvenAttnIdeal.nD Cert.EvenAttnIdeal.τ).loc Cert.EvenAttnIdeal.main_arg10) = m ((c.tc : Thread Cert.EvenAttnIdeal.nD Cert.EvenAttnIdeal.τ).loc Cert.EvenAttnIdeal.main_arg10)
      ∧ r.2.mem ((c.tc : Thread Cert.EvenAttnIdeal.nD Cert.EvenAttnIdeal.τ).loc Cert.EvenAttnIdeal.main_arg11) = m ((c.tc : Thread Cert.EvenAttnIdeal.nD Cert.EvenAttnIdeal.τ).loc Cert.EvenAttnIdeal.main_arg11)
      ∧ r.2.mem ((c.tc : Thread Cert.EvenAttnIdeal.nD Cert.EvenAttnIdeal.τ).loc Cert.EvenAttnIdeal.main_arg12) = m ((c.tc : Thread Cert.EvenAttnIdeal.nD Cert.EvenAttnIdeal.τ).loc Cert.EvenAttnIdeal.main_arg12)
      ∧ r.2.mem ((c.tc : Thread Cert.EvenAttnIdeal.nD Cert.EvenAttnIdeal.τ).loc Cert.EvenAttnIdeal.main_arg13) = m ((c.tc : Thread Cert.EvenAttnIdeal.nD Cert.EvenAttnIdeal.τ).loc Cert.EvenAttnIdeal.main_arg13)
      ∧ r.2.mem ((c.tc : Thread Cert.EvenAttnIdeal.nD Cert.EvenAttnIdeal.τ).loc Cert.EvenAttnIdeal.main_arg14) = m ((c.tc : Thread Cert.EvenAttnIdeal.nD Cert.EvenAttnIdeal.τ).loc Cert.EvenAttnIdeal.main_arg14)
      ∧ r.2.mem ((c.tc : Thread Cert.EvenAttnIdeal.nD Cert.EvenAttnIdeal.τ).loc Cert.EvenAttnIdeal.main_arg15) = m ((c.tc : Thread Cert.EvenAttnIdeal.nD Cert.EvenAttnIdeal.τ).loc Cert.EvenAttnIdeal.main_arg15)
      ∧ r.2.mem ((c.tc : Thread Cert.EvenAttnIdeal.nD Cert.EvenAttnIdeal.τ).loc Cert.EvenAttnIdeal.main_arg16) = m ((c.tc : Thread Cert.EvenAttnIdeal.nD Cert.EvenAttnIdeal.τ).loc Cert.EvenAttnIdeal.main_arg16))
      ∧ r.2.sem = fun _ => 0)

def quiescent_EvenAttnIdeal_pre_even_attention_finite [hEvenAttnIdeal : Cert.EvenAttnIdeal.Facts] [hPre_even_attention_finite : Cert.Pre_even_attention_finite.Facts] : Prop :=
  ∀ (m : (ℓ : Loc Cert.EvenAttnIdeal.nD Cert.EvenAttnIdeal.τ Cert.EvenAttnIdeal.sig) → Buf (Elt Ideal) ℓ) (g : Dev Cert.EvenAttnIdeal.nD → PrngReg), Pre_EvenAttnIdeal_even_attention_finite m →
    θ_run (Cert.EvenAttnIdeal.defs (F := Ideal)) (onTc (τ := Cert.EvenAttnIdeal.τ) (Cert.EvenAttnIdeal.main (F := Ideal))) ⟨m, fun _ => 0, g⟩ (fun r => (∀ c : Dev Cert.EvenAttnIdeal.nD,
      r.2.mem ((c.tc : Thread Cert.EvenAttnIdeal.nD Cert.EvenAttnIdeal.τ).loc Cert.EvenAttnIdeal.main_arg0) = m ((c.tc : Thread Cert.EvenAttnIdeal.nD Cert.EvenAttnIdeal.τ).loc Cert.EvenAttnIdeal.main_arg0)
      ∧ r.2.mem ((c.tc : Thread Cert.EvenAttnIdeal.nD Cert.EvenAttnIdeal.τ).loc Cert.EvenAttnIdeal.main_arg1) = m ((c.tc : Thread Cert.EvenAttnIdeal.nD Cert.EvenAttnIdeal.τ).loc Cert.EvenAttnIdeal.main_arg1)
      ∧ r.2.mem ((c.tc : Thread Cert.EvenAttnIdeal.nD Cert.EvenAttnIdeal.τ).loc Cert.EvenAttnIdeal.main_arg2) = m ((c.tc : Thread Cert.EvenAttnIdeal.nD Cert.EvenAttnIdeal.τ).loc Cert.EvenAttnIdeal.main_arg2)
      ∧ r.2.mem ((c.tc : Thread Cert.EvenAttnIdeal.nD Cert.EvenAttnIdeal.τ).loc Cert.EvenAttnIdeal.main_arg3) = m ((c.tc : Thread Cert.EvenAttnIdeal.nD Cert.EvenAttnIdeal.τ).loc Cert.EvenAttnIdeal.main_arg3)
      ∧ r.2.mem ((c.tc : Thread Cert.EvenAttnIdeal.nD Cert.EvenAttnIdeal.τ).loc Cert.EvenAttnIdeal.main_arg4) = m ((c.tc : Thread Cert.EvenAttnIdeal.nD Cert.EvenAttnIdeal.τ).loc Cert.EvenAttnIdeal.main_arg4)
      ∧ r.2.mem ((c.tc : Thread Cert.EvenAttnIdeal.nD Cert.EvenAttnIdeal.τ).loc Cert.EvenAttnIdeal.main_arg5) = m ((c.tc : Thread Cert.EvenAttnIdeal.nD Cert.EvenAttnIdeal.τ).loc Cert.EvenAttnIdeal.main_arg5)
      ∧ r.2.mem ((c.tc : Thread Cert.EvenAttnIdeal.nD Cert.EvenAttnIdeal.τ).loc Cert.EvenAttnIdeal.main_arg6) = m ((c.tc : Thread Cert.EvenAttnIdeal.nD Cert.EvenAttnIdeal.τ).loc Cert.EvenAttnIdeal.main_arg6)
      ∧ r.2.mem ((c.tc : Thread Cert.EvenAttnIdeal.nD Cert.EvenAttnIdeal.τ).loc Cert.EvenAttnIdeal.main_arg7) = m ((c.tc : Thread Cert.EvenAttnIdeal.nD Cert.EvenAttnIdeal.τ).loc Cert.EvenAttnIdeal.main_arg7)
      ∧ r.2.mem ((c.tc : Thread Cert.EvenAttnIdeal.nD Cert.EvenAttnIdeal.τ).loc Cert.EvenAttnIdeal.main_arg8) = m ((c.tc : Thread Cert.EvenAttnIdeal.nD Cert.EvenAttnIdeal.τ).loc Cert.EvenAttnIdeal.main_arg8)
      ∧ r.2.mem ((c.tc : Thread Cert.EvenAttnIdeal.nD Cert.EvenAttnIdeal.τ).loc Cert.EvenAttnIdeal.main_arg9) = m ((c.tc : Thread Cert.EvenAttnIdeal.nD Cert.EvenAttnIdeal.τ).loc Cert.EvenAttnIdeal.main_arg9)
      ∧ r.2.mem ((c.tc : Thread Cert.EvenAttnIdeal.nD Cert.EvenAttnIdeal.τ).loc Cert.EvenAttnIdeal.main_arg10) = m ((c.tc : Thread Cert.EvenAttnIdeal.nD Cert.EvenAttnIdeal.τ).loc Cert.EvenAttnIdeal.main_arg10)
      ∧ r.2.mem ((c.tc : Thread Cert.EvenAttnIdeal.nD Cert.EvenAttnIdeal.τ).loc Cert.EvenAttnIdeal.main_arg11) = m ((c.tc : Thread Cert.EvenAttnIdeal.nD Cert.EvenAttnIdeal.τ).loc Cert.EvenAttnIdeal.main_arg11)
      ∧ r.2.mem ((c.tc : Thread Cert.EvenAttnIdeal.nD Cert.EvenAttnIdeal.τ).loc Cert.EvenAttnIdeal.main_arg12) = m ((c.tc : Thread Cert.EvenAttnIdeal.nD Cert.EvenAttnIdeal.τ).loc Cert.EvenAttnIdeal.main_arg12)
      ∧ r.2.mem ((c.tc : Thread Cert.EvenAttnIdeal.nD Cert.EvenAttnIdeal.τ).loc Cert.EvenAttnIdeal.main_arg13) = m ((c.tc : Thread Cert.EvenAttnIdeal.nD Cert.EvenAttnIdeal.τ).loc Cert.EvenAttnIdeal.main_arg13)
      ∧ r.2.mem ((c.tc : Thread Cert.EvenAttnIdeal.nD Cert.EvenAttnIdeal.τ).loc Cert.EvenAttnIdeal.main_arg14) = m ((c.tc : Thread Cert.EvenAttnIdeal.nD Cert.EvenAttnIdeal.τ).loc Cert.EvenAttnIdeal.main_arg14)
      ∧ r.2.mem ((c.tc : Thread Cert.EvenAttnIdeal.nD Cert.EvenAttnIdeal.τ).loc Cert.EvenAttnIdeal.main_arg15) = m ((c.tc : Thread Cert.EvenAttnIdeal.nD Cert.EvenAttnIdeal.τ).loc Cert.EvenAttnIdeal.main_arg15)
      ∧ r.2.mem ((c.tc : Thread Cert.EvenAttnIdeal.nD Cert.EvenAttnIdeal.τ).loc Cert.EvenAttnIdeal.main_arg16) = m ((c.tc : Thread Cert.EvenAttnIdeal.nD Cert.EvenAttnIdeal.τ).loc Cert.EvenAttnIdeal.main_arg16))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10)
      ∧ r.2.mem ((c.tc : Thread Cert.EvenRefIdeal.nD Cert.EvenRefIdeal.τ).loc Cert.EvenRefIdeal.main_arg11) = m ((c.tc : Thread Cert.EvenRefIdeal.nD Cert.EvenRefIdeal.τ).loc Cert.EvenRefIdeal.main_arg11)
      ∧ r.2.mem ((c.tc : Thread Cert.EvenRefIdeal.nD Cert.EvenRefIdeal.τ).loc Cert.EvenRefIdeal.main_arg12) = m ((c.tc : Thread Cert.EvenRefIdeal.nD Cert.EvenRefIdeal.τ).loc Cert.EvenRefIdeal.main_arg12)
      ∧ r.2.mem ((c.tc : Thread Cert.EvenRefIdeal.nD Cert.EvenRefIdeal.τ).loc Cert.EvenRefIdeal.main_arg13) = m ((c.tc : Thread Cert.EvenRefIdeal.nD Cert.EvenRefIdeal.τ).loc Cert.EvenRefIdeal.main_arg13)
      ∧ r.2.mem ((c.tc : Thread Cert.EvenRefIdeal.nD Cert.EvenRefIdeal.τ).loc Cert.EvenRefIdeal.main_arg14) = m ((c.tc : Thread Cert.EvenRefIdeal.nD Cert.EvenRefIdeal.τ).loc Cert.EvenRefIdeal.main_arg14)
      ∧ r.2.mem ((c.tc : Thread Cert.EvenRefIdeal.nD Cert.EvenRefIdeal.τ).loc Cert.EvenRefIdeal.main_arg15) = m ((c.tc : Thread Cert.EvenRefIdeal.nD Cert.EvenRefIdeal.τ).loc Cert.EvenRefIdeal.main_arg15)
      ∧ r.2.mem ((c.tc : Thread Cert.EvenRefIdeal.nD Cert.EvenRefIdeal.τ).loc Cert.EvenRefIdeal.main_arg16) = m ((c.tc : Thread Cert.EvenRefIdeal.nD Cert.EvenRefIdeal.τ).loc Cert.EvenRefIdeal.main_arg16))
      ∧ r.2.sem = fun _ => 0)

def quiescent_EvenRefIdeal_pre_even_attention_finite [hEvenRefIdeal : Cert.EvenRefIdeal.Facts] [hPre_even_attention_finite : Cert.Pre_even_attention_finite.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal_even_attention_finite m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10)
      ∧ r.2.mem ((c.tc : Thread Cert.EvenRefIdeal.nD Cert.EvenRefIdeal.τ).loc Cert.EvenRefIdeal.main_arg11) = m ((c.tc : Thread Cert.EvenRefIdeal.nD Cert.EvenRefIdeal.τ).loc Cert.EvenRefIdeal.main_arg11)
      ∧ r.2.mem ((c.tc : Thread Cert.EvenRefIdeal.nD Cert.EvenRefIdeal.τ).loc Cert.EvenRefIdeal.main_arg12) = m ((c.tc : Thread Cert.EvenRefIdeal.nD Cert.EvenRefIdeal.τ).loc Cert.EvenRefIdeal.main_arg12)
      ∧ r.2.mem ((c.tc : Thread Cert.EvenRefIdeal.nD Cert.EvenRefIdeal.τ).loc Cert.EvenRefIdeal.main_arg13) = m ((c.tc : Thread Cert.EvenRefIdeal.nD Cert.EvenRefIdeal.τ).loc Cert.EvenRefIdeal.main_arg13)
      ∧ r.2.mem ((c.tc : Thread Cert.EvenRefIdeal.nD Cert.EvenRefIdeal.τ).loc Cert.EvenRefIdeal.main_arg14) = m ((c.tc : Thread Cert.EvenRefIdeal.nD Cert.EvenRefIdeal.τ).loc Cert.EvenRefIdeal.main_arg14)
      ∧ r.2.mem ((c.tc : Thread Cert.EvenRefIdeal.nD Cert.EvenRefIdeal.τ).loc Cert.EvenRefIdeal.main_arg15) = m ((c.tc : Thread Cert.EvenRefIdeal.nD Cert.EvenRefIdeal.τ).loc Cert.EvenRefIdeal.main_arg15)
      ∧ r.2.mem ((c.tc : Thread Cert.EvenRefIdeal.nD Cert.EvenRefIdeal.τ).loc Cert.EvenRefIdeal.main_arg16) = m ((c.tc : Thread Cert.EvenRefIdeal.nD Cert.EvenRefIdeal.τ).loc Cert.EvenRefIdeal.main_arg16))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4)
      ∧ r.2.mem ((c.tc : Thread Cert.InEven.nD Cert.InEven.τ).loc Cert.InEven.main_arg5) = m ((c.tc : Thread Cert.InEven.nD Cert.InEven.τ).loc Cert.InEven.main_arg5)
      ∧ r.2.mem ((c.tc : Thread Cert.InEven.nD Cert.InEven.τ).loc Cert.InEven.main_arg6) = m ((c.tc : Thread Cert.InEven.nD Cert.InEven.τ).loc Cert.InEven.main_arg6)
      ∧ r.2.mem ((c.tc : Thread Cert.InEven.nD Cert.InEven.τ).loc Cert.InEven.main_arg7) = m ((c.tc : Thread Cert.InEven.nD Cert.InEven.τ).loc Cert.InEven.main_arg7))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
      ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
      ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6)
      ∧ r.2.mem ((c.tc : Thread Cert.InEvenIdeal.nD Cert.InEvenIdeal.τ).loc Cert.InEvenIdeal.main_arg7) = m ((c.tc : Thread Cert.InEvenIdeal.nD Cert.InEvenIdeal.τ).loc Cert.InEvenIdeal.main_arg7))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4)
      ∧ r.2.mem ((c.tc : Thread Cert.InEvenRefIdeal.nD Cert.InEvenRefIdeal.τ).loc Cert.InEvenRefIdeal.main_arg5) = m ((c.tc : Thread Cert.InEvenRefIdeal.nD Cert.InEvenRefIdeal.τ).loc Cert.InEvenRefIdeal.main_arg5)
      ∧ r.2.mem ((c.tc : Thread Cert.InEvenRefIdeal.nD Cert.InEvenRefIdeal.τ).loc Cert.InEvenRefIdeal.main_arg6) = m ((c.tc : Thread Cert.InEvenRefIdeal.nD Cert.InEvenRefIdeal.τ).loc Cert.InEvenRefIdeal.main_arg6)
      ∧ r.2.mem ((c.tc : Thread Cert.InEvenRefIdeal.nD Cert.InEvenRefIdeal.τ).loc Cert.InEvenRefIdeal.main_arg7) = m ((c.tc : Thread Cert.InEvenRefIdeal.nD Cert.InEvenRefIdeal.τ).loc Cert.InEvenRefIdeal.main_arg7))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2)
      ∧ r.2.mem ((c.tc : Thread Cert.ModsRefIdeal.nD Cert.ModsRefIdeal.τ).loc Cert.ModsRefIdeal.main_arg3) = m ((c.tc : Thread Cert.ModsRefIdeal.nD Cert.ModsRefIdeal.τ).loc Cert.ModsRefIdeal.main_arg3))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddIdeal_pre_project_odd_finite [hInOddIdeal : Cert.InOddIdeal.Facts] [hPre_project_odd_finite : Cert.Pre_project_odd_finite.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal_project_odd_finite m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3)
      ∧ r.2.mem ((c.tc : Thread Cert.InOddRefIdeal.nD Cert.InOddRefIdeal.τ).loc Cert.InOddRefIdeal.main_arg4) = m ((c.tc : Thread Cert.InOddRefIdeal.nD Cert.InOddRefIdeal.τ).loc Cert.InOddRefIdeal.main_arg4))
      ∧ r.2.sem = fun _ => 0)

def quiescent_InOddRefIdeal_pre_project_odd_finite [hInOddRefIdeal : Cert.InOddRefIdeal.Facts] [hPre_project_odd_finite : Cert.Pre_project_odd_finite.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal_project_odd_finite m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3)
      ∧ r.2.mem ((c.tc : Thread Cert.InOddRefIdeal.nD Cert.InOddRefIdeal.τ).loc Cert.InOddRefIdeal.main_arg4) = m ((c.tc : Thread Cert.InOddRefIdeal.nD Cert.InOddRefIdeal.τ).loc Cert.InOddRefIdeal.main_arg4))
      ∧ r.2.sem = fun _ => 0)

def preserves_EvenAttn_EvenAttnIdeal : Prop :=
  True

def algebraic_EvenAttnIdeal_EvenRefIdeal_pre_even_attention_finite [hEvenAttnIdeal : Cert.EvenAttnIdeal.Facts] [hEvenRefIdeal : Cert.EvenRefIdeal.Facts] [hPre_even_attention_finite : Cert.Pre_even_attention_finite.Facts] : Prop :=
  ∀ (m : (ℓ : Loc Cert.EvenAttnIdeal.nD Cert.EvenAttnIdeal.τ Cert.EvenAttnIdeal.sig) → Buf (Elt Ideal) ℓ) (g : Dev Cert.EvenAttnIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenAttnIdeal_even_attention_finite m →
    (∀ c : Dev Cert.EvenAttnIdeal.nD,
      m' ((c.tc : Thread Cert.EvenRefIdeal.nD Cert.EvenRefIdeal.τ).loc Cert.EvenRefIdeal.main_arg0) = m ((c.tc : Thread Cert.EvenAttnIdeal.nD Cert.EvenAttnIdeal.τ).loc Cert.EvenAttnIdeal.main_arg0)
      ∧ m' ((c.tc : Thread Cert.EvenRefIdeal.nD Cert.EvenRefIdeal.τ).loc Cert.EvenRefIdeal.main_arg1) = m ((c.tc : Thread Cert.EvenAttnIdeal.nD Cert.EvenAttnIdeal.τ).loc Cert.EvenAttnIdeal.main_arg1)
      ∧ m' ((c.tc : Thread Cert.EvenRefIdeal.nD Cert.EvenRefIdeal.τ).loc Cert.EvenRefIdeal.main_arg2) = m ((c.tc : Thread Cert.EvenAttnIdeal.nD Cert.EvenAttnIdeal.τ).loc Cert.EvenAttnIdeal.main_arg2)
      ∧ m' ((c.tc : Thread Cert.EvenRefIdeal.nD Cert.EvenRefIdeal.τ).loc Cert.EvenRefIdeal.main_arg3) = m ((c.tc : Thread Cert.EvenAttnIdeal.nD Cert.EvenAttnIdeal.τ).loc Cert.EvenAttnIdeal.main_arg3)
      ∧ m' ((c.tc : Thread Cert.EvenRefIdeal.nD Cert.EvenRefIdeal.τ).loc Cert.EvenRefIdeal.main_arg4) = m ((c.tc : Thread Cert.EvenAttnIdeal.nD Cert.EvenAttnIdeal.τ).loc Cert.EvenAttnIdeal.main_arg4)
      ∧ m' ((c.tc : Thread Cert.EvenRefIdeal.nD Cert.EvenRefIdeal.τ).loc Cert.EvenRefIdeal.main_arg5) = m ((c.tc : Thread Cert.EvenAttnIdeal.nD Cert.EvenAttnIdeal.τ).loc Cert.EvenAttnIdeal.main_arg5)
      ∧ m' ((c.tc : Thread Cert.EvenRefIdeal.nD Cert.EvenRefIdeal.τ).loc Cert.EvenRefIdeal.main_arg6) = m ((c.tc : Thread Cert.EvenAttnIdeal.nD Cert.EvenAttnIdeal.τ).loc Cert.EvenAttnIdeal.main_arg6)
      ∧ m' ((c.tc : Thread Cert.EvenRefIdeal.nD Cert.EvenRefIdeal.τ).loc Cert.EvenRefIdeal.main_arg7) = m ((c.tc : Thread Cert.EvenAttnIdeal.nD Cert.EvenAttnIdeal.τ).loc Cert.EvenAttnIdeal.main_arg7)
      ∧ m' ((c.tc : Thread Cert.EvenRefIdeal.nD Cert.EvenRefIdeal.τ).loc Cert.EvenRefIdeal.main_arg8) = m ((c.tc : Thread Cert.EvenAttnIdeal.nD Cert.EvenAttnIdeal.τ).loc Cert.EvenAttnIdeal.main_arg8)
      ∧ m' ((c.tc : Thread Cert.EvenRefIdeal.nD Cert.EvenRefIdeal.τ).loc Cert.EvenRefIdeal.main_arg9) = m ((c.tc : Thread Cert.EvenAttnIdeal.nD Cert.EvenAttnIdeal.τ).loc Cert.EvenAttnIdeal.main_arg9)
      ∧ m' ((c.tc : Thread Cert.EvenRefIdeal.nD Cert.EvenRefIdeal.τ).loc Cert.EvenRefIdeal.main_arg10) = m ((c.tc : Thread Cert.EvenAttnIdeal.nD Cert.EvenAttnIdeal.τ).loc Cert.EvenAttnIdeal.main_arg10)
      ∧ m' ((c.tc : Thread Cert.EvenRefIdeal.nD Cert.EvenRefIdeal.τ).loc Cert.EvenRefIdeal.main_arg11) = m ((c.tc : Thread Cert.EvenAttnIdeal.nD Cert.EvenAttnIdeal.τ).loc Cert.EvenAttnIdeal.main_arg11)
      ∧ m' ((c.tc : Thread Cert.EvenRefIdeal.nD Cert.EvenRefIdeal.τ).loc Cert.EvenRefIdeal.main_arg12) = m ((c.tc : Thread Cert.EvenAttnIdeal.nD Cert.EvenAttnIdeal.τ).loc Cert.EvenAttnIdeal.main_arg12)
      ∧ m' ((c.tc : Thread Cert.EvenRefIdeal.nD Cert.EvenRefIdeal.τ).loc Cert.EvenRefIdeal.main_arg13) = m ((c.tc : Thread Cert.EvenAttnIdeal.nD Cert.EvenAttnIdeal.τ).loc Cert.EvenAttnIdeal.main_arg13)
      ∧ m' ((c.tc : Thread Cert.EvenRefIdeal.nD Cert.EvenRefIdeal.τ).loc Cert.EvenRefIdeal.main_arg14) = m ((c.tc : Thread Cert.EvenAttnIdeal.nD Cert.EvenAttnIdeal.τ).loc Cert.EvenAttnIdeal.main_arg14)
      ∧ m' ((c.tc : Thread Cert.EvenRefIdeal.nD Cert.EvenRefIdeal.τ).loc Cert.EvenRefIdeal.main_arg15) = m ((c.tc : Thread Cert.EvenAttnIdeal.nD Cert.EvenAttnIdeal.τ).loc Cert.EvenAttnIdeal.main_arg15)
      ∧ m' ((c.tc : Thread Cert.EvenRefIdeal.nD Cert.EvenRefIdeal.τ).loc Cert.EvenRefIdeal.main_arg16) = m ((c.tc : Thread Cert.EvenAttnIdeal.nD Cert.EvenAttnIdeal.τ).loc Cert.EvenAttnIdeal.main_arg16)) →
    ∃ (v0 : (c : Dev Cert.EvenAttnIdeal.nD) → Buf (Elt Ideal) ((c.tc : Thread Cert.EvenAttnIdeal.nD Cert.EvenAttnIdeal.τ).loc Cert.EvenAttnIdeal.main_v1_0)) (v1 : (c : Dev Cert.EvenAttnIdeal.nD) → Buf (Elt Ideal) ((c.tc : Thread Cert.EvenAttnIdeal.nD Cert.EvenAttnIdeal.τ).loc Cert.EvenAttnIdeal.main_v1_1)),
      θ_run (Cert.EvenAttnIdeal.defs (F := Ideal)) (onTc (τ := Cert.EvenAttnIdeal.τ) (Cert.EvenAttnIdeal.main (F := Ideal))) ⟨m, fun _ => 0, g⟩ (fun r => ∀ c : Dev Cert.EvenAttnIdeal.nD,
          r.2.mem ((c.tc : Thread Cert.EvenAttnIdeal.nD Cert.EvenAttnIdeal.τ).loc Cert.EvenAttnIdeal.main_v1_0) = v0 c
          ∧ r.2.mem ((c.tc : Thread Cert.EvenAttnIdeal.nD Cert.EvenAttnIdeal.τ).loc Cert.EvenAttnIdeal.main_v1_1) = v1 c
          ∧ r.2.mem ((c.tc : Thread Cert.EvenAttnIdeal.nD Cert.EvenAttnIdeal.τ).loc Cert.EvenAttnIdeal.main_arg0) = m ((c.tc : Thread Cert.EvenAttnIdeal.nD Cert.EvenAttnIdeal.τ).loc Cert.EvenAttnIdeal.main_arg0)
          ∧ r.2.mem ((c.tc : Thread Cert.EvenAttnIdeal.nD Cert.EvenAttnIdeal.τ).loc Cert.EvenAttnIdeal.main_arg1) = m ((c.tc : Thread Cert.EvenAttnIdeal.nD Cert.EvenAttnIdeal.τ).loc Cert.EvenAttnIdeal.main_arg1)
          ∧ r.2.mem ((c.tc : Thread Cert.EvenAttnIdeal.nD Cert.EvenAttnIdeal.τ).loc Cert.EvenAttnIdeal.main_arg2) = m ((c.tc : Thread Cert.EvenAttnIdeal.nD Cert.EvenAttnIdeal.τ).loc Cert.EvenAttnIdeal.main_arg2)
          ∧ r.2.mem ((c.tc : Thread Cert.EvenAttnIdeal.nD Cert.EvenAttnIdeal.τ).loc Cert.EvenAttnIdeal.main_arg3) = m ((c.tc : Thread Cert.EvenAttnIdeal.nD Cert.EvenAttnIdeal.τ).loc Cert.EvenAttnIdeal.main_arg3)
          ∧ r.2.mem ((c.tc : Thread Cert.EvenAttnIdeal.nD Cert.EvenAttnIdeal.τ).loc Cert.EvenAttnIdeal.main_arg4) = m ((c.tc : Thread Cert.EvenAttnIdeal.nD Cert.EvenAttnIdeal.τ).loc Cert.EvenAttnIdeal.main_arg4)
          ∧ r.2.mem ((c.tc : Thread Cert.EvenAttnIdeal.nD Cert.EvenAttnIdeal.τ).loc Cert.EvenAttnIdeal.main_arg5) = m ((c.tc : Thread Cert.EvenAttnIdeal.nD Cert.EvenAttnIdeal.τ).loc Cert.EvenAttnIdeal.main_arg5)
          ∧ r.2.mem ((c.tc : Thread Cert.EvenAttnIdeal.nD Cert.EvenAttnIdeal.τ).loc Cert.EvenAttnIdeal.main_arg6) = m ((c.tc : Thread Cert.EvenAttnIdeal.nD Cert.EvenAttnIdeal.τ).loc Cert.EvenAttnIdeal.main_arg6)
          ∧ r.2.mem ((c.tc : Thread Cert.EvenAttnIdeal.nD Cert.EvenAttnIdeal.τ).loc Cert.EvenAttnIdeal.main_arg7) = m ((c.tc : Thread Cert.EvenAttnIdeal.nD Cert.EvenAttnIdeal.τ).loc Cert.EvenAttnIdeal.main_arg7)
          ∧ r.2.mem ((c.tc : Thread Cert.EvenAttnIdeal.nD Cert.EvenAttnIdeal.τ).loc Cert.EvenAttnIdeal.main_arg8) = m ((c.tc : Thread Cert.EvenAttnIdeal.nD Cert.EvenAttnIdeal.τ).loc Cert.EvenAttnIdeal.main_arg8)
          ∧ r.2.mem ((c.tc : Thread Cert.EvenAttnIdeal.nD Cert.EvenAttnIdeal.τ).loc Cert.EvenAttnIdeal.main_arg9) = m ((c.tc : Thread Cert.EvenAttnIdeal.nD Cert.EvenAttnIdeal.τ).loc Cert.EvenAttnIdeal.main_arg9)
          ∧ r.2.mem ((c.tc : Thread Cert.EvenAttnIdeal.nD Cert.EvenAttnIdeal.τ).loc Cert.EvenAttnIdeal.main_arg10) = m ((c.tc : Thread Cert.EvenAttnIdeal.nD Cert.EvenAttnIdeal.τ).loc Cert.EvenAttnIdeal.main_arg10)
          ∧ r.2.mem ((c.tc : Thread Cert.EvenAttnIdeal.nD Cert.EvenAttnIdeal.τ).loc Cert.EvenAttnIdeal.main_arg11) = m ((c.tc : Thread Cert.EvenAttnIdeal.nD Cert.EvenAttnIdeal.τ).loc Cert.EvenAttnIdeal.main_arg11)
          ∧ r.2.mem ((c.tc : Thread Cert.EvenAttnIdeal.nD Cert.EvenAttnIdeal.τ).loc Cert.EvenAttnIdeal.main_arg12) = m ((c.tc : Thread Cert.EvenAttnIdeal.nD Cert.EvenAttnIdeal.τ).loc Cert.EvenAttnIdeal.main_arg12)
          ∧ r.2.mem ((c.tc : Thread Cert.EvenAttnIdeal.nD Cert.EvenAttnIdeal.τ).loc Cert.EvenAttnIdeal.main_arg13) = m ((c.tc : Thread Cert.EvenAttnIdeal.nD Cert.EvenAttnIdeal.τ).loc Cert.EvenAttnIdeal.main_arg13)
          ∧ r.2.mem ((c.tc : Thread Cert.EvenAttnIdeal.nD Cert.EvenAttnIdeal.τ).loc Cert.EvenAttnIdeal.main_arg14) = m ((c.tc : Thread Cert.EvenAttnIdeal.nD Cert.EvenAttnIdeal.τ).loc Cert.EvenAttnIdeal.main_arg14)
          ∧ r.2.mem ((c.tc : Thread Cert.EvenAttnIdeal.nD Cert.EvenAttnIdeal.τ).loc Cert.EvenAttnIdeal.main_arg15) = m ((c.tc : Thread Cert.EvenAttnIdeal.nD Cert.EvenAttnIdeal.τ).loc Cert.EvenAttnIdeal.main_arg15)
          ∧ r.2.mem ((c.tc : Thread Cert.EvenAttnIdeal.nD Cert.EvenAttnIdeal.τ).loc Cert.EvenAttnIdeal.main_arg16) = m ((c.tc : Thread Cert.EvenAttnIdeal.nD Cert.EvenAttnIdeal.τ).loc Cert.EvenAttnIdeal.main_arg16))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v104) = v0 c
          ∧ r.2.mem ((c.tc : Thread Cert.EvenRefIdeal.nD Cert.EvenRefIdeal.τ).loc Cert.EvenRefIdeal.main_v108) = v1 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8)
          ∧ r.2.mem ((c.tc : Thread Cert.EvenRefIdeal.nD Cert.EvenRefIdeal.τ).loc Cert.EvenRefIdeal.main_arg9) = m' ((c.tc : Thread Cert.EvenRefIdeal.nD Cert.EvenRefIdeal.τ).loc Cert.EvenRefIdeal.main_arg9)
          ∧ r.2.mem ((c.tc : Thread Cert.EvenRefIdeal.nD Cert.EvenRefIdeal.τ).loc Cert.EvenRefIdeal.main_arg10) = m' ((c.tc : Thread Cert.EvenRefIdeal.nD Cert.EvenRefIdeal.τ).loc Cert.EvenRefIdeal.main_arg10)
          ∧ r.2.mem ((c.tc : Thread Cert.EvenRefIdeal.nD Cert.EvenRefIdeal.τ).loc Cert.EvenRefIdeal.main_arg11) = m' ((c.tc : Thread Cert.EvenRefIdeal.nD Cert.EvenRefIdeal.τ).loc Cert.EvenRefIdeal.main_arg11)
          ∧ r.2.mem ((c.tc : Thread Cert.EvenRefIdeal.nD Cert.EvenRefIdeal.τ).loc Cert.EvenRefIdeal.main_arg12) = m' ((c.tc : Thread Cert.EvenRefIdeal.nD Cert.EvenRefIdeal.τ).loc Cert.EvenRefIdeal.main_arg12)
          ∧ r.2.mem ((c.tc : Thread Cert.EvenRefIdeal.nD Cert.EvenRefIdeal.τ).loc Cert.EvenRefIdeal.main_arg13) = m' ((c.tc : Thread Cert.EvenRefIdeal.nD Cert.EvenRefIdeal.τ).loc Cert.EvenRefIdeal.main_arg13)
          ∧ r.2.mem ((c.tc : Thread Cert.EvenRefIdeal.nD Cert.EvenRefIdeal.τ).loc Cert.EvenRefIdeal.main_arg14) = m' ((c.tc : Thread Cert.EvenRefIdeal.nD Cert.EvenRefIdeal.τ).loc Cert.EvenRefIdeal.main_arg14)
          ∧ r.2.mem ((c.tc : Thread Cert.EvenRefIdeal.nD Cert.EvenRefIdeal.τ).loc Cert.EvenRefIdeal.main_arg15) = m' ((c.tc : Thread Cert.EvenRefIdeal.nD Cert.EvenRefIdeal.τ).loc Cert.EvenRefIdeal.main_arg15)
          ∧ r.2.mem ((c.tc : Thread Cert.EvenRefIdeal.nD Cert.EvenRefIdeal.τ).loc Cert.EvenRefIdeal.main_arg16) = m' ((c.tc : Thread Cert.EvenRefIdeal.nD Cert.EvenRefIdeal.τ).loc Cert.EvenRefIdeal.main_arg16))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v9_0)) (v1 : (c : Dev Cert.PostIdeal.nD) → Buf (Elt Ideal) ((c.tc : Thread Cert.PostIdeal.nD Cert.PostIdeal.τ).loc Cert.PostIdeal.main_v9_1)) (v2 : (c : Dev Cert.PostIdeal.nD) → Buf (Elt Ideal) ((c.tc : Thread Cert.PostIdeal.nD Cert.PostIdeal.τ).loc Cert.PostIdeal.main_v9_2)) (v3 : (c : Dev Cert.PostIdeal.nD) → Buf (Elt Ideal) ((c.tc : Thread Cert.PostIdeal.nD Cert.PostIdeal.τ).loc Cert.PostIdeal.main_v9_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9_0) = v0 c
          ∧ r.2.mem ((c.tc : Thread Cert.PostIdeal.nD Cert.PostIdeal.τ).loc Cert.PostIdeal.main_v9_1) = v1 c
          ∧ r.2.mem ((c.tc : Thread Cert.PostIdeal.nD Cert.PostIdeal.τ).loc Cert.PostIdeal.main_v9_2) = v2 c
          ∧ r.2.mem ((c.tc : Thread Cert.PostIdeal.nD Cert.PostIdeal.τ).loc Cert.PostIdeal.main_v9_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v40) = v0 c
          ∧ r.2.mem ((c.tc : Thread Cert.PostRefIdeal.nD Cert.PostRefIdeal.τ).loc Cert.PostRefIdeal.main_v70) = v1 c
          ∧ r.2.mem ((c.tc : Thread Cert.PostRefIdeal.nD Cert.PostRefIdeal.τ).loc Cert.PostRefIdeal.main_v71) = v2 c
          ∧ r.2.mem ((c.tc : Thread Cert.PostRefIdeal.nD Cert.PostRefIdeal.τ).loc Cert.PostRefIdeal.main_v72) = v3 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)
      ∧ m' ((c.tc : Thread Cert.InEvenRefIdeal.nD Cert.InEvenRefIdeal.τ).loc Cert.InEvenRefIdeal.main_arg5) = m ((c.tc : Thread Cert.InEvenIdeal.nD Cert.InEvenIdeal.τ).loc Cert.InEvenIdeal.main_arg5)
      ∧ m' ((c.tc : Thread Cert.InEvenRefIdeal.nD Cert.InEvenRefIdeal.τ).loc Cert.InEvenRefIdeal.main_arg6) = m ((c.tc : Thread Cert.InEvenIdeal.nD Cert.InEvenIdeal.τ).loc Cert.InEvenIdeal.main_arg6)
      ∧ m' ((c.tc : Thread Cert.InEvenRefIdeal.nD Cert.InEvenRefIdeal.τ).loc Cert.InEvenRefIdeal.main_arg7) = m ((c.tc : Thread Cert.InEvenIdeal.nD Cert.InEvenIdeal.τ).loc Cert.InEvenIdeal.main_arg7)) →
    ∃ (v0 : (c : Dev Cert.InEvenIdeal.nD) → Buf (Elt Ideal) ((c.tc : Thread Cert.InEvenIdeal.nD Cert.InEvenIdeal.τ).loc Cert.InEvenIdeal.main_v105_0)) (v1 : (c : Dev Cert.InEvenIdeal.nD) → Buf (Elt Ideal) ((c.tc : Thread Cert.InEvenIdeal.nD Cert.InEvenIdeal.τ).loc Cert.InEvenIdeal.main_v105_1)) (v2 : (c : Dev Cert.InEvenIdeal.nD) → Buf (Elt Ideal) ((c.tc : Thread Cert.InEvenIdeal.nD Cert.InEvenIdeal.τ).loc Cert.InEvenIdeal.main_v105_2)) (v3 : (c : Dev Cert.InEvenIdeal.nD) → Buf (Elt Ideal) ((c.tc : Thread Cert.InEvenIdeal.nD Cert.InEvenIdeal.τ).loc Cert.InEvenIdeal.main_v105_3)) (v4 : (c : Dev Cert.InEvenIdeal.nD) → Buf (Elt Ideal) ((c.tc : Thread Cert.InEvenIdeal.nD Cert.InEvenIdeal.τ).loc Cert.InEvenIdeal.main_v105_4)) (v5 : (c : Dev Cert.InEvenIdeal.nD) → Buf (Elt Ideal) ((c.tc : Thread Cert.InEvenIdeal.nD Cert.InEvenIdeal.τ).loc Cert.InEvenIdeal.main_v105_5)) (v6 : (c : Dev Cert.InEvenIdeal.nD) → Buf (Elt Ideal) ((c.tc : Thread Cert.InEvenIdeal.nD Cert.InEvenIdeal.τ).loc Cert.InEvenIdeal.main_v105_6)) (v7 : (c : Dev Cert.InEvenIdeal.nD) → Buf (Elt Ideal) ((c.tc : Thread Cert.InEvenIdeal.nD Cert.InEvenIdeal.τ).loc Cert.InEvenIdeal.main_v105_7)) (v8 : (c : Dev Cert.InEvenIdeal.nD) → Buf (Elt Ideal) ((c.tc : Thread Cert.InEvenIdeal.nD Cert.InEvenIdeal.τ).loc Cert.InEvenIdeal.main_v105_8)) (v9 : (c : Dev Cert.InEvenIdeal.nD) → Buf (Elt Ideal) ((c.tc : Thread Cert.InEvenIdeal.nD Cert.InEvenIdeal.τ).loc Cert.InEvenIdeal.main_v105_9)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v105_0) = v0 c
          ∧ r.2.mem ((c.tc : Thread Cert.InEvenIdeal.nD Cert.InEvenIdeal.τ).loc Cert.InEvenIdeal.main_v105_1) = v1 c
          ∧ r.2.mem ((c.tc : Thread Cert.InEvenIdeal.nD Cert.InEvenIdeal.τ).loc Cert.InEvenIdeal.main_v105_2) = v2 c
          ∧ r.2.mem ((c.tc : Thread Cert.InEvenIdeal.nD Cert.InEvenIdeal.τ).loc Cert.InEvenIdeal.main_v105_3) = v3 c
          ∧ r.2.mem ((c.tc : Thread Cert.InEvenIdeal.nD Cert.InEvenIdeal.τ).loc Cert.InEvenIdeal.main_v105_4) = v4 c
          ∧ r.2.mem ((c.tc : Thread Cert.InEvenIdeal.nD Cert.InEvenIdeal.τ).loc Cert.InEvenIdeal.main_v105_5) = v5 c
          ∧ r.2.mem ((c.tc : Thread Cert.InEvenIdeal.nD Cert.InEvenIdeal.τ).loc Cert.InEvenIdeal.main_v105_6) = v6 c
          ∧ r.2.mem ((c.tc : Thread Cert.InEvenIdeal.nD Cert.InEvenIdeal.τ).loc Cert.InEvenIdeal.main_v105_7) = v7 c
          ∧ r.2.mem ((c.tc : Thread Cert.InEvenIdeal.nD Cert.InEvenIdeal.τ).loc Cert.InEvenIdeal.main_v105_8) = v8 c
          ∧ r.2.mem ((c.tc : Thread Cert.InEvenIdeal.nD Cert.InEvenIdeal.τ).loc Cert.InEvenIdeal.main_v105_9) = v9 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
          ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
          ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6)
          ∧ r.2.mem ((c.tc : Thread Cert.InEvenIdeal.nD Cert.InEvenIdeal.τ).loc Cert.InEvenIdeal.main_arg7) = m ((c.tc : Thread Cert.InEvenIdeal.nD Cert.InEvenIdeal.τ).loc Cert.InEvenIdeal.main_arg7))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v141) = v0 c
          ∧ r.2.mem ((c.tc : Thread Cert.InEvenRefIdeal.nD Cert.InEvenRefIdeal.τ).loc Cert.InEvenRefIdeal.main_v209) = v1 c
          ∧ r.2.mem ((c.tc : Thread Cert.InEvenRefIdeal.nD Cert.InEvenRefIdeal.τ).loc Cert.InEvenRefIdeal.main_v276) = v2 c
          ∧ r.2.mem ((c.tc : Thread Cert.InEvenRefIdeal.nD Cert.InEvenRefIdeal.τ).loc Cert.InEvenRefIdeal.main_v277) = v3 c
          ∧ r.2.mem ((c.tc : Thread Cert.InEvenRefIdeal.nD Cert.InEvenRefIdeal.τ).loc Cert.InEvenRefIdeal.main_v279) = v4 c
          ∧ r.2.mem ((c.tc : Thread Cert.InEvenRefIdeal.nD Cert.InEvenRefIdeal.τ).loc Cert.InEvenRefIdeal.main_v346) = v5 c
          ∧ r.2.mem ((c.tc : Thread Cert.InEvenRefIdeal.nD Cert.InEvenRefIdeal.τ).loc Cert.InEvenRefIdeal.main_v347) = v6 c
          ∧ r.2.mem ((c.tc : Thread Cert.InEvenRefIdeal.nD Cert.InEvenRefIdeal.τ).loc Cert.InEvenRefIdeal.main_v348) = v7 c
          ∧ r.2.mem ((c.tc : Thread Cert.InEvenRefIdeal.nD Cert.InEvenRefIdeal.τ).loc Cert.InEvenRefIdeal.main_v349) = v8 c
          ∧ r.2.mem ((c.tc : Thread Cert.InEvenRefIdeal.nD Cert.InEvenRefIdeal.τ).loc Cert.InEvenRefIdeal.main_v350) = v9 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4)
          ∧ r.2.mem ((c.tc : Thread Cert.InEvenRefIdeal.nD Cert.InEvenRefIdeal.τ).loc Cert.InEvenRefIdeal.main_arg5) = m' ((c.tc : Thread Cert.InEvenRefIdeal.nD Cert.InEvenRefIdeal.τ).loc Cert.InEvenRefIdeal.main_arg5)
          ∧ r.2.mem ((c.tc : Thread Cert.InEvenRefIdeal.nD Cert.InEvenRefIdeal.τ).loc Cert.InEvenRefIdeal.main_arg6) = m' ((c.tc : Thread Cert.InEvenRefIdeal.nD Cert.InEvenRefIdeal.τ).loc Cert.InEvenRefIdeal.main_arg6)
          ∧ r.2.mem ((c.tc : Thread Cert.InEvenRefIdeal.nD Cert.InEvenRefIdeal.τ).loc Cert.InEvenRefIdeal.main_arg7) = m' ((c.tc : Thread Cert.InEvenRefIdeal.nD Cert.InEvenRefIdeal.τ).loc Cert.InEvenRefIdeal.main_arg7))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)
      ∧ m' ((c.tc : Thread Cert.ModsRefIdeal.nD Cert.ModsRefIdeal.τ).loc Cert.ModsRefIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v4)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v4) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v23) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2)
          ∧ r.2.mem ((c.tc : Thread Cert.ModsRefIdeal.nD Cert.ModsRefIdeal.τ).loc Cert.ModsRefIdeal.main_arg3) = m' ((c.tc : Thread Cert.ModsRefIdeal.nD Cert.ModsRefIdeal.τ).loc Cert.ModsRefIdeal.main_arg3))

def preserves_InOdd_InOddIdeal : Prop :=
  True

def algebraic_InOddIdeal_InOddRefIdeal_pre_project_odd_finite [hInOddIdeal : Cert.InOddIdeal.Facts] [hInOddRefIdeal : Cert.InOddRefIdeal.Facts] [hPre_project_odd_finite : Cert.Pre_project_odd_finite.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal_project_odd_finite m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)
      ∧ m' ((c.tc : Thread Cert.InOddRefIdeal.nD Cert.InOddRefIdeal.τ).loc Cert.InOddRefIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v61_0)) (v1 : (c : Dev Cert.InOddIdeal.nD) → Buf (Elt Ideal) ((c.tc : Thread Cert.InOddIdeal.nD Cert.InOddIdeal.τ).loc Cert.InOddIdeal.main_v61_1)) (v2 : (c : Dev Cert.InOddIdeal.nD) → Buf (Elt Ideal) ((c.tc : Thread Cert.InOddIdeal.nD Cert.InOddIdeal.τ).loc Cert.InOddIdeal.main_v61_2)) (v3 : (c : Dev Cert.InOddIdeal.nD) → Buf (Elt Ideal) ((c.tc : Thread Cert.InOddIdeal.nD Cert.InOddIdeal.τ).loc Cert.InOddIdeal.main_v61_3)) (v4 : (c : Dev Cert.InOddIdeal.nD) → Buf (Elt Ideal) ((c.tc : Thread Cert.InOddIdeal.nD Cert.InOddIdeal.τ).loc Cert.InOddIdeal.main_v61_4)) (v5 : (c : Dev Cert.InOddIdeal.nD) → Buf (Elt Ideal) ((c.tc : Thread Cert.InOddIdeal.nD Cert.InOddIdeal.τ).loc Cert.InOddIdeal.main_v61_5)) (v6 : (c : Dev Cert.InOddIdeal.nD) → Buf (Elt Ideal) ((c.tc : Thread Cert.InOddIdeal.nD Cert.InOddIdeal.τ).loc Cert.InOddIdeal.main_v61_6)) (v7 : (c : Dev Cert.InOddIdeal.nD) → Buf (Elt Ideal) ((c.tc : Thread Cert.InOddIdeal.nD Cert.InOddIdeal.τ).loc Cert.InOddIdeal.main_v61_7)) (v8 : (c : Dev Cert.InOddIdeal.nD) → Buf (Elt Ideal) ((c.tc : Thread Cert.InOddIdeal.nD Cert.InOddIdeal.τ).loc Cert.InOddIdeal.main_v61_8)) (v9 : (c : Dev Cert.InOddIdeal.nD) → Buf (Elt Ideal) ((c.tc : Thread Cert.InOddIdeal.nD Cert.InOddIdeal.τ).loc Cert.InOddIdeal.main_v61_9)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v61_0) = v0 c
          ∧ r.2.mem ((c.tc : Thread Cert.InOddIdeal.nD Cert.InOddIdeal.τ).loc Cert.InOddIdeal.main_v61_1) = v1 c
          ∧ r.2.mem ((c.tc : Thread Cert.InOddIdeal.nD Cert.InOddIdeal.τ).loc Cert.InOddIdeal.main_v61_2) = v2 c
          ∧ r.2.mem ((c.tc : Thread Cert.InOddIdeal.nD Cert.InOddIdeal.τ).loc Cert.InOddIdeal.main_v61_3) = v3 c
          ∧ r.2.mem ((c.tc : Thread Cert.InOddIdeal.nD Cert.InOddIdeal.τ).loc Cert.InOddIdeal.main_v61_4) = v4 c
          ∧ r.2.mem ((c.tc : Thread Cert.InOddIdeal.nD Cert.InOddIdeal.τ).loc Cert.InOddIdeal.main_v61_5) = v5 c
          ∧ r.2.mem ((c.tc : Thread Cert.InOddIdeal.nD Cert.InOddIdeal.τ).loc Cert.InOddIdeal.main_v61_6) = v6 c
          ∧ r.2.mem ((c.tc : Thread Cert.InOddIdeal.nD Cert.InOddIdeal.τ).loc Cert.InOddIdeal.main_v61_7) = v7 c
          ∧ r.2.mem ((c.tc : Thread Cert.InOddIdeal.nD Cert.InOddIdeal.τ).loc Cert.InOddIdeal.main_v61_8) = v8 c
          ∧ r.2.mem ((c.tc : Thread Cert.InOddIdeal.nD Cert.InOddIdeal.τ).loc Cert.InOddIdeal.main_v61_9) = v9 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v106) = v0 c
          ∧ r.2.mem ((c.tc : Thread Cert.InOddRefIdeal.nD Cert.InOddRefIdeal.τ).loc Cert.InOddRefIdeal.main_v125) = v1 c
          ∧ r.2.mem ((c.tc : Thread Cert.InOddRefIdeal.nD Cert.InOddRefIdeal.τ).loc Cert.InOddRefIdeal.main_v126) = v2 c
          ∧ r.2.mem ((c.tc : Thread Cert.InOddRefIdeal.nD Cert.InOddRefIdeal.τ).loc Cert.InOddRefIdeal.main_v127) = v3 c
          ∧ r.2.mem ((c.tc : Thread Cert.InOddRefIdeal.nD Cert.InOddRefIdeal.τ).loc Cert.InOddRefIdeal.main_v128) = v4 c
          ∧ r.2.mem ((c.tc : Thread Cert.InOddRefIdeal.nD Cert.InOddRefIdeal.τ).loc Cert.InOddRefIdeal.main_v129) = v5 c
          ∧ r.2.mem ((c.tc : Thread Cert.InOddRefIdeal.nD Cert.InOddRefIdeal.τ).loc Cert.InOddRefIdeal.main_v130) = v6 c
          ∧ r.2.mem ((c.tc : Thread Cert.InOddRefIdeal.nD Cert.InOddRefIdeal.τ).loc Cert.InOddRefIdeal.main_v131) = v7 c
          ∧ r.2.mem ((c.tc : Thread Cert.InOddRefIdeal.nD Cert.InOddRefIdeal.τ).loc Cert.InOddRefIdeal.main_v132) = v8 c
          ∧ r.2.mem ((c.tc : Thread Cert.InOddRefIdeal.nD Cert.InOddRefIdeal.τ).loc Cert.InOddRefIdeal.main_v133) = v9 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3)
          ∧ r.2.mem ((c.tc : Thread Cert.InOddRefIdeal.nD Cert.InOddRefIdeal.τ).loc Cert.InOddRefIdeal.main_arg4) = m' ((c.tc : Thread Cert.InOddRefIdeal.nD Cert.InOddRefIdeal.τ).loc Cert.InOddRefIdeal.main_arg4))

def Claim : Prop :=
  ∃ (hEvenAttn : Cert.EvenAttn.Facts) (hEvenAttnIdeal : Cert.EvenAttnIdeal.Facts) (hEvenRefIdeal : Cert.EvenRefIdeal.Facts) (hPost : Cert.Post.Facts) (hPostIdeal : Cert.PostIdeal.Facts) (hPostRefIdeal : Cert.PostRefIdeal.Facts) (hInEven : Cert.InEven.Facts) (hInEvenIdeal : Cert.InEvenIdeal.Facts) (hInEvenRefIdeal : Cert.InEvenRefIdeal.Facts) (hMods : Cert.Mods.Facts) (hModsIdeal : Cert.ModsIdeal.Facts) (hModsRefIdeal : Cert.ModsRefIdeal.Facts) (hInOdd : Cert.InOdd.Facts) (hInOddIdeal : Cert.InOddIdeal.Facts) (hInOddRefIdeal : Cert.InOddRefIdeal.Facts) (hPre_even_attention_finite : Cert.Pre_even_attention_finite.Facts) (hPre_project_odd_finite : Cert.Pre_project_odd_finite.Facts),
    quiescent_EvenAttn (hEvenAttn := hEvenAttn)
    ∧ quiescent_EvenAttnIdeal (hEvenAttnIdeal := hEvenAttnIdeal)
    ∧ quiescent_EvenAttnIdeal_pre_even_attention_finite (hEvenAttnIdeal := hEvenAttnIdeal) (hPre_even_attention_finite := hPre_even_attention_finite)
    ∧ quiescent_EvenRefIdeal (hEvenRefIdeal := hEvenRefIdeal)
    ∧ quiescent_EvenRefIdeal_pre_even_attention_finite (hEvenRefIdeal := hEvenRefIdeal) (hPre_even_attention_finite := hPre_even_attention_finite)
    ∧ quiescent_Post (hPost := hPost)
    ∧ quiescent_PostIdeal (hPostIdeal := hPostIdeal)
    ∧ quiescent_PostRefIdeal (hPostRefIdeal := hPostRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_Mods (hMods := hMods)
    ∧ quiescent_ModsIdeal (hModsIdeal := hModsIdeal)
    ∧ quiescent_ModsRefIdeal (hModsRefIdeal := hModsRefIdeal)
    ∧ quiescent_InOdd (hInOdd := hInOdd)
    ∧ quiescent_InOddIdeal (hInOddIdeal := hInOddIdeal)
    ∧ quiescent_InOddIdeal_pre_project_odd_finite (hInOddIdeal := hInOddIdeal) (hPre_project_odd_finite := hPre_project_odd_finite)
    ∧ quiescent_InOddRefIdeal (hInOddRefIdeal := hInOddRefIdeal)
    ∧ quiescent_InOddRefIdeal_pre_project_odd_finite (hInOddRefIdeal := hInOddRefIdeal) (hPre_project_odd_finite := hPre_project_odd_finite)
    ∧ preserves_EvenAttn_EvenAttnIdeal
    ∧ algebraic_EvenAttnIdeal_EvenRefIdeal_pre_even_attention_finite (hEvenAttnIdeal := hEvenAttnIdeal) (hEvenRefIdeal := hEvenRefIdeal) (hPre_even_attention_finite := hPre_even_attention_finite)
    ∧ preserves_Post_PostIdeal
    ∧ algebraic_PostIdeal_PostRefIdeal (hPostIdeal := hPostIdeal) (hPostRefIdeal := hPostRefIdeal)
    ∧ preserves_InEven_InEvenIdeal
    ∧ algebraic_InEvenIdeal_InEvenRefIdeal (hInEvenIdeal := hInEvenIdeal) (hInEvenRefIdeal := hInEvenRefIdeal)
    ∧ preserves_Mods_ModsIdeal
    ∧ algebraic_ModsIdeal_ModsRefIdeal (hModsIdeal := hModsIdeal) (hModsRefIdeal := hModsRefIdeal)
    ∧ preserves_InOdd_InOddIdeal
    ∧ algebraic_InOddIdeal_InOddRefIdeal_pre_project_odd_finite (hInOddIdeal := hInOddIdeal) (hInOddRefIdeal := hInOddRefIdeal) (hPre_project_odd_finite := hPre_project_odd_finite)
-- ==== Pre_even_attention_finite.lean ====
abbrev S1x64 : Shape := ⟨2, ![1, 64]⟩
abbrev S1x128 : Shape := ⟨2, ![1, 128]⟩
abbrev S12288x512 : Shape := ⟨2, ![12288, 512]⟩
abbrev S12288x768 : Shape := ⟨2, ![12288, 768]⟩
abbrev S12288x1024 : Shape := ⟨2, ![12288, 1024]⟩
abbrev S12288x32 : Shape := ⟨2, ![12288, 32]⟩
abbrev S4x256x512 : Shape := ⟨3, ![4, 256, 512]⟩
abbrev S1024x1024 : Shape := ⟨2, ![1024, 1024]⟩
abbrev S4x256x32 : Shape := ⟨3, ![4, 256, 32]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bitsLt_bf16_f32 : FTy.bits .bf16 < FTy.bits .f32
  bcast_S_S12288x512 : S_.BroadcastsInDim S12288x512 (![] : Fin 0 → Fin S12288x512.rank)
  reducesTo_S12288x512_S_d0_1 : S12288x512.ReducesTo [0, 1] S_
  bcast_S_S12288x768 : S_.BroadcastsInDim S12288x768 (![] : Fin 0 → Fin S12288x768.rank)
  reducesTo_S12288x768_S_d0_1 : S12288x768.ReducesTo [0, 1] S_
  bcast_S_S12288x1024 : S_.BroadcastsInDim S12288x1024 (![] : Fin 0 → Fin S12288x1024.rank)
  reducesTo_S12288x1024_S_d0_1 : S12288x1024.ReducesTo [0, 1] S_
  bcast_S_S12288x32 : S_.BroadcastsInDim S12288x32 (![] : Fin 0 → Fin S12288x32.rank)
  reducesTo_S12288x32_S_d0_1 : S12288x32.ReducesTo [0, 1] S_
  bcast_S_S4x256x512 : S_.BroadcastsInDim S4x256x512 (![] : Fin 0 → Fin S4x256x512.rank)
  reducesTo_S4x256x512_S_d0_1_2 : S4x256x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S4x256x32 : S_.BroadcastsInDim S4x256x32 (![] : Fin 0 → Fin S4x256x32.rank)
  reducesTo_S4x256x32_S_d0_1_2 : S4x256x32.ReducesTo [0, 1, 2] S_

variable [Facts]

def fn_part4 {F : FTy → Type} [FloatOps F] (main_arg14 : FVec F S4x256x32 .f32) (main_v64 : IVec S_ 1) (main_v69 : IVec S_ 1) : IVec S_ 1 :=
  let main_v70 : IVec S_ 1 := andi main_v64 main_v69
  let main_v71 : FVec F S4x256x32 .f32 := Host.absf main_arg14
  let main_cst_24 : FVec F S_ .f32 := constant S_ .f32 0x7F800000#32
  let main_v72 : FVec F S4x256x32 .f32 := broadcastInDim S4x256x32 ![] bcast_S_S4x256x32 main_cst_24
  let main_v73 : IVec S4x256x32 1 := cmpf .olt main_v71 main_v72
  let main_c_25 : IVec S_ 1 := constantI S_ 1 1#1
  let main_v74 : IVec S_ 1 := (fun x v => Host.reduce IntOp.andi x v reducesTo_S4x256x32_S_d0_1_2 h_S_) main_v73 main_c_25
  let main_v75 : IVec S_ 1 := andi main_v70 main_v74
  main_v75

def fn_part3 {F : FTy → Type} [FloatOps F] (main_arg11 : FVec F S4x256x512 .f32) (main_arg12 : FVec F S4x256x512 .f32) (main_arg13 : FVec F S1024x1024 .bf16) (main_arg14 : FVec F S4x256x32 .f32) (main_v48 : IVec S_ 1) (main_v52 : IVec S12288x32 1) : IVec S_ 1 :=
  let main_c_17 : IVec S_ 1 := constantI S_ 1 1#1
  let main_v53 : IVec S_ 1 := (fun x v => Host.reduce IntOp.andi x v reducesTo_S12288x32_S_d0_1 h_S_) main_v52 main_c_17
  let main_v54 : IVec S_ 1 := andi main_v48 main_v53
  let main_v55 : FVec F S4x256x512 .f32 := Host.absf main_arg11
  let main_cst_18 : FVec F S_ .f32 := constant S_ .f32 0x7F800000#32
  let main_v56 : FVec F S4x256x512 .f32 := broadcastInDim S4x256x512 ![] bcast_S_S4x256x512 main_cst_18
  let main_v57 : IVec S4x256x512 1 := cmpf .olt main_v55 main_v56
  let main_c_19 : IVec S_ 1 := constantI S_ 1 1#1
  let main_v58 : IVec S_ 1 := (fun x v => Host.reduce IntOp.andi x v reducesTo_S4x256x512_S_d0_1_2 h_S_) main_v57 main_c_19
  let main_v59 : IVec S_ 1 := andi main_v54 main_v58
  let main_v60 : FVec F S4x256x512 .f32 := Host.absf main_arg12
  let main_cst_20 : FVec F S_ .f32 := constant S_ .f32 0x7F800000#32
  let main_v61 : FVec F S4x256x512 .f32 := broadcastInDim S4x256x512 ![] bcast_S_S4x256x512 main_cst_20
  let main_v62 : IVec S4x256x512 1 := cmpf .olt main_v60 main_v61
  let main_c_21 : IVec S_ 1 := constantI S_ 1 1#1
  let main_v63 : IVec S_ 1 := (fun x v => Host.reduce IntOp.andi x v reducesTo_S4x256x512_S_d0_1_2 h_S_) main_v62 main_c_21
  let main_v64 : IVec S_ 1 := andi main_v59 main_v63
  let main_v65 : FVec F S1024x1024 .f32 := (extf .f32 · bitsLt_bf16_f32) main_arg13
  let main_v66 : FVec F S1024x1024 .f32 := Host.absf main_v65
  let main_cst_22 : FVec F S_ .f32 := constant S_ .f32 0x7F800000#32
  let main_v67 : FVec F S1024x1024 .f32 := broadcastInDim S1024x1024 ![] bcast_S_S1024x1024 main_cst_22
  let main_v68 : IVec S1024x1024 1 := cmpf .olt main_v66 main_v67
  let main_c_23 : IVec S_ 1 := constantI S_ 1 1#1
  let main_v69 : IVec S_ 1 := (fun x v => Host.reduce IntOp.andi x v reducesTo_S1024x1024_S_d0_1 h_S_) main_v68 main_c_23
  fn_part4 (F := F) main_arg14 main_v64 main_v69

def fn_part2 {F : FTy → Type} [FloatOps F] (main_arg8 : FVec F S12288x512 .bf16) (main_arg9 : FVec F S12288x1024 .bf16) (main_arg10 : FVec F S12288x32 .bf16) (main_arg11 : FVec F S4x256x512 .f32) (main_arg12 : FVec F S4x256x512 .f32) (main_arg13 : FVec F S1024x1024 .bf16) (main_arg14 : FVec F S4x256x32 .f32) (main_v30 : IVec S_ 1) (main_v34 : IVec S12288x512 1) : IVec S_ 1 :=
  let main_c_11 : IVec S_ 1 := constantI S_ 1 1#1
  let main_v35 : IVec S_ 1 := (fun x v => Host.reduce IntOp.andi x v reducesTo_S12288x512_S_d0_1 h_S_) main_v34 main_c_11
  let main_v36 : IVec S_ 1 := andi main_v30 main_v35
  let main_v37 : FVec F S12288x512 .f32 := (extf .f32 · bitsLt_bf16_f32) main_arg8
  let main_v38 : FVec F S12288x512 .f32 := Host.absf main_v37
  let main_cst_12 : FVec F S_ .f32 := constant S_ .f32 0x7F800000#32
  let main_v39 : FVec F S12288x512 .f32 := broadcastInDim S12288x512 ![] bcast_S_S12288x512 main_cst_12
  let main_v40 : IVec S12288x512 1 := cmpf .olt main_v38 main_v39
  let main_c_13 : IVec S_ 1 := constantI S_ 1 1#1
  let main_v41 : IVec S_ 1 := (fun x v => Host.reduce IntOp.andi x v reducesTo_S12288x512_S_d0_1 h_S_) main_v40 main_c_13
  let main_v42 : IVec S_ 1 := andi main_v36 main_v41
  let main_v43 : FVec F S12288x1024 .f32 := (extf .f32 · bitsLt_bf16_f32) main_arg9
  let main_v44 : FVec F S12288x1024 .f32 := Host.absf main_v43
  let main_cst_14 : FVec F S_ .f32 := constant S_ .f32 0x7F800000#32
  let main_v45 : FVec F S12288x1024 .f32 := broadcastInDim S12288x1024 ![] bcast_S_S12288x1024 main_cst_14
  let main_v46 : IVec S12288x1024 1 := cmpf .olt main_v44 main_v45
  let main_c_15 : IVec S_ 1 := constantI S_ 1 1#1
  let main_v47 : IVec S_ 1 := (fun x v => Host.reduce IntOp.andi x v reducesTo_S12288x1024_S_d0_1 h_S_) main_v46 main_c_15
  let main_v48 : IVec S_ 1 := andi main_v42 main_v47
  let main_v49 : FVec F S12288x32 .f32 := (extf .f32 · bitsLt_bf16_f32) main_arg10
  let main_v50 : FVec F S12288x32 .f32 := Host.absf main_v49
  let main_cst_16 : FVec F S_ .f32 := constant S_ .f32 0x7F800000#32
  let main_v51 : FVec F S12288x32 .f32 := broadcastInDim S12288x32 ![] bcast_S_S12288x32 main_cst_16
  let main_v52 : IVec S12288x32 1 := cmpf .olt main_v50 main_v51
  fn_part3 (F := F) main_arg11 main_arg12 main_arg13 main_arg14 main_v48 main_v52

def fn_part1 {F : FTy → Type} [FloatOps F] (main_arg5 : FVec F S12288x512 .bf16) (main_arg6 : FVec F S12288x768 .bf16) (main_arg7 : FVec F S12288x512 .bf16) (main_arg8 : FVec F S12288x512 .bf16) (main_arg9 : FVec F S12288x1024 .bf16) (main_arg10 : FVec F S12288x32 .bf16) (main_arg11 : FVec F S4x256x512 .f32) (main_arg12 : FVec F S4x256x512 .f32) (main_arg13 : FVec F S1024x1024 .bf16) (main_arg14 : FVec F S4x256x32 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S12288x512 .f32 := (extf .f32 · bitsLt_bf16_f32) main_arg5
  let main_v20 : FVec F S12288x512 .f32 := Host.absf main_v19
  let main_cst_6 : FVec F S_ .f32 := constant S_ .f32 0x7F800000#32
  let main_v21 : FVec F S12288x512 .f32 := broadcastInDim S12288x512 ![] bcast_S_S12288x512 main_cst_6
  let main_v22 : IVec S12288x512 1 := cmpf .olt main_v20 main_v21
  let main_c_7 : IVec S_ 1 := constantI S_ 1 1#1
  let main_v23 : IVec S_ 1 := (fun x v => Host.reduce IntOp.andi x v reducesTo_S12288x512_S_d0_1 h_S_) main_v22 main_c_7
  let main_v24 : IVec S_ 1 := andi main_v18 main_v23
  let main_v25 : FVec F S12288x768 .f32 := (extf .f32 · bitsLt_bf16_f32) main_arg6
  let main_v26 : FVec F S12288x768 .f32 := Host.absf main_v25
  let main_cst_8 : FVec F S_ .f32 := constant S_ .f32 0x7F800000#32
  let main_v27 : FVec F S12288x768 .f32 := broadcastInDim S12288x768 ![] bcast_S_S12288x768 main_cst_8
  let main_v28 : IVec S12288x768 1 := cmpf .olt main_v26 main_v27
  let main_c_9 : IVec S_ 1 := constantI S_ 1 1#1
  let main_v29 : IVec S_ 1 := (fun x v => Host.reduce IntOp.andi x v reducesTo_S12288x768_S_d0_1 h_S_) main_v28 main_c_9
  let main_v30 : IVec S_ 1 := andi main_v24 main_v29
  let main_v31 : FVec F S12288x512 .f32 := (extf .f32 · bitsLt_bf16_f32) main_arg7
  let main_v32 : FVec F S12288x512 .f32 := Host.absf main_v31
  let main_cst_10 : FVec F S_ .f32 := constant S_ .f32 0x7F800000#32
  let main_v33 : FVec F S12288x512 .f32 := broadcastInDim S12288x512 ![] bcast_S_S12288x512 main_cst_10
  let main_v34 : IVec S12288x512 1 := cmpf .olt main_v32 main_v33
  fn_part2 (F := F) main_arg8 main_arg9 main_arg10 main_arg11 main_arg12 main_arg13 main_arg14 main_v30 main_v34

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S12288x512 .bf16) (main_arg6 : FVec F S12288x768 .bf16) (main_arg7 : FVec F S12288x512 .bf16) (main_arg8 : FVec F S12288x512 .bf16) (main_arg9 : FVec F S12288x1024 .bf16) (main_arg10 : FVec F S12288x32 .bf16) (main_arg11 : FVec F S4x256x512 .f32) (main_arg12 : FVec F S4x256x512 .f32) (main_arg13 : FVec F S1024x1024 .bf16) (main_arg14 : FVec F S4x256x32 .f32) (main_arg15 : FVec F S12288x512 .bf16) (main_arg16 : FVec F S12288x512 .bf16) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_arg8 main_arg9 main_arg10 main_arg11 main_arg12 main_arg13 main_arg14 main_v13 main_v16
-- ==== Pre_project_odd_finite.lean ====
abbrev S12288x1024 : Shape := ⟨2, ![12288, 1024]⟩
abbrev S2x8x6x1024 : Shape := ⟨4, ![2, 8, 6, 1024]⟩
abbrev S1x1024x2304 : Shape := ⟨3, ![1, 1024, 2304]⟩
abbrev S1x64 : Shape := ⟨2, ![1, 64]⟩
abbrev S_ : Shape := ⟨0, ![]⟩

class Facts : Prop where
  bcast_S_S12288x1024 : S_.BroadcastsInDim S12288x1024 (![] : Fin 0 → Fin S12288x1024.rank)
  reducesTo_S12288x1024_S_d0_1 : S12288x1024.ReducesTo [0, 1] S_
  h_S_ : 0 < S_.numel
  bcast_S_S2x8x6x1024 : S_.BroadcastsInDim S2x8x6x1024 (![] : Fin 0 → Fin S2x8x6x1024.rank)
  reducesTo_S2x8x6x1024_S_d0_1_2_3 : S2x8x6x1024.ReducesTo [0, 1, 2, 3] S_
  bcast_S_S1x1024x2304 : S_.BroadcastsInDim S1x1024x2304 (![] : Fin 0 → Fin S1x1024x2304.rank)
  reducesTo_S1x1024x2304_S_d0_1_2 : S1x1024x2304.ReducesTo [0, 1, 2] S_

variable [Facts]

def fn {F : FTy → Type} [FloatOps F] (main_arg0 : FVec F S12288x1024 .f32) (main_arg1 : FVec F S2x8x6x1024 .f32) (main_arg2 : FVec F S1x1024x2304 .f32) (main_arg3 : FVec F S1x64 .f32) (main_arg4 : FVec F S1x64 .f32) : IVec S_ 1 :=
  let main_v0 : FVec F S12288x1024 .f32 := Host.absf main_arg0
  let main_cst : FVec F S_ .f32 := constant S_ .f32 0x7F800000#32
  let main_v1 : FVec F S12288x1024 .f32 := broadcastInDim S12288x1024 ![] bcast_S_S12288x1024 main_cst
  let main_v2 : IVec S12288x1024 1 := cmpf .olt main_v0 main_v1
  let main_c : IVec S_ 1 := constantI S_ 1 1#1
  let main_v3 : IVec S_ 1 := (fun x v => Host.reduce IntOp.andi x v reducesTo_S12288x1024_S_d0_1 h_S_) main_v2 main_c
  let main_v4 : FVec F S2x8x6x1024 .f32 := Host.absf main_arg1
  let main_cst_0 : FVec F S_ .f32 := constant S_ .f32 0x7F800000#32
  let main_v5 : FVec F S2x8x6x1024 .f32 := broadcastInDim S2x8x6x1024 ![] bcast_S_S2x8x6x1024 main_cst_0
  let main_v6 : IVec S2x8x6x1024 1 := cmpf .olt main_v4 main_v5
  let main_c_1 : IVec S_ 1 := constantI S_ 1 1#1
  let main_v7 : IVec S_ 1 := (fun x v => Host.reduce IntOp.andi x v reducesTo_S2x8x6x1024_S_d0_1_2_3 h_S_) main_v6 main_c_1
  let main_v8 : IVec S_ 1 := andi main_v3 main_v7
  let main_v9 : FVec F S1x1024x2304 .f32 := Host.absf main_arg2
  let main_cst_2 : FVec F S_ .f32 := constant S_ .f32 0x7F800000#32
  let main_v10 : FVec F S1x1024x2304 .f32 := broadcastInDim S1x1024x2304 ![] bcast_S_S1x1024x2304 main_cst_2
  let main_v11 : IVec S1x1024x2304 1 := cmpf .olt main_v9 main_v10
  let main_c_3 : IVec S_ 1 := constantI S_ 1 1#1
  let main_v12 : IVec S_ 1 := (fun x v => Host.reduce IntOp.andi x v reducesTo_S1x1024x2304_S_d0_1_2 h_S_) main_v11 main_c_3
  let main_v13 : IVec S_ 1 := andi main_v8 main_v12
  main_v13
-- ==== EvenAttn.lean ====
abbrev S1x64 : Shape := ⟨2, ![1, 64]⟩
abbrev S1x128 : Shape := ⟨2, ![1, 128]⟩
abbrev S12288x512 : Shape := ⟨2, ![12288, 512]⟩
abbrev S12288x768 : Shape := ⟨2, ![12288, 768]⟩
abbrev S12288x1024 : Shape := ⟨2, ![12288, 1024]⟩
abbrev S12288x32 : Shape := ⟨2, ![12288, 32]⟩
abbrev S4x256x512 : Shape := ⟨3, ![4, 256, 512]⟩
abbrev S1024x1024 : Shape := ⟨2, ![1024, 1024]⟩
abbrev S4x256x32 : Shape := ⟨3, ![4, 256, 32]⟩
abbrev S4x256x1024 : Shape := ⟨3, ![4, 256, 1024]⟩
abbrev S256x512 : Shape := ⟨2, ![256, 512]⟩
abbrev S256x768 : Shape := ⟨2, ![256, 768]⟩
abbrev S1024x512 : Shape := ⟨2, ![1024, 512]⟩
abbrev S1024x32 : Shape := ⟨2, ![1024, 32]⟩
abbrev S1x256x512 : Shape := ⟨3, ![1, 256, 512]⟩
abbrev S1x256x1024 : Shape := ⟨3, ![1, 256, 1024]⟩
abbrev S1x256x32 : Shape := ⟨3, ![1, 256, 32]⟩
abbrev S1 : Shape := ⟨1, ![1]⟩
abbrev S1x1 : Shape := ⟨2, ![1, 1]⟩
abbrev S1024x128 : Shape := ⟨2, ![1024, 128]⟩
abbrev S1x256x128 : Shape := ⟨3, ![1, 256, 128]⟩
abbrev S256x128 : Shape := ⟨2, ![256, 128]⟩
abbrev S256x64 : Shape := ⟨2, ![256, 64]⟩
abbrev S1024x64 : Shape := ⟨2, ![1024, 64]⟩
abbrev S256x1024 : Shape := ⟨2, ![256, 1024]⟩
abbrev S1x256x64 : Shape := ⟨3, ![1, 256, 64]⟩
abbrev S256x256 : Shape := ⟨2, ![256, 256]⟩
abbrev S256 : Shape := ⟨1, ![256]⟩
abbrev S256x1 : Shape := ⟨2, ![256, 1]⟩
abbrev S256x32 : Shape := ⟨2, ![256, 32]⟩

abbrev nBuf : Space → Nat
  | .hbm => 20
  | .vmem => 29
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S12288x512, .bf16⟩
  | .hbm, ⟨6, _⟩ => ⟨S12288x768, .bf16⟩
  | .hbm, ⟨7, _⟩ => ⟨S12288x512, .bf16⟩
  | .hbm, ⟨8, _⟩ => ⟨S12288x512, .bf16⟩
  | .hbm, ⟨9, _⟩ => ⟨S12288x1024, .bf16⟩
  | .hbm, ⟨10, _⟩ => ⟨S12288x32, .bf16⟩
  | .hbm, ⟨11, _⟩ => ⟨S4x256x512, .f32⟩
  | .hbm, ⟨12, _⟩ => ⟨S4x256x512, .f32⟩
  | .hbm, ⟨13, _⟩ => ⟨S1024x1024, .bf16⟩
  | .hbm, ⟨14, _⟩ => ⟨S4x256x32, .f32⟩
  | .hbm, ⟨15, _⟩ => ⟨S12288x512, .bf16⟩
  | .hbm, ⟨16, _⟩ => ⟨S12288x512, .bf16⟩
  | .hbm, ⟨17, _⟩ => ⟨S4x256x1024, .bf16⟩
  | .hbm, ⟨18, _⟩ => ⟨S12288x512, .bf16⟩
  | .hbm, ⟨19, _⟩ => ⟨S12288x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x768, .bf16⟩
  | .local _ .vmem, ⟨8, _⟩ => ⟨S256x768, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .bf16⟩
  | .local _ .vmem, ⟨15, _⟩ => ⟨S1024x32, .bf16⟩
  | .local _ .vmem, ⟨16, _⟩ => ⟨S1024x32, .bf16⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x1024, .bf16⟩
  | .local _ .vmem, ⟨22, _⟩ => ⟨S1x256x1024, .bf16⟩
  | .local _ .vmem, ⟨23, _⟩ => ⟨S1x256x32, .f32⟩
  | .local _ .vmem, ⟨24, _⟩ => ⟨S1x256x32, .f32⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== EvenRefIdeal.lean ====
abbrev S1x64 : Shape := ⟨2, ![1, 64]⟩
abbrev S1x128 : Shape := ⟨2, ![1, 128]⟩
abbrev S12288x512 : Shape := ⟨2, ![12288, 512]⟩
abbrev S12288x768 : Shape := ⟨2, ![12288, 768]⟩
abbrev S12288x1024 : Shape := ⟨2, ![12288, 1024]⟩
abbrev S12288x32 : Shape := ⟨2, ![12288, 32]⟩
abbrev S4x256x512 : Shape := ⟨3, ![4, 256, 512]⟩
abbrev S1024x1024 : Shape := ⟨2, ![1024, 1024]⟩
abbrev S4x256x32 : Shape := ⟨3, ![4, 256, 32]⟩
abbrev S4096x512 : Shape := ⟨2, ![4096, 512]⟩
abbrev S4x1024x4x2x64 : Shape := ⟨5, ![4, 1024, 4, 2, 64]⟩
abbrev S4x256x4x2x64 : Shape := ⟨5, ![4, 256, 4, 2, 64]⟩
abbrev S4x1280x4x2x64 : Shape := ⟨5, ![4, 1280, 4, 2, 64]⟩
abbrev S4x1024x4x128 : Shape := ⟨4, ![4, 1024, 4, 128]⟩
abbrev S4x256x4x128 : Shape := ⟨4, ![4, 256, 4, 128]⟩
abbrev S4x1280x4x128 : Shape := ⟨4, ![4, 1280, 4, 128]⟩
abbrev S4096x768 : Shape := ⟨2, ![4096, 768]⟩
abbrev S4x1024x8x64 : Shape := ⟨4, ![4, 1024, 8, 64]⟩
abbrev S4096x256 : Shape := ⟨2, ![4096, 256]⟩
abbrev S4x1024x8x32 : Shape := ⟨4, ![4, 1024, 8, 32]⟩
abbrev S4096x1024 : Shape := ⟨2, ![4096, 1024]⟩
abbrev S4x1024x1024 : Shape := ⟨3, ![4, 1024, 1024]⟩
abbrev S4x256x1024 : Shape := ⟨3, ![4, 256, 1024]⟩
abbrev S4x1280x1024 : Shape := ⟨3, ![4, 1280, 1024]⟩
abbrev S4x1280x512 : Shape := ⟨3, ![4, 1280, 512]⟩
abbrev S4x1280x8x64 : Shape := ⟨4, ![4, 1280, 8, 64]⟩
abbrev S4096x32 : Shape := ⟨2, ![4096, 32]⟩
abbrev S4x1024x32 : Shape := ⟨3, ![4, 1024, 32]⟩
abbrev S4x1280x32 : Shape := ⟨3, ![4, 1280, 32]⟩
abbrev S_ : Shape := ⟨0, ![]⟩
abbrev S4x4x2x1024x1280 : Shape := ⟨5, ![4, 4, 2, 1024, 1280]⟩
abbrev S4x4x2x1024 : Shape := ⟨4, ![4, 4, 2, 1024]⟩
abbrev S4x4x2x1024x1 : Shape := ⟨5, ![4, 4, 2, 1024, 1]⟩
abbrev S4x4x1x1024x1280 : Shape := ⟨5, ![4, 4, 1, 1024, 1280]⟩
abbrev S4x4x1024x1280 : Shape := ⟨4, ![4, 4, 1024, 1280]⟩
abbrev S4x4x128x1024 : Shape := ⟨4, ![4, 4, 128, 1024]⟩
abbrev S4x1024x4 : Shape := ⟨3, ![4, 1024, 4]⟩
abbrev S4x1024x4x1 : Shape := ⟨4, ![4, 1024, 4, 1]⟩
abbrev S128 : Shape := ⟨1, ![128]⟩
abbrev S1x1x1x128 : Shape := ⟨4, ![1, 1, 1, 128]⟩
abbrev S4x8x1024x1280 : Shape := ⟨4, ![4, 8, 1024, 1280]⟩
abbrev S4x1280x1024x8 : Shape := ⟨4, ![4, 1280, 1024, 8]⟩
abbrev S4x8x1024 : Shape := ⟨3, ![4, 8, 1024]⟩
abbrev S4x8x1024x1 : Shape := ⟨4, ![4, 8, 1024, 1]⟩
abbrev S4x8x64x1024 : Shape := ⟨4, ![4, 8, 64, 1024]⟩
abbrev S8192x512 : Shape := ⟨2, ![8192, 512]⟩

abbrev nBuf : Space → Nat
  | .hbm => 141
  | .vmem => 0
  | .smem => 0
  | _ => 0

abbrev hbmTy0_0 (i : Nat) : BufTy := match i % 128 with
  | 0 => ⟨S1x64, .f32⟩
  | 1 => ⟨S1x64, .f32⟩
  | 2 => ⟨S1x64, .f32⟩
  | 3 => ⟨S1x64, .f32⟩
  | 4 => ⟨S1x128, .f32⟩
  | 5 => ⟨S12288x512, .bf16⟩
  | 6 => ⟨S12288x768, .bf16⟩
  | 7 => ⟨S12288x512, .bf16⟩
  | 8 => ⟨S12288x512, .bf16⟩
  | 9 => ⟨S12288x1024, .bf16⟩
  | 10 => ⟨S12288x32, .bf16⟩
  | 11 => ⟨S4x256x512, .f32⟩
  | 12 => ⟨S4x256x512, .f32⟩
  | 13 => ⟨S1024x1024, .bf16⟩
  | 14 => ⟨S4x256x32, .f32⟩
  | 15 => ⟨S12288x512, .bf16⟩
  | 16 => ⟨S12288x512, .bf16⟩
  | 17 => ⟨S4096x512, .bf16⟩
  | 18 => ⟨S4096x512, .f32⟩
  | 19 => ⟨S4x1024x4x2x64, .f32⟩
  | 20 => ⟨S4096x512, .bf16⟩
  | 21 => ⟨S4096x512, .f32⟩
  | 22 => ⟨S4x1024x4x2x64, .f32⟩
  | 23 => ⟨S4x256x4x2x64, .f32⟩
  | 24 => ⟨S4x1280x4x2x64, .f32⟩
  | 25 => ⟨S4096x512, .bf16⟩
  | 26 => ⟨S4096x512, .f32⟩
  | 27 => ⟨S4x1024x4x128, .f32⟩
  | 28 => ⟨S4x256x4x128, .f32⟩
  | 29 => ⟨S4x1280x4x128, .f32⟩
  | 30 => ⟨S4096x768, .bf16⟩
  | 31 => ⟨S4096x768, .f32⟩
  | 32 => ⟨S4096x512, .f32⟩
  | 33 => ⟨S4x1024x8x64, .f32⟩
  | 34 => ⟨S4096x768, .bf16⟩
  | 35 => ⟨S4096x768, .f32⟩
  | 36 => ⟨S4096x256, .f32⟩
  | 37 => ⟨S4x1024x8x32, .f32⟩
  | 38 => ⟨S4096x1024, .bf16⟩
  | 39 => ⟨S4096x1024, .f32⟩
  | 40 => ⟨S4x1024x1024, .f32⟩
  | 41 => ⟨S1024x1024, .f32⟩
  | 42 => ⟨S4x256x1024, .f32⟩
  | 43 => ⟨S4x1280x1024, .f32⟩
  | 44 => ⟨S4x1280x512, .f32⟩
  | 45 => ⟨S4x1280x8x64, .f32⟩
  | 46 => ⟨S4x1280x512, .f32⟩
  | 47 => ⟨S4x1280x8x64, .f32⟩
  | 48 => ⟨S4096x32, .bf16⟩
  | 49 => ⟨S4096x32, .f32⟩
  | 50 => ⟨S4x1024x32, .f32⟩
  | 51 => ⟨S4x1280x32, .f32⟩
  | 52 => ⟨S1x64, .f32⟩
  | 53 => ⟨S_, .f32⟩
  | 54 => ⟨S_, .f32⟩
  | 55 => ⟨S_, .f32⟩
  | 56 => ⟨S1x64, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S4x4x2x1024x1280, .f32⟩
  | 64 => ⟨S_, .f32⟩
  | 65 => ⟨S4x4x2x1024x1280, .f32⟩
  | 66 => ⟨S4x4x2x1024x1280, .f32⟩
  | 67 => ⟨S_, .f32⟩
  | 68 => ⟨S4x4x2x1024, .f32⟩
  | 69 => ⟨S_, .f32⟩
  | 70 => ⟨S4x4x2x1024, .f32⟩
  | 71 => ⟨S4x4x2x1024, .f32⟩
  | 72 => ⟨S4x4x2x1024x1, .f32⟩
  | 73 => ⟨S4x4x2x1024x1280, .f32⟩
  | 74 => ⟨S4x4x2x1024x1280, .f32⟩
  | 75 => ⟨S4x4x2x1024x1280, .f32⟩
  | 76 => ⟨S_, .f32⟩
  | 77 => ⟨S4x4x2x1024, .f32⟩
  | 78 => ⟨S4x4x2x1024x1, .f32⟩
  | 79 => ⟨S4x4x2x1024x1280, .f32⟩
  | 80 => ⟨S4x4x2x1024x1280, .f32⟩
  | 81 => ⟨S4x4x1x1024x1280, .f32⟩
  | 82 => ⟨S4x4x1024x1280, .f32⟩
  | 83 => ⟨S4x4x1x1024x1280, .f32⟩
  | 84 => ⟨S4x4x1024x1280, .f32⟩
  | 85 => ⟨S4x4x1024x1280, .f32⟩
  | 86 => ⟨S4x4x1024x1280, .f32⟩
  | 87 => ⟨S4x4x1024x1280, .f32⟩
  | 88 => ⟨S4x4x128x1024, .f32⟩
  | 89 => ⟨S4x1024x4x128, .f32⟩
  | 90 => ⟨S4x1024x4x128, .f32⟩
  | 91 => ⟨S_, .f32⟩
  | 92 => ⟨S4x1024x4, .f32⟩
  | 93 => ⟨S4x1024x4x1, .f32⟩
  | 94 => ⟨S_, .f32⟩
  | 95 => ⟨S4x1024x4x1, .f32⟩
  | 96 => ⟨S4x1024x4x1, .f32⟩
  | 97 => ⟨S_, .f32⟩
  | 98 => ⟨S4x1024x4x1, .f32⟩
  | 99 => ⟨S4x1024x4x1, .f32⟩
  | 100 => ⟨S4x1024x4x1, .f32⟩
  | 101 => ⟨S4x1024x4x128, .f32⟩
  | 102 => ⟨S4x1024x4x128, .f32⟩
  | 103 => ⟨S128, .f32⟩
  | 104 => ⟨S1x1x1x128, .f32⟩
  | 105 => ⟨S4x1024x4x128, .f32⟩
  | 106 => ⟨S4x1024x4x128, .f32⟩
  | 107 => ⟨S_, .f32⟩
  | 108 => ⟨S4x1024x4x128, .f32⟩
  | 109 => ⟨S4x1024x4x128, .f32⟩
  | 110 => ⟨S4x8x1024x1280, .f32⟩
  | 111 => ⟨S4x1280x1024x8, .f32⟩
  | 112 => ⟨S4x8x1024x1280, .f32⟩
  | 113 => ⟨S4x8x1024x1280, .f32⟩
  | 114 => ⟨S_, .f32⟩
  | 115 => ⟨S4x8x1024x1280, .f32⟩
  | 116 => ⟨S4x8x1024x1280, .f32⟩
  | 117 => ⟨S_, .f32⟩
  | 118 => ⟨S4x8x1024, .f32⟩
  | 119 => ⟨S_, .f32⟩
  | 120 => ⟨S4x8x1024, .f32⟩
  | 121 => ⟨S4x8x1024, .f32⟩
  | 122 => ⟨S4x8x1024x1, .f32⟩
  | 123 => ⟨S4x8x1024x1280, .f32⟩
  | 124 => ⟨S4x8x1024x1280, .f32⟩
  | 125 => ⟨S4x8x1024x1280, .f32⟩
  | 126 => ⟨S_, .f32⟩
  | 127 => ⟨S4x8x1024, .f32⟩
  | _ => ⟨S1x64, .f32⟩

abbrev hbmTy0_1 (i : Nat) : BufTy := match i % 128 with
  | 0 => ⟨S4x8x1024x1, .f32⟩
  | 1 => ⟨S4x8x1024x1280, .f32⟩
  | 2 => ⟨S4x8x1024x1280, .f32⟩
  | 3 => ⟨S4x8x64x1024, .f32⟩
  | 4 => ⟨S4x1024x8x64, .f32⟩
  | 5 => ⟨S8192x512, .bf16⟩
  | 6 => ⟨S4096x512, .f32⟩
  | 7 => ⟨S4096x512, .bf16⟩
  | 8 => ⟨S12288x512, .bf16⟩
  | 9 => ⟨S8192x512, .bf16⟩
  | 10 => ⟨S4096x512, .f32⟩
  | 11 => ⟨S4096x512, .bf16⟩
  | 12 => ⟨S12288x512, .bf16⟩
  | _ => ⟨S1x64, .f32⟩

abbrev hbmTy (i : Nat) : BufTy := match i / 128 with
  | 0 => hbmTy0_0 i
  | 1 => hbmTy0_1 i
  | _ => ⟨S1x64, .f32⟩

abbrev bufTy : (tb : Table) → Fin (tcTables nBuf tb) → BufTy
  | .hbm, ⟨i, _⟩ => hbmTy i
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_1 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_v67 : Ref sig .tc := ⟨.hbm, 92, rfl⟩
abbrev main_v68 : Ref sig .tc := ⟨.hbm, 93, rfl⟩
abbrev main_cst_7 : Ref sig .tc := ⟨.hbm, 94, rfl⟩
abbrev main_v69 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_9 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_10 : Ref sig .tc := ⟨.hbm, 114, rfl⟩
abbrev main_v86 : Ref sig .tc := ⟨.hbm, 115, rfl⟩
abbrev main_v87 : Ref sig .tc := ⟨.hbm, 116, rfl⟩
abbrev main_cst_11 : Ref sig .tc := ⟨.hbm, 117, rfl⟩
abbrev main_v88 : Ref sig .tc := ⟨.hbm, 118, rfl⟩
abbrev main_cst_12 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_13 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Post.lean ====
abbrev S12288x1024 : Shape := ⟨2, ![12288, 1024]⟩
abbrev S2x8x6x1024 : Shape := ⟨4, ![2, 8, 6, 1024]⟩
abbrev S12288x512 : Shape := ⟨2, ![12288, 512]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S512x1024 : Shape := ⟨2, ![512, 1024]⟩
abbrev S1x1024 : Shape := ⟨2, ![1, 1024]⟩
abbrev S1024x12288 : Shape := ⟨2, ![1024, 12288]⟩
abbrev S8x128x12288 : Shape := ⟨3, ![8, 128, 12288]⟩
abbrev S1x1x6x1024 : Shape := ⟨4, ![1, 1, 6, 1024]⟩
abbrev S512x512 : Shape := ⟨2, ![512, 512]⟩
abbrev S1024x512 : Shape := ⟨2, ![1024, 512]⟩
abbrev S8x128x512 : Shape := ⟨3, ![8, 128, 512]⟩
abbrev S6x1024 : Shape := ⟨2, ![6, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 23
  | .vmem => 23
  | .smem => 0
  | _ => 0

abbrev bufTy : (tb : Table) → Fin (tcTables nBuf tb) → BufTy
  | .hbm, ⟨0, _⟩ => ⟨S12288x1024, .f32⟩
  | .hbm, ⟨1, _⟩ => ⟨S2x8x6x1024, .f32⟩
  | .hbm, ⟨2, _⟩ => ⟨S12288x512, .bf16⟩
  | .hbm, ⟨3, _⟩ => ⟨S12288x512, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2048, .f32⟩
  | .hbm, ⟨8, _⟩ => ⟨S128x128, .f32⟩
  | .hbm, ⟨9, _⟩ => ⟨S128x128, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S1024x2048, .bf16⟩
  | .hbm, ⟨17, _⟩ => ⟨S128x128, .bf16⟩
  | .hbm, ⟨18, _⟩ => ⟨S128x128, .bf16⟩
  | .hbm, ⟨19, _⟩ => ⟨S12288x1024, .f32⟩
  | .hbm, ⟨20, _⟩ => ⟨S1024x12288, .bf16⟩
  | .hbm, ⟨21, _⟩ => ⟨S8x128x12288, .f32⟩
  | .hbm, ⟨22, _⟩ => ⟨S8x128x12288, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x2048, .bf16⟩
  | .local _ .vmem, ⟨13, _⟩ => ⟨S128x128, .bf16⟩
  | .local _ .vmem, ⟨14, _⟩ => ⟨S128x128, .bf16⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | .local _ .vmem, ⟨19, _⟩ => ⟨S8x128x512, .f32⟩
  | .local _ .vmem, ⟨20, _⟩ => ⟨S8x128x512, .f32⟩
  | .local _ .vmem, ⟨21, _⟩ => ⟨S8x128x512, .f32⟩
  | .local _ .vmem, ⟨22, _⟩ => ⟨S8x128x512, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostRefIdeal.lean ====
abbrev S12288x1024 : Shape := ⟨2, ![12288, 1024]⟩
abbrev S2x8x6x1024 : Shape := ⟨4, ![2, 8, 6, 1024]⟩
abbrev S12288x512 : Shape := ⟨2, ![12288, 512]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S_ : Shape := ⟨0, ![]⟩
abbrev S1x1x1x1024 : Shape := ⟨4, ![1, 1, 1, 1024]⟩
abbrev S8192x1024 : Shape := ⟨2, ![8192, 1024]⟩
abbrev S1x4x1x1024 : Shape := ⟨4, ![1, 4, 1, 1024]⟩
abbrev S4x1024 : Shape := ⟨2, ![4, 1024]⟩
abbrev S4x1x1024 : Shape := ⟨3, ![4, 1, 1024]⟩
abbrev S4x1024x1024 : Shape := ⟨3, ![4, 1024, 1024]⟩
abbrev S4096x1024 : Shape := ⟨2, ![4096, 1024]⟩
abbrev S12288 : Shape := ⟨1, ![12288]⟩
abbrev S12288x1 : Shape := ⟨2, ![12288, 1]⟩
abbrev S1x1024 : Shape := ⟨2, ![1, 1024]⟩
abbrev S12288x2048 : Shape := ⟨2, ![12288, 2048]⟩
abbrev S12288x8x256 : Shape := ⟨3, ![12288, 8, 256]⟩
abbrev S12288x8x128 : Shape := ⟨3, ![12288, 8, 128]⟩
abbrev S1024x12288 : Shape := ⟨2, ![1024, 12288]⟩
abbrev S8x128x12288 : Shape := ⟨3, ![8, 128, 12288]⟩

abbrev nBuf : Space → Nat
  | .hbm => 90
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S2x8x6x1024, .f32⟩
  | .hbm, ⟨2, _⟩ => ⟨S12288x512, .bf16⟩
  | .hbm, ⟨3, _⟩ => ⟨S12288x512, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2048, .f32⟩
  | .hbm, ⟨8, _⟩ => ⟨S128x128, .f32⟩
  | .hbm, ⟨9, _⟩ => ⟨S128x128, .f32⟩
  | .hbm, ⟨10, _⟩ => ⟨S12288x512, .f32⟩
  | .hbm, ⟨11, _⟩ => ⟨S12288x512, .f32⟩
  | .hbm, ⟨12, _⟩ => ⟨S12288x1024, .f32⟩
  | .hbm, ⟨13, _⟩ => ⟨S_, .f32⟩
  | .hbm, ⟨14, _⟩ => ⟨S12288x1024, .f32⟩
  | .hbm, ⟨15, _⟩ => ⟨S12288x1024, .f32⟩
  | .hbm, ⟨16, _⟩ => ⟨S1x1x1x1024, .f32⟩
  | .hbm, ⟨17, _⟩ => ⟨S1024, .f32⟩
  | .hbm, ⟨18, _⟩ => ⟨S8192x1024, .f32⟩
  | .hbm, ⟨19, _⟩ => ⟨S1x4x1x1024, .f32⟩
  | .hbm, ⟨20, _⟩ => ⟨S4x1024, .f32⟩
  | .hbm, ⟨21, _⟩ => ⟨S4x1x1024, .f32⟩
  | .hbm, ⟨22, _⟩ => ⟨S4x1024x1024, .f32⟩
  | .hbm, ⟨23, _⟩ => ⟨S4096x1024, .f32⟩
  | .hbm, ⟨24, _⟩ => ⟨S12288x1024, .f32⟩
  | .hbm, ⟨25, _⟩ => ⟨S12288x1024, .f32⟩
  | .hbm, ⟨26, _⟩ => ⟨S12288x1024, .f32⟩
  | .hbm, ⟨27, _⟩ => ⟨S12288x1024, .f32⟩
  | .hbm, ⟨28, _⟩ => ⟨S_, .f32⟩
  | .hbm, ⟨29, _⟩ => ⟨S12288, .f32⟩
  | .hbm, ⟨30, _⟩ => ⟨S12288x1, .f32⟩
  | .hbm, ⟨31, _⟩ => ⟨S_, .f32⟩
  | .hbm, ⟨32, _⟩ => ⟨S12288x1, .f32⟩
  | .hbm, ⟨33, _⟩ => ⟨S12288x1, .f32⟩
  | .hbm, ⟨34, _⟩ => ⟨S12288x1024, .f32⟩
  | .hbm, ⟨35, _⟩ => ⟨S12288x1024, .f32⟩
  | .hbm, ⟨36, _⟩ => ⟨S12288x1024, .f32⟩
  | .hbm, ⟨37, _⟩ => ⟨S_, .f32⟩
  | .hbm, ⟨38, _⟩ => ⟨S12288, .f32⟩
  | .hbm, ⟨39, _⟩ => ⟨S12288x1, .f32⟩
  | .hbm, ⟨40, _⟩ => ⟨S_, .f32⟩
  | .hbm, ⟨41, _⟩ => ⟨S12288x1, .f32⟩
  | .hbm, ⟨42, _⟩ => ⟨S12288x1, .f32⟩
  | .hbm, ⟨43, _⟩ => ⟨S12288x1024, .f32⟩
  | .hbm, ⟨44, _⟩ => ⟨S12288x1024, .f32⟩
  | .hbm, ⟨45, _⟩ => ⟨S_, .f32⟩
  | .hbm, ⟨46, _⟩ => ⟨S12288x1, .f32⟩
  | .hbm, ⟨47, _⟩ => ⟨S12288x1, .f32⟩
  | .hbm, ⟨48, _⟩ => ⟨S12288x1, .f32⟩
  | .hbm, ⟨49, _⟩ => ⟨S12288x1024, .f32⟩
  | .hbm, ⟨50, _⟩ => ⟨S12288x1024, .f32⟩
  | .hbm, ⟨51, _⟩ => ⟨S1x1024, .f32⟩
  | .hbm, ⟨52, _⟩ => ⟨S12288x1024, .f32⟩
  | .hbm, ⟨53, _⟩ => ⟨S12288x1024, .f32⟩
  | .hbm, ⟨54, _⟩ => ⟨S1x1024, .f32⟩
  | .hbm, ⟨55, _⟩ => ⟨S12288x1024, .f32⟩
  | .hbm, ⟨56, _⟩ => ⟨S12288x1024, .f32⟩
  | .hbm, ⟨57, _⟩ => ⟨S1x1x1x1024, .f32⟩
  | .hbm, ⟨58, _⟩ => ⟨S1024, .f32⟩
  | .hbm, ⟨59, _⟩ => ⟨S8192x1024, .f32⟩
  | .hbm, ⟨60, _⟩ => ⟨S1x4x1x1024, .f32⟩
  | .hbm, ⟨61, _⟩ => ⟨S4x1024, .f32⟩
  | .hbm, ⟨62, _⟩ => ⟨S4x1x1024, .f32⟩
  | .hbm, ⟨63, _⟩ => ⟨S4x1024x1024, .f32⟩
  | .hbm, ⟨64, _⟩ => ⟨S4096x1024, .f32⟩
  | .hbm, ⟨65, _⟩ => ⟨S12288x1024, .f32⟩
  | .hbm, ⟨66, _⟩ => ⟨S_, .f32⟩
  | .hbm, ⟨67, _⟩ => ⟨S12288x1024, .f32⟩
  | .hbm, ⟨68, _⟩ => ⟨S12288x1024, .f32⟩
  | .hbm, ⟨69, _⟩ => ⟨S12288x1024, .f32⟩
  | .hbm, ⟨70, _⟩ => ⟨S1x1x1x1024, .f32⟩
  | .hbm, ⟨71, _⟩ => ⟨S1024, .f32⟩
  | .hbm, ⟨72, _⟩ => ⟨S8192x1024, .f32⟩
  | .hbm, ⟨73, _⟩ => ⟨S1x4x1x1024, .f32⟩
  | .hbm, ⟨74, _⟩ => ⟨S4x1024, .f32⟩
  | .hbm, ⟨75, _⟩ => ⟨S4x1x1024, .f32⟩
  | .hbm, ⟨76, _⟩ => ⟨S4x1024x1024, .f32⟩
  | .hbm, ⟨77, _⟩ => ⟨S4096x1024, .f32⟩
  | .hbm, ⟨78, _⟩ => ⟨S12288x1024, .f32⟩
  | .hbm, ⟨79, _⟩ => ⟨S12288x1024, .f32⟩
  | .hbm, ⟨80, _⟩ => ⟨S12288x2048, .f32⟩
  | .hbm, ⟨81, _⟩ => ⟨S12288x8x256, .f32⟩
  | .hbm, ⟨82, _⟩ => ⟨S12288x8x128, .f32⟩
  | .hbm, ⟨83, _⟩ => ⟨S12288x8x128, .f32⟩
  | .hbm, ⟨84, _⟩ => ⟨S12288x8x128, .f32⟩
  | .hbm, ⟨85, _⟩ => ⟨S12288x8x128, .f32⟩
  | .hbm, ⟨86, _⟩ => ⟨S1024x12288, .f32⟩
  | .hbm, ⟨87, _⟩ => ⟨S1024x12288, .bf16⟩
  | .hbm, ⟨88, _⟩ => ⟨S8x128x12288, .f32⟩
  | .hbm, ⟨89, _⟩ => ⟨S8x128x12288, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== InEven.lean ====
abbrev S32x256x1024 : Shape := ⟨3, ![32, 256, 1024]⟩
abbrev S4x1024x1024 : Shape := ⟨3, ![4, 1024, 1024]⟩
abbrev S2x8x6x1024 : Shape := ⟨4, ![2, 8, 6, 1024]⟩
abbrev S1x1024x1952 : Shape := ⟨3, ![1, 1024, 1952]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S8192x1024 : Shape := ⟨2, ![8192, 1024]⟩
abbrev S4096x1024 : Shape := ⟨2, ![4096, 1024]⟩
abbrev S12288x1024 : Shape := ⟨2, ![12288, 1024]⟩
abbrev S1024 : Shape := ⟨1, ![1024]⟩
abbrev S_ : Shape := ⟨0, ![]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S1024x64 : Shape := ⟨2, ![1024, 64]⟩
abbrev S1x1024x1x64 : Shape := ⟨4, ![1, 1024, 1, 64]⟩
abbrev S1x1024x8x64 : Shape := ⟨4, ![1, 1024, 8, 64]⟩
abbrev S1024x512 : Shape := ⟨2, ![1024, 512]⟩
abbrev S1x512x512 : Shape := ⟨3, ![1, 512, 512]⟩
abbrev S2x512x512 : Shape := ⟨3, ![2, 512, 512]⟩
abbrev S3x512x512 : Shape := ⟨3, ![3, 512, 512]⟩
abbrev S8 : Shape := ⟨1, ![8]⟩
abbrev S1x8 : Shape := ⟨2, ![1, 8]⟩
abbrev S1024x8 : Shape := ⟨2, ![1024, 8]⟩
abbrev S1x1024x1x32 : Shape := ⟨4, ![1, 1024, 1, 32]⟩
abbrev S1x1024x8x32 : Shape := ⟨4, ![1, 1024, 8, 32]⟩
abbrev S1024x256 : Shape := ⟨2, ![1024, 256]⟩
abbrev S1x512x256 : Shape := ⟨3, ![1, 512, 256]⟩
abbrev S2x512x256 : Shape := ⟨3, ![2, 512, 256]⟩
abbrev S3x512x256 : Shape := ⟨3, ![3, 512, 256]⟩
abbrev S3x512x1536 : Shape := ⟨3, ![3, 512, 1536]⟩
abbrev S1024x1952 : Shape := ⟨2, ![1024, 1952]⟩
abbrev S1024x2048 : Shape := ⟨2, ![1024, 2048]⟩
abbrev S256x768 : Shape := ⟨2, ![256, 768]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S256 : Shape := ⟨1, ![256]⟩
abbrev S128 : Shape := ⟨1, ![128]⟩
abbrev S12288x512 : Shape := ⟨2, ![12288, 512]⟩
abbrev S12288x768 : Shape := ⟨2, ![12288, 768]⟩
abbrev S12288x32 : Shape := ⟨2, ![12288, 32]⟩
abbrev S8192x512 : Shape := ⟨2, ![8192, 512]⟩
abbrev S8192x128 : Shape := ⟨2, ![8192, 128]⟩
abbrev S8192x32 : Shape := ⟨2, ![8192, 32]⟩
abbrev S512x1024 : Shape := ⟨2, ![512, 1024]⟩
abbrev S1x1x6x1024 : Shape := ⟨4, ![1, 1, 6, 1024]⟩
abbrev S1x512x1536 : Shape := ⟨3, ![1, 512, 1536]⟩
abbrev S512x512 : Shape := ⟨2, ![512, 512]⟩
abbrev S512x768 : Shape := ⟨2, ![512, 768]⟩
abbrev S512x32 : Shape := ⟨2, ![512, 32]⟩
abbrev S512x128 : Shape := ⟨2, ![512, 128]⟩
abbrev S6x1024 : Shape := ⟨2, ![6, 1024]⟩
abbrev S1x1024 : Shape := ⟨2, ![1, 1024]⟩
abbrev S512x2048 : Shape := ⟨2, ![512, 2048]⟩
abbrev S512x1536 : Shape := ⟨2, ![512, 1536]⟩
abbrev S512x256 : Shape := ⟨2, ![512, 256]⟩
abbrev S512 : Shape := ⟨1, ![512]⟩
abbrev S512x1 : Shape := ⟨2, ![512, 1]⟩

abbrev nBuf : Space → Nat
  | .hbm => 209
  | .vmem => 31
  | .smem => 0
  | _ => 0

abbrev hbmTy0_0 (i : Nat) : BufTy := match i % 128 with
  | 0 => ⟨S32x256x1024, .f32⟩
  | 1 => ⟨S4x1024x1024, .f32⟩
  | 2 => ⟨S2x8x6x1024, .f32⟩
  | 3 => ⟨S1x1024x1952, .f32⟩
  | 4 => ⟨S1x256, .f32⟩
  | 5 => ⟨S1x256x768, .f32⟩
  | 6 => ⟨S1x128, .f32⟩
  | 7 => ⟨S1x128x1024, .f32⟩
  | 8 => ⟨S8192x1024, .f32⟩
  | 9 => ⟨S4096x1024, .f32⟩
  | 10 => ⟨S12288x1024, .f32⟩
  | 11 => ⟨S1024, .i32⟩
  | 12 => ⟨S_, .i32⟩
  | 13 => ⟨S_, .i32⟩
  | 14 => ⟨S1024, .i32⟩
  | 15 => ⟨S1024, .i32⟩
  | 16 => ⟨S1024, .i32⟩
  | 17 => ⟨S_, .i32⟩
  | 18 => ⟨S1024, .i32⟩
  | 19 => ⟨S1024, .i1⟩
  | 20 => ⟨S1024, .i32⟩
  | 21 => ⟨S1024, .i32⟩
  | 22 => ⟨S_, .i32⟩
  | 23 => ⟨S1024, .i32⟩
  | 24 => ⟨S1024, .i1⟩
  | 25 => ⟨S1024, .i1⟩
  | 26 => ⟨S_, .i32⟩
  | 27 => ⟨S1024, .i32⟩
  | 28 => ⟨S1024, .i32⟩
  | 29 => ⟨S1024, .i32⟩
  | 30 => ⟨S1024, .f32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i1⟩
  | 45 => ⟨S_, .i32⟩
  | 46 => ⟨S_, .i1⟩
  | 47 => ⟨S1024, .i1⟩
  | 48 => ⟨S1024, .i1⟩
  | 49 => ⟨S1024, .i1⟩
  | 50 => ⟨S1024, .i32⟩
  | 51 => ⟨S1024, .i32⟩
  | 52 => ⟨S1024, .i32⟩
  | 53 => ⟨S1024, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S1024x1, .f32⟩
  | 63 => ⟨S1x16, .f32⟩
  | 64 => ⟨S1024x16, .f32⟩
  | 65 => ⟨S1024x16, .f32⟩
  | 66 => ⟨S1024x16, .f32⟩
  | 67 => ⟨S1024x1, .f32⟩
  | 68 => ⟨S1x16, .f32⟩
  | 69 => ⟨S1024x16, .f32⟩
  | 70 => ⟨S1024x16, .f32⟩
  | 71 => ⟨S1024x16, .f32⟩
  | 72 => ⟨S1024x32, .f32⟩
  | 73 => ⟨S1024x32, .f32⟩
  | 74 => ⟨S1024x32, .f32⟩
  | 75 => ⟨S1024x64, .f32⟩
  | 76 => ⟨S1x1024x1x64, .f32⟩
  | 77 => ⟨S1x1024x8x64, .f32⟩
  | 78 => ⟨S1024x512, .f32⟩
  | 79 => ⟨S1024x32, .f32⟩
  | 80 => ⟨S1024x64, .f32⟩
  | 81 => ⟨S1x1024x1x64, .f32⟩
  | 82 => ⟨S1x1024x8x64, .f32⟩
  | 83 => ⟨S1024x512, .f32⟩
  | 84 => ⟨S_, .f32⟩
  | 85 => ⟨S1x512x512, .f32⟩
  | 86 => ⟨S_, .f32⟩
  | 87 => ⟨S1x512x512, .f32⟩
  | 88 => ⟨S2x512x512, .f32⟩
  | 89 => ⟨S3x512x512, .f32⟩
  | 90 => ⟨S2x512x512, .f32⟩
  | 91 => ⟨S3x512x512, .f32⟩
  | 92 => ⟨S1024, .i32⟩
  | 93 => ⟨S_, .i32⟩
  | 94 => ⟨S_, .i32⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S1024, .i32⟩
  | 102 => ⟨S1024, .i32⟩
  | 103 => ⟨S_, .i32⟩
  | 104 => ⟨S1024, .i32⟩
  | 105 => ⟨S1024, .i1⟩
  | 106 => ⟨S1024, .i1⟩
  | 107 => ⟨S_, .i32⟩
  | 108 => ⟨S1024, .i32⟩
  | 109 => ⟨S1024, .i32⟩
  | 110 => ⟨S1024, .i32⟩
  | 111 => ⟨S1024, .f32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S1024, .i32⟩
  | 119 => ⟨S1024, .i32⟩
  | 120 => ⟨S_, .i32⟩
  | 121 => ⟨S1024, .i32⟩
  | 122 => ⟨S1024, .i1⟩
  | 123 => ⟨S_, .i32⟩
  | 124 => ⟨S1024, .i32⟩
  | 125 => ⟨S1024, .i1⟩
  | 126 => ⟨S_, .i32⟩
  | 127 => ⟨S_, .i1⟩
  | _ => ⟨S32x256x1024, .f32⟩

abbrev hbmTy0_1 (i : Nat) : BufTy := match i % 128 with
  | 0 => ⟨S1024, .i1⟩
  | 1 => ⟨S1024, .i1⟩
  | 2 => ⟨S1024, .i1⟩
  | 3 => ⟨S1024, .i32⟩
  | 4 => ⟨S1024, .i32⟩
  | 5 => ⟨S1024, .i32⟩
  | 6 => ⟨S1024, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S1024x1, .f32⟩
  | 16 => ⟨S1x8, .f32⟩
  | 17 => ⟨S1024x8, .f32⟩
  | 18 => ⟨S1024x8, .f32⟩
  | 19 => ⟨S1024x8, .f32⟩
  | 20 => ⟨S1024x1, .f32⟩
  | 21 => ⟨S1x8, .f32⟩
  | 22 => ⟨S1024x8, .f32⟩
  | 23 => ⟨S1024x8, .f32⟩
  | 24 => ⟨S1024x8, .f32⟩
  | 25 => ⟨S1024x16, .f32⟩
  | 26 => ⟨S1024x16, .f32⟩
  | 27 => ⟨S1024x16, .f32⟩
  | 28 => ⟨S1024x32, .f32⟩
  | 29 => ⟨S1x1024x1x32, .f32⟩
  | 30 => ⟨S1x1024x8x32, .f32⟩
  | 31 => ⟨S1024x256, .f32⟩
  | 32 => ⟨S1024x16, .f32⟩
  | 33 => ⟨S1024x32, .f32⟩
  | 34 => ⟨S1x1024x1x32, .f32⟩
  | 35 => ⟨S1x1024x8x32, .f32⟩
  | 36 => ⟨S1024x256, .f32⟩
  | 37 => ⟨S_, .f32⟩
  | 38 => ⟨S1x512x256, .f32⟩
  | 39 => ⟨S_, .f32⟩
  | 40 => ⟨S1x512x256, .f32⟩
  | 41 => ⟨S2x512x256, .f32⟩
  | 42 => ⟨S3x512x256, .f32⟩
  | 43 => ⟨S2x512x256, .f32⟩
  | 44 => ⟨S3x512x256, .f32⟩
  | 45 => ⟨S3x512x1536, .f32⟩
  | 46 => ⟨S1024x1952, .f32⟩
  | 47 => ⟨S_, .i32⟩
  | 48 => ⟨S_, .f32⟩
  | 49 => ⟨S1024x2048, .f32⟩
  | 50 => ⟨S1024x2048, .bf16⟩
  | 51 => ⟨S256x768, .f32⟩
  | 52 => ⟨S256x8x96, .f32⟩
  | 53 => ⟨S256x8x64, .f32⟩
  | 54 => ⟨S256x512, .f32⟩
  | 55 => ⟨S256x8x32, .f32⟩
  | 56 => ⟨S256x256, .f32⟩
  | 57 => ⟨S256x768, .f32⟩
  | 58 => ⟨S256x768, .bf16⟩
  | 59 => ⟨S128x1024, .f32⟩
  | 60 => ⟨S128x8x128, .f32⟩
  | 61 => ⟨S128x8x64, .f32⟩
  | 62 => ⟨S128x512, .f32⟩
  | 63 => ⟨S128x8x64, .f32⟩
  | 64 => ⟨S128x512, .f32⟩
  | 65 => ⟨S128x1024, .f32⟩
  | 66 => ⟨S128x1024, .bf16⟩
  | 67 => ⟨S256, .f32⟩
  | 68 => ⟨S1x256, .f32⟩
  | 69 => ⟨S128, .f32⟩
  | 70 => ⟨S1x128, .f32⟩
  | 71 => ⟨S12288x512, .bf16⟩
  | 72 => ⟨S12288x768, .bf16⟩
  | 73 => ⟨S12288x512, .bf16⟩
  | 74 => ⟨S12288x512, .bf16⟩
  | 75 => ⟨S12288x1024, .bf16⟩
  | 76 => ⟨S12288x32, .bf16⟩
  | 77 => ⟨S8192x512, .f32⟩
  | 78 => ⟨S8192x512, .f32⟩
  | 79 => ⟨S8192x128, .f32⟩
  | 80 => ⟨S8192x32, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x512x1536, .f32⟩
  | .local _ .vmem, ⟨5, _⟩ => ⟨S1x512x1536, .f32⟩
  | .local _ .vmem, ⟨6, _⟩ => ⟨S1024x2048, .bf16⟩
  | .local _ .vmem, ⟨7, _⟩ => ⟨S1x256, .f32⟩
  | .local _ .vmem, ⟨8, _⟩ => ⟨S256x768, .bf16⟩
  | .local _ .vmem, ⟨9, _⟩ => ⟨S1x128, .f32⟩
  | .local _ .vmem, ⟨10, _⟩ => ⟨S128x1024, .bf16⟩
  | .local _ .vmem, ⟨11, _⟩ => ⟨S512x512, .bf16⟩
  | .local _ .vmem, ⟨12, _⟩ => ⟨S512x512, .bf16⟩
  | .local _ .vmem, ⟨13, _⟩ => ⟨S512x768, .bf16⟩
  | .local _ .vmem, ⟨14, _⟩ => ⟨S512x768, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | .local _ .vmem, ⟨20, _⟩ => ⟨S512x1024, .bf16⟩
  | .local _ .vmem, ⟨21, _⟩ => ⟨S512x32, .bf16⟩
  | .local _ .vmem, ⟨22, _⟩ => ⟨S512x32, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x128, .f32⟩
  | .local _ .vmem, ⟨28, _⟩ => ⟨S512x128, .f32⟩
  | .local _ .vmem, ⟨29, _⟩ => ⟨S512x32, .f32⟩
  | .local _ .vmem, ⟨30, _⟩ => ⟨S512x32, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_cst : Ref sig .tc := ⟨.hbm, 56, rfl⟩
abbrev main_v10 : Ref sig .tc := ⟨.hbm, 57, rfl⟩
abbrev main_v11 : Ref sig .tc := ⟨.hbm, 58, rfl⟩
abbrev main_cst_1 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_2 : Ref sig .tc := ⟨.hbm, 84, rfl⟩
abbrev main_v36 : Ref sig .tc := ⟨.hbm, 85, rfl⟩
abbrev main_cst_3 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_4 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_c : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_0 : Ref sig .tc := ⟨.hbm, 107, rfl⟩
abbrev main_call2_v12 : Ref sig .tc := ⟨.hbm, 108, rfl⟩
abbrev main_call2_v13 : Ref sig .tc := ⟨.hbm, 109, rfl⟩
abbrev main_v43 : Ref sig .tc := ⟨.hbm, 110, rfl⟩
abbrev main_v44 : Ref sig .tc := ⟨.hbm, 111, rfl⟩
abbrev main_c_5 : Ref sig .tc := ⟨.hbm, 112, rfl⟩
abbrev main_call3_v0 : Ref sig .tc := ⟨.hbm, 113, rfl⟩
abbrev main_call3_c : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_c_1 : Ref sig .tc := ⟨.hbm, 120, rfl⟩
abbrev main_call3_v5 : Ref sig .tc := ⟨.hbm, 121, rfl⟩
abbrev main_call3_v6 : Ref sig .tc := ⟨.hbm, 122, rfl⟩
abbrev main_call3_c_2 : Ref sig .tc := ⟨.hbm, 123, rfl⟩
abbrev main_call3_v7 : Ref sig .tc := ⟨.hbm, 124, rfl⟩
abbrev main_call3_v8 : Ref sig .tc := ⟨.hbm, 125, rfl⟩
abbrev main_call3_c_3 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_cst_6 : Ref sig .tc := ⟨.hbm, 137, rfl⟩
abbrev main_v49 : Ref sig .tc := ⟨.hbm, 138, rfl⟩
abbrev main_v50 : Ref sig .tc := ⟨.hbm, 139, rfl⟩
abbrev main_cst_7 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_cst_8 : Ref sig .tc := ⟨.hbm, 165, rfl⟩
abbrev main_v75 : Ref sig .tc := ⟨.hbm, 166, rfl⟩
abbrev main_cst_9 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_c_10 : Ref sig .tc := ⟨.hbm, 175, rfl⟩
abbrev main_call4_v0 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105_0 : Ref sig .tc := ⟨.hbm, 199, rfl⟩
abbrev main_v105_1 : Ref sig .tc := ⟨.hbm, 200, rfl⟩
abbrev main_v105_2 : Ref sig .tc := ⟨.hbm, 201, rfl⟩
abbrev main_v105_3 : Ref sig .tc := ⟨.hbm, 202, rfl⟩
abbrev main_v105_4 : Ref sig .tc := ⟨.hbm, 203, rfl⟩
abbrev main_v105_5 : Ref sig .tc := ⟨.hbm, 204, rfl⟩
abbrev main_v105_6 : Ref sig .tc := ⟨.hbm, 205, rfl⟩
abbrev main_v105_7 : Ref sig .tc := ⟨.hbm, 206, rfl⟩
abbrev main_v105_8 : Ref sig .tc := ⟨.hbm, 207, rfl⟩
abbrev main_v105_9 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 4 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 1 := Scalar.cmpi .slt v10 c16_i32_3
  let c16_i32_4 : BitVec 32 := 16#32
  let v12 : BitVec 32 := Scalar.subi v10 c16_i32_4
  let c2_i32 : BitVec 32 := 2#32
  let v13 : BitVec 32 := Scalar.divsi v12 c2_i32
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c2_i32 c0_i32_7
  let v20 : BitVec 32 := Scalar.extui v19
  let c0_i32_8 : BitVec 32 := 0#32
  let v21 : BitVec 1 := Scalar.cmpi .slt c2_i32 c0_i32_8
  let v22 : BitVec 32 := Scalar.extui v21
  let v23 : BitVec 32 := Scalar.subi v20 v22
  let v24 : BitVec 1 := Scalar.cmpi .ne v18 v23
  let v25 : BitVec 32 := Scalar.remsi v12 c2_i32
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi c1_i32_11 v29
  let c0_i32_12 : BitVec 32 := 0#32
  let v31 : BitVec 32 := Scalar.select v11 c0_i32_12 v30
  let c0_i32_13 : BitVec 32 := 0#32
  let c0_i32_14 : BitVec 32 := 0#32
  let c0_i32_15 : BitVec 32 := 0#32
  let c0_i32_16 : BitVec 32 := 0#32
  ![c0_i32_13.toNat, v31.toNat, c0_i32_14.toNat, c0_i32_15.toNat]

def cc0_transform_2 (i : grid0.Coords) : Fin 3 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 1 := Scalar.cmpi .slt v10 c16_i32_3
  let c16_i32_4 : BitVec 32 := 16#32
  let v12 : BitVec 32 := Scalar.subi v10 c16_i32_4
  let c2_i32 : BitVec 32 := 2#32
  let c0_i32_5 : BitVec 32 := 0#32
  let v13 : BitVec 1 := Scalar.cmpi .eq c2_i32 c0_i32_5
  let c1_i32_6 : BitVec 32 := 1#32
  let v14 : BitVec 32 := Scalar.select v13 c1_i32_6 c2_i32
  let v15 : BitVec 32 := Scalar.remsi v12 v14
  let c0_i32_7 : BitVec 32 := 0#32
  let v16 : BitVec 1 := Scalar.cmpi .ne v15 c0_i32_7
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let v20 : BitVec 1 := Scalar.andi v19 v16
  let v21 : BitVec 32 := Scalar.addi v15 v14
  let v22 : BitVec 32 := Scalar.select v20 v21 v15
  let c1_i32_10 : BitVec 32 := 1#32
  let v23 : BitVec 32 := Scalar.addi c1_i32_10 v22
  let c0_i32_11 : BitVec 32 := 0#32
  let v24 : BitVec 32 := Scalar.select v11 c0_i32_11 v23
  let c0_i32_12 : BitVec 32 := 0#32
  let c0_i32_13 : BitVec 32 := 0#32
  let c0_i32_14 : BitVec 32 := 0#32
  ![v24.toNat, c0_i32_12.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_9 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_10 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_11 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_12 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_13 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_14 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InEvenRefIdeal.lean ====
abbrev S32x256x1024 : Shape := ⟨3, ![32, 256, 1024]⟩
abbrev S4x1024x1024 : Shape := ⟨3, ![4, 1024, 1024]⟩
abbrev S2x8x6x1024 : Shape := ⟨4, ![2, 8, 6, 1024]⟩
abbrev S1x1024x1952 : Shape := ⟨3, ![1, 1024, 1952]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S8192x1024 : Shape := ⟨2, ![8192, 1024]⟩
abbrev S4096x1024 : Shape := ⟨2, ![4096, 1024]⟩
abbrev S12288x1024 : Shape := ⟨2, ![12288, 1024]⟩
abbrev S1x1x1x1024 : Shape := ⟨4, ![1, 1, 1, 1024]⟩
abbrev S1024 : Shape := ⟨1, ![1024]⟩
abbrev S1x4x1x1024 : Shape := ⟨4, ![1, 4, 1, 1024]⟩
abbrev S4x1024 : Shape := ⟨2, ![4, 1024]⟩
abbrev S4x1x1024 : Shape := ⟨3, ![4, 1, 1024]⟩
abbrev S_ : Shape := ⟨0, ![]⟩
abbrev S1024x1952 : Shape := ⟨2, ![1024, 1952]⟩
abbrev S12288x1952 : Shape := ⟨2, ![12288, 1952]⟩
abbrev S12288x512 : Shape := ⟨2, ![12288, 512]⟩
abbrev S12288x256 : Shape := ⟨2, ![12288, 256]⟩
abbrev S12288x128 : Shape := ⟨2, ![12288, 128]⟩
abbrev S12288x32 : Shape := ⟨2, ![12288, 32]⟩
abbrev S256 : Shape := ⟨1, ![256]⟩
abbrev S12288 : Shape := ⟨1, ![12288]⟩
abbrev S12288x1 : Shape := ⟨2, ![12288, 1]⟩
abbrev S256x768 : Shape := ⟨2, ![256, 768]⟩
abbrev S12288x768 : Shape := ⟨2, ![12288, 768]⟩
abbrev S12288x8x96 : Shape := ⟨3, ![12288, 8, 96]⟩
abbrev S12288x8x64 : Shape := ⟨3, ![12288, 8, 64]⟩
abbrev S12288x8x32 : Shape := ⟨3, ![12288, 8, 32]⟩
abbrev S128 : Shape := ⟨1, ![128]⟩
abbrev S128x1024 : Shape := ⟨2, ![128, 1024]⟩
abbrev S12288x8x128 : Shape := ⟨3, ![12288, 8, 128]⟩
abbrev S4096x512 : Shape := ⟨2, ![4096, 512]⟩
abbrev S4x1024x8x64 : Shape := ⟨4, ![4, 1024, 8, 64]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S1x1024x1x32 : Shape := ⟨4, ![1, 1024, 1, 32]⟩
abbrev S4x1024x8x32 : Shape := ⟨4, ![4, 1024, 8, 32]⟩
abbrev S8192x512 : Shape := ⟨2, ![8192, 512]⟩
abbrev S4096x256 : Shape := ⟨2, ![4096, 256]⟩
abbrev S8 : Shape := ⟨1, ![8]⟩
abbrev S1x8 : Shape := ⟨2, ![1, 8]⟩
abbrev S1024x8 : Shape := ⟨2, ![1024, 8]⟩
abbrev S1x1024x1x16 : Shape := ⟨4, ![1, 1024, 1, 16]⟩
abbrev S4x1024x8x16 : Shape := ⟨4, ![4, 1024, 8, 16]⟩
abbrev S8192x256 : Shape := ⟨2, ![8192, 256]⟩
abbrev S4096x32 : Shape := ⟨2, ![4096, 32]⟩
abbrev S4x1024x1x32 : Shape := ⟨4, ![4, 1024, 1, 32]⟩
abbrev S4x1024x1x16 : Shape := ⟨4, ![4, 1024, 1, 16]⟩
abbrev S8192x32 : Shape := ⟨2, ![8192, 32]⟩
abbrev S8192x128 : Shape := ⟨2, ![8192, 128]⟩

abbrev nBuf : Space → Nat
  | .hbm => 686
  | .vmem => 0
  | .smem => 0
  | _ => 0

abbrev hbmTy0_0 (i : Nat) : BufTy := match i % 128 with
  | 0 => ⟨S32x256x1024, .f32⟩
  | 1 => ⟨S4x1024x1024, .f32⟩
  | 2 => ⟨S2x8x6x1024, .f32⟩
  | 3 => ⟨S1x1024x1952, .f32⟩
  | 4 => ⟨S1x256, .f32⟩
  | 5 => ⟨S1x256x768, .f32⟩
  | 6 => ⟨S1x128, .f32⟩
  | 7 => ⟨S1x128x1024, .f32⟩
  | 8 => ⟨S8192x1024, .f32⟩
  | 9 => ⟨S4096x1024, .f32⟩
  | 10 => ⟨S12288x1024, .f32⟩
  | 11 => ⟨S1x1x1x1024, .f32⟩
  | 12 => ⟨S1024, .f32⟩
  | 13 => ⟨S8192x1024, .f32⟩
  | 14 => ⟨S1x4x1x1024, .f32⟩
  | 15 => ⟨S4x1024, .f32⟩
  | 16 => ⟨S4x1x1024, .f32⟩
  | 17 => ⟨S4x1024x1024, .f32⟩
  | 18 => ⟨S4096x1024, .f32⟩
  | 19 => ⟨S12288x1024, .f32⟩
  | 20 => ⟨S_, .f32⟩
  | 21 => ⟨S12288x1024, .f32⟩
  | 22 => ⟨S12288x1024, .f32⟩
  | 23 => ⟨S12288x1024, .f32⟩
  | 24 => ⟨S1x1x1x1024, .f32⟩
  | 25 => ⟨S1024, .f32⟩
  | 26 => ⟨S8192x1024, .f32⟩
  | 27 => ⟨S1x4x1x1024, .f32⟩
  | 28 => ⟨S4x1024, .f32⟩
  | 29 => ⟨S4x1x1024, .f32⟩
  | 30 => ⟨S4x1024x1024, .f32⟩
  | 31 => ⟨S4096x1024, .f32⟩
  | 32 => ⟨S12288x1024, .f32⟩
  | 33 => ⟨S12288x1024, .f32⟩
  | 34 => ⟨S1024x1952, .f32⟩
  | 35 => ⟨S12288x1952, .f32⟩
  | 36 => ⟨S12288x512, .f32⟩
  | 37 => ⟨S12288x512, .f32⟩
  | 38 => ⟨S12288x512, .f32⟩
  | 39 => ⟨S12288x256, .f32⟩
  | 40 => ⟨S12288x128, .f32⟩
  | 41 => ⟨S12288x32, .f32⟩
  | 42 => ⟨S256, .f32⟩
  | 43 => ⟨S12288x256, .f32⟩
  | 44 => ⟨S_, .f32⟩
  | 45 => ⟨S12288, .f32⟩
  | 46 => ⟨S12288x1, .f32⟩
  | 47 => ⟨S_, .f32⟩
  | 48 => ⟨S12288x1, .f32⟩
  | 49 => ⟨S12288x1, .f32⟩
  | 50 => ⟨S_, .f32⟩
  | 51 => ⟨S12288x1, .f32⟩
  | 52 => ⟨S12288x1, .f32⟩
  | 53 => ⟨S12288x1, .f32⟩
  | 54 => ⟨S12288x256, .f32⟩
  | 55 => ⟨S12288x256, .f32⟩
  | 56 => ⟨S1x256, .f32⟩
  | 57 => ⟨S12288x256, .f32⟩
  | 58 => ⟨S12288x256, .f32⟩
  | 59 => ⟨S256x768, .f32⟩
  | 60 => ⟨S12288x768, .f32⟩
  | 61 => ⟨S12288x8x96, .f32⟩
  | 62 => ⟨S12288x8x64, .f32⟩
  | 63 => ⟨S12288x512, .f32⟩
  | 64 => ⟨S12288x8x32, .f32⟩
  | 65 => ⟨S12288x256, .f32⟩
  | 66 => ⟨S128, .f32⟩
  | 67 => ⟨S12288x128, .f32⟩
  | 68 => ⟨S_, .f32⟩
  | 69 => ⟨S12288, .f32⟩
  | 70 => ⟨S12288x1, .f32⟩
  | 71 => ⟨S_, .f32⟩
  | 72 => ⟨S12288x1, .f32⟩
  | 73 => ⟨S12288x1, .f32⟩
  | 74 => ⟨S_, .f32⟩
  | 75 => ⟨S12288x1, .f32⟩
  | 76 => ⟨S12288x1, .f32⟩
  | 77 => ⟨S12288x1, .f32⟩
  | 78 => ⟨S12288x128, .f32⟩
  | 79 => ⟨S12288x128, .f32⟩
  | 80 => ⟨S1x128, .f32⟩
  | 81 => ⟨S12288x128, .f32⟩
  | 82 => ⟨S12288x128, .f32⟩
  | 83 => ⟨S128x1024, .f32⟩
  | 84 => ⟨S12288x1024, .f32⟩
  | 85 => ⟨S12288x8x128, .f32⟩
  | 86 => ⟨S12288x8x64, .f32⟩
  | 87 => ⟨S12288x512, .f32⟩
  | 88 => ⟨S12288x8x64, .f32⟩
  | 89 => ⟨S12288x512, .f32⟩
  | 90 => ⟨S4096x512, .f32⟩
  | 91 => ⟨S4x1024x8x64, .f32⟩
  | 92 => ⟨S1024, .i32⟩
  | 93 => ⟨S_, .i32⟩
  | 94 => ⟨S_, .i32⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S1024, .i32⟩
  | 102 => ⟨S1024, .i32⟩
  | 103 => ⟨S_, .i32⟩
  | 104 => ⟨S1024, .i32⟩
  | 105 => ⟨S1024, .i1⟩
  | 106 => ⟨S1024, .i1⟩
  | 107 => ⟨S_, .i32⟩
  | 108 => ⟨S1024, .i32⟩
  | 109 => ⟨S1024, .i32⟩
  | 110 => ⟨S1024, .i32⟩
  | 111 => ⟨S1024, .f32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S1024, .i32⟩
  | 119 => ⟨S1024, .i32⟩
  | 120 => ⟨S_, .i32⟩
  | 121 => ⟨S1024, .i32⟩
  | 122 => ⟨S1024, .i1⟩
  | 123 => ⟨S_, .i32⟩
  | 124 => ⟨S1024, .i32⟩
  | 125 => ⟨S1024, .i1⟩
  | 126 => ⟨S_, .i32⟩
  | 127 => ⟨S_, .i1⟩
  | _ => ⟨S32x256x1024, .f32⟩

abbrev hbmTy0_1 (i : Nat) : BufTy := match i % 128 with
  | 0 => ⟨S1024, .i1⟩
  | 1 => ⟨S1024, .i1⟩
  | 2 => ⟨S1024, .i1⟩
  | 3 => ⟨S1024, .i32⟩
  | 4 => ⟨S1024, .i32⟩
  | 5 => ⟨S1024, .i32⟩
  | 6 => ⟨S1024, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S1024x1, .f32⟩
  | 16 => ⟨S1x16, .f32⟩
  | 17 => ⟨S1024x16, .f32⟩
  | 18 => ⟨S1024x16, .f32⟩
  | 19 => ⟨S1024x16, .f32⟩
  | 20 => ⟨S1024x1, .f32⟩
  | 21 => ⟨S1x16, .f32⟩
  | 22 => ⟨S1024x16, .f32⟩
  | 23 => ⟨S1024x16, .f32⟩
  | 24 => ⟨S1024x16, .f32⟩
  | 25 => ⟨S1024x32, .f32⟩
  | 26 => ⟨S1024x32, .f32⟩
  | 27 => ⟨S1x1024x1x32, .f32⟩
  | 28 => ⟨S1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S1024, .f32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S1024, .i32⟩
  | 61 => ⟨S1024, .i1⟩
  | 62 => ⟨S_, .i32⟩
  | 63 => ⟨S_, .i1⟩
  | 64 => ⟨S1024, .i1⟩
  | 65 => ⟨S1024, .i1⟩
  | 66 => ⟨S1024, .i1⟩
  | 67 => ⟨S1024, .i32⟩
  | 68 => ⟨S1024, .i32⟩
  | 69 => ⟨S1024, .i32⟩
  | 70 => ⟨S1024, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S1024x1, .f32⟩
  | 80 => ⟨S1x16, .f32⟩
  | 81 => ⟨S1024x16, .f32⟩
  | 82 => ⟨S1024x16, .f32⟩
  | 83 => ⟨S1024x16, .f32⟩
  | 84 => ⟨S1024x1, .f32⟩
  | 85 => ⟨S1x16, .f32⟩
  | 86 => ⟨S1024x16, .f32⟩
  | 87 => ⟨S1024x16, .f32⟩
  | 88 => ⟨S1024x16, .f32⟩
  | 89 => ⟨S1024x32, .f32⟩
  | 90 => ⟨S1024x32, .f32⟩
  | 91 => ⟨S1x1024x1x32, .f32⟩
  | 92 => ⟨S4x1024x8x32, .f32⟩
  | 93 => ⟨S4x1024x8x32, .f32⟩
  | 94 => ⟨S4x1024x8x32, .f32⟩
  | 95 => ⟨S4x1024x8x32, .f32⟩
  | 96 => ⟨S4x1024x8x32, .f32⟩
  | 97 => ⟨S4x1024x8x32, .f32⟩
  | 98 => ⟨S4x1024x8x32, .f32⟩
  | 99 => ⟨S4x1024x8x32, .f32⟩
  | 100 => ⟨S4x1024x8x32, .f32⟩
  | 101 => ⟨S4x1024x8x32, .f32⟩
  | 102 => ⟨S4x1024x8x32, .f32⟩
  | 103 => ⟨S4x1024x8x32, .f32⟩
  | 104 => ⟨S4x1024x8x64, .f32⟩
  | 105 => ⟨S8192x512, .f32⟩
  | 106 => ⟨S4096x512, .f32⟩
  | 107 => ⟨S12288x512, .f32⟩
  | 108 => ⟨S12288x512, .bf16⟩
  | 109 => ⟨S4096x256, .f32⟩
  | 110 => ⟨S4x1024x8x32, .f32⟩
  | 111 => ⟨S1024, .i32⟩
  | 112 => ⟨S_, .i32⟩
  | 113 => ⟨S_, .i32⟩
  | 114 => ⟨S1024, .i32⟩
  | 115 => ⟨S1024, .i32⟩
  | 116 => ⟨S1024, .i32⟩
  | 117 => ⟨S_, .i32⟩
  | 118 => ⟨S1024, .i32⟩
  | 119 => ⟨S1024, .i1⟩
  | 120 => ⟨S1024, .i32⟩
  | 121 => ⟨S1024, .i32⟩
  | 122 => ⟨S_, .i32⟩
  | 123 => ⟨S1024, .i32⟩
  | 124 => ⟨S1024, .i1⟩
  | 125 => ⟨S1024, .i1⟩
  | 126 => ⟨S_, .i32⟩
  | 127 => ⟨S1024, .i32⟩
  | _ => ⟨S32x256x1024, .f32⟩

abbrev hbmTy0_2 (i : Nat) : BufTy := match i % 128 with
  | 0 => ⟨S1024, .i32⟩
  | 1 => ⟨S1024, .i32⟩
  | 2 => ⟨S1024, .f32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i1⟩
  | 17 => ⟨S_, .i32⟩
  | 18 => ⟨S_, .i1⟩
  | 19 => ⟨S1024, .i1⟩
  | 20 => ⟨S1024, .i1⟩
  | 21 => ⟨S1024, .i1⟩
  | 22 => ⟨S1024, .i32⟩
  | 23 => ⟨S1024, .i32⟩
  | 24 => ⟨S1024, .i32⟩
  | 25 => ⟨S1024, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S1024x1, .f32⟩
  | 35 => ⟨S1x8, .f32⟩
  | 36 => ⟨S1024x8, .f32⟩
  | 37 => ⟨S1024x8, .f32⟩
  | 38 => ⟨S1024x8, .f32⟩
  | 39 => ⟨S1024x1, .f32⟩
  | 40 => ⟨S1x8, .f32⟩
  | 41 => ⟨S1024x8, .f32⟩
  | 42 => ⟨S1024x8, .f32⟩
  | 43 => ⟨S1024x8, .f32⟩
  | 44 => ⟨S1024x16, .f32⟩
  | 45 => ⟨S1024x16, .f32⟩
  | 46 => ⟨S1x1024x1x16, .f32⟩
  | 47 => ⟨S1024, .i32⟩
  | 48 => ⟨S_, .i32⟩
  | 49 => ⟨S_, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i1⟩
  | 56 => ⟨S1024, .i32⟩
  | 57 => ⟨S1024, .i32⟩
  | 58 => ⟨S_, .i32⟩
  | 59 => ⟨S1024, .i32⟩
  | 60 => ⟨S1024, .i1⟩
  | 61 => ⟨S1024, .i1⟩
  | 62 => ⟨S_, .i32⟩
  | 63 => ⟨S1024, .i32⟩
  | 64 => ⟨S1024, .i32⟩
  | 65 => ⟨S1024, .i32⟩
  | 66 => ⟨S1024, .f32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S1024, .i32⟩
  | 74 => ⟨S1024, .i32⟩
  | 75 => ⟨S_, .i32⟩
  | 76 => ⟨S1024, .i32⟩
  | 77 => ⟨S1024, .i1⟩
  | 78 => ⟨S_, .i32⟩
  | 79 => ⟨S1024, .i32⟩
  | 80 => ⟨S1024, .i1⟩
  | 81 => ⟨S_, .i32⟩
  | 82 => ⟨S_, .i1⟩
  | 83 => ⟨S1024, .i1⟩
  | 84 => ⟨S1024, .i1⟩
  | 85 => ⟨S1024, .i1⟩
  | 86 => ⟨S1024, .i32⟩
  | 87 => ⟨S1024, .i32⟩
  | 88 => ⟨S1024, .i32⟩
  | 89 => ⟨S1024, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S1024x1, .f32⟩
  | 99 => ⟨S1x8, .f32⟩
  | 100 => ⟨S1024x8, .f32⟩
  | 101 => ⟨S1024x8, .f32⟩
  | 102 => ⟨S1024x8, .f32⟩
  | 103 => ⟨S1024x1, .f32⟩
  | 104 => ⟨S1x8, .f32⟩
  | 105 => ⟨S1024x8, .f32⟩
  | 106 => ⟨S1024x8, .f32⟩
  | 107 => ⟨S1024x8, .f32⟩
  | 108 => ⟨S1024x16, .f32⟩
  | 109 => ⟨S1024x16, .f32⟩
  | 110 => ⟨S1x1024x1x16, .f32⟩
  | 111 => ⟨S4x1024x8x16, .f32⟩
  | 112 => ⟨S4x1024x8x16, .f32⟩
  | 113 => ⟨S4x1024x8x16, .f32⟩
  | 114 => ⟨S4x1024x8x16, .f32⟩
  | 115 => ⟨S4x1024x8x16, .f32⟩
  | 116 => ⟨S4x1024x8x16, .f32⟩
  | 117 => ⟨S4x1024x8x16, .f32⟩
  | 118 => ⟨S4x1024x8x16, .f32⟩
  | 119 => ⟨S4x1024x8x16, .f32⟩
  | 120 => ⟨S4x1024x8x16, .f32⟩
  | 121 => ⟨S4x1024x8x16, .f32⟩
  | 122 => ⟨S4x1024x8x16, .f32⟩
  | 123 => ⟨S4x1024x8x32, .f32⟩
  | 124 => ⟨S8192x256, .f32⟩
  | 125 => ⟨S4096x256, .f32⟩
  | 126 => ⟨S12288x256, .f32⟩
  | 127 => ⟨S12288x768, .f32⟩
  | _ => ⟨S32x256x1024, .f32⟩

abbrev hbmTy0_3 (i : Nat) : BufTy := match i % 128 with
  | 0 => ⟨S12288x768, .bf16⟩
  | 1 => ⟨S4096x512, .f32⟩
  | 2 => ⟨S4x1024x8x64, .f32⟩
  | 3 => ⟨S1024, .i32⟩
  | 4 => ⟨S_, .i32⟩
  | 5 => ⟨S_, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i1⟩
  | 12 => ⟨S1024, .i32⟩
  | 13 => ⟨S1024, .i32⟩
  | 14 => ⟨S_, .i32⟩
  | 15 => ⟨S1024, .i32⟩
  | 16 => ⟨S1024, .i1⟩
  | 17 => ⟨S1024, .i1⟩
  | 18 => ⟨S_, .i32⟩
  | 19 => ⟨S1024, .i32⟩
  | 20 => ⟨S1024, .i32⟩
  | 21 => ⟨S1024, .i32⟩
  | 22 => ⟨S1024, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S1024, .i32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i1⟩
  | 37 => ⟨S_, .i32⟩
  | 38 => ⟨S_, .i1⟩
  | 39 => ⟨S1024, .i1⟩
  | 40 => ⟨S1024, .i1⟩
  | 41 => ⟨S1024, .i1⟩
  | 42 => ⟨S1024, .i32⟩
  | 43 => ⟨S1024, .i32⟩
  | 44 => ⟨S1024, .i32⟩
  | 45 => ⟨S1024, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S1024x1, .f32⟩
  | 55 => ⟨S1x16, .f32⟩
  | 56 => ⟨S1024x16, .f32⟩
  | 57 => ⟨S1024x16, .f32⟩
  | 58 => ⟨S1024x16, .f32⟩
  | 59 => ⟨S1024x1, .f32⟩
  | 60 => ⟨S1x16, .f32⟩
  | 61 => ⟨S1024x16, .f32⟩
  | 62 => ⟨S1024x16, .f32⟩
  | 63 => ⟨S1024x16, .f32⟩
  | 64 => ⟨S1024x32, .f32⟩
  | 65 => ⟨S1024x32, .f32⟩
  | 66 => ⟨S1x1024x1x32, .f32⟩
  | 67 => ⟨S1024, .i32⟩
  | 68 => ⟨S_, .i32⟩
  | 69 => ⟨S_, .i32⟩
  | 70 => ⟨S1024, .i32⟩
  | 71 => ⟨S1024, .i32⟩
  | 72 => ⟨S1024, .i32⟩
  | 73 => ⟨S_, .i32⟩
  | 74 => ⟨S1024, .i32⟩
  | 75 => ⟨S1024, .i1⟩
  | 76 => ⟨S1024, .i32⟩
  | 77 => ⟨S1024, .i32⟩
  | 78 => ⟨S_, .i32⟩
  | 79 => ⟨S1024, .i32⟩
  | 80 => ⟨S1024, .i1⟩
  | 81 => ⟨S1024, .i1⟩
  | 82 => ⟨S_, .i32⟩
  | 83 => ⟨S1024, .i32⟩
  | 84 => ⟨S1024, .i32⟩
  | 85 => ⟨S1024, .i32⟩
  | 86 => ⟨S1024, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i1⟩
  | 98 => ⟨S_, .i32⟩
  | 99 => ⟨S1024, .i32⟩
  | 100 => ⟨S1024, .i1⟩
  | 101 => ⟨S_, .i32⟩
  | 102 => ⟨S_, .i1⟩
  | 103 => ⟨S1024, .i1⟩
  | 104 => ⟨S1024, .i1⟩
  | 105 => ⟨S1024, .i1⟩
  | 106 => ⟨S1024, .i32⟩
  | 107 => ⟨S1024, .i32⟩
  | 108 => ⟨S1024, .i32⟩
  | 109 => ⟨S1024, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S1024x1, .f32⟩
  | 119 => ⟨S1x16, .f32⟩
  | 120 => ⟨S1024x16, .f32⟩
  | 121 => ⟨S1024x16, .f32⟩
  | 122 => ⟨S1024x16, .f32⟩
  | 123 => ⟨S1024x1, .f32⟩
  | 124 => ⟨S1x16, .f32⟩
  | 125 => ⟨S1024x16, .f32⟩
  | 126 => ⟨S1024x16, .f32⟩
  | 127 => ⟨S1024x16, .f32⟩
  | _ => ⟨S32x256x1024, .f32⟩

abbrev hbmTy0_4 (i : Nat) : BufTy := match i % 128 with
  | 0 => ⟨S1024x32, .f32⟩
  | 1 => ⟨S1024x32, .f32⟩
  | 2 => ⟨S1x1024x1x32, .f32⟩
  | 3 => ⟨S4x1024x8x32, .f32⟩
  | 4 => ⟨S4x1024x8x32, .f32⟩
  | 5 => ⟨S4x1024x8x32, .f32⟩
  | 6 => ⟨S4x1024x8x32, .f32⟩
  | 7 => ⟨S4x1024x8x32, .f32⟩
  | 8 => ⟨S4x1024x8x32, .f32⟩
  | 9 => ⟨S4x1024x8x32, .f32⟩
  | 10 => ⟨S4x1024x8x32, .f32⟩
  | 11 => ⟨S4x1024x8x32, .f32⟩
  | 12 => ⟨S4x1024x8x32, .f32⟩
  | 13 => ⟨S4x1024x8x32, .f32⟩
  | 14 => ⟨S4x1024x8x32, .f32⟩
  | 15 => ⟨S4x1024x8x64, .f32⟩
  | 16 => ⟨S8192x512, .f32⟩
  | 17 => ⟨S4096x512, .f32⟩
  | 18 => ⟨S12288x512, .f32⟩
  | 19 => ⟨S12288x512, .bf16⟩
  | 20 => ⟨S12288x512, .bf16⟩
  | 21 => ⟨S12288x1024, .f32⟩
  | 22 => ⟨S12288x1024, .bf16⟩
  | 23 => ⟨S4096x32, .f32⟩
  | 24 => ⟨S4x1024x1x32, .f32⟩
  | 25 => ⟨S1024, .i32⟩
  | 26 => ⟨S_, .i32⟩
  | 27 => ⟨S_, .i32⟩
  | 28 => ⟨S1024, .i32⟩
  | 29 => ⟨S1024, .i32⟩
  | 30 => ⟨S1024, .i32⟩
  | 31 => ⟨S_, .i32⟩
  | 32 => ⟨S1024, .i32⟩
  | 33 => ⟨S1024, .i1⟩
  | 34 => ⟨S1024, .i32⟩
  | 35 => ⟨S1024, .i32⟩
  | 36 => ⟨S_, .i32⟩
  | 37 => ⟨S1024, .i32⟩
  | 38 => ⟨S1024, .i1⟩
  | 39 => ⟨S1024, .i1⟩
  | 40 => ⟨S_, .i32⟩
  | 41 => ⟨S1024, .i32⟩
  | 42 => ⟨S1024, .i32⟩
  | 43 => ⟨S1024, .i32⟩
  | 44 => ⟨S1024, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S1024, .i32⟩
  | 52 => ⟨S1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i1⟩
  | 59 => ⟨S_, .i32⟩
  | 60 => ⟨S_, .i1⟩
  | 61 => ⟨S1024, .i1⟩
  | 62 => ⟨S1024, .i1⟩
  | 63 => ⟨S1024, .i1⟩
  | 64 => ⟨S1024, .i32⟩
  | 65 => ⟨S1024, .i32⟩
  | 66 => ⟨S1024, .i32⟩
  | 67 => ⟨S1024, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S1024x1, .f32⟩
  | 77 => ⟨S1x8, .f32⟩
  | 78 => ⟨S1024x8, .f32⟩
  | 79 => ⟨S1024x8, .f32⟩
  | 80 => ⟨S1024x8, .f32⟩
  | 81 => ⟨S1024x1, .f32⟩
  | 82 => ⟨S1x8, .f32⟩
  | 83 => ⟨S1024x8, .f32⟩
  | 84 => ⟨S1024x8, .f32⟩
  | 85 => ⟨S1024x8, .f32⟩
  | 86 => ⟨S1024x16, .f32⟩
  | 87 => ⟨S1024x16, .f32⟩
  | 88 => ⟨S1x1024x1x16, .f32⟩
  | 89 => ⟨S1024, .i32⟩
  | 90 => ⟨S_, .i32⟩
  | 91 => ⟨S_, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i1⟩
  | 98 => ⟨S1024, .i32⟩
  | 99 => ⟨S1024, .i32⟩
  | 100 => ⟨S_, .i32⟩
  | 101 => ⟨S1024, .i32⟩
  | 102 => ⟨S1024, .i1⟩
  | 103 => ⟨S1024, .i1⟩
  | 104 => ⟨S_, .i32⟩
  | 105 => ⟨S1024, .i32⟩
  | 106 => ⟨S1024, .i32⟩
  | 107 => ⟨S1024, .i32⟩
  | 108 => ⟨S1024, .f32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S1024, .i32⟩
  | 116 => ⟨S1024, .i32⟩
  | 117 => ⟨S_, .i32⟩
  | 118 => ⟨S1024, .i32⟩
  | 119 => ⟨S1024, .i1⟩
  | 120 => ⟨S_, .i32⟩
  | 121 => ⟨S1024, .i32⟩
  | 122 => ⟨S1024, .i1⟩
  | 123 => ⟨S_, .i32⟩
  | 124 => ⟨S_, .i1⟩
  | 125 => ⟨S1024, .i1⟩
  | 126 => ⟨S1024, .i1⟩
  | 127 => ⟨S1024, .i1⟩
  | _ => ⟨S32x256x1024, .f32⟩

abbrev hbmTy0_5 (i : Nat) : BufTy := match i % 128 with
  | 0 => ⟨S1024, .i32⟩
  | 1 => ⟨S1024, .i32⟩
  | 2 => ⟨S1024, .i32⟩
  | 3 => ⟨S1024, .f32⟩
  | 4 => ⟨S8, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S1024x1, .f32⟩
  | 13 => ⟨S1x8, .f32⟩
  | 14 => ⟨S1024x8, .f32⟩
  | 15 => ⟨S1024x8, .f32⟩
  | 16 => ⟨S1024x8, .f32⟩
  | 17 => ⟨S1024x1, .f32⟩
  | 18 => ⟨S1x8, .f32⟩
  | 19 => ⟨S1024x8, .f32⟩
  | 20 => ⟨S1024x8, .f32⟩
  | 21 => ⟨S1024x8, .f32⟩
  | 22 => ⟨S1024x16, .f32⟩
  | 23 => ⟨S1024x16, .f32⟩
  | 24 => ⟨S1x1024x1x16, .f32⟩
  | 25 => ⟨S4x1024x1x16, .f32⟩
  | 26 => ⟨S4x1024x1x16, .f32⟩
  | 27 => ⟨S4x1024x1x16, .f32⟩
  | 28 => ⟨S4x1024x1x16, .f32⟩
  | 29 => ⟨S4x1024x1x16, .f32⟩
  | 30 => ⟨S4x1024x1x16, .f32⟩
  | 31 => ⟨S4x1024x1x16, .f32⟩
  | 32 => ⟨S4x1024x1x16, .f32⟩
  | 33 => ⟨S4x1024x1x16, .f32⟩
  | 34 => ⟨S4x1024x1x16, .f32⟩
  | 35 => ⟨S4x1024x1x16, .f32⟩
  | 36 => ⟨S4x1024x1x16, .f32⟩
  | 37 => ⟨S4x1024x1x32, .f32⟩
  | 38 => ⟨S8192x32, .f32⟩
  | 39 => ⟨S4096x32, .f32⟩
  | 40 => ⟨S12288x32, .f32⟩
  | 41 => ⟨S12288x32, .bf16⟩
  | 42 => ⟨S8192x512, .f32⟩
  | 43 => ⟨S8192x512, .f32⟩
  | 44 => ⟨S8192x128, .f32⟩
  | 45 => ⟨S8192x32, .f32⟩
  | _ => ⟨S32x256x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_v6 : Ref sig .tc := ⟨.hbm, 100, rfl⟩
abbrev main_call0_v7 : Ref sig .tc := ⟨.hbm, 101, rfl⟩
abbrev main_call0_v8 : Ref sig .tc := ⟨.hbm, 102, rfl⟩
abbrev main_call0_c : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_call0_c_0 : Ref sig .tc := ⟨.hbm, 107, rfl⟩
abbrev main_call0_v12 : Ref sig .tc := ⟨.hbm, 108, rfl⟩
abbrev main_call0_v13 : Ref sig .tc := ⟨.hbm, 109, rfl⟩
abbrev main_v78 : Ref sig .tc := ⟨.hbm, 110, rfl⟩
abbrev main_v79 : Ref sig .tc := ⟨.hbm, 111, rfl⟩
abbrev main_c_6 : Ref sig .tc := ⟨.hbm, 112, rfl⟩
abbrev main_call1_v0 : Ref sig .tc := ⟨.hbm, 113, rfl⟩
abbrev main_call1_c : Ref sig .tc := ⟨.hbm, 114, rfl⟩
abbrev main_call1_v1 : Ref sig .tc := ⟨.hbm, 115, rfl⟩
abbrev main_call1_c_0 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_call1_c_1 : Ref sig .tc := ⟨.hbm, 120, rfl⟩
abbrev main_call1_v5 : Ref sig .tc := ⟨.hbm, 121, rfl⟩
abbrev main_call1_v6 : Ref sig .tc := ⟨.hbm, 122, rfl⟩
abbrev main_call1_c_2 : Ref sig .tc := ⟨.hbm, 123, rfl⟩
abbrev main_call1_v7 : Ref sig .tc := ⟨.hbm, 124, rfl⟩
abbrev main_call1_v8 : Ref sig .tc := ⟨.hbm, 125, rfl⟩
abbrev main_call1_c_3 : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_call1_v12 : Ref sig .tc := ⟨.hbm, 130, rfl⟩
abbrev main_call1_v13 : Ref sig .tc := ⟨.hbm, 131, rfl⟩
abbrev main_call1_v14 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_7 : Ref sig .tc := ⟨.hbm, 137, rfl⟩
abbrev main_v84 : Ref sig .tc := ⟨.hbm, 138, rfl⟩
abbrev main_v85 : Ref sig .tc := ⟨.hbm, 139, rfl⟩
abbrev main_cst_8 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_9 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_v8 : Ref sig .tc := ⟨.hbm, 166, rfl⟩
abbrev main_call2_c : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_c_0 : Ref sig .tc := ⟨.hbm, 171, rfl⟩
abbrev main_call2_v12 : Ref sig .tc := ⟨.hbm, 172, rfl⟩
abbrev main_call2_v13 : Ref sig .tc := ⟨.hbm, 173, rfl⟩
abbrev main_v102 : Ref sig .tc := ⟨.hbm, 174, rfl⟩
abbrev main_v103 : Ref sig .tc := ⟨.hbm, 175, rfl⟩
abbrev main_c_10 : Ref sig .tc := ⟨.hbm, 176, rfl⟩
abbrev main_call3_v0 : Ref sig .tc := ⟨.hbm, 177, rfl⟩
abbrev main_call3_c : Ref sig .tc := ⟨.hbm, 178, rfl⟩
abbrev main_call3_v1 : Ref sig .tc := ⟨.hbm, 179, rfl⟩
abbrev main_call3_c_0 : Ref sig .tc := ⟨.hbm, 180, rfl⟩
abbrev main_call3_v2 : Ref sig .tc := ⟨.hbm, 181, rfl⟩
abbrev main_call3_v3 : Ref sig .tc := ⟨.hbm, 182, rfl⟩
abbrev main_call3_v4 : Ref sig .tc := ⟨.hbm, 183, rfl⟩
abbrev main_call3_c_1 : Ref sig .tc := ⟨.hbm, 184, rfl⟩
abbrev main_call3_v5 : Ref sig .tc := ⟨.hbm, 185, rfl⟩
abbrev main_call3_v6 : Ref sig .tc := ⟨.hbm, 186, rfl⟩
abbrev main_call3_c_2 : Ref sig .tc := ⟨.hbm, 187, rfl⟩
abbrev main_call3_v7 : Ref sig .tc := ⟨.hbm, 188, rfl⟩
abbrev main_call3_v8 : Ref sig .tc := ⟨.hbm, 189, rfl⟩
abbrev main_call3_c_3 : Ref sig .tc := ⟨.hbm, 190, rfl⟩
abbrev main_call3_v9 : Ref sig .tc := ⟨.hbm, 191, rfl⟩
abbrev main_call3_v10 : Ref sig .tc := ⟨.hbm, 192, rfl⟩
abbrev main_call3_v11 : Ref sig .tc := ⟨.hbm, 193, rfl⟩
abbrev main_call3_v12 : Ref sig .tc := ⟨.hbm, 194, rfl⟩
abbrev main_call3_v13 : Ref sig .tc := ⟨.hbm, 195, rfl⟩
abbrev main_call3_v14 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_11 : Ref sig .tc := ⟨.hbm, 201, rfl⟩
abbrev main_v108 : Ref sig .tc := ⟨.hbm, 202, rfl⟩
abbrev main_v109 : Ref sig .tc := ⟨.hbm, 203, rfl⟩
abbrev main_cst_12 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_c_13 : Ref sig .tc := ⟨.hbm, 240, rfl⟩
abbrev main_call4_v0 : Ref sig .tc := ⟨.hbm, 241, rfl⟩
abbrev main_call4_v1 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_call4_v5 : Ref sig .tc := ⟨.hbm, 246, rfl⟩
abbrev main_call4_v6 : Ref sig .tc := ⟨.hbm, 247, rfl⟩
abbrev main_call4_v7 : Ref sig .tc := ⟨.hbm, 248, rfl⟩
abbrev main_call4_v8 : Ref sig .tc := ⟨.hbm, 249, rfl⟩
abbrev main_call4_c : Ref sig .tc := ⟨.hbm, 250, rfl⟩
abbrev main_call4_v9 : Ref sig .tc := ⟨.hbm, 251, rfl⟩
abbrev main_call4_v10 : Ref sig .tc := ⟨.hbm, 252, rfl⟩
abbrev main_call4_v11 : Ref sig .tc := ⟨.hbm, 253, rfl⟩
abbrev main_call4_c_0 : Ref sig .tc := ⟨.hbm, 254, rfl⟩
abbrev main_call4_v12 : Ref sig .tc := ⟨.hbm, 255, rfl⟩
abbrev main_call4_v13 : Ref sig .tc := ⟨.hbm, 256, rfl⟩
abbrev main_v145 : Ref sig .tc := ⟨.hbm, 257, rfl⟩
abbrev main_v146 : Ref sig .tc := ⟨.hbm, 258, rfl⟩
abbrev main_c_14 : Ref sig .tc := ⟨.hbm, 259, rfl⟩
abbrev main_call5_v0 : Ref sig .tc := ⟨.hbm, 260, rfl⟩
abbrev main_call5_c : Ref sig .tc := ⟨.hbm, 261, rfl⟩
abbrev main_call5_v1 : Ref sig .tc := ⟨.hbm, 262, rfl⟩
abbrev main_call5_c_0 : Ref sig .tc := ⟨.hbm, 263, rfl⟩
abbrev main_call5_v2 : Ref sig .tc := ⟨.hbm, 264, rfl⟩
abbrev main_call5_v3 : Ref sig .tc := ⟨.hbm, 265, rfl⟩
abbrev main_call5_v4 : Ref sig .tc := ⟨.hbm, 266, rfl⟩
abbrev main_call5_c_1 : Ref sig .tc := ⟨.hbm, 267, rfl⟩
abbrev main_call5_v5 : Ref sig .tc := ⟨.hbm, 268, rfl⟩
abbrev main_call5_v6 : Ref sig .tc := ⟨.hbm, 269, rfl⟩
abbrev main_call5_c_2 : Ref sig .tc := ⟨.hbm, 270, rfl⟩
abbrev main_call5_v7 : Ref sig .tc := ⟨.hbm, 271, rfl⟩
abbrev main_call5_v8 : Ref sig .tc := ⟨.hbm, 272, rfl⟩
abbrev main_call5_c_3 : Ref sig .tc := ⟨.hbm, 273, rfl⟩
abbrev main_call5_v9 : Ref sig .tc := ⟨.hbm, 274, rfl⟩
abbrev main_call5_v10 : Ref sig .tc := ⟨.hbm, 275, rfl⟩
abbrev main_call5_v11 : Ref sig .tc := ⟨.hbm, 276, rfl⟩
abbrev main_call5_v12 : Ref sig .tc := ⟨.hbm, 277, rfl⟩
abbrev main_call5_v13 : Ref sig .tc := ⟨.hbm, 278, rfl⟩
abbrev main_call5_v14 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_cst_15 : Ref sig .tc := ⟨.hbm, 284, rfl⟩
abbrev main_v151 : Ref sig .tc := ⟨.hbm, 285, rfl⟩
abbrev main_v152 : Ref sig .tc := ⟨.hbm, 286, rfl⟩
abbrev main_cst_16 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_v167 : Ref sig .tc := ⟨.hbm, 302, rfl⟩
abbrev main_v168 : Ref sig .tc := ⟨.hbm, 303, rfl⟩
abbrev main_c_17 : Ref sig .tc := ⟨.hbm, 304, rfl⟩
abbrev main_call6_v0 : Ref sig .tc := ⟨.hbm, 305, rfl⟩
abbrev main_call6_v1 : Ref sig .tc := ⟨.hbm, 306, rfl⟩
abbrev main_call6_v2 : Ref sig .tc := ⟨.hbm, 307, rfl⟩
abbrev main_call6_v3 : Ref sig .tc := ⟨.hbm, 308, rfl⟩
abbrev main_call6_v4 : Ref sig .tc := ⟨.hbm, 309, rfl⟩
abbrev main_call6_v5 : Ref sig .tc := ⟨.hbm, 310, rfl⟩
abbrev main_call6_v6 : Ref sig .tc := ⟨.hbm, 311, rfl⟩
abbrev main_call6_v7 : Ref sig .tc := ⟨.hbm, 312, rfl⟩
abbrev main_call6_v8 : Ref sig .tc := ⟨.hbm, 313, rfl⟩
abbrev main_call6_c : Ref sig .tc := ⟨.hbm, 314, rfl⟩
abbrev main_call6_v9 : Ref sig .tc := ⟨.hbm, 315, rfl⟩
abbrev main_call6_v10 : Ref sig .tc := ⟨.hbm, 316, rfl⟩
abbrev main_call6_v11 : Ref sig .tc := ⟨.hbm, 317, rfl⟩
abbrev main_call6_c_0 : Ref sig .tc := ⟨.hbm, 318, rfl⟩
abbrev main_call6_v12 : Ref sig .tc := ⟨.hbm, 319, rfl⟩
abbrev main_call6_v13 : Ref sig .tc := ⟨.hbm, 320, rfl⟩
abbrev main_v169 : Ref sig .tc := ⟨.hbm, 321, rfl⟩
abbrev main_v170 : Ref sig .tc := ⟨.hbm, 322, rfl⟩
abbrev main_c_18 : Ref sig .tc := ⟨.hbm, 323, rfl⟩
abbrev main_call7_v0 : Ref sig .tc := ⟨.hbm, 324, rfl⟩
abbrev main_call7_c : Ref sig .tc := ⟨.hbm, 325, rfl⟩
abbrev main_call7_v1 : Ref sig .tc := ⟨.hbm, 326, rfl⟩
abbrev main_call7_c_0 : Ref sig .tc := ⟨.hbm, 327, rfl⟩
abbrev main_call7_v2 : Ref sig .tc := ⟨.hbm, 328, rfl⟩
abbrev main_call7_v3 : Ref sig .tc := ⟨.hbm, 329, rfl⟩
abbrev main_call7_v4 : Ref sig .tc := ⟨.hbm, 330, rfl⟩
abbrev main_call7_c_1 : Ref sig .tc := ⟨.hbm, 331, rfl⟩
abbrev main_call7_v5 : Ref sig .tc := ⟨.hbm, 332, rfl⟩
abbrev main_call7_v6 : Ref sig .tc := ⟨.hbm, 333, rfl⟩
abbrev main_call7_c_2 : Ref sig .tc := ⟨.hbm, 334, rfl⟩
abbrev main_call7_v7 : Ref sig .tc := ⟨.hbm, 335, rfl⟩
abbrev main_call7_v8 : Ref sig .tc := ⟨.hbm, 336, rfl⟩
abbrev main_call7_c_3 : Ref sig .tc := ⟨.hbm, 337, rfl⟩
abbrev main_call7_v9 : Ref sig .tc := ⟨.hbm, 338, rfl⟩
abbrev main_call7_v10 : Ref sig .tc := ⟨.hbm, 339, rfl⟩
abbrev main_call7_v11 : Ref sig .tc := ⟨.hbm, 340, rfl⟩
abbrev main_call7_v12 : Ref sig .tc := ⟨.hbm, 341, rfl⟩
abbrev main_call7_v13 : Ref sig .tc := ⟨.hbm, 342, rfl⟩
abbrev main_call7_v14 : Ref sig .tc := ⟨.hbm, 343, rfl⟩
abbrev main_v171 : Ref sig .tc := ⟨.hbm, 344, rfl⟩
abbrev main_v172 : Ref sig .tc := ⟨.hbm, 345, rfl⟩
abbrev main_v173 : Ref sig .tc := ⟨.hbm, 346, rfl⟩
abbrev main_v174 : Ref sig .tc := ⟨.hbm, 347, rfl⟩
abbrev main_cst_19 : Ref sig .tc := ⟨.hbm, 348, rfl⟩
abbrev main_v175 : Ref sig .tc := ⟨.hbm, 349, rfl⟩
abbrev main_v176 : Ref sig .tc := ⟨.hbm, 350, rfl⟩
abbrev main_cst_20 : Ref sig .tc := ⟨.hbm, 351, rfl⟩
abbrev main_v177 : Ref sig .tc := ⟨.hbm, 352, rfl⟩
abbrev main_v178 : Ref sig .tc := ⟨.hbm, 353, rfl⟩
abbrev main_v179 : Ref sig .tc := ⟨.hbm, 354, rfl⟩
abbrev main_v180 : Ref sig .tc := ⟨.hbm, 355, rfl⟩
abbrev main_v181 : Ref sig .tc := ⟨.hbm, 356, rfl⟩
abbrev main_v182 : Ref sig .tc := ⟨.hbm, 357, rfl⟩
abbrev main_v183 : Ref sig .tc := ⟨.hbm, 358, rfl⟩
abbrev main_v184 : Ref sig .tc := ⟨.hbm, 359, rfl⟩
abbrev main_v185 : Ref sig .tc := ⟨.hbm, 360, rfl⟩
abbrev main_v186 : Ref sig .tc := ⟨.hbm, 361, rfl⟩
abbrev main_v187 : Ref sig .tc := ⟨.hbm, 362, rfl⟩
abbrev main_v188 : Ref sig .tc := ⟨.hbm, 363, rfl⟩
abbrev main_v189 : Ref sig .tc := ⟨.hbm, 364, rfl⟩
abbrev main_v190 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_v212 : Ref sig .tc := ⟨.hbm, 387, rfl⟩
abbrev main_c_21 : Ref sig .tc := ⟨.hbm, 388, rfl⟩
abbrev main_call8_v0 : Ref sig .tc := ⟨.hbm, 389, rfl⟩
abbrev main_call8_v1 : Ref sig .tc := ⟨.hbm, 390, rfl⟩
abbrev main_call8_v2 : Ref sig .tc := ⟨.hbm, 391, rfl⟩
abbrev main_call8_v3 : Ref sig .tc := ⟨.hbm, 392, rfl⟩
abbrev main_call8_v4 : Ref sig .tc := ⟨.hbm, 393, rfl⟩
abbrev main_call8_v5 : Ref sig .tc := ⟨.hbm, 394, rfl⟩
abbrev main_call8_v6 : Ref sig .tc := ⟨.hbm, 395, rfl⟩
abbrev main_call8_v7 : Ref sig .tc := ⟨.hbm, 396, rfl⟩
abbrev main_call8_v8 : Ref sig .tc := ⟨.hbm, 397, rfl⟩
abbrev main_call8_c : Ref sig .tc := ⟨.hbm, 398, rfl⟩
abbrev main_call8_v9 : Ref sig .tc := ⟨.hbm, 399, rfl⟩
abbrev main_call8_v10 : Ref sig .tc := ⟨.hbm, 400, rfl⟩
abbrev main_call8_v11 : Ref sig .tc := ⟨.hbm, 401, rfl⟩
abbrev main_call8_c_0 : Ref sig .tc := ⟨.hbm, 402, rfl⟩
abbrev main_call8_v12 : Ref sig .tc := ⟨.hbm, 403, rfl⟩
abbrev main_call8_v13 : Ref sig .tc := ⟨.hbm, 404, rfl⟩
abbrev main_v213 : Ref sig .tc := ⟨.hbm, 405, rfl⟩
abbrev main_v214 : Ref sig .tc := ⟨.hbm, 406, rfl⟩
abbrev main_c_22 : Ref sig .tc := ⟨.hbm, 407, rfl⟩
abbrev main_call9_v0 : Ref sig .tc := ⟨.hbm, 408, rfl⟩
abbrev main_call9_c : Ref sig .tc := ⟨.hbm, 409, rfl⟩
abbrev main_call9_v1 : Ref sig .tc := ⟨.hbm, 410, rfl⟩
abbrev main_call9_c_0 : Ref sig .tc := ⟨.hbm, 411, rfl⟩
abbrev main_call9_v2 : Ref sig .tc := ⟨.hbm, 412, rfl⟩
abbrev main_call9_v3 : Ref sig .tc := ⟨.hbm, 413, rfl⟩
abbrev main_call9_v4 : Ref sig .tc := ⟨.hbm, 414, rfl⟩
abbrev main_call9_c_1 : Ref sig .tc := ⟨.hbm, 415, rfl⟩
abbrev main_call9_v5 : Ref sig .tc := ⟨.hbm, 416, rfl⟩
abbrev main_call9_v6 : Ref sig .tc := ⟨.hbm, 417, rfl⟩
abbrev main_call9_c_2 : Ref sig .tc := ⟨.hbm, 418, rfl⟩
abbrev main_call9_v7 : Ref sig .tc := ⟨.hbm, 419, rfl⟩
abbrev main_call9_v8 : Ref sig .tc := ⟨.hbm, 420, rfl⟩
abbrev main_call9_c_3 : Ref sig .tc := ⟨.hbm, 421, rfl⟩
abbrev main_call9_v9 : Ref sig .tc := ⟨.hbm, 422, rfl⟩
abbrev main_call9_v10 : Ref sig .tc := ⟨.hbm, 423, rfl⟩
abbrev main_call9_v11 : Ref sig .tc := ⟨.hbm, 424, rfl⟩
abbrev main_call9_v12 : Ref sig .tc := ⟨.hbm, 425, rfl⟩
abbrev main_call9_v13 : Ref sig .tc := ⟨.hbm, 426, rfl⟩
abbrev main_call9_v14 : Ref sig .tc := ⟨.hbm, 427, rfl⟩
abbrev main_v215 : Ref sig .tc := ⟨.hbm, 428, rfl⟩
abbrev main_v216 : Ref sig .tc := ⟨.hbm, 429, rfl⟩
abbrev main_v217 : Ref sig .tc := ⟨.hbm, 430, rfl⟩
abbrev main_v218 : Ref sig .tc := ⟨.hbm, 431, rfl⟩
abbrev main_cst_23 : Ref sig .tc := ⟨.hbm, 432, rfl⟩
abbrev main_v219 : Ref sig .tc := ⟨.hbm, 433, rfl⟩
abbrev main_v220 : Ref sig .tc := ⟨.hbm, 434, rfl⟩
abbrev main_cst_24 : Ref sig .tc := ⟨.hbm, 435, rfl⟩
abbrev main_v221 : Ref sig .tc := ⟨.hbm, 436, rfl⟩
abbrev main_v222 : Ref sig .tc := ⟨.hbm, 437, rfl⟩
abbrev main_v223 : Ref sig .tc := ⟨.hbm, 438, rfl⟩
abbrev main_v224 : Ref sig .tc := ⟨.hbm, 439, rfl⟩
abbrev main_v225 : Ref sig .tc := ⟨.hbm, 440, rfl⟩
abbrev main_v226 : Ref sig .tc := ⟨.hbm, 441, rfl⟩
abbrev main_v227 : Ref sig .tc := ⟨.hbm, 442, rfl⟩
abbrev main_v228 : Ref sig .tc := ⟨.hbm, 443, rfl⟩
abbrev main_v229 : Ref sig .tc := ⟨.hbm, 444, rfl⟩
abbrev main_v230 : Ref sig .tc := ⟨.hbm, 445, rfl⟩
abbrev main_v231 : Ref sig .tc := ⟨.hbm, 446, rfl⟩
abbrev main_v232 : Ref sig .tc := ⟨.hbm, 447, rfl⟩
abbrev main_v233 : Ref sig .tc := ⟨.hbm, 448, rfl⟩
abbrev main_v234 : Ref sig .tc := ⟨.hbm, 449, rfl⟩
abbrev main_v235 : Ref sig .tc := ⟨.hbm, 450, rfl⟩
abbrev main_v236 : Ref sig .tc := ⟨.hbm, 451, rfl⟩
abbrev main_c_25 : Ref sig .tc := ⟨.hbm, 452, rfl⟩
abbrev main_call10_v0 : Ref sig .tc := ⟨.hbm, 453, rfl⟩
abbrev main_call10_v1 : Ref sig .tc := ⟨.hbm, 454, rfl⟩
abbrev main_call10_v2 : Ref sig .tc := ⟨.hbm, 455, rfl⟩
abbrev main_call10_v3 : Ref sig .tc := ⟨.hbm, 456, rfl⟩
abbrev main_call10_v4 : Ref sig .tc := ⟨.hbm, 457, rfl⟩
abbrev main_call10_v5 : Ref sig .tc := ⟨.hbm, 458, rfl⟩
abbrev main_call10_v6 : Ref sig .tc := ⟨.hbm, 459, rfl⟩
abbrev main_call10_v7 : Ref sig .tc := ⟨.hbm, 460, rfl⟩
abbrev main_call10_v8 : Ref sig .tc := ⟨.hbm, 461, rfl⟩
abbrev main_call10_c : Ref sig .tc := ⟨.hbm, 462, rfl⟩
abbrev main_call10_v9 : Ref sig .tc := ⟨.hbm, 463, rfl⟩
abbrev main_call10_v10 : Ref sig .tc := ⟨.hbm, 464, rfl⟩
abbrev main_call10_v11 : Ref sig .tc := ⟨.hbm, 465, rfl⟩
abbrev main_call10_c_0 : Ref sig .tc := ⟨.hbm, 466, rfl⟩
abbrev main_call10_v12 : Ref sig .tc := ⟨.hbm, 467, rfl⟩
abbrev main_call10_v13 : Ref sig .tc := ⟨.hbm, 468, rfl⟩
abbrev main_v237 : Ref sig .tc := ⟨.hbm, 469, rfl⟩
abbrev main_v238 : Ref sig .tc := ⟨.hbm, 470, rfl⟩
abbrev main_c_26 : Ref sig .tc := ⟨.hbm, 471, rfl⟩
abbrev main_call11_v0 : Ref sig .tc := ⟨.hbm, 472, rfl⟩
abbrev main_call11_c : Ref sig .tc := ⟨.hbm, 473, rfl⟩
abbrev main_call11_v1 : Ref sig .tc := ⟨.hbm, 474, rfl⟩
abbrev main_call11_c_0 : Ref sig .tc := ⟨.hbm, 475, rfl⟩
abbrev main_call11_v2 : Ref sig .tc := ⟨.hbm, 476, rfl⟩
abbrev main_call11_v3 : Ref sig .tc := ⟨.hbm, 477, rfl⟩
abbrev main_call11_v4 : Ref sig .tc := ⟨.hbm, 478, rfl⟩
abbrev main_call11_c_1 : Ref sig .tc := ⟨.hbm, 479, rfl⟩
abbrev main_call11_v5 : Ref sig .tc := ⟨.hbm, 480, rfl⟩
abbrev main_call11_v6 : Ref sig .tc := ⟨.hbm, 481, rfl⟩
abbrev main_call11_c_2 : Ref sig .tc := ⟨.hbm, 482, rfl⟩
abbrev main_call11_v7 : Ref sig .tc := ⟨.hbm, 483, rfl⟩
abbrev main_call11_v8 : Ref sig .tc := ⟨.hbm, 484, rfl⟩
abbrev main_call11_c_3 : Ref sig .tc := ⟨.hbm, 485, rfl⟩
abbrev main_call11_v9 : Ref sig .tc := ⟨.hbm, 486, rfl⟩
abbrev main_call11_v10 : Ref sig .tc := ⟨.hbm, 487, rfl⟩
abbrev main_call11_v11 : Ref sig .tc := ⟨.hbm, 488, rfl⟩
abbrev main_call11_v12 : Ref sig .tc := ⟨.hbm, 489, rfl⟩
abbrev main_call11_v13 : Ref sig .tc := ⟨.hbm, 490, rfl⟩
abbrev main_call11_v14 : Ref sig .tc := ⟨.hbm, 491, rfl⟩
abbrev main_v239 : Ref sig .tc := ⟨.hbm, 492, rfl⟩
abbrev main_v240 : Ref sig .tc := ⟨.hbm, 493, rfl⟩
abbrev main_v241 : Ref sig .tc := ⟨.hbm, 494, rfl⟩
abbrev main_v242 : Ref sig .tc := ⟨.hbm, 495, rfl⟩
abbrev main_cst_27 : Ref sig .tc := ⟨.hbm, 496, rfl⟩
abbrev main_v243 : Ref sig .tc := ⟨.hbm, 497, rfl⟩
abbrev main_v244 : Ref sig .tc := ⟨.hbm, 498, rfl⟩
abbrev main_cst_28 : Ref sig .tc := ⟨.hbm, 499, rfl⟩
abbrev main_v245 : Ref sig .tc := ⟨.hbm, 500, rfl⟩
abbrev main_v246 : Ref sig .tc := ⟨.hbm, 501, rfl⟩
abbrev main_v247 : Ref sig .tc := ⟨.hbm, 502, rfl⟩
abbrev main_v248 : Ref sig .tc := ⟨.hbm, 503, rfl⟩
abbrev main_v249 : Ref sig .tc := ⟨.hbm, 504, rfl⟩
abbrev main_v250 : Ref sig .tc := ⟨.hbm, 505, rfl⟩
abbrev main_v251 : Ref sig .tc := ⟨.hbm, 506, rfl⟩
abbrev main_v252 : Ref sig .tc := ⟨.hbm, 507, rfl⟩
abbrev main_v253 : Ref sig .tc := ⟨.hbm, 508, rfl⟩
abbrev main_v254 : Ref sig .tc := ⟨.hbm, 509, rfl⟩
abbrev main_v255 : Ref sig .tc := ⟨.hbm, 510, rfl⟩
abbrev main_v256 : Ref sig .tc := ⟨.hbm, 511, rfl⟩
abbrev main_v257 : Ref sig .tc := ⟨.hbm, 512, rfl⟩
abbrev main_v258 : Ref sig .tc := ⟨.hbm, 513, rfl⟩
abbrev main_v259 : Ref sig .tc := ⟨.hbm, 514, rfl⟩
abbrev main_v260 : Ref sig .tc := ⟨.hbm, 515, rfl⟩
abbrev main_v261 : Ref sig .tc := ⟨.hbm, 516, rfl⟩
abbrev main_v262 : Ref sig .tc := ⟨.hbm, 517, rfl⟩
abbrev main_v263 : Ref sig .tc := ⟨.hbm, 518, rfl⟩
abbrev main_v264 : Ref sig .tc := ⟨.hbm, 519, rfl⟩
abbrev main_v265 : Ref sig .tc := ⟨.hbm, 520, rfl⟩
abbrev main_v266 : Ref sig .tc := ⟨.hbm, 521, rfl⟩
abbrev main_v267 : Ref sig .tc := ⟨.hbm, 522, rfl⟩
abbrev main_v268 : Ref sig .tc := ⟨.hbm, 523, rfl⟩
abbrev main_v269 : Ref sig .tc := ⟨.hbm, 524, rfl⟩
abbrev main_v270 : Ref sig .tc := ⟨.hbm, 525, rfl⟩
abbrev main_v271 : Ref sig .tc := ⟨.hbm, 526, rfl⟩
abbrev main_v272 : Ref sig .tc := ⟨.hbm, 527, rfl⟩
abbrev main_v273 : Ref sig .tc := ⟨.hbm, 528, rfl⟩
abbrev main_v274 : Ref sig .tc := ⟨.hbm, 529, rfl⟩
abbrev main_v275 : Ref sig .tc := ⟨.hbm, 530, rfl⟩
abbrev main_v276 : Ref sig .tc := ⟨.hbm, 531, rfl⟩
abbrev main_v277 : Ref sig .tc := ⟨.hbm, 532, rfl⟩
abbrev main_v278 : Ref sig .tc := ⟨.hbm, 533, rfl⟩
abbrev main_v279 : Ref sig .tc := ⟨.hbm, 534, rfl⟩
abbrev main_v280 : Ref sig .tc := ⟨.hbm, 535, rfl⟩
abbrev main_v281 : Ref sig .tc := ⟨.hbm, 536, rfl⟩
abbrev main_v282 : Ref sig .tc := ⟨.hbm, 537, rfl⟩
abbrev main_c_29 : Ref sig .tc := ⟨.hbm, 538, rfl⟩
abbrev main_call12_v0 : Ref sig .tc := ⟨.hbm, 539, rfl⟩
abbrev main_call12_v1 : Ref sig .tc := ⟨.hbm, 540, rfl⟩
abbrev main_call12_v2 : Ref sig .tc := ⟨.hbm, 541, rfl⟩
abbrev main_call12_v3 : Ref sig .tc := ⟨.hbm, 542, rfl⟩
abbrev main_call12_v4 : Ref sig .tc := ⟨.hbm, 543, rfl⟩
abbrev main_call12_v5 : Ref sig .tc := ⟨.hbm, 544, rfl⟩
abbrev main_call12_v6 : Ref sig .tc := ⟨.hbm, 545, rfl⟩
abbrev main_call12_v7 : Ref sig .tc := ⟨.hbm, 546, rfl⟩
abbrev main_call12_v8 : Ref sig .tc := ⟨.hbm, 547, rfl⟩
abbrev main_call12_c : Ref sig .tc := ⟨.hbm, 548, rfl⟩
abbrev main_call12_v9 : Ref sig .tc := ⟨.hbm, 549, rfl⟩
abbrev main_call12_v10 : Ref sig .tc := ⟨.hbm, 550, rfl⟩
abbrev main_call12_v11 : Ref sig .tc := ⟨.hbm, 551, rfl⟩
abbrev main_call12_c_0 : Ref sig .tc := ⟨.hbm, 552, rfl⟩
abbrev main_call12_v12 : Ref sig .tc := ⟨.hbm, 553, rfl⟩
abbrev main_call12_v13 : Ref sig .tc := ⟨.hbm, 554, rfl⟩
abbrev main_v283 : Ref sig .tc := ⟨.hbm, 555, rfl⟩
abbrev main_v284 : Ref sig .tc := ⟨.hbm, 556, rfl⟩
abbrev main_c_30 : Ref sig .tc := ⟨.hbm, 557, rfl⟩
abbrev main_call13_v0 : Ref sig .tc := ⟨.hbm, 558, rfl⟩
abbrev main_call13_c : Ref sig .tc := ⟨.hbm, 559, rfl⟩
abbrev main_call13_v1 : Ref sig .tc := ⟨.hbm, 560, rfl⟩
abbrev main_call13_c_0 : Ref sig .tc := ⟨.hbm, 561, rfl⟩
abbrev main_call13_v2 : Ref sig .tc := ⟨.hbm, 562, rfl⟩
abbrev main_call13_v3 : Ref sig .tc := ⟨.hbm, 563, rfl⟩
abbrev main_call13_v4 : Ref sig .tc := ⟨.hbm, 564, rfl⟩
abbrev main_call13_c_1 : Ref sig .tc := ⟨.hbm, 565, rfl⟩
abbrev main_call13_v5 : Ref sig .tc := ⟨.hbm, 566, rfl⟩
abbrev main_call13_v6 : Ref sig .tc := ⟨.hbm, 567, rfl⟩
abbrev main_call13_c_2 : Ref sig .tc := ⟨.hbm, 568, rfl⟩
abbrev main_call13_v7 : Ref sig .tc := ⟨.hbm, 569, rfl⟩
abbrev main_call13_v8 : Ref sig .tc := ⟨.hbm, 570, rfl⟩
abbrev main_call13_c_3 : Ref sig .tc := ⟨.hbm, 571, rfl⟩
abbrev main_call13_v9 : Ref sig .tc := ⟨.hbm, 572, rfl⟩
abbrev main_call13_v10 : Ref sig .tc := ⟨.hbm, 573, rfl⟩
abbrev main_call13_v11 : Ref sig .tc := ⟨.hbm, 574, rfl⟩
abbrev main_call13_v12 : Ref sig .tc := ⟨.hbm, 575, rfl⟩
abbrev main_call13_v13 : Ref sig .tc := ⟨.hbm, 576, rfl⟩
abbrev main_call13_v14 : Ref sig .tc := ⟨.hbm, 577, rfl⟩
abbrev main_v285 : Ref sig .tc := ⟨.hbm, 578, rfl⟩
abbrev main_v286 : Ref sig .tc := ⟨.hbm, 579, rfl⟩
abbrev main_v287 : Ref sig .tc := ⟨.hbm, 580, rfl⟩
abbrev main_v288 : Ref sig .tc := ⟨.hbm, 581, rfl⟩
abbrev main_cst_31 : Ref sig .tc := ⟨.hbm, 582, rfl⟩
abbrev main_v289 : Ref sig .tc := ⟨.hbm, 583, rfl⟩
abbrev main_v290 : Ref sig .tc := ⟨.hbm, 584, rfl⟩
abbrev main_cst_32 : Ref sig .tc := ⟨.hbm, 585, rfl⟩
abbrev main_v291 : Ref sig .tc := ⟨.hbm, 586, rfl⟩
abbrev main_v292 : Ref sig .tc := ⟨.hbm, 587, rfl⟩
abbrev main_v293 : Ref sig .tc := ⟨.hbm, 588, rfl⟩
abbrev main_v294 : Ref sig .tc := ⟨.hbm, 589, rfl⟩
abbrev main_v295 : Ref sig .tc := ⟨.hbm, 590, rfl⟩
abbrev main_v296 : Ref sig .tc := ⟨.hbm, 591, rfl⟩
abbrev main_v297 : Ref sig .tc := ⟨.hbm, 592, rfl⟩
abbrev main_v298 : Ref sig .tc := ⟨.hbm, 593, rfl⟩
abbrev main_v299 : Ref sig .tc := ⟨.hbm, 594, rfl⟩
abbrev main_v300 : Ref sig .tc := ⟨.hbm, 595, rfl⟩
abbrev main_v301 : Ref sig .tc := ⟨.hbm, 596, rfl⟩
abbrev main_v302 : Ref sig .tc := ⟨.hbm, 597, rfl⟩
abbrev main_v303 : Ref sig .tc := ⟨.hbm, 598, rfl⟩
abbrev main_v304 : Ref sig .tc := ⟨.hbm, 599, rfl⟩
abbrev main_v305 : Ref sig .tc := ⟨.hbm, 600, rfl⟩
abbrev main_v306 : Ref sig .tc := ⟨.hbm, 601, rfl⟩
abbrev main_c_33 : Ref sig .tc := ⟨.hbm, 602, rfl⟩
abbrev main_call14_v0 : Ref sig .tc := ⟨.hbm, 603, rfl⟩
abbrev main_call14_v1 : Ref sig .tc := ⟨.hbm, 604, rfl⟩
abbrev main_call14_v2 : Ref sig .tc := ⟨.hbm, 605, rfl⟩
abbrev main_call14_v3 : Ref sig .tc := ⟨.hbm, 606, rfl⟩
abbrev main_call14_v4 : Ref sig .tc := ⟨.hbm, 607, rfl⟩
abbrev main_call14_v5 : Ref sig .tc := ⟨.hbm, 608, rfl⟩
abbrev main_call14_v6 : Ref sig .tc := ⟨.hbm, 609, rfl⟩
abbrev main_call14_v7 : Ref sig .tc := ⟨.hbm, 610, rfl⟩
abbrev main_call14_v8 : Ref sig .tc := ⟨.hbm, 611, rfl⟩
abbrev main_call14_c : Ref sig .tc := ⟨.hbm, 612, rfl⟩
abbrev main_call14_v9 : Ref sig .tc := ⟨.hbm, 613, rfl⟩
abbrev main_call14_v10 : Ref sig .tc := ⟨.hbm, 614, rfl⟩
abbrev main_call14_v11 : Ref sig .tc := ⟨.hbm, 615, rfl⟩
abbrev main_call14_c_0 : Ref sig .tc := ⟨.hbm, 616, rfl⟩
abbrev main_call14_v12 : Ref sig .tc := ⟨.hbm, 617, rfl⟩
abbrev main_call14_v13 : Ref sig .tc := ⟨.hbm, 618, rfl⟩
abbrev main_v307 : Ref sig .tc := ⟨.hbm, 619, rfl⟩
abbrev main_v308 : Ref sig .tc := ⟨.hbm, 620, rfl⟩
abbrev main_c_34 : Ref sig .tc := ⟨.hbm, 621, rfl⟩
abbrev main_call15_v0 : Ref sig .tc := ⟨.hbm, 622, rfl⟩
abbrev main_call15_c : Ref sig .tc := ⟨.hbm, 623, rfl⟩
abbrev main_call15_v1 : Ref sig .tc := ⟨.hbm, 624, rfl⟩
abbrev main_call15_c_0 : Ref sig .tc := ⟨.hbm, 625, rfl⟩
abbrev main_call15_v2 : Ref sig .tc := ⟨.hbm, 626, rfl⟩
abbrev main_call15_v3 : Ref sig .tc := ⟨.hbm, 627, rfl⟩
abbrev main_call15_v4 : Ref sig .tc := ⟨.hbm, 628, rfl⟩
abbrev main_call15_c_1 : Ref sig .tc := ⟨.hbm, 629, rfl⟩
abbrev main_call15_v5 : Ref sig .tc := ⟨.hbm, 630, rfl⟩
abbrev main_call15_v6 : Ref sig .tc := ⟨.hbm, 631, rfl⟩
abbrev main_call15_c_2 : Ref sig .tc := ⟨.hbm, 632, rfl⟩
abbrev main_call15_v7 : Ref sig .tc := ⟨.hbm, 633, rfl⟩
abbrev main_call15_v8 : Ref sig .tc := ⟨.hbm, 634, rfl⟩
abbrev main_call15_c_3 : Ref sig .tc := ⟨.hbm, 635, rfl⟩
abbrev main_call15_v9 : Ref sig .tc := ⟨.hbm, 636, rfl⟩
abbrev main_call15_v10 : Ref sig .tc := ⟨.hbm, 637, rfl⟩
abbrev main_call15_v11 : Ref sig .tc := ⟨.hbm, 638, rfl⟩
abbrev main_call15_v12 : Ref sig .tc := ⟨.hbm, 639, rfl⟩
abbrev main_call15_v13 : Ref sig .tc := ⟨.hbm, 640, rfl⟩
abbrev main_call15_v14 : Ref sig .tc := ⟨.hbm, 641, rfl⟩
abbrev main_v309 : Ref sig .tc := ⟨.hbm, 642, rfl⟩
abbrev main_v310 : Ref sig .tc := ⟨.hbm, 643, rfl⟩
abbrev main_v311 : Ref sig .tc := ⟨.hbm, 644, rfl⟩
abbrev main_v312 : Ref sig .tc := ⟨.hbm, 645, rfl⟩
abbrev main_cst_35 : Ref sig .tc := ⟨.hbm, 646, rfl⟩
abbrev main_v313 : Ref sig .tc := ⟨.hbm, 647, rfl⟩
abbrev main_v314 : Ref sig .tc := ⟨.hbm, 648, rfl⟩
abbrev main_cst_36 : Ref sig .tc := ⟨.hbm, 649, rfl⟩
abbrev main_v315 : Ref sig .tc := ⟨.hbm, 650, rfl⟩
abbrev main_v316 : Ref sig .tc := ⟨.hbm, 651, rfl⟩
abbrev main_v317 : Ref sig .tc := ⟨.hbm, 652, rfl⟩
abbrev main_v318 : Ref sig .tc := ⟨.hbm, 653, rfl⟩
abbrev main_v319 : Ref sig .tc := ⟨.hbm, 654, rfl⟩
abbrev main_v320 : Ref sig .tc := ⟨.hbm, 655, rfl⟩
abbrev main_v321 : Ref sig .tc := ⟨.hbm, 656, rfl⟩
abbrev main_v322 : Ref sig .tc := ⟨.hbm, 657, rfl⟩
abbrev main_v323 : Ref sig .tc := ⟨.hbm, 658, rfl⟩
abbrev main_v324 : Ref sig .tc := ⟨.hbm, 659, rfl⟩
abbrev main_v325 : Ref sig .tc := ⟨.hbm, 660, rfl⟩
abbrev main_v326 : Ref sig .tc := ⟨.hbm, 661, rfl⟩
abbrev main_v327 : Ref sig .tc := ⟨.hbm, 662, rfl⟩
abbrev main_v328 : Ref sig .tc := ⟨.hbm, 663, rfl⟩
abbrev main_v329 : Ref sig .tc := ⟨.hbm, 664, rfl⟩
abbrev main_v330 : Ref sig .tc := ⟨.hbm, 665, rfl⟩
abbrev main_v331 : Ref sig .tc := ⟨.hbm, 666, rfl⟩
abbrev main_v332 : Ref sig .tc := ⟨.hbm, 667, rfl⟩
abbrev main_v333 : Ref sig .tc := ⟨.hbm, 668, rfl⟩
abbrev main_v334 : Ref sig .tc := ⟨.hbm, 669, rfl⟩
abbrev main_v335 : Ref sig .tc := ⟨.hbm, 670, rfl⟩
abbrev main_v336 : Ref sig .tc := ⟨.hbm, 671, rfl⟩
abbrev main_v337 : Ref sig .tc := ⟨.hbm, 672, rfl⟩
abbrev main_v338 : Ref sig .tc := ⟨.hbm, 673, rfl⟩
abbrev main_v339 : Ref sig .tc := ⟨.hbm, 674, rfl⟩
abbrev main_v340 : Ref sig .tc := ⟨.hbm, 675, rfl⟩
abbrev main_v341 : Ref sig .tc := ⟨.hbm, 676, rfl⟩
abbrev main_v342 : Ref sig .tc := ⟨.hbm, 677, rfl⟩
abbrev main_v343 : Ref sig .tc := ⟨.hbm, 678, rfl⟩
abbrev main_v344 : Ref sig .tc := ⟨.hbm, 679, rfl⟩
abbrev main_v345 : Ref sig .tc := ⟨.hbm, 680, rfl⟩
abbrev main_v346 : Ref sig .tc := ⟨.hbm, 681, rfl⟩
abbrev main_v347 : Ref sig .tc := ⟨.hbm, 682, rfl⟩
abbrev main_v348 : Ref sig .tc := ⟨.hbm, 683, rfl⟩
abbrev main_v349 : Ref sig .tc := ⟨.hbm, 684, rfl⟩
abbrev main_v350 : Ref sig .tc := ⟨.hbm, 685, rfl⟩

abbrev nD : Nat := 1
abbrev τ : Topo := Topo.v7x

variable {F : FTy → Type} [FloatOps F]
-- ==== Mods.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== InOdd.lean ====
abbrev S12288x1024 : Shape := ⟨2, ![12288, 1024]⟩
abbrev S2x8x6x1024 : Shape := ⟨4, ![2, 8, 6, 1024]⟩
abbrev S1x1024x2304 : Shape := ⟨3, ![1, 1024, 2304]⟩
abbrev S1x64 : Shape := ⟨2, ![1, 64]⟩
abbrev S1024 : Shape := ⟨1, ![1024]⟩
abbrev S_ : Shape := ⟨0, ![]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S1024x64 : Shape := ⟨2, ![1024, 64]⟩
abbrev S1x1024x1x64 : Shape := ⟨4, ![1, 1024, 1, 64]⟩
abbrev S1x1024x8x64 : Shape := ⟨4, ![1, 1024, 8, 64]⟩
abbrev S1024x512 : Shape := ⟨2, ![1024, 512]⟩
abbrev S1x512x512 : Shape := ⟨3, ![1, 512, 512]⟩
abbrev S2x512x512 : Shape := ⟨3, ![2, 512, 512]⟩
abbrev S3x512x512 : Shape := ⟨3, ![3, 512, 512]⟩
abbrev S3x512x1024 : Shape := ⟨3, ![3, 512, 1024]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1024x2304 : Shape := ⟨2, ![1024, 2304]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S12288x512 : Shape := ⟨2, ![12288, 512]⟩
abbrev S12288x128 : Shape := ⟨2, ![12288, 128]⟩
abbrev S8192x128 : Shape := ⟨2, ![8192, 128]⟩
abbrev S8192x512 : Shape := ⟨2, ![8192, 512]⟩
abbrev S512x1024 : Shape := ⟨2, ![512, 1024]⟩
abbrev S1x1x6x1024 : Shape := ⟨4, ![1, 1, 6, 1024]⟩
abbrev S1x512x1024 : Shape := ⟨3, ![1, 512, 1024]⟩
abbrev S512x128 : Shape := ⟨2, ![512, 128]⟩
abbrev S6x1024 : Shape := ⟨2, ![6, 1024]⟩
abbrev S1x1024 : Shape := ⟨2, ![1, 1024]⟩
abbrev S512x2304 : Shape := ⟨2, ![512, 2304]⟩
abbrev S128x128 : Shape := ⟨2, ![128, 128]⟩

abbrev nBuf : Space → Nat
  | .hbm => 125
  | .vmem => 30
  | .smem => 0
  | _ => 0

abbrev bufTy : (tb : Table) → Fin (tcTables nBuf tb) → BufTy
  | .hbm, ⟨0, _⟩ => ⟨S12288x1024, .f32⟩
  | .hbm, ⟨1, _⟩ => ⟨S2x8x6x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S_, .i1⟩
  | .hbm, ⟨41, _⟩ => ⟨S1024, .i1⟩
  | .hbm, ⟨42, _⟩ => ⟨S1024, .i1⟩
  | .hbm, ⟨43, _⟩ => ⟨S1024, .i1⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S1024x1, .f32⟩
  | .hbm, ⟨57, _⟩ => ⟨S1x16, .f32⟩
  | .hbm, ⟨58, _⟩ => ⟨S1024x16, .f32⟩
  | .hbm, ⟨59, _⟩ => ⟨S1024x16, .f32⟩
  | .hbm, ⟨60, _⟩ => ⟨S1024x16, .f32⟩
  | .hbm, ⟨61, _⟩ => ⟨S1024x1, .f32⟩
  | .hbm, ⟨62, _⟩ => ⟨S1x16, .f32⟩
  | .hbm, ⟨63, _⟩ => ⟨S1024x16, .f32⟩
  | .hbm, ⟨64, _⟩ => ⟨S1024x16, .f32⟩
  | .hbm, ⟨65, _⟩ => ⟨S1024x16, .f32⟩
  | .hbm, ⟨66, _⟩ => ⟨S1024x32, .f32⟩
  | .hbm, ⟨67, _⟩ => ⟨S1024x32, .f32⟩
  | .hbm, ⟨68, _⟩ => ⟨S1024x32, .f32⟩
  | .hbm, ⟨69, _⟩ => ⟨S1024x64, .f32⟩
  | .hbm, ⟨70, _⟩ => ⟨S1x1024x1x64, .f32⟩
  | .hbm, ⟨71, _⟩ => ⟨S1x1024x8x64, .f32⟩
  | .hbm, ⟨72, _⟩ => ⟨S1024x512, .f32⟩
  | .hbm, ⟨73, _⟩ => ⟨S1024x32, .f32⟩
  | .hbm, ⟨74, _⟩ => ⟨S1024x64, .f32⟩
  | .hbm, ⟨75, _⟩ => ⟨S1x1024x1x64, .f32⟩
  | .hbm, ⟨76, _⟩ => ⟨S1x1024x8x64, .f32⟩
  | .hbm, ⟨77, _⟩ => ⟨S1024x512, .f32⟩
  | .hbm, ⟨78, _⟩ => ⟨S_, .f32⟩
  | .hbm, ⟨79, _⟩ => ⟨S1x512x512, .f32⟩
  | .hbm, ⟨80, _⟩ => ⟨S_, .f32⟩
  | .hbm, ⟨81, _⟩ => ⟨S1x512x512, .f32⟩
  | .hbm, ⟨82, _⟩ => ⟨S2x512x512, .f32⟩
  | .hbm, ⟨83, _⟩ => ⟨S3x512x512, .f32⟩
  | .hbm, ⟨84, _⟩ => ⟨S2x512x512, .f32⟩
  | .hbm, ⟨85, _⟩ => ⟨S3x512x512, .f32⟩
  | .hbm, ⟨86, _⟩ => ⟨S3x512x1024, .f32⟩
  | .hbm, ⟨87, _⟩ => ⟨S8x8, .i32⟩
  | .hbm, ⟨88, _⟩ => ⟨S8x8, .i32⟩
  | .hbm, ⟨89, _⟩ => ⟨S_, .i32⟩
  | .hbm, ⟨90, _⟩ => ⟨S8x8, .i32⟩
  | .hbm, ⟨91, _⟩ => ⟨S8x8, .i32⟩
  | .hbm, ⟨92, _⟩ => ⟨S8x8, .i1⟩
  | .hbm, ⟨93, _⟩ => ⟨S8x8, .f32⟩
  | .hbm, ⟨94, _⟩ => ⟨S_, .f32⟩
  | .hbm, ⟨95, _⟩ => ⟨S64x64, .f32⟩
  | .hbm, ⟨96, _⟩ => ⟨S8x1x8x1, .f32⟩
  | .hbm, ⟨97, _⟩ => ⟨S1x64x1x64, .f32⟩
  | .hbm, ⟨98, _⟩ => ⟨S8x64x8x64, .f32⟩
  | .hbm, ⟨99, _⟩ => ⟨S8x64x8x64, .f32⟩
  | .hbm, ⟨100, _⟩ => ⟨S8x64x8x64, .f32⟩
  | .hbm, ⟨101, _⟩ => ⟨S512x512, .f32⟩
  | .hbm, ⟨102, _⟩ => ⟨S512x512, .bf16⟩
  | .hbm, ⟨103, _⟩ => ⟨S1024x2304, .f32⟩
  | .hbm, ⟨104, _⟩ => ⟨S1024x2304, .bf16⟩
  | .hbm, ⟨105, _⟩ => ⟨S64, .f32⟩
  | .hbm, ⟨106, _⟩ => ⟨S1x64, .f32⟩
  | .hbm, ⟨107, _⟩ => ⟨S8x64, .f32⟩
  | .hbm, ⟨108, _⟩ => ⟨S512, .f32⟩
  | .hbm, ⟨109, _⟩ => ⟨S1x512, .f32⟩
  | .hbm, ⟨110, _⟩ => ⟨S64, .f32⟩
  | .hbm, ⟨111, _⟩ => ⟨S1x64, .f32⟩
  | .hbm, ⟨112, _⟩ => ⟨S2x64, .f32⟩
  | .hbm, ⟨113, _⟩ => ⟨S128, .f32⟩
  | .hbm, ⟨114, _⟩ => ⟨S1x128, .f32⟩
  | .hbm, ⟨115, _⟩ => ⟨S12288x512, .bf16⟩
  | .hbm, ⟨116, _⟩ => ⟨S12288x128, .bf16⟩
  | .hbm, ⟨117, _⟩ => ⟨S12288x128, .bf16⟩
  | .hbm, ⟨118, _⟩ => ⟨S12288x512, .bf16⟩
  | .hbm, ⟨119, _⟩ => ⟨S12288x512, .bf16⟩
  | .hbm, ⟨120, _⟩ => ⟨S12288x512, .bf16⟩
  | .hbm, ⟨121, _⟩ => ⟨S8192x128, .f32⟩
  | .hbm, ⟨122, _⟩ => ⟨S8192x128, .f32⟩
  | .hbm, ⟨123, _⟩ => ⟨S8192x512, .f32⟩
  | .hbm, ⟨124, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x2304, .bf16⟩
  | .local _ .vmem, ⟨7, _⟩ => ⟨S1x512, .f32⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_2 : Ref sig .tc := ⟨.hbm, 78, rfl⟩
abbrev main_v33 : Ref sig .tc := ⟨.hbm, 79, rfl⟩
abbrev main_cst_3 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_4 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_5 : Ref sig .tc := ⟨.hbm, 94, rfl⟩
abbrev main_v46 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61_0 : Ref sig .tc := ⟨.hbm, 115, rfl⟩
abbrev main_v61_1 : Ref sig .tc := ⟨.hbm, 116, rfl⟩
abbrev main_v61_2 : Ref sig .tc := ⟨.hbm, 117, rfl⟩
abbrev main_v61_3 : Ref sig .tc := ⟨.hbm, 118, rfl⟩
abbrev main_v61_4 : Ref sig .tc := ⟨.hbm, 119, rfl⟩
abbrev main_v61_5 : Ref sig .tc := ⟨.hbm, 120, rfl⟩
abbrev main_v61_6 : Ref sig .tc := ⟨.hbm, 121, rfl⟩
abbrev main_v61_7 : Ref sig .tc := ⟨.hbm, 122, rfl⟩
abbrev main_v61_8 : Ref sig .tc := ⟨.hbm, 123, rfl⟩
abbrev main_v61_9 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 4 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 1 := Scalar.cmpi .slt v10 c16_i32_3
  let c16_i32_4 : BitVec 32 := 16#32
  let v12 : BitVec 32 := Scalar.subi v10 c16_i32_4
  let c2_i32 : BitVec 32 := 2#32
  let v13 : BitVec 32 := Scalar.divsi v12 c2_i32
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c2_i32 c0_i32_7
  let v20 : BitVec 32 := Scalar.extui v19
  let c0_i32_8 : BitVec 32 := 0#32
  let v21 : BitVec 1 := Scalar.cmpi .slt c2_i32 c0_i32_8
  let v22 : BitVec 32 := Scalar.extui v21
  let v23 : BitVec 32 := Scalar.subi v20 v22
  let v24 : BitVec 1 := Scalar.cmpi .ne v18 v23
  let v25 : BitVec 32 := Scalar.remsi v12 c2_i32
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi c1_i32_11 v29
  let c0_i32_12 : BitVec 32 := 0#32
  let v31 : BitVec 32 := Scalar.select v11 c0_i32_12 v30
  let c1_i32_13 : BitVec 32 := 1#32
  let c0_i32_14 : BitVec 32 := 0#32
  let c0_i32_15 : BitVec 32 := 0#32
  let c0_i32_16 : BitVec 32 := 0#32
  ![c1_i32_13.toNat, v31.toNat, c0_i32_14.toNat, c0_i32_15.toNat]

def cc0_transform_2 (i : grid0.Coords) : Fin 3 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 1 := Scalar.cmpi .slt v10 c16_i32_3
  let c16_i32_4 : BitVec 32 := 16#32
  let v12 : BitVec 32 := Scalar.subi v10 c16_i32_4
  let c2_i32 : BitVec 32 := 2#32
  let c0_i32_5 : BitVec 32 := 0#32
  let v13 : BitVec 1 := Scalar.cmpi .eq c2_i32 c0_i32_5
  let c1_i32_6 : BitVec 32 := 1#32
  let v14 : BitVec 32 := Scalar.select v13 c1_i32_6 c2_i32
  let v15 : BitVec 32 := Scalar.remsi v12 v14
  let c0_i32_7 : BitVec 32 := 0#32
  let v16 : BitVec 1 := Scalar.cmpi .ne v15 c0_i32_7
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let v20 : BitVec 1 := Scalar.andi v19 v16
  let v21 : BitVec 32 := Scalar.addi v15 v14
  let v22 : BitVec 32 := Scalar.select v20 v21 v15
  let c1_i32_10 : BitVec 32 := 1#32
  let v23 : BitVec 32 := Scalar.addi c1_i32_10 v22
  let c0_i32_11 : BitVec 32 := 0#32
  let v24 : BitVec 32 := Scalar.select v11 c0_i32_11 v23
  let c0_i32_12 : BitVec 32 := 0#32
  let c0_i32_13 : BitVec 32 := 0#32
  let c0_i32_14 : BitVec 32 := 0#32
  ![v24.toNat, c0_i32_12.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_8 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_9 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_10 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_11 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_12 (i : grid0.Coords) : Fin 2 → Nat :=
  let arg0 : BitVec 32 := BitVec.ofNat 32 (i 0).val
  let c16_i32 : BitVec 32 := 16#32
  let v0 : BitVec 32 := Scalar.addi arg0 c16_i32
  let c24_i32 : BitVec 32 := 24#32
  let c0_i32 : BitVec 32 := 0#32
  let v1 : BitVec 1 := Scalar.cmpi .eq c24_i32 c0_i32
  let c1_i32 : BitVec 32 := 1#32
  let v2 : BitVec 32 := Scalar.select v1 c1_i32 c24_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_13 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InOddRefIdeal.lean ====
abbrev S12288x1024 : Shape := ⟨2, ![12288, 1024]⟩
abbrev S2x8x6x1024 : Shape := ⟨4, ![2, 8, 6, 1024]⟩
abbrev S1x1024x2304 : Shape := ⟨3, ![1, 1024, 2304]⟩
abbrev S1x64 : Shape := ⟨2, ![1, 64]⟩
abbrev S1024 : Shape := ⟨1, ![1024]⟩
abbrev S_ : Shape := ⟨0, ![]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S1x1024x1x32 : Shape := ⟨4, ![1, 1024, 1, 32]⟩
abbrev S1x1x1x1024 : Shape := ⟨4, ![1, 1, 1, 1024]⟩
abbrev S8192x1024 : Shape := ⟨2, ![8192, 1024]⟩
abbrev S1x4x1x1024 : Shape := ⟨4, ![1, 4, 1, 1024]⟩
abbrev S4x1024 : Shape := ⟨2, ![4, 1024]⟩
abbrev S4x1x1024 : Shape := ⟨3, ![4, 1, 1024]⟩
abbrev S4x1024x1024 : Shape := ⟨3, ![4, 1024, 1024]⟩
abbrev S4096x1024 : Shape := ⟨2, ![4096, 1024]⟩
abbrev S1024x2304 : Shape := ⟨2, ![1024, 2304]⟩
abbrev S12288x2304 : Shape := ⟨2, ![12288, 2304]⟩
abbrev S12288x512 : Shape := ⟨2, ![12288, 512]⟩
abbrev S12288x128 : Shape := ⟨2, ![12288, 128]⟩
abbrev S64 : Shape := ⟨1, ![64]⟩
abbrev S12288x8x64 : Shape := ⟨3, ![12288, 8, 64]⟩
abbrev S12288x8 : Shape := ⟨2, ![12288, 8]⟩
abbrev S12288x8x1 : Shape := ⟨3, ![12288, 8, 1]⟩
abbrev S1x1x64 : Shape := ⟨3, ![1, 1, 64]⟩
abbrev S12288x2x64 : Shape := ⟨3, ![12288, 2, 64]⟩
abbrev S12288x2 : Shape := ⟨2, ![12288, 2]⟩
abbrev S12288x2x1 : Shape := ⟨3, ![12288, 2, 1]⟩
abbrev S4096x512 : Shape := ⟨2, ![4096, 512]⟩
abbrev S4x1024x8x64 : Shape := ⟨4, ![4, 1024, 8, 64]⟩
abbrev S4x1024x8x32 : Shape := ⟨4, ![4, 1024, 8, 32]⟩
abbrev S8192x512 : Shape := ⟨2, ![8192, 512]⟩
abbrev S4096x128 : Shape := ⟨2, ![4096, 128]⟩
abbrev S4x1024x2x64 : Shape := ⟨4, ![4, 1024, 2, 64]⟩
abbrev S4x1024x2x32 : Shape := ⟨4, ![4, 1024, 2, 32]⟩
abbrev S8192x128 : Shape := ⟨2, ![8192, 128]⟩

abbrev nBuf : Space → Nat
  | .hbm => 186
  | .vmem => 0
  | .smem => 0
  | _ => 0

abbrev hbmTy0_0 (i : Nat) : BufTy := match i % 128 with
  | 0 => ⟨S12288x1024, .f32⟩
  | 1 => ⟨S2x8x6x1024, .f32⟩
  | 2 => ⟨S1x1024x2304, .f32⟩
  | 3 => ⟨S1x64, .f32⟩
  | 4 => ⟨S1x64, .f32⟩
  | 5 => ⟨S1024, .i32⟩
  | 6 => ⟨S_, .i32⟩
  | 7 => ⟨S_, .i32⟩
  | 8 => ⟨S1024, .i32⟩
  | 9 => ⟨S1024, .i32⟩
  | 10 => ⟨S1024, .i32⟩
  | 11 => ⟨S_, .i32⟩
  | 12 => ⟨S1024, .i32⟩
  | 13 => ⟨S1024, .i1⟩
  | 14 => ⟨S1024, .i32⟩
  | 15 => ⟨S1024, .i32⟩
  | 16 => ⟨S_, .i32⟩
  | 17 => ⟨S1024, .i32⟩
  | 18 => ⟨S1024, .i1⟩
  | 19 => ⟨S1024, .i1⟩
  | 20 => ⟨S_, .i32⟩
  | 21 => ⟨S1024, .i32⟩
  | 22 => ⟨S1024, .i32⟩
  | 23 => ⟨S1024, .i32⟩
  | 24 => ⟨S1024, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i1⟩
  | 36 => ⟨S_, .i32⟩
  | 37 => ⟨S1024, .i32⟩
  | 38 => ⟨S1024, .i1⟩
  | 39 => ⟨S_, .i32⟩
  | 40 => ⟨S_, .i1⟩
  | 41 => ⟨S1024, .i1⟩
  | 42 => ⟨S1024, .i1⟩
  | 43 => ⟨S1024, .i1⟩
  | 44 => ⟨S1024, .i32⟩
  | 45 => ⟨S1024, .i32⟩
  | 46 => ⟨S1024, .i32⟩
  | 47 => ⟨S1024, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S1024x1, .f32⟩
  | 57 => ⟨S1x16, .f32⟩
  | 58 => ⟨S1024x16, .f32⟩
  | 59 => ⟨S1024x16, .f32⟩
  | 60 => ⟨S1024x16, .f32⟩
  | 61 => ⟨S1024x1, .f32⟩
  | 62 => ⟨S1x16, .f32⟩
  | 63 => ⟨S1024x16, .f32⟩
  | 64 => ⟨S1024x16, .f32⟩
  | 65 => ⟨S1024x16, .f32⟩
  | 66 => ⟨S1024x32, .f32⟩
  | 67 => ⟨S1024x32, .f32⟩
  | 68 => ⟨S1x1024x1x32, .f32⟩
  | 69 => ⟨S1024x32, .f32⟩
  | 70 => ⟨S1x1024x1x32, .f32⟩
  | 71 => ⟨S1x1x1x1024, .f32⟩
  | 72 => ⟨S1024, .f32⟩
  | 73 => ⟨S8192x1024, .f32⟩
  | 74 => ⟨S1x4x1x1024, .f32⟩
  | 75 => ⟨S4x1024, .f32⟩
  | 76 => ⟨S4x1x1024, .f32⟩
  | 77 => ⟨S4x1024x1024, .f32⟩
  | 78 => ⟨S4096x1024, .f32⟩
  | 79 => ⟨S12288x1024, .f32⟩
  | 80 => ⟨S_, .f32⟩
  | 81 => ⟨S12288x1024, .f32⟩
  | 82 => ⟨S12288x1024, .f32⟩
  | 83 => ⟨S12288x1024, .f32⟩
  | 84 => ⟨S1x1x1x1024, .f32⟩
  | 85 => ⟨S1024, .f32⟩
  | 86 => ⟨S8192x1024, .f32⟩
  | 87 => ⟨S1x4x1x1024, .f32⟩
  | 88 => ⟨S4x1024, .f32⟩
  | 89 => ⟨S4x1x1024, .f32⟩
  | 90 => ⟨S4x1024x1024, .f32⟩
  | 91 => ⟨S4096x1024, .f32⟩
  | 92 => ⟨S12288x1024, .f32⟩
  | 93 => ⟨S12288x1024, .f32⟩
  | 94 => ⟨S1024x2304, .f32⟩
  | 95 => ⟨S12288x2304, .f32⟩
  | 96 => ⟨S12288x512, .f32⟩
  | 97 => ⟨S12288x128, .f32⟩
  | 98 => ⟨S12288x128, .f32⟩
  | 99 => ⟨S12288x512, .f32⟩
  | 100 => ⟨S12288x512, .f32⟩
  | 101 => ⟨S12288x512, .f32⟩
  | 102 => ⟨S64, .f32⟩
  | 103 => ⟨S12288x8x64, .f32⟩
  | 104 => ⟨S12288x8x64, .f32⟩
  | 105 => ⟨S_, .f32⟩
  | 106 => ⟨S12288x8, .f32⟩
  | 107 => ⟨S12288x8x1, .f32⟩
  | 108 => ⟨S_, .f32⟩
  | 109 => ⟨S12288x8x1, .f32⟩
  | 110 => ⟨S12288x8x1, .f32⟩
  | 111 => ⟨S_, .f32⟩
  | 112 => ⟨S12288x8x1, .f32⟩
  | 113 => ⟨S12288x8x1, .f32⟩
  | 114 => ⟨S12288x8x1, .f32⟩
  | 115 => ⟨S12288x8x64, .f32⟩
  | 116 => ⟨S12288x8x64, .f32⟩
  | 117 => ⟨S1x1x64, .f32⟩
  | 118 => ⟨S12288x8x64, .f32⟩
  | 119 => ⟨S12288x8x64, .f32⟩
  | 120 => ⟨S12288x512, .f32⟩
  | 121 => ⟨S64, .f32⟩
  | 122 => ⟨S12288x2x64, .f32⟩
  | 123 => ⟨S12288x2x64, .f32⟩
  | 124 => ⟨S_, .f32⟩
  | 125 => ⟨S12288x2, .f32⟩
  | 126 => ⟨S12288x2x1, .f32⟩
  | 127 => ⟨S_, .f32⟩
  | _ => ⟨S12288x1024, .f32⟩

abbrev hbmTy0_1 (i : Nat) : BufTy := match i % 128 with
  | 0 => ⟨S12288x2x1, .f32⟩
  | 1 => ⟨S12288x2x1, .f32⟩
  | 2 => ⟨S_, .f32⟩
  | 3 => ⟨S12288x2x1, .f32⟩
  | 4 => ⟨S12288x2x1, .f32⟩
  | 5 => ⟨S12288x2x1, .f32⟩
  | 6 => ⟨S12288x2x64, .f32⟩
  | 7 => ⟨S12288x2x64, .f32⟩
  | 8 => ⟨S1x1x64, .f32⟩
  | 9 => ⟨S12288x2x64, .f32⟩
  | 10 => ⟨S12288x2x64, .f32⟩
  | 11 => ⟨S12288x128, .f32⟩
  | 12 => ⟨S4096x512, .f32⟩
  | 13 => ⟨S4x1024x8x64, .f32⟩
  | 14 => ⟨S4x1024x8x32, .f32⟩
  | 15 => ⟨S4x1024x8x32, .f32⟩
  | 16 => ⟨S4x1024x8x32, .f32⟩
  | 17 => ⟨S4x1024x8x32, .f32⟩
  | 18 => ⟨S4x1024x8x32, .f32⟩
  | 19 => ⟨S4x1024x8x32, .f32⟩
  | 20 => ⟨S4x1024x8x32, .f32⟩
  | 21 => ⟨S4x1024x8x32, .f32⟩
  | 22 => ⟨S4x1024x8x32, .f32⟩
  | 23 => ⟨S4x1024x8x32, .f32⟩
  | 24 => ⟨S4x1024x8x32, .f32⟩
  | 25 => ⟨S4x1024x8x32, .f32⟩
  | 26 => ⟨S4x1024x8x64, .f32⟩
  | 27 => ⟨S8192x512, .f32⟩
  | 28 => ⟨S4096x512, .f32⟩
  | 29 => ⟨S12288x512, .f32⟩
  | 30 => ⟨S12288x512, .bf16⟩
  | 31 => ⟨S4096x128, .f32⟩
  | 32 => ⟨S4x1024x2x64, .f32⟩
  | 33 => ⟨S4x1024x2x32, .f32⟩
  | 34 => ⟨S4x1024x2x32, .f32⟩
  | 35 => ⟨S4x1024x2x32, .f32⟩
  | 36 => ⟨S4x1024x2x32, .f32⟩
  | 37 => ⟨S4x1024x2x32, .f32⟩
  | 38 => ⟨S4x1024x2x32, .f32⟩
  | 39 => ⟨S4x1024x2x32, .f32⟩
  | 40 => ⟨S4x1024x2x32, .f32⟩
  | 41 => ⟨S4x1024x2x32, .f32⟩
  | 42 => ⟨S4x1024x2x32, .f32⟩
  | 43 => ⟨S4x1024x2x32, .f32⟩
  | 44 => ⟨S4x1024x2x32, .f32⟩
  | 45 => ⟨S4x1024x2x64, .f32⟩
  | 46 => ⟨S8192x128, .f32⟩
  | 47 => ⟨S4096x128, .f32⟩
  | 48 => ⟨S12288x128, .f32⟩
  | 49 => ⟨S12288x128, .bf16⟩
  | 50 => ⟨S12288x128, .bf16⟩
  | 51 => ⟨S12288x512, .bf16⟩
  | 52 => ⟨S12288x512, .bf16⟩
  | 53 => ⟨S12288x512, .bf16⟩
  | 54 => ⟨S8192x128, .f32⟩
  | 55 => ⟨S8192x128, .f32⟩
  | 56 => ⟨S8192x512, .f32⟩
  | 57 => ⟨S8192x512, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_3 : Ref sig .tc := ⟨.hbm, 105, rfl⟩
abbrev main_v59 : Ref sig .tc := ⟨.hbm, 106, rfl⟩
abbrev main_v60 : Ref sig .tc := ⟨.hbm, 107, rfl⟩
abbrev main_cst_4 : Ref sig .tc := ⟨.hbm, 108, rfl⟩
abbrev main_v61 : Ref sig .tc := ⟨.hbm, 109, rfl⟩
abbrev main_v62 : Ref sig .tc := ⟨.hbm, 110, rfl⟩
abbrev main_cst_5 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_6 : Ref sig .tc := ⟨.hbm, 124, rfl⟩
abbrev main_v75 : Ref sig .tc := ⟨.hbm, 125, rfl⟩
abbrev main_v76 : Ref sig .tc := ⟨.hbm, 126, rfl⟩
abbrev main_cst_7 : Ref sig .tc := ⟨.hbm, 127, rfl⟩
abbrev main_v77 : Ref sig .tc := ⟨.hbm, 128, rfl⟩
abbrev main_v78 : Ref sig .tc := ⟨.hbm, 129, rfl⟩
abbrev main_cst_8 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩

abbrev nD : Nat := 1
abbrev τ : Topo := Topo.v7x

variable {F : FTy → Type} [FloatOps F]
-- ==== Proof.PostRow.lean ====
/- One token's row of the output projection, the residual layer norm, the second modulation and the
   expert scores, as functions of extended reals. Both programs are compared with these. -/
module

public import Idealize.ShloMosaic.Lib.Pointwise

@[expose] public section

noncomputable section

namespace Cert.PostRow

open Idealize.ShloMosaic

/-- The residual scale, as both programs write it. -/
abbrev alpha : EReal := Ideal.ofBits .f32 0x3FB504F3#32
/-- The row length. -/
abbrev width : EReal := Ideal.ofBits .f32 0x44800000#32
/-- The layer norm's small constant. -/
abbrev eps : EReal := Ideal.ofBits .f32 0x358637BD#32

/-- The two attention outputs of one token through the two halves of the output projection. -/
def mixed (o1 o2 : Fin 512 → EReal) (w1 w2 : Fin 512 → Fin 1024 → EReal) (j : Fin 1024) : EReal :=
  (∑ k, o1 k * w1 k j) + ∑ k, o2 k * w2 k j

/-- The scaled residual plus the gated mix. -/
def resid (x gate y : Fin 1024 → EReal) (j : Fin 1024) : EReal :=
  alpha * x j + gate j * y j

/-- A row minus its mean. -/
def centred (z : Fin 1024 → EReal) (j : Fin 1024) : EReal :=
  z j - Ideal.div (∑ k, z k) width

/-- The mean square of the centred row. -/
def variance (z : Fin 1024 → EReal) : EReal :=
  Ideal.div (∑ k, centred z k * centred z k) width

/-- Layer norm of a row. -/
def normed (z g b : Fin 1024 → EReal) (j : Fin 1024) : EReal :=
  centred z j * Ideal.rsqrt (variance z + eps) * g j + b j

/-- Scale and shift of a row. -/
def modulated (x1 scale shift : Fin 1024 → EReal) (j : Fin 1024) : EReal :=
  x1 j * (1 + scale j) + shift j

/-- A row through the query projection. -/
def query (h : Fin 1024 → EReal) (wq : Fin 1024 → Fin 2048 → EReal) (n : Fin 2048) : EReal :=
  ∑ j, h j * wq j n

theorem resid_congr {x x' g g' y y' : Fin 1024 → EReal} (h1 : x = x') (h2 : g = g') (h3 : y = y') :
    resid x g y = resid x' g' y' := by rw [h1, h2, h3]

theorem mixed_congr {o1 o1' o2 o2' : Fin 512 → EReal} {w1 w1' w2 w2' : Fin 512 → Fin 1024 → EReal}
    (h1 : o1 = o1') (h2 : o2 = o2') (h3 : w1 = w1') (h4 : w2 = w2') : mixed o1 o2 w1 w2 = mixed o1' o2' w1' w2' := by
  rw [h1, h2, h3, h4]

theorem normed_congr {z z' g g' b b' : Fin 1024 → EReal} (h1 : z = z') (h2 : g = g') (h3 : b = b') :
    normed z g b = normed z' g' b' := by rw [h1, h2, h3]

theorem modulated_congr {x x' g g' b b' : Fin 1024 → EReal} (h1 : x = x') (h2 : g = g') (h3 : b = b') :
    modulated x g b = modulated x' g' b' := by rw [h1, h2, h3]

theorem query_congr {h h' : Fin 1024 → EReal} {w w' : Fin 1024 → Fin 2048 → EReal} (h1 : h = h') (h2 : w = w') :
    query h w = query h' w' := by rw [h1, h2]

/-! ## The rows of the whole arrays -/

/-- The modulation row of a token: row 0 for the prompt's 8192 tokens, then one row per latent batch. -/
def seg (t : Fin 12288) : Fin 8 :=
  ⟨if (t : ℕ) < 8192 then 0 else ((t : ℕ) - 8192) / 1024 + 1, by have := t.isLt; split <;> omega⟩

/-- Modulation vector `i` of token `t`. -/
def modRow (M : FVec Ideal ⟨4, ![2, 8, 6, 1024]⟩ .f32) (i : Fin 6) (t : Fin 12288) (j : Fin 1024) : EReal :=
  M (ix4 0 (seg t) i j)

section Arrays

variable (X : FVec Ideal ⟨2, ![12288, 1024]⟩ .f32) (M : FVec Ideal ⟨4, ![2, 8, 6, 1024]⟩ .f32)
  (O1 O2 : FVec Ideal ⟨2, ![12288, 512]⟩ .bf16) (W : FVec Ideal ⟨2, ![1024, 1024]⟩ .f32)
  (G B : FVec Ideal ⟨1, ![1024]⟩ .f32) (Wq : FVec Ideal ⟨2, ![1024, 2048]⟩ .f32)
  (K1 K2 : FVec Ideal ⟨2, ![128, 128]⟩ .f32)

/-- The residual row of token `t`. -/
def zAll (t : Fin 12288) : Fin 1024 → EReal :=
  resid (fun j => X (ix2 t j)) (modRow M 2 t)
    (mixed (fun k => O1 (ix2 t k)) (fun k => O2 (ix2 t k))
      (fun k j => W (ix2 ⟨k, by omega⟩ j)) (fun k j => W (ix2 ⟨512 + k, by omega⟩ j)))

/-- The layer-normed row of token `t`. -/
def xAll (t : Fin 12288) : Fin 1024 → EReal :=
  normed (zAll X M O1 O2 W t) (fun j => G (ix1 j)) (fun j => B (ix1 j))

/-- The modulated row of token `t`. -/
def hAll (t : Fin 12288) : Fin 1024 → EReal :=
  modulated (xAll X M O1 O2 W G B t) (modRow M 4 t) (modRow M 3 t)

/-- The query row of token `t`. -/
def qAll (t : Fin 12288) : Fin 2048 → EReal :=
  query (hAll X M O1 O2 W G B t) (fun j n => Wq (ix2 j n))

/-- The first result. -/
def res0 : FVec Ideal ⟨2, ![12288, 1024]⟩ .f32 := fun i => xAll X M O1 O2 W G B (i 0) (i 1)

/-- The second result, transposed. -/
def res1 : FVec Ideal ⟨2, ![1024, 12288]⟩ .bf16 := fun i => hAll X M O1 O2 W G B (i 1) (i 0)

/-- The scores of the first expert keys, per head, key and token. -/
def res2 : FVec Ideal ⟨3, ![8, 128, 12288]⟩ .f32 := fun i =>
  ∑ d : Fin 128, K1 (ix2 (i 1) d) * qAll X M O1 O2 W G B Wq (i 2) ⟨(i 0 : ℕ) * 256 + d, by have h : (i 0 : ℕ) < 8 := (i 0).isLt; omega⟩

/-- The scores of the second expert keys. -/
def res3 : FVec Ideal ⟨3, ![8, 128, 12288]⟩ .f32 := fun i =>
  ∑ d : Fin 128, K2 (ix2 (i 1) d) * qAll X M O1 O2 W G B Wq (i 2) ⟨(i 0 : ℕ) * 256 + 128 + d, by have h : (i 0 : ℕ) < 8 := (i 0).isLt; omega⟩

end Arrays

end Cert.PostRow
-- ==== Proof.PostBody.lean ====
/- What the kernel's body computes from its blocks, entry by entry. -/
module

public import proofs.«01_k».proof.Proof.Gen.PostIdeal.Value
public import proofs.«01_k».proof.Proof.PostRow
public import Idealize.ShloMosaic.Lib.Pipeline.ValueKit
public import Idealize.ShloMosaic.Lib.Pointwise

@[expose] public section

set_option maxRecDepth 16384

noncomputable section

namespace Cert.PostIdeal.Body

open Cert.PostIdeal Cert.PostIdeal.Gen Idealize.ShloMosaic Idealize.SL.Sem
open Cert.PostRow

/-- The residual row of token `r` of a block. -/
abbrev zRow (x0 : FVec Ideal S512x1024 .f32) (x1 : FVec Ideal S1x1x6x1024 .f32) (x2 x3 : FVec Ideal S512x512 .bf16)
    (x4 x5 : FVec Ideal S512x1024 .bf16) (r : Fin 512) : Fin 1024 → EReal :=
  resid (fun j => x0 (ix2 r j)) (fun j => x1 (ix4 0 0 2 j))
    (mixed (fun k => x2 (ix2 r k)) (fun k => x3 (ix2 r k)) (fun k j => x4 (ix2 k j)) (fun k j => x5 (ix2 k j)))

variable (x0 : FVec Ideal S512x1024 .f32) (x1 : FVec Ideal S1x1x6x1024 .f32) (x2 x3 : FVec Ideal S512x512 .bf16)
  (x4 x5 : FVec Ideal S512x1024 .bf16) (x6 x7 : FVec Ideal S1x1024 .f32) (x8 : FVec Ideal S1024x2048 .bf16)

theorem centred_at (r : Fin 512) (j : Fin 1024) :
    k0_pay7 (F := Ideal) x1 x2 x4 x3 x5 x0 (ix2 r j) = centred (zRow x0 x1 x2 x3 x4 x5 r) j := by
  pointwise [k0_pay7, k0_pay4, centred, zRow, resid, mixed]

theorem variance_at (r : Fin 512) :
    k0_pay8 (F := Ideal) x1 x2 x4 x3 x5 x0 (ix2 r 0) = variance (zRow x0 x1 x2 x3 x4 x5 r) := by
  pointwise [k0_pay8]
  simp only [centred_at, variance]

theorem normed_at (v19 v21 : FVec Ideal S1x1024 .f32) (v27 : FVec Ideal S512x1024 .f32) (v32 : FVec Ideal S512x1 .f32) (r : Fin 512) (j : Fin 1024) :
    k0_pay9 (F := Ideal) v19 v21 v27 v32 (Scalar.ofBits .f32 0x358637BD#32) (ix2 r j)
      = v27 (ix2 r j) * Ideal.rsqrt (v32 (ix2 r 0) + eps) * v19 (ix2 0 j) + v21 (ix2 0 j) := by
  pointwise [k0_pay9]

theorem modulated_at (v1 : FVec Ideal S6x1024 .f32) (v19 v21 : FVec Ideal S1x1024 .f32) (v27 : FVec Ideal S512x1024 .f32)
    (v32 : FVec Ideal S512x1 .f32) (r : Fin 512) (j : Fin 1024) :
    k0_pay10 (F := Ideal) v1 v19 v21 v27 v32 (Scalar.ofBits .f32 0x358637BD#32) (ix2 r j)
      = modulated (fun j => k0_pay9 (F := Ideal) v19 v21 v27 v32 (Scalar.ofBits .f32 0x358637BD#32) (ix2 r j))
          (fun j => v1 (ix2 4 j)) (fun j => v1 (ix2 3 j)) j := by
  pointwise [k0_pay10, modulated]

theorem query_at (v1 : FVec Ideal S6x1024 .f32) (v19 v21 : FVec Ideal S1x1024 .f32) (v27 : FVec Ideal S512x1024 .f32)
    (v32 : FVec Ideal S512x1 .f32) (r : Fin 512) (n : Fin 2048) :
    k0_pay12 (F := Ideal) v1 v19 v21 v27 v32 (Scalar.ofBits .f32 0x358637BD#32) x8 (ix2 r n)
      = query (fun j => k0_pay10 (F := Ideal) v1 v19 v21 v27 v32 (Scalar.ofBits .f32 0x358637BD#32) (ix2 r j))
          (fun j n => x8 (ix2 j n)) n := by
  pointwise [k0_pay12, query]

/-- The layer-normed row of token `r` of a block. -/
abbrev xRow (r : Fin 512) : Fin 1024 → EReal :=
  normed (zRow x0 x1 x2 x3 x4 x5 r) (fun j => x6 (ix2 0 j)) (fun j => x7 (ix2 0 j))

/-- The modulated row of token `r` of a block. -/
abbrev hRow (r : Fin 512) : Fin 1024 → EReal :=
  modulated (xRow x0 x1 x2 x3 x4 x5 x6 x7 r) (fun j => x1 (ix4 0 0 4 j)) (fun j => x1 (ix4 0 0 3 j))

/-- The query row of token `r` of a block. -/
abbrev qRow (r : Fin 512) : Fin 2048 → EReal :=
  query (hRow x0 x1 x2 x3 x4 x5 x6 x7 r) (fun j n => x8 (ix2 j n))

theorem x_at (r : Fin 512) (j : Fin 1024) :
    k0_pay9 (F := Ideal) (k0_pay5 x6) (k0_pay6 x7) (k0_pay7 x1 x2 x4 x3 x5 x0) (k0_pay8 x1 x2 x4 x3 x5 x0)
      (Scalar.ofBits .f32 0x358637BD#32) (ix2 r j) = xRow x0 x1 x2 x3 x4 x5 x6 x7 r j := by
  rw [normed_at, centred_at, variance_at]
  pointwise [k0_pay5, k0_pay6, normed]

theorem h_at (r : Fin 512) (j : Fin 1024) :
    k0_pay10 (F := Ideal) (k0_pay4 x1) (k0_pay5 x6) (k0_pay6 x7) (k0_pay7 x1 x2 x4 x3 x5 x0) (k0_pay8 x1 x2 x4 x3 x5 x0)
      (Scalar.ofBits .f32 0x358637BD#32) (ix2 r j) = hRow x0 x1 x2 x3 x4 x5 x6 x7 r j := by
  rw [modulated_at]
  simp only [x_at]
  pointwise [k0_pay4, modulated]

theorem q_at (r : Fin 512) (n : Fin 2048) :
    k0_pay12 (F := Ideal) (k0_pay4 x1) (k0_pay5 x6) (k0_pay6 x7) (k0_pay7 x1 x2 x4 x3 x5 x0) (k0_pay8 x1 x2 x4 x3 x5 x0)
      (Scalar.ofBits .f32 0x358637BD#32) x8 (ix2 r n) = qRow x0 x1 x2 x3 x4 x5 x6 x7 x8 r n := by
  rw [query_at]
  simp only [h_at]

end Cert.PostIdeal.Body
-- ==== Proof.PostKernel.lean ====
/- The kernel's four result arrays are the row functions of its arguments. -/
module

public import proofs.«01_k».proof.Proof.PostBody

@[expose] public section

set_option maxRecDepth 16384

noncomputable section

namespace Cert.PostIdeal.Final

open Cert.PostIdeal Cert.PostIdeal.Gen Idealize.ShloMosaic Idealize.ShloMosaic.TcCoe Idealize.SL.Sem
open Idealize.ShloMosaic.Pipeline (Dat)
open Cert.PostRow Cert.PostIdeal.Body

variable (m : (ℓ : Loc nD τ sig) → Buf (Elt Ideal) ℓ)

/-- Each window's block index at each point. -/
theorem idx : ∀ t : Fin cfg0.N, t.val < 24 ∧ win0_0.index t = ![t.val, 0]
    ∧ win0_1.index t = ![0, if t.val < 16 then 0 else (t.val - 16) / 2 + 1, 0, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] ∧ win0_12.index t = ![0, t.val]
    ∧ win0_13.index t = ![0, 0, t.val] ∧ win0_14.index t = ![0, 0, t.val] :=
  (by decide +kernel : ∀ t : Fin grid0.N, _)

/-- Token `r` of the block at point `t`. -/
def tok (t : Fin cfg0.N) (r : Fin 512) : Fin 12288 := ⟨t.val * 512 + r, by have := (idx t).1; omega⟩

theorem seg_tok (t : Fin cfg0.N) (r : Fin 512) :
    (seg (tok t r) : ℕ) = if t.val < 16 then 0 else (t.val - 16) / 2 + 1 := by
  show (if t.val * 512 + r.val < 8192 then 0 else (t.val * 512 + r.val - 8192) / 1024 + 1) = _
  by_cases h : t.val < 16
  · rw [if_pos h, if_pos (by omega)]
  · rw [if_neg h, if_neg (by omega)]; omega

section Blocks
variable (c : Dev nD) (t : Fin cfg0.N)

theorem blk0 (r : Fin 512) (j : Fin 1024) :
    (show FVec Ideal S512x1024 .f32 from iblk m c 0 t) (ix2 r j) = m ((c : Thread nD τ).loc main_arg0) (ix2 (tok t r) j) := by
  blk_ext [iblk, V, idx t, tok]

theorem blk1 (r : Fin 512) (i : Fin 6) (j : Fin 1024) :
    (show FVec Ideal S1x1x6x1024 .f32 from iblk m c 1 t) (ix4 0 0 i j) = modRow (m ((c : Thread nD τ).loc main_arg1)) i (tok t r) j := by
  have hs : (seg (tok t r) : ℕ) = if t.val < 16 then 0 else (t.val - 16) / 2 + 1 := seg_tok t r
  unfold modRow
  blk_ext [iblk, V, idx t]

theorem blk2 (r : Fin 512) (j : Fin 512) :
    (show FVec Ideal S512x512 .bf16 from iblk m c 2 t) (ix2 r j) = m ((c : Thread nD τ).loc main_arg2) (ix2 (tok t r) j) := by
  blk_ext [iblk, V, idx t, tok]

theorem blk3 (r : Fin 512) (j : Fin 512) :
    (show FVec Ideal S512x512 .bf16 from iblk m c 3 t) (ix2 r j) = m ((c : Thread nD τ).loc main_arg3) (ix2 (tok t r) j) := by
  blk_ext [iblk, V, idx t, tok]

theorem blk4 (k : Fin 512) (j : Fin 1024) :
    (show FVec Ideal S512x1024 .bf16 from iblk m c 4 t) (ix2 k j) = (show FVec Ideal S1024x1024 .f32 from m ((c : Thread nD τ).loc main_arg4)) (ix2 ⟨k, by omega⟩ j) := by
  blk_point [iblk, V, idx t]

theorem blk6 (j : Fin 1024) :
    (show FVec Ideal S1x1024 .f32 from iblk m c 6 t) (ix2 0 j) = (show FVec Ideal S1024 .f32 from m ((c : Thread nD τ).loc main_arg5)) (ix1 j) := by
  blk_point [iblk, V, idx t]

theorem blk5 (k : Fin 512) (j : Fin 1024) :
    (show FVec Ideal S512x1024 .bf16 from iblk m c 5 t) (ix2 k j) = (show FVec Ideal S1024x1024 .f32 from m ((c : Thread nD τ).loc main_arg4)) (ix2 ⟨512 + k, by omega⟩ j) := by
  blk_point [iblk, V, idx t]

theorem blk7 (j : Fin 1024) :
    (show FVec Ideal S1x1024 .f32 from iblk m c 7 t) (ix2 0 j) = (show FVec Ideal S1024 .f32 from m ((c : Thread nD τ).loc main_arg6)) (ix1 j) := by
  blk_point [iblk, V, idx t]

theorem blk8 (k : Fin 1024) (j : Fin 2048) :
    (show FVec Ideal S1024x2048 .bf16 from iblk m c 8 t) (ix2 k j) = (show FVec Ideal S1024x2048 .f32 from m ((c : Thread nD τ).loc main_arg7)) (ix2 k j) := by
  blk_point [iblk, V, idx t]

theorem blk9 (k j : Fin 128) :
    (show FVec Ideal S128x128 .bf16 from iblk m c 9 t) (ix2 k j) = (show FVec Ideal S128x128 .f32 from m ((c : Thread nD τ).loc main_arg8)) (ix2 k j) := by
  blk_point [iblk, V, idx t]

theorem blk10 (k j : Fin 128) :
    (show FVec Ideal S128x128 .bf16 from iblk m c 10 t) (ix2 k j) = (show FVec Ideal S128x128 .f32 from m ((c : Thread nD τ).loc main_arg9)) (ix2 k j) := by
  blk_point [iblk, V, idx t]

/-- The layer-normed row of a block is the array's. -/
theorem xRow_eq (r : Fin 512) :
    xRow (iblk m c 0 t) (iblk m c 1 t) (iblk m c 2 t) (iblk m c 3 t) (iblk m c 4 t) (iblk m c 5 t) (iblk m c 6 t) (iblk m c 7 t) r
      = xAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (tok t r) := by
  exact normed_congr
    (resid_congr (funext fun j => blk0 m c t r j) (funext fun j => blk1 m c t r 2 j)
      (mixed_congr (funext fun j => blk2 m c t r j) (funext fun j => blk3 m c t r j)
        (funext fun k => funext fun j => blk4 m c t k j) (funext fun k => funext fun j => blk5 m c t k j)))
    (funext fun j => blk6 m c t j) (funext fun j => blk7 m c t j)

/-- The modulated row of a block is the array's. -/
theorem hRow_eq (r : Fin 512) :
    hRow (iblk m c 0 t) (iblk m c 1 t) (iblk m c 2 t) (iblk m c 3 t) (iblk m c 4 t) (iblk m c 5 t) (iblk m c 6 t) (iblk m c 7 t) r
      = hAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (tok t r) := by
  exact modulated_congr (xRow_eq m c t r) (funext fun j => blk1 m c t r 4 j) (funext fun j => blk1 m c t r 3 j)

/-- The query row of a block is the array's. -/
theorem qRow_eq (r : Fin 512) :
    qRow (iblk m c 0 t) (iblk m c 1 t) (iblk m c 2 t) (iblk m c 3 t) (iblk m c 4 t) (iblk m c 5 t) (iblk m c 6 t) (iblk m c 7 t) (iblk m c 8 t) r
      = qAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (tok t r) := by
  exact query_congr (hRow_eq m c t r) (funext fun k => funext fun j => blk8 m c t k j)

end Blocks

end Cert.PostIdeal.Final
-- ==== Proof.PostFinal.lean ====
/- The kernel's four result arrays after its run. -/
module

public import proofs.«01_k».proof.Proof.PostKernel

@[expose] public section

set_option maxRecDepth 16384

noncomputable section

namespace Cert.PostIdeal.Final

open Cert.PostIdeal Cert.PostIdeal.Gen Idealize.ShloMosaic Idealize.ShloMosaic.TcCoe Idealize.SL.Sem
open Idealize.ShloMosaic.Pipeline (Dat)
open Cert.PostRow Cert.PostIdeal.Body

variable (m : (ℓ : Loc nD τ sig) → Buf (Elt Ideal) ℓ)

/-- A store that multiplies the keys with 128 query columns from `off` on is head `off / 256`'s slice of the scores. -/
theorem tile {Q : FVec Ideal S512x2048 .bf16} {K : FVec Ideal S128x128 .bf16} {q : Fin 512 → Fin 2048 → EReal}
    {k : FVec Ideal S128x128 .bf16} (hQ : ∀ r n, Q (ix2 r n) = q r n) (hK : ∀ n d, K (ix2 n d) = k (ix2 n d))
    (pay : FVec Ideal S1x128x512 .f32) (off : ℕ) (hoff : off + 128 ≤ 2048)
    (hp : ∀ (a : Fin 1) (n : Fin 128) (r : Fin 512),
      pay (ix3 a n r) = ∑ d : Fin 128, K (ix2 n d) * Q (ix2 r ⟨off + d, by omega⟩))
    (x : S1x128x512.Idx) (n : Fin 128) (r : Fin 512) (f : Fin 128 → Fin 2048) (h0 : ∀ d, (f d : ℕ) = off + d)
    (h1 : n = (x 1 : Fin 128)) (h2 : r = (x 2 : Fin 512)) :
    pay x = ∑ d : Fin 128, k (ix2 n d) * q r (f d) := by
  obtain ⟨a, n', r', rfl⟩ : ∃ a n' r', x = ix3 a n' r' := ⟨_, _, _, eq_ix3 x⟩
  have h1 : n = n' := h1
  have h2 : r = r' := h2
  subst h1 h2
  refine (hp _ _ _).trans (Finset.sum_congr rfl fun d _ => ?_)
  rw [hQ, hK]
  exact congrArg (fun y => k (ix2 n d) * q r y) (Fin.ext (h0 d).symm)

section Pieces
variable (x0 : FVec Ideal S512x1024 .f32) (x1 : FVec Ideal S1x1x6x1024 .f32) (x2 x3 : FVec Ideal S512x512 .bf16)
  (x4 x5 : FVec Ideal S512x1024 .bf16) (x6 x7 : FVec Ideal S1x1024 .f32) (x8 : FVec Ideal S1024x2048 .bf16)
  (x9 x10 : FVec Ideal S128x128 .bf16)

theorem open31 : k0_pay31 (F := Ideal) x0 x1 x2 x3 x4 x5 x6 x7 x8 x9 x10 = k0_pay4 x1 := by
  unfold k0_pay31
  frame_out

theorem open32 : k0_pay32 (F := Ideal) x0 x1 x2 x3 x4 x5 x6 x7 x8 x9 x10 = k0_pay5 x6 := by
  unfold k0_pay32
  frame_out

theorem open33 : k0_pay33 (F := Ideal) x0 x1 x2 x3 x4 x5 x6 x7 x8 x9 x10 = k0_pay6 x7 := by
  unfold k0_pay33
  frame_out

theorem open34 : k0_pay34 (F := Ideal) x0 x1 x2 x3 x4 x5 x6 x7 x8 x9 x10 = k0_pay7 x1 x2 x4 x3 x5 x0 := by
  unfold k0_pay34
  frame_out

theorem open35 : k0_pay35 (F := Ideal) x0 x1 x2 x3 x4 x5 x6 x7 x8 x9 x10 = k0_pay8 x1 x2 x4 x3 x5 x0 := by
  unfold k0_pay35
  frame_out

theorem query36 (r : Fin 512) (n : Fin 2048) :
    k0_pay36 (F := Ideal) x0 x1 x2 x3 x4 x5 x6 x7 x8 x9 x10 (ix2 r n) = qRow x0 x1 x2 x3 x4 x5 x6 x7 x8 r n := by
  unfold k0_pay36 k0_pay31 k0_pay32 k0_pay33 k0_pay34 k0_pay35
  frame_out
  exact q_at _ _ _ _ _ _ _ _ _ _ _

theorem keys37 (n d : Fin 128) :
    k0_pay37 (F := Ideal) x0 x1 x2 x3 x4 x5 x6 x7 x8 x9 x10 (ix2 n d) = x9 (ix2 n d) := by
  unfold k0_pay37
  frame_out
  pointwise [k0_pay13]

theorem keys38 (n d : Fin 128) :
    k0_pay38 (F := Ideal) x0 x1 x2 x3 x4 x5 x6 x7 x8 x9 x10 (ix2 n d) = x10 (ix2 n d) := by
  unfold k0_pay38
  frame_out
  pointwise [k0_pay14]
theorem out11_at (r : Fin 512) (j : Fin 1024) :
    out0_11 (F := Ideal) x0 x1 x2 x3 x4 x5 x6 x7 x8 x9 x10 (ix2 r j) = xRow x0 x1 x2 x3 x4 x5 x6 x7 r j := by
  frame_out
  rw [open32, open33, open34, open35]
  exact x_at _ _ _ _ _ _ _ _ _ _

theorem out12_at (j : Fin 1024) (r : Fin 512) :
    out0_12 (F := Ideal) x0 x1 x2 x3 x4 x5 x6 x7 x8 x9 x10 (ix2 j r) = hRow x0 x1 x2 x3 x4 x5 x6 x7 r j := by
  frame_out
  rw [open31, open32, open33, open34, open35]
  pointwise [k0_pay11]
  exact h_at _ _ _ _ _ _ _ _ _ _

/-- Every store of the first scores is one head's product of keys and queries. -/
theorem out13_at (hd : Fin 8) (n : Fin 128) (r : Fin 512) :
    out0_13 (F := Ideal) x0 x1 x2 x3 x4 x5 x6 x7 x8 x9 x10 (ix3 hd n r)
      = ∑ d : Fin 128, x9 (ix2 n d) * qRow x0 x1 x2 x3 x4 x5 x6 x7 x8 r ⟨(hd : ℕ) * 256 + d, by omega⟩ := by
  unfold out0_13
  canon_tiles x h
  · exact tile (query36 x0 x1 x2 x3 x4 x5 x6 x7 x8 x9 x10) (keys37 x0 x1 x2 x3 x4 x5 x6 x7 x8 x9 x10) _ 1792 (by omega)
      (fun a n r => by pointwise [k0_pay2]) x n r _ (fun d => by have := h0; simp only [ix3_0] at this; simp only []; omega) (Fin.ext h1) (Fin.ext h2)
  · exact tile (query36 x0 x1 x2 x3 x4 x5 x6 x7 x8 x9 x10) (keys37 x0 x1 x2 x3 x4 x5 x6 x7 x8 x9 x10) _ 1536 (by omega)
      (fun a n r => by pointwise [k0_pay29]) x n r _ (fun d => by have := h0; simp only [ix3_0] at this; simp only []; omega) (Fin.ext h1) (Fin.ext h2)
  · exact tile (query36 x0 x1 x2 x3 x4 x5 x6 x7 x8 x9 x10) (keys37 x0 x1 x2 x3 x4 x5 x6 x7 x8 x9 x10) _ 1280 (by omega)
      (fun a n r => by pointwise [k0_pay27]) x n r _ (fun d => by have := h0; simp only [ix3_0] at this; simp only []; omega) (Fin.ext h1) (Fin.ext h2)
  · exact tile (query36 x0 x1 x2 x3 x4 x5 x6 x7 x8 x9 x10) (keys37 x0 x1 x2 x3 x4 x5 x6 x7 x8 x9 x10) _ 1024 (by omega)
      (fun a n r => by pointwise [k0_pay25]) x n r _ (fun d => by have := h0; simp only [ix3_0] at this; simp only []; omega) (Fin.ext h1) (Fin.ext h2)
  · exact tile (query36 x0 x1 x2 x3 x4 x5 x6 x7 x8 x9 x10) (keys37 x0 x1 x2 x3 x4 x5 x6 x7 x8 x9 x10) _ 768 (by omega)
      (fun a n r => by pointwise [k0_pay22]) x n r _ (fun d => by have := h0; simp only [ix3_0] at this; simp only []; omega) (Fin.ext h1) (Fin.ext h2)
  · exact tile (query36 x0 x1 x2 x3 x4 x5 x6 x7 x8 x9 x10) (keys37 x0 x1 x2 x3 x4 x5 x6 x7 x8 x9 x10) _ 512 (by omega)
      (fun a n r => by pointwise [k0_pay20]) x n r _ (fun d => by have := h0; simp only [ix3_0] at this; simp only []; omega) (Fin.ext h1) (Fin.ext h2)
  · exact tile (query36 x0 x1 x2 x3 x4 x5 x6 x7 x8 x9 x10) (keys37 x0 x1 x2 x3 x4 x5 x6 x7 x8 x9 x10) _ 256 (by omega)
      (fun a n r => by pointwise [k0_pay18]) x n r _ (fun d => by have := h0; simp only [ix3_0] at this; simp only []; omega) (Fin.ext h1) (Fin.ext h2)
  · rw [open31, open32, open33, open34, open35]
    frame_out
    exact tile (Q := k0_pay12 (F := Ideal) (k0_pay4 x1) (k0_pay5 x6) (k0_pay6 x7) (k0_pay7 x1 x2 x4 x3 x5 x0)
        (k0_pay8 x1 x2 x4 x3 x5 x0) (Scalar.ofBits .f32 0x358637BD#32) x8) (K := x9)
      (q_at x0 x1 x2 x3 x4 x5 x6 x7 x8) (fun _ _ => rfl) _ 0 (by omega)
      (fun a n r => by pointwise [k0_pay15, k0_pay13]) x n r _ (fun d => by have := h0; simp only [ix3_0] at this; simp only []; omega) (Fin.ext h1) (Fin.ext h2)

/-- The same for the second scores. -/
theorem out14_at (hd : Fin 8) (n : Fin 128) (r : Fin 512) :
    out0_14 (F := Ideal) x0 x1 x2 x3 x4 x5 x6 x7 x8 x9 x10 (ix3 hd n r)
      = ∑ d : Fin 128, x10 (ix2 n d) * qRow x0 x1 x2 x3 x4 x5 x6 x7 x8 r ⟨(hd : ℕ) * 256 + 128 + d, by omega⟩ := by
  unfold out0_14
  canon_tiles x h
  · exact tile (query36 x0 x1 x2 x3 x4 x5 x6 x7 x8 x9 x10) (keys38 x0 x1 x2 x3 x4 x5 x6 x7 x8 x9 x10) _ 1920 (by omega)
      (fun a n r => by pointwise [k0_pay3]) x n r _ (fun d => by have := h0; simp only [ix3_0] at this; simp only []; omega) (Fin.ext h1) (Fin.ext h2)
  · exact tile (query36 x0 x1 x2 x3 x4 x5 x6 x7 x8 x9 x10) (keys38 x0 x1 x2 x3 x4 x5 x6 x7 x8 x9 x10) _ 1664 (by omega)
      (fun a n r => by pointwise [k0_pay1, k0_pay30]) x n r _ (fun d => by have := h0; simp only [ix3_0] at this; simp only []; omega) (Fin.ext h1) (Fin.ext h2)
  · exact tile (query36 x0 x1 x2 x3 x4 x5 x6 x7 x8 x9 x10) (keys38 x0 x1 x2 x3 x4 x5 x6 x7 x8 x9 x10) _ 1408 (by omega)
      (fun a n r => by pointwise [k0_pay28]) x n r _ (fun d => by have := h0; simp only [ix3_0] at this; simp only []; omega) (Fin.ext h1) (Fin.ext h2)
  · exact tile (query36 x0 x1 x2 x3 x4 x5 x6 x7 x8 x9 x10) (keys38 x0 x1 x2 x3 x4 x5 x6 x7 x8 x9 x10) _ 1152 (by omega)
      (fun a n r => by pointwise [k0_pay26]) x n r _ (fun d => by have := h0; simp only [ix3_0] at this; simp only []; omega) (Fin.ext h1) (Fin.ext h2)
  · exact tile (query36 x0 x1 x2 x3 x4 x5 x6 x7 x8 x9 x10) (keys38 x0 x1 x2 x3 x4 x5 x6 x7 x8 x9 x10) _ 896 (by omega)
      (fun a n r => by pointwise [k0_pay24, k0_pay23]) x n r _ (fun d => by have := h0; simp only [ix3_0] at this; simp only []; omega) (Fin.ext h1) (Fin.ext h2)
  · exact tile (query36 x0 x1 x2 x3 x4 x5 x6 x7 x8 x9 x10) (keys38 x0 x1 x2 x3 x4 x5 x6 x7 x8 x9 x10) _ 640 (by omega)
      (fun a n r => by pointwise [k0_pay21]) x n r _ (fun d => by have := h0; simp only [ix3_0] at this; simp only []; omega) (Fin.ext h1) (Fin.ext h2)
  · exact tile (query36 x0 x1 x2 x3 x4 x5 x6 x7 x8 x9 x10) (keys38 x0 x1 x2 x3 x4 x5 x6 x7 x8 x9 x10) _ 384 (by omega)
      (fun a n r => by pointwise [k0_pay19]) x n r _ (fun d => by have := h0; simp only [ix3_0] at this; simp only []; omega) (Fin.ext h1) (Fin.ext h2)
  · rw [open31, open32, open33, open34, open35]
    frame_out
    exact tile (Q := k0_pay12 (F := Ideal) (k0_pay4 x1) (k0_pay5 x6) (k0_pay6 x7) (k0_pay7 x1 x2 x4 x3 x5 x0)
        (k0_pay8 x1 x2 x4 x3 x5 x0) (Scalar.ofBits .f32 0x358637BD#32) x8) (K := x10)
      (q_at x0 x1 x2 x3 x4 x5 x6 x7 x8) (fun _ _ => rfl) _ 128 (by omega)
      (fun a n r => by pointwise [k0_pay17, k0_pay16, k0_pay14]) x n r _ (fun d => by have := h0; simp only [ix3_0] at this; simp only []; omega) (Fin.ext h1) (Fin.ext h2)

end Pieces

/-- The layer-normed rows. -/
theorem final11 (c : Dev nD) : (dats m 0 c).arrAt 11 (cfgs 0).N
    = res0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 11 _ (by decide +kernel) fun t _ y => ?_
  blk_simp
  rw [after0_11]
  idx_vars y
  have e : ((cfg0.win 11).blk t).view.emb (ix2 y0 y1) = ix2 (tok t y0) (y1) := by blk_ext [idx t, tok]
  rw [e]
  exact (out11_at _ _ _ _ _ _ _ _ _ _ _ y0 y1).trans (congrFun (xRow_eq m c t y0) y1)

/-- The modulated rows, transposed. -/
theorem final12 (c : Dev nD) : (dats m 0 c).arrAt 12 (cfgs 0).N
    = res1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 12 _ (by decide +kernel) fun t _ y => ?_
  blk_simp
  rw [after0_12]
  idx_vars y
  have e : ((cfg0.win 12).blk t).view.emb (ix2 y0 y1) = ix2 (y0) (tok t y1) := by blk_ext [idx t, tok]
  rw [e]
  exact (out12_at _ _ _ _ _ _ _ _ _ _ _ y0 y1).trans (congrFun (hRow_eq m c t y1) y0)

/-- The scores of the first keys. -/
theorem final13 (c : Dev nD) : (dats m 0 c).arrAt 13 (cfgs 0).N
    = res2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t _ y => ?_
  blk_simp
  rw [after0_13]
  idx_vars y
  have e : ((cfg0.win 13).blk t).view.emb (ix3 y0 y1 y2) = ix3 y0 y1 (tok t y2) := by blk_ext [idx t, tok]
  rw [e]
  refine (out13_at _ _ _ _ _ _ _ _ _ _ _ y0 y1 y2).trans (Finset.sum_congr rfl fun d _ => ?_)
  exact congrArg₂ (fun a b : EReal => a * b) (blk9 m c t y1 d) (congrFun (qRow_eq m c t y2) _)

/-- The scores of the second keys. -/
theorem final14 (c : Dev nD) : (dats m 0 c).arrAt 14 (cfgs 0).N
    = res3 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg9)) := by
  refine (dats m 0 c).arrAt_eq_of_covers 14 _ (by decide +kernel) fun t _ y => ?_
  blk_simp
  rw [after0_14]
  idx_vars y
  have e : ((cfg0.win 14).blk t).view.emb (ix3 y0 y1 y2) = ix3 y0 y1 (tok t y2) := by blk_ext [idx t, tok]
  rw [e]
  refine (out14_at _ _ _ _ _ _ _ _ _ _ _ y0 y1 y2).trans (Finset.sum_congr rfl fun d _ => ?_)
  exact congrArg₂ (fun a b : EReal => a * b) (blk10 m c t y1 d) (congrFun (qRow_eq m c t y2) _)

end Cert.PostIdeal.Final
-- ==== Proof.PostReference.lean ====
/- The reference's four results are the same row functions. -/
module

public import proofs.«01_k».proof.Proof.Gen.PostRefIdeal.Read
public import proofs.«01_k».proof.Proof.PostRow
public import Idealize.ShloMosaic.Lib.Pipeline.ValueKit

@[expose] public section

set_option maxRecDepth 16384

noncomputable section

namespace Cert.PostRefIdeal.Rows

open Cert.PostRefIdeal Cert.PostRefIdeal.Gen Cert.PostRefIdeal.Read Idealize.ShloMosaic Idealize.ShloMosaic.TcCoe Idealize.SL.Sem
open Cert.PostRow

variable (X : FVec Ideal S12288x1024 .f32) (M : FVec Ideal S2x8x6x1024 .f32) (O1 O2 : FVec Ideal S12288x512 .bf16)
  (W : FVec Ideal S1024x1024 .f32) (G B : FVec Ideal S1024 .f32) (Wq : FVec Ideal S1024x2048 .f32)
  (K1 K2 : FVec Ideal S128x128 .f32)

theorem mod_eq (i : Fin 6) (t : Fin 12288) (j : Fin 1024) (v : EReal)
    (h : v = if h : (t : ℕ) < 8192 then M (ix4 0 0 i j) else M (ix4 0 ⟨1 + ((t : ℕ) - 8192) / 1024, by omega⟩ i j)) :
    v = modRow M i t j := by
  rw [h]
  unfold modRow seg
  by_cases ht : (t : ℕ) < 8192
  · rw [dif_pos ht]
    exact congrArg M (by blk_ext [if_pos ht])
  · rw [dif_neg ht]
    exact congrArg M (by blk_ext [if_neg ht])

theorem gate_at (t : Fin 12288) (j : Fin 1024) : val_main_v13 (F := Ideal) M (ix2 t j) = modRow M 2 t j := by
  refine mod_eq M 2 t j _ ?_
  pointwise [val_main_v13, val_main_v12, val_main_v11, val_main_v10, val_main_v9, val_main_v8, val_main_v7, val_main_v6, val_main_v5]

theorem scale_at (t : Fin 12288) (j : Fin 1024) : val_main_v49 (F := Ideal) M (ix2 t j) = modRow M 4 t j := by
  refine mod_eq M 4 t j _ ?_
  pointwise [val_main_v49, val_main_v48, val_main_v47, val_main_v46, val_main_v45, val_main_v44, val_main_v43, val_main_v42, val_main_v41]

theorem shift_at (t : Fin 12288) (j : Fin 1024) : val_main_v61 (F := Ideal) M (ix2 t j) = modRow M 3 t j := by
  refine mod_eq M 3 t j _ ?_
  pointwise [val_main_v61, val_main_v60, val_main_v59, val_main_v58, val_main_v57, val_main_v56, val_main_v55, val_main_v54, val_main_v53]

theorem z_at (t : Fin 12288) (j : Fin 1024) : val_main_v16 (F := Ideal) X M O1 O2 W (ix2 t j) = zAll X M O1 O2 W t j := by
  pointwise [val_main_v16, val_main_v4, val_main_v3, val_main_cst, val_main_v15, val_main_v14, val_main_v2, val_main_v0, val_main_v1,
    gate_at, zAll, resid, mixed]

theorem centred_at (t : Fin 12288) (j : Fin 1024) :
    val_main_v22 (F := Ideal) X M O1 O2 W (ix2 t j) = centred (zAll X M O1 O2 W t) j := by
  pointwise [val_main_v22, val_main_v21, val_main_v20, val_main_v19, val_main_cst_1, val_main_v18, val_main_v17, val_main_cst_0, z_at, centred]

theorem variance_at (t : Fin 12288) :
    val_main_v27 (F := Ideal) X M O1 O2 W (ix2 t 0) = variance (zAll X M O1 O2 W t) := by
  pointwise [val_main_v27, val_main_v26, val_main_v25, val_main_v24, val_main_v23, val_main_cst_2, val_main_cst_3, centred_at, variance]

theorem x_at (t : Fin 12288) (j : Fin 1024) :
    val_main_v40 (F := Ideal) X M O1 O2 W G B (ix2 t j) = xAll X M O1 O2 W G B t j := by
  have h : val_main_v29 (F := Ideal) X M O1 O2 W (ix2 t j) = centred (zAll X M O1 O2 W t) j := centred_at X M O1 O2 W t j
  pointwise [val_main_v40, val_main_v39, val_main_v38, val_main_v37, val_main_v36, val_main_v35, val_main_v34, val_main_v33, val_main_v32, val_main_v31, val_main_v30, val_main_cst_4, h, variance_at, xAll, normed]

theorem h_at (t : Fin 12288) (j : Fin 1024) :
    val_main_v62 (F := Ideal) X M O1 O2 W G B (ix2 t j) = hAll X M O1 O2 W G B t j := by
  pointwise [val_main_v62, val_main_v52, val_main_v51, val_main_v50, val_main_cst_5, shift_at, scale_at, x_at, hAll, modulated]

theorem q_at (t : Fin 12288) (n : Fin 2048) :
    val_main_v63 (F := Ideal) X M O1 O2 W G B Wq (ix2 t n) = qAll X M O1 O2 W G B Wq t n := by
  pointwise [val_main_v63, h_at, qAll, query]

theorem res0_eq : val_main_v40 (F := Ideal) X M O1 O2 W G B = res0 X M O1 O2 W G B := by
  funext i; idx_vars i; exact x_at X M O1 O2 W G B i0 i1

theorem res1_eq : val_main_v70 (F := Ideal) X M O1 O2 W G B = res1 X M O1 O2 W G B := by
  funext i; idx_vars i
  pointwise [val_main_v70, val_main_v69]
  exact h_at X M O1 O2 W G B i1 i0

theorem res2_eq : val_main_v71 (F := Ideal) X M O1 O2 W G B Wq K1 = res2 X M O1 O2 W G B Wq K1 := by
  funext i; idx_vars i
  pointwise [val_main_v71, val_main_v66, val_main_v65, val_main_v64, q_at, res2]
  exact Finset.sum_congr rfl fun x _ => mul_comm _ _

theorem res3_eq : val_main_v72 (F := Ideal) X M O1 O2 W G B Wq K2 = res3 X M O1 O2 W G B Wq K2 := by
  funext i; idx_vars i
  pointwise [val_main_v72, val_main_v68, val_main_v67, val_main_v64, q_at, res3]
  refine Finset.sum_congr rfl fun x _ => (mul_comm _ _).trans ?_
  exact congrArg (fun u => _ * qAll X M O1 O2 W G B Wq i2 u) (Fin.ext (Nat.add_assoc _ _ _).symm)

end Cert.PostRefIdeal.Rows
-- ==== Proof.PostClaims.lean ====
/- The value claim of the post-mixer call: kernel and reference end with the same four arrays. -/
module

public import proofs.«01_k».proof.Defs
public import proofs.«01_k».proof.Proof.Gen.PostRefIdeal.Run
public import proofs.«01_k».proof.Proof.PostFinal
public import proofs.«01_k».proof.Proof.PostReference

@[expose] public section

set_option maxRecDepth 16384

noncomputable section

namespace Cert.Proof.PostClaims

open Idealize.ShloMosaic Idealize.SL.Sem

theorem algebraic : Cert.algebraic_PostIdeal_PostRefIdeal := by
  intro m ρ m' ρ' _ hagree
  refine ⟨fun c => Cert.PostRow.res0 (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)),
    fun c => Cert.PostRow.res1 (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)),
    fun c => Cert.PostRow.res2 (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)),
    fun c => Cert.PostRow.res3 (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg9)), ?_, ?_⟩
  · exact (θ_run Cert.PostIdeal.defs _ _).mono
      (fun _ h c => ⟨(h c).1.trans (Cert.PostIdeal.Final.final11 m c),
        (h c).2.1.trans (Cert.PostIdeal.Final.final12 m c),
        (h c).2.2.1.trans (Cert.PostIdeal.Final.final13 m c),
        (h c).2.2.2.1.trans (Cert.PostIdeal.Final.final14 m c), (h c).2.2.2.2⟩)
      (Cert.PostIdeal.Value.run_blocks m ρ)
  refine (θ_run Cert.PostRefIdeal.defs _ _).mono (fun r h c => ?_) (Cert.PostRefIdeal.Value.run (F := Ideal) m' ρ')
  obtain ⟨e0, e1, e2, e3, e4, e5, e6, e7, e8, e9⟩ := hagree c
  obtain ⟨h0, h1, h2, h3, hk⟩ := h c
  refine ⟨h0.trans ?_, h1.trans ?_, h2.trans ?_, h3.trans ?_, hk⟩
  · rw [Cert.PostRefIdeal.Read.val_main_v40_eq, e0, e1, e2, e3, e4, e5, e6]
    exact Cert.PostRefIdeal.Rows.res0_eq _ _ _ _ _ _ _
  · rw [Cert.PostRefIdeal.Read.val_main_v70_eq, e0, e1, e2, e3, e4, e5, e6]
    exact Cert.PostRefIdeal.Rows.res1_eq _ _ _ _ _ _ _
  · rw [Cert.PostRefIdeal.Read.val_main_v71_eq, e0, e1, e2, e3, e4, e5, e6, e7, e8]
    exact Cert.PostRefIdeal.Rows.res2_eq _ _ _ _ _ _ _ _ _
  · rw [Cert.PostRefIdeal.Read.val_main_v72_eq, e0, e1, e2, e3, e4, e5, e6, e7, e9]
    exact Cert.PostRefIdeal.Rows.res3_eq _ _ _ _ _ _ _ _ _

end Cert.Proof.PostClaims
-- ==== Proof.AttnMath.lean ====
module

public import Idealize.ShloMosaic.Lib.IdealHost

@[expose] public section

/-! # Softmax over two runs of keys

The kernel attends to the current request's keys and to its cached keys as two separate runs with a
common maximum, and divides once at the end.  The reference attends to the two runs laid end to end,
and divides every weight.  On real scores and values the two agree.  A run of lemmas says which of
the quantities involved are real numbers. -/

noncomputable section

namespace Cert.AttnMath

open Idealize.ShloMosaic

/-- The extended real is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.exp {x : EReal} (hx : IsReal x) : IsReal (Ideal.exp x) := by
  obtain ⟨a, rfl⟩ := hx; exact ⟨Real.exp a, Ideal.exp_coe a⟩

/-- A finite sum of reals, formed among the extended reals, is the real sum. -/
theorem coe_sum {ι : Type} (s : Finset ι) (f : ι → ℝ) :
    (((∑ k ∈ s, f k : ℝ)) : EReal) = ∑ k ∈ s, (f k : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ k, IsReal (f k)) : IsReal (∑ k, f k) := by
  choose g hg using h
  exact ⟨∑ k, g k, by rw [coe_sum]; exact Finset.sum_congr rfl fun k _ => hg k⟩

/-- The largest entry of a row, started from the least extended real. -/
def rowMax {n : ℕ} (f : Fin n → EReal) : EReal :=
  Finset.fold max (Ideal.ofBits .f32 0xFF800000#32) f Finset.univ

theorem negInf_eq : Ideal.ofBits .f32 0xFF800000#32 = ⊥ := by simp [Ideal.ofBits, Ideal.ieee]

theorem rowMax_eq_sup {n : ℕ} (f : Fin n → EReal) : rowMax f = Finset.univ.sup f := by
  unfold rowMax; rw [negInf_eq]; rfl

theorem le_rowMax {n : ℕ} (f : Fin n → EReal) (k : Fin n) : f k ≤ rowMax f := by
  rw [rowMax_eq_sup]; exact Finset.le_sup (Finset.mem_univ k)

theorem rowMax_le {n : ℕ} {f : Fin n → EReal} {b : EReal} (h : ∀ k, f k ≤ b) : rowMax f ≤ b := by
  rw [rowMax_eq_sup]; exact Finset.sup_le fun k _ => h k

/-- The largest entry of a row of reals that is not empty is real. -/
theorem rowMax_real {n : ℕ} (hn : 0 < n) {f : Fin n → EReal} (h : ∀ k, IsReal (f k)) : IsReal (rowMax f) := by
  rw [rowMax_eq_sup]
  obtain ⟨k, -, hk⟩ := Finset.exists_mem_eq_sup Finset.univ ⟨⟨0, hn⟩, Finset.mem_univ _⟩ f
  rw [hk]; exact h k

/-- The largest entry of two runs is the larger of their largest entries. -/
theorem rowMax_split {a b n : ℕ} (hn : n = a + b) (s : Fin n → EReal) (s1 : Fin a → EReal) (s2 : Fin b → EReal)
    (h1 : ∀ k : Fin a, s1 k = s ⟨k, by omega⟩) (h2 : ∀ k : Fin b, s2 k = s ⟨a + k, by omega⟩) :
    max (rowMax s1) (rowMax s2) = rowMax s := by
  refine le_antisymm (max_le (rowMax_le fun k => ?_) (rowMax_le fun k => ?_)) (rowMax_le fun k => ?_)
  · rw [h1]; exact le_rowMax s _
  · rw [h2]; exact le_rowMax s _
  · by_cases hk : k.val < a
    · exact le_trans (le_of_eq (h1 ⟨k, hk⟩).symm) (le_trans (le_rowMax s1 _) (le_max_left _ _))
    · have e : s k = s2 ⟨k - a, by omega⟩ := by
        rw [h2]; exact congrArg s (Fin.ext (by simp only []; omega))
      rw [e]; exact le_trans (le_rowMax s2 _) (le_max_right _ _)

/-- A sum over two runs laid end to end. -/
theorem sum_split {a b n : ℕ} (hn : n = a + b) (f : Fin n → EReal) (f1 : Fin a → EReal) (f2 : Fin b → EReal)
    (h1 : ∀ k : Fin a, f1 k = f ⟨k, by omega⟩) (h2 : ∀ k : Fin b, f2 k = f ⟨a + k, by omega⟩) :
    ∑ k, f k = ∑ k, f1 k + ∑ k, f2 k := by
  subst hn
  rw [Fin.sum_univ_add]
  exact congrArg₂ (· + ·) (Finset.sum_congr rfl fun k _ => (h1 k).symm) (Finset.sum_congr rfl fun k _ => (h2 k).symm)

/-- Attention over two runs of keys: common maximum, one division at the end. -/
def two {a b : ℕ} (s1 v1 : Fin a → EReal) (s2 v2 : Fin b → EReal) : EReal :=
  Ideal.div (∑ k, Ideal.exp (s1 k - max (rowMax s1) (rowMax s2)) * v1 k
      + ∑ k, Ideal.exp (s2 k - max (rowMax s1) (rowMax s2)) * v2 k)
    (∑ k, Ideal.exp (s1 k - max (rowMax s1) (rowMax s2)) + ∑ k, Ideal.exp (s2 k - max (rowMax s1) (rowMax s2)))

/-- The softmax weight of one key among all. -/
def wt {n : ℕ} (s : Fin n → EReal) (k : Fin n) : EReal :=
  Ideal.div (Ideal.exp (s k - rowMax s)) (∑ j, Ideal.exp (s j - rowMax s))

theorem wt_coe {n : ℕ} (hn : 0 < n) {s : Fin n → EReal} (hs : ∀ k, IsReal (s k)) :
    ∃ (w : Fin n → ℝ) (d : ℝ), d ≠ 0 ∧ (∀ k, Ideal.exp (s k - rowMax s) = (w k : EReal)) ∧
      ∑ j, Ideal.exp (s j - rowMax s) = (d : EReal) ∧ ∀ k, wt s k = ((w k * (1 / d) : ℝ) : EReal) := by
  obtain ⟨M, hM⟩ := rowMax_real hn hs
  choose g hg using hs
  have e : ∀ k, Ideal.exp (s k - rowMax s) = ((Real.exp (g k - M) : ℝ) : EReal) := fun k => by
    rw [hM, hg, ← EReal.coe_sub, Ideal.exp_coe]
  have ed : ∑ j, Ideal.exp (s j - rowMax s) = ((∑ j, Real.exp (g j - M) : ℝ) : EReal) := by
    rw [coe_sum]; exact Finset.sum_congr rfl fun k _ => e k
  have hd : (∑ j, Real.exp (g j - M) : ℝ) ≠ 0 :=
    ne_of_gt (Finset.sum_pos (fun k _ => Real.exp_pos _) ⟨⟨0, hn⟩, Finset.mem_univ _⟩)
  refine ⟨_, _, hd, e, ed, fun k => ?_⟩
  unfold wt
  rw [ed, e, Ideal.div_coe hd, ← EReal.coe_mul]

theorem wt_real {n : ℕ} (hn : 0 < n) {s : Fin n → EReal} (hs : ∀ k, IsReal (s k)) (k : Fin n) : IsReal (wt s k) := by
  obtain ⟨w, d, -, -, -, h⟩ := wt_coe hn hs
  rw [h]; exact IsReal.coe _

/-- Two runs with one division are the weighted sum over the runs laid end to end. -/
theorem two_eq {a b n : ℕ} (ha : 0 < n) (hn : n = a + b) (s v : Fin n → EReal) (hs : ∀ k, IsReal (s k))
    (hv : ∀ k, IsReal (v k)) (s1 v1 : Fin a → EReal) (s2 v2 : Fin b → EReal)
    (h1 : ∀ k : Fin a, s1 k = s ⟨k, by omega⟩) (h2 : ∀ k : Fin b, s2 k = s ⟨a + k, by omega⟩)
    (g1 : ∀ k : Fin a, v1 k = v ⟨k, by omega⟩) (g2 : ∀ k : Fin b, v2 k = v ⟨a + k, by omega⟩) :
    two s1 v1 s2 v2 = ∑ k, wt s k * v k := by
  unfold two
  rw [rowMax_split hn s s1 s2 h1 h2]
  rw [← sum_split hn (fun k => Ideal.exp (s k - rowMax s) * v k) _ _ (fun k => by rw [h1, g1]) (fun k => by rw [h2, g2]),
    ← sum_split hn (fun k => Ideal.exp (s k - rowMax s)) _ _ (fun k => by rw [h1]) (fun k => by rw [h2])]
  obtain ⟨w, d, hd, e, ed, hw⟩ := wt_coe ha hs
  choose g hg using hv
  rw [ed, Ideal.div_coe hd]
  have l : ∑ k, Ideal.exp (s k - rowMax s) * v k = ((∑ k, w k * g k : ℝ) : EReal) := by
    rw [coe_sum]; exact Finset.sum_congr rfl fun k _ => by rw [e, hg, ← EReal.coe_mul]
  have r : ∑ k, wt s k * v k = ((∑ k, w k * (1 / d) * g k : ℝ) : EReal) := by
    rw [coe_sum]; exact Finset.sum_congr rfl fun k _ => by rw [hw, hg, ← EReal.coe_mul]
  rw [l, r, ← EReal.coe_mul, Finset.sum_mul]
  exact congrArg _ (Finset.sum_congr rfl fun k _ => by ring)

/-- A difference of two weights acts on the values as the difference of the two attentions. -/
theorem wt_diff {n : ℕ} {w w' v : Fin n → EReal} {lam : EReal} (hw : ∀ k, IsReal (w k)) (hw' : ∀ k, IsReal (w' k))
    (hv : ∀ k, IsReal (v k)) (hl : IsReal lam) :
    ∑ k, (w k - lam * w' k) * v k = ∑ k, w k * v k - lam * ∑ k, w' k * v k := by
  choose f hf using hw
  choose f' hf' using hw'
  choose g hg using hv
  obtain ⟨l, rfl⟩ := hl
  have e1 : ∑ k, (w k - (l : EReal) * w' k) * v k = ((∑ k, (f k - l * f' k) * g k : ℝ) : EReal) := by
    rw [coe_sum]
    exact Finset.sum_congr rfl fun k _ => by rw [hf, hf', hg, ← EReal.coe_mul, ← EReal.coe_sub, ← EReal.coe_mul]
  have e2 : ∑ k, w k * v k = ((∑ k, f k * g k : ℝ) : EReal) := by
    rw [coe_sum]; exact Finset.sum_congr rfl fun k _ => by rw [hf, hg, ← EReal.coe_mul]
  have e3 : ∑ k, w' k * v k = ((∑ k, f' k * g k : ℝ) : EReal) := by
    rw [coe_sum]; exact Finset.sum_congr rfl fun k _ => by rw [hf', hg, ← EReal.coe_mul]
  rw [e1, e2, e3, ← EReal.coe_mul, ← EReal.coe_sub, Finset.mul_sum, ← Finset.sum_sub_distrib]
  exact congrArg _ (Finset.sum_congr rfl fun k _ => by ring)

/-- Scaling the query's entries scales the score. -/
theorem scale_first {n : ℕ} {q k : Fin n → EReal} {c : EReal} (hq : ∀ j, IsReal (q j)) (hk : ∀ j, IsReal (k j))
    (hc : IsReal c) : ∑ j, q j * c * k j = (∑ j, q j * k j) * c := by
  choose f hf using hq
  choose g hg using hk
  obtain ⟨c, rfl⟩ := hc
  have e1 : ∑ j, q j * (c : EReal) * k j = ((∑ j, f j * c * g j : ℝ) : EReal) := by
    rw [coe_sum]; exact Finset.sum_congr rfl fun j _ => by rw [hf, hg, ← EReal.coe_mul, ← EReal.coe_mul]
  have e2 : ∑ j, q j * k j = ((∑ j, f j * g j : ℝ) : EReal) := by
    rw [coe_sum]; exact Finset.sum_congr rfl fun j _ => by rw [hf, hg, ← EReal.coe_mul]
  rw [e1, e2, ← EReal.coe_mul, Finset.sum_mul]
  exact congrArg _ (Finset.sum_congr rfl fun j _ => by ring)

/-- One eighth. -/
theorem eighth_real : IsReal (Ideal.ofBits .f32 0x3E000000#32) := by
  simp only [Ideal.ofBits, Ideal.ieee]
  rw [if_neg (by decide), if_neg (by decide)]
  exact IsReal.coe _

/-- The reciprocal root of ninety-six, rounded. -/
theorem root96_real : IsReal (Ideal.ofBits .f32 0x3DD105EC#32) := by
  simp only [Ideal.ofBits, Ideal.ieee]
  rw [if_neg (by decide), if_neg (by decide)]
  exact IsReal.coe _

/-- One fifth, rounded. -/
theorem fifth_real : IsReal (Ideal.ofBits .f32 0x3E4CCCCD#32) := by
  simp only [Ideal.ofBits, Ideal.ieee]
  rw [if_neg (by decide), if_neg (by decide)]
  exact IsReal.coe _

end Cert.AttnMath
-- ==== Proof.AttnFinite.lean ====
module

public import proofs.«01_k».proof.Proof.AttnMath
public import proofs.«01_k».proof.Proof.Gen.Pre_even_attention_finite

@[expose] public section

set_option maxRecDepth 16384

/-! # What the precondition says

Every entry of each of the first fifteen arrays is a real number. -/

noncomputable section

namespace Cert.AttnFinite

open Idealize.ShloMosaic Cert.AttnMath

/-- A conjunction of two bits that is one has both of them one. -/
theorem and_one : ∀ r u : BitVec 1, IntOp.andi r u = 1#1 → r = 1#1 ∧ u = 1#1 := by decide

/-- A fold of one-bit conjunctions that ends in one started at one and met only ones. -/
theorem foldl_one {ι : Type} (g : ι → BitVec 1) (l : List ι) (r : BitVec 1)
    (h : l.foldl (fun r n => IntOp.andi r (g n)) r = 1#1) : r = 1#1 ∧ ∀ n ∈ l, g n = 1#1 := by
  induction l generalizing r with
  | nil => exact ⟨h, fun n hn => absurd hn List.not_mem_nil⟩
  | cons a l ih =>
    have h' := ih _ h
    have k : r = 1#1 ∧ g a = 1#1 := and_one _ _ h'.1
    exact ⟨k.1, fun n hn => by
      rcases List.mem_cons.mp hn with rfl | hn
      · exact k.2
      · exact h'.2 n hn⟩

/-- A conjunction over every entry of an array that ends in one met only ones. -/
theorem all_one {s u : Shape} {axes : List (Fin s.rank)} {t : Shape} (ht : t.rank = 0) (x : s.Idx → BitVec 1)
    (v : u.Idx → BitVec 1) (hr : s.ReducesTo axes t) (hu : 0 < u.numel) (j : t.Idx)
    (h : Host.reduce IntOp.andi x v hr hu j = 1#1) (i : s.Idx) : x i = 1#1 := by
  have h' := (foldl_one (fun n => x (s.rowMajor.symm n)) _ _ h).2 (s.rowMajor i)
  have m : s.rowMajor i ∈ (List.finRange s.numel).filter fun n => hr.drop (s.rowMajor.symm n) = j := by
    refine List.mem_filter.mpr ⟨List.mem_finRange _, decide_eq_true ?_⟩
    funext a
    exact absurd a.isLt (by omega)
  have e := h' m
  rwa [Equiv.symm_apply_apply] at e

theorem posInf_eq : Ideal.ofBits .f32 0x7F800000#32 = ⊤ := by simp [Ideal.ofBits, Ideal.ieee]

/-- A value whose magnitude is below infinity is real. -/
theorem real_of_abs (x : EReal) (h : Ideal.cmp .olt (max x (-x)) ⊤ = 1#1) : IsReal x := by
  induction x with
  | bot => simp [Ideal.cmp] at h
  | coe r => exact IsReal.coe r
  | top => simp [Ideal.cmp] at h

open Cert.Pre_even_attention_finite in
/-- The printed test of one array says that its entries are real. -/
theorem finite_of {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x)
      (broadcastInDim s ![] hb (constant (F := Ideal) S_ .f32 0x7F800000#32))) (constantI S_ 1 1#1) hr hu j = 1#1)
    (i : s.Idx) : IsReal (x i) := by
  have e := all_one rfl _ _ hr hu j h i
  refine real_of_abs (x i) ?_
  rw [← posInf_eq]
  exact e

theorem and_at {s : Shape} (x y : IVec s 1) (j : s.Idx) (h : andi x y j = 1#1) : x j = 1#1 ∧ y j = 1#1 :=
  and_one _ _ h

open Cert.Pre_even_attention_finite in
/-- What the precondition says of the arrays the attention reads. -/
theorem finite (a0 : FVec Ideal S1x64 .f32) (a1 : FVec Ideal S1x64 .f32) (a2 : FVec Ideal S1x64 .f32) (a3 : FVec Ideal S1x64 .f32) (a4 : FVec Ideal S1x128 .f32) (a5 : FVec Ideal S12288x512 .bf16) (a6 : FVec Ideal S12288x768 .bf16) (a7 : FVec Ideal S12288x512 .bf16) (a8 : FVec Ideal S12288x512 .bf16) (a9 : FVec Ideal S12288x1024 .bf16) (a10 : FVec Ideal S12288x32 .bf16) (a11 : FVec Ideal S4x256x512 .f32) (a12 : FVec Ideal S4x256x512 .f32) (a13 : FVec Ideal S1024x1024 .bf16) (a14 : FVec Ideal S4x256x32 .f32) (a15 : FVec Ideal S12288x512 .bf16) (a16 : FVec Ideal S12288x512 .bf16)
    (h : fn (F := Ideal) a0 a1 a2 a3 a4 a5 a6 a7 a8 a9 a10 a11 a12 a13 a14 a15 a16 = fun _ => 1#1) :
    (∀ i, IsReal (a0 i)) ∧ (∀ i, IsReal (a1 i)) ∧ (∀ i, IsReal (a2 i)) ∧ (∀ i, IsReal (a3 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) := by
  have hh := congrFun h (Shape.Idx.first (by decide))
  simp only [fn, fn_part1, fn_part2, fn_part3, fn_part4] at hh
  obtain ⟨hh, h14⟩ := and_at _ _ _ hh
  obtain ⟨hh, h13⟩ := and_at _ _ _ hh
  obtain ⟨hh, h12⟩ := and_at _ _ _ hh
  obtain ⟨hh, h11⟩ := and_at _ _ _ hh
  obtain ⟨hh, h10⟩ := and_at _ _ _ hh
  obtain ⟨hh, h9⟩ := and_at _ _ _ hh
  obtain ⟨hh, h8⟩ := and_at _ _ _ hh
  obtain ⟨hh, h7⟩ := and_at _ _ _ hh
  obtain ⟨hh, h6⟩ := and_at _ _ _ hh
  obtain ⟨hh, h5⟩ := and_at _ _ _ hh
  obtain ⟨hh, h3⟩ := and_at _ _ _ hh
  obtain ⟨hh, h2⟩ := and_at _ _ _ hh
  obtain ⟨hh, h1⟩ := and_at _ _ _ hh
  exact ⟨finite_of _ _ _ _ _ hh, finite_of _ _ _ _ _ h1, finite_of _ _ _ _ _ h2, finite_of _ _ _ _ _ h3, finite_of _ _ _ _ _ h5, finite_of _ _ _ _ _ h6, finite_of _ _ _ _ _ h7, finite_of _ _ _ _ _ h8, finite_of _ _ _ _ _ h9, finite_of _ _ _ _ _ h10, finite_of _ _ _ _ _ h11, finite_of _ _ _ _ _ h12, finite_of _ _ _ _ _ h13, finite_of _ _ _ _ _ h14⟩

end Cert.AttnFinite
-- ==== Proof.AttnRow.lean ====
module

public import proofs.«01_k».proof.Proof.AttnMath

@[expose] public section

/-! # One query's attention, head by head

The two kinds of head of the even layer, at one query position: what the kernel's body computes from
the query's entries, the keys and values of the request, and those of the cache. -/

noncomputable section

namespace Cert.AttnRow

open Idealize.ShloMosaic Cert.AttnMath

/-- The weight of the second attention in a differential head. -/
def lam (x0 x1 x2 x3 : Fin 64 → EReal) : EReal :=
  Ideal.exp (∑ j, x0 j * x1 j) - Ideal.exp (∑ j, x2 j * x3 j) + Ideal.ofBits .f32 0x3E4CCCCD#32

/-- The score of a key in a differential head: the query's entries are scaled first. -/
def sA (q k : Fin 64 → EReal) : EReal := ∑ j, q j * Ideal.ofBits .f32 0x3E000000#32 * k j

/-- The difference of two attentions over the same values. -/
def dA (l : EReal) (q1 q2 : Fin 64 → EReal) (k1 k2 : Fin 1024 → Fin 64 → EReal) (c1 c2 : Fin 256 → Fin 64 → EReal)
    (v : Fin 1024 → Fin 128 → EReal) (cv : Fin 256 → Fin 128 → EReal) (e : Fin 128) : EReal :=
  two (fun k => sA q1 (k1 k)) (fun k => v k e) (fun k => sA q1 (c1 k)) (fun k => cv k e)
    - l * two (fun k => sA q2 (k2 k)) (fun k => v k e) (fun k => sA q2 (c2 k)) (fun k => cv k e)

/-- The root-mean-square normalisation that ends a differential head. -/
def rmsA (d g : Fin 128 → EReal) (e : Fin 128) : EReal :=
  d e * Ideal.rsqrt (Ideal.div (∑ j, d j * d j) (Ideal.ofBits .f32 0x43000000#32) + Ideal.ofBits .f32 0x358637BD#32)
    * g e * Ideal.ofBits .f32 0x3F4CCCCD#32

/-- The score of a key in a latent head: its own part and the part shared by the heads. -/
def sB (qn : Fin 64 → EReal) (qr : Fin 32 → EReal) (kn : Fin 64 → EReal) (kr : Fin 32 → EReal) : EReal :=
  (∑ j, qn j * kn j + ∑ j, qr j * kr j) * Ideal.ofBits .f32 0x3DD105EC#32

/-- The attention of a latent head. -/
def oB (qn : Fin 64 → EReal) (qr : Fin 32 → EReal) (kn : Fin 1024 → Fin 64 → EReal) (kr : Fin 1024 → Fin 32 → EReal)
    (cn : Fin 256 → Fin 64 → EReal) (cr : Fin 256 → Fin 32 → EReal) (v : Fin 1024 → EReal) (cv : Fin 256 → EReal) : EReal :=
  two (fun k => sB qn qr (kn k) (kr k)) v (fun k => sB qn qr (cn k) (cr k)) cv

/-- Column `j` of differential head `h`. -/
def colA (h : Fin 4) (j : Fin 128) : Fin 512 := ⟨128 * h.val + j, by omega⟩
/-- Column `j` of the first half of differential head `h`. -/
def colA1 (h : Fin 4) (j : Fin 64) : Fin 512 := ⟨128 * h.val + j, by omega⟩
/-- Column `j` of the second half of differential head `h`. -/
def colA2 (h : Fin 4) (j : Fin 64) : Fin 512 := ⟨128 * h.val + (64 + j), by omega⟩
/-- Column `j` of latent head `h`. -/
def colB (h : Fin 8) (j : Fin 64) : Fin 512 := ⟨64 * h.val + j, by omega⟩
/-- Column `j` of latent head `h`'s own part of the query. -/
def colQ (h : Fin 8) (j : Fin 64) : Fin 768 := ⟨64 * h.val + j, by omega⟩
/-- Column `j` of latent head `h`'s rotated part of the query. -/
def colR (h : Fin 8) (j : Fin 32) : Fin 768 := ⟨512 + 32 * h.val + j, by omega⟩
/-- Column `j` of latent head `h`'s keys. -/
def colK (h : Fin 8) (j : Fin 64) : Fin 1024 := ⟨64 * h.val + j, by omega⟩
/-- Column `j` of latent head `h`'s values. -/
def colV (h : Fin 8) (j : Fin 64) : Fin 1024 := ⟨512 + 64 * h.val + j, by omega⟩

/-- Entry `e` of differential head `h` for the query row `q`. -/
def headA (x0 x1 x2 x3 : Fin 64 → EReal) (g : Fin 128 → EReal) (q : Fin 512 → EReal) (k v : Fin 1024 → Fin 512 → EReal)
    (ck cv : Fin 256 → Fin 512 → EReal) (h : Fin 4) (e : Fin 128) : EReal :=
  rmsA (dA (lam x0 x1 x2 x3) (fun j => q (colA1 h j)) (fun j => q (colA2 h j)) (fun i j => k i (colA1 h j))
    (fun i j => k i (colA2 h j)) (fun i j => ck i (colA1 h j)) (fun i j => ck i (colA2 h j))
    (fun i e => v i (colA h e)) (fun i e => cv i (colA h e))) g e

/-- Entry `e` of latent head `h` for the query row `q`. -/
def headB (q : Fin 768 → EReal) (kv : Fin 1024 → Fin 1024 → EReal) (kr : Fin 1024 → Fin 32 → EReal)
    (ckv : Fin 256 → Fin 1024 → EReal) (ckr : Fin 256 → Fin 32 → EReal) (h : Fin 8) (e : Fin 64) : EReal :=
  oB (fun j => q (colQ h j)) (fun j => q (colR h j)) (fun i j => kv i (colK h j)) kr
    (fun i j => ckv i (colK h j)) ckr (fun i => kv i (colV h e)) (fun i => ckv i (colV h e))

theorem rmsA_congr {l : EReal} {q1 q2 p1 p2 : Fin 64 → EReal} {k1 k2 i1 i2 : Fin 1024 → Fin 64 → EReal}
    {c1 c2 d1 d2 : Fin 256 → Fin 64 → EReal} {v w : Fin 1024 → Fin 128 → EReal} {cv cw : Fin 256 → Fin 128 → EReal}
    {g : Fin 128 → EReal} {e : Fin 128} (hq1 : ∀ j, q1 j = p1 j) (hq2 : ∀ j, q2 j = p2 j)
    (hk1 : ∀ k j, k1 k j = i1 k j) (hk2 : ∀ k j, k2 k j = i2 k j) (hc1 : ∀ k j, c1 k j = d1 k j)
    (hc2 : ∀ k j, c2 k j = d2 k j) (hv : ∀ k j, v k j = w k j) (hcv : ∀ k j, cv k j = cw k j) :
    rmsA (dA l q1 q2 k1 k2 c1 c2 v cv) g e = rmsA (dA l p1 p2 i1 i2 d1 d2 w cw) g e := by
  obtain rfl := funext hq1
  obtain rfl := funext hq2
  obtain rfl := funext fun k => funext (hk1 k)
  obtain rfl := funext fun k => funext (hk2 k)
  obtain rfl := funext fun k => funext (hc1 k)
  obtain rfl := funext fun k => funext (hc2 k)
  obtain rfl := funext fun k => funext (hv k)
  obtain rfl := funext fun k => funext (hcv k)
  rfl

theorem oB_congr {qn pn : Fin 64 → EReal} {qr pr : Fin 32 → EReal} {kn ln : Fin 1024 → Fin 64 → EReal}
    {kr lr : Fin 1024 → Fin 32 → EReal} {cn dn : Fin 256 → Fin 64 → EReal} {cr dr : Fin 256 → Fin 32 → EReal}
    {v w : Fin 1024 → EReal} {cv cw : Fin 256 → EReal} (hqn : ∀ j, qn j = pn j) (hqr : ∀ j, qr j = pr j)
    (hkn : ∀ k j, kn k j = ln k j) (hkr : ∀ k j, kr k j = lr k j) (hcn : ∀ k j, cn k j = dn k j)
    (hcr : ∀ k j, cr k j = dr k j) (hv : ∀ k, v k = w k) (hcv : ∀ k, cv k = cw k) :
    oB qn qr kn kr cn cr v cv = oB pn pr ln lr dn dr w cw := by
  obtain rfl := funext hqn
  obtain rfl := funext hqr
  obtain rfl := funext fun k => funext (hkn k)
  obtain rfl := funext fun k => funext (hkr k)
  obtain rfl := funext fun k => funext (hcn k)
  obtain rfl := funext fun k => funext (hcr k)
  obtain rfl := funext hv
  obtain rfl := funext hcv
  rfl

end Cert.AttnRow
-- ==== Proof.AttnRefInputs.lean ====
module

public import proofs.«01_k».proof.Proof.AttnRow
public import proofs.«01_k».proof.Proof.Gen.EvenRefIdeal.Read
public import Idealize.ShloMosaic.Lib.Pipeline.ValueKit
public import Idealize.ShloMosaic.Lib.Pointwise

@[expose] public section

set_option maxRecDepth 16384

/-! # The reference's even attention: its queries, keys, values and scores -/

noncomputable section

namespace Cert.EvenRefIdeal.Rows

open Cert.EvenRefIdeal Cert.EvenRefIdeal.Read Idealize.ShloMosaic Idealize.ShloMosaic.TcCoe
open Cert.AttnRow Cert.AttnMath

/-- Row `k` of request `b` in the arrays of all rows. -/
def rowOf (b : Fin 4) (k : Fin 1024) : Fin 12288 := ⟨8192 + (b.val * 1024 + k), by omega⟩

/-- Row `k` of request `b` in the array of all cached rows. -/
def pastOf (b : Fin 4) (k : Fin 256) : Fin 1024 := ⟨b.val * 256 + k, by omega⟩

/-- Column `j` of half `i` of differential head `h`. -/
def colH (h : Fin 4) (i : Fin 2) (j : Fin 64) : Fin 512 := ⟨h.val * 128 + i.val * 64 + j, by omega⟩

/-- Column `e` of differential head `h`. -/
def colE (h : Fin 4) (e : Fin 128) : Fin 512 := ⟨h.val * 128 + e, by omega⟩

/-- Column `j` of latent head `h`, for its keys. -/
def colN (h : Fin 8) (j : Fin 64) : Fin 1024 := ⟨h.val * 64 + j, by omega⟩
/-- Column `j` of latent head `h`, for its values. -/
def colW (h : Fin 8) (j : Fin 64) : Fin 1024 := ⟨512 + (h.val * 64 + j), by omega⟩
/-- Column `j` of latent head `h`'s query, for its own part. -/
def colP (h : Fin 8) (j : Fin 64) : Fin 768 := ⟨h.val * 64 + j, by omega⟩
/-- Column `j` of latent head `h`'s query, for its rotated part. -/
def colS (h : Fin 8) (j : Fin 32) : Fin 768 := ⟨512 + (h.val * 32 + j), by omega⟩

/-- The request's rows followed by the cached ones. -/
def joinKeys {α : Type} (x : Fin 1024 → α) (y : Fin 256 → α) (k : Fin 1280) : α :=
  if h : k.val < 1024 then x ⟨k, h⟩ else y ⟨k - 1024, by omega⟩

section
variable (x0 x1 x2 x3 : FVec Ideal S1x64 .f32) (x4 : FVec Ideal S1x128 .f32) (x5 : FVec Ideal S12288x512 .bf16)
  (x6 : FVec Ideal S12288x768 .bf16) (x7 x8 : FVec Ideal S12288x512 .bf16) (x9 : FVec Ideal S12288x1024 .bf16)
  (x10 : FVec Ideal S12288x32 .bf16) (x11 x12 : FVec Ideal S4x256x512 .f32) (x13 : FVec Ideal S1024x1024 .bf16)
  (x14 : FVec Ideal S4x256x32 .f32) (x15 x16 : FVec Ideal S12288x512 .bf16)

/-- The score of key `k` for half `i` of differential head `h` at query `t`. -/
def scA (b : Fin 4) (h : Fin 4) (i : Fin 2) (t : Fin 1024) (k : Fin 1280) : EReal :=
  (∑ j : Fin 64, x5 (ix2 (rowOf b t) (colH h i j))
    * joinKeys (fun k => x7 (ix2 (rowOf b k) (colH h i j))) (fun k => x11 (ix3 b k (colH h i j))) k)
    * Ideal.ofBits .f32 0x3E000000#32

/-- The value of key `k`. -/
def vaA (b : Fin 4) (h : Fin 4) (e : Fin 128) (k : Fin 1280) : EReal :=
  joinKeys (fun k => x8 (ix2 (rowOf b k) (colE h e))) (fun k => x12 (ix3 b k (colE h e))) k

theorem v2_at (b : Fin 4) (t : Fin 1024) (h : Fin 4) (i : Fin 2) (j : Fin 64) :
    val_main_v2 (F := Ideal) x5 (ix5 b t h i j) = x5 (ix2 (rowOf b t) (colH h i j)) := by
  pointwise [val_main_v2, val_main_v1, val_main_v0, rowOf, colH]

theorem v7_at (b : Fin 4) (k : Fin 1280) (h : Fin 4) (i : Fin 2) (j : Fin 64) :
    val_main_v7 (F := Ideal) x7 x11 (ix5 b k h i j)
      = joinKeys (fun k => x7 (ix2 (rowOf b k) (colH h i j))) (fun k => x11 (ix3 b k (colH h i j))) k := by
  pointwise [val_main_v7, val_main_v6, val_main_v5, val_main_v4, val_main_v3, rowOf, colH, joinKeys]

theorem v12_at (b : Fin 4) (k : Fin 1280) (h : Fin 4) (e : Fin 128) :
    val_main_v12 (F := Ideal) x8 x12 (ix4 b k h e) = vaA x8 x12 b h e k := by
  pointwise [val_main_v12, val_main_v11, val_main_v10, val_main_v9, val_main_v8, vaA, rowOf, colE, joinKeys]

theorem v43_at (b : Fin 4) (h : Fin 4) (i : Fin 2) (t : Fin 1024) (k : Fin 1280) :
    val_main_v43 (F := Ideal) x5 x7 x11 (ix5 b h i t k)
      = ∑ j : Fin 64, x5 (ix2 (rowOf b t) (colH h i j))
        * joinKeys (fun k => x7 (ix2 (rowOf b k) (colH h i j))) (fun k => x11 (ix3 b k (colH h i j))) k := by
  pointwise [val_main_v43, v2_at, v7_at]

theorem v45_at (b : Fin 4) (h : Fin 4) (i : Fin 2) (t : Fin 1024) (k : Fin 1280) :
    val_main_v45 (F := Ideal) x5 x7 x11 (ix5 b h i t k) = scA x5 x7 x11 b h i t k := by
  pointwise [val_main_v45, val_main_v44, val_main_cst_2, v43_at, scA]

/-- The score of key `k` for latent head `h` at query `t`. -/
def scB (b : Fin 4) (h : Fin 8) (t : Fin 1024) (k : Fin 1280) : EReal :=
  (∑ j : Fin 64, x6 (ix2 (rowOf b t) (colP h j))
      * joinKeys (fun k => x9 (ix2 (rowOf b k) (colN h j))) (fun k => x13 (ix2 (pastOf b k) (colN h j))) k
    + ∑ j : Fin 32, x6 (ix2 (rowOf b t) (colS h j))
      * joinKeys (fun k => x10 (ix2 (rowOf b k) j)) (fun k => x14 (ix3 b k j)) k)
    * Ideal.ofBits .f32 0x3DD105EC#32

/-- The value of key `k`. -/
def vaB (b : Fin 4) (h : Fin 8) (e : Fin 64) (k : Fin 1280) : EReal :=
  joinKeys (fun k => x9 (ix2 (rowOf b k) (colW h e))) (fun k => x13 (ix2 (pastOf b k) (colW h e))) k

theorem v16_at (b : Fin 4) (t : Fin 1024) (h : Fin 8) (j : Fin 64) :
    val_main_v16 (F := Ideal) x6 (ix4 b t h j) = x6 (ix2 (rowOf b t) (colP h j)) := by
  pointwise [val_main_v16, val_main_v15, val_main_v14, val_main_v13, rowOf, colP]

theorem v20_at (b : Fin 4) (t : Fin 1024) (h : Fin 8) (j : Fin 32) :
    val_main_v20 (F := Ideal) x6 (ix4 b t h j) = x6 (ix2 (rowOf b t) (colS h j)) := by
  pointwise [val_main_v20, val_main_v19, val_main_v18, val_main_v17, rowOf, colS]

theorem v26_at (b : Fin 4) (k : Fin 1280) (j : Fin 1024) :
    val_main_v26 (F := Ideal) x9 x13 (ix3 b k j)
      = joinKeys (fun k => x9 (ix2 (rowOf b k) j)) (fun k => x13 (ix2 (pastOf b k) j)) k := by
  pointwise [val_main_v26, val_main_v25, val_main_v24, val_main_v23, val_main_v22, val_main_v21, rowOf, pastOf, joinKeys]

theorem v28_at (b : Fin 4) (k : Fin 1280) (h : Fin 8) (j : Fin 64) :
    val_main_v28 (F := Ideal) x9 x13 (ix4 b k h j)
      = joinKeys (fun k => x9 (ix2 (rowOf b k) (colN h j))) (fun k => x13 (ix2 (pastOf b k) (colN h j))) k := by
  pointwise [val_main_v28, val_main_v27, v26_at, colN]

theorem v30_at (b : Fin 4) (k : Fin 1280) (h : Fin 8) (e : Fin 64) :
    val_main_v30 (F := Ideal) x9 x13 (ix4 b k h e) = vaB x9 x13 b h e k := by
  pointwise [val_main_v30, val_main_v29, v26_at, colW, vaB]

theorem v34_at (b : Fin 4) (k : Fin 1280) (j : Fin 32) :
    val_main_v34 (F := Ideal) x10 x14 (ix3 b k j)
      = joinKeys (fun k => x10 (ix2 (rowOf b k) j)) (fun k => x14 (ix3 b k j)) k := by
  pointwise [val_main_v34, val_main_v33, val_main_v32, val_main_v31, rowOf, joinKeys]

theorem v82_at (b : Fin 4) (h : Fin 8) (t : Fin 1024) (k : Fin 1280) :
    val_main_v82 (F := Ideal) x6 x9 x13 (ix4 b h t k)
      = ∑ j : Fin 64, x6 (ix2 (rowOf b t) (colP h j))
        * joinKeys (fun k => x9 (ix2 (rowOf b k) (colN h j))) (fun k => x13 (ix2 (pastOf b k) (colN h j))) k := by
  pointwise [val_main_v82, v16_at, v28_at]

theorem v84_at (b : Fin 4) (h : Fin 8) (t : Fin 1024) (k : Fin 1280) :
    val_main_v84 (F := Ideal) x6 x10 x14 (ix4 b h t k)
      = ∑ j : Fin 32, x6 (ix2 (rowOf b t) (colS h j))
        * joinKeys (fun k => x10 (ix2 (rowOf b k) j)) (fun k => x14 (ix3 b k j)) k := by
  pointwise [val_main_v84, val_main_v83, v20_at, v34_at]
  try exact Finset.sum_congr rfl fun k _ => mul_comm _ _

theorem v87_at (b : Fin 4) (h : Fin 8) (t : Fin 1024) (k : Fin 1280) :
    val_main_v87 (F := Ideal) x6 x9 x10 x13 x14 (ix4 b h t k) = scB x6 x9 x10 x13 x14 b h t k := by
  pointwise [val_main_v87, val_main_v86, val_main_v85, val_main_cst_10, v82_at, v84_at, scB]
end
end Cert.EvenRefIdeal.Rows
-- ==== Proof.AttnRefSoftA.lean ====
module

public import proofs.«01_k».proof.Proof.AttnRefInputs
public import proofs.«01_k».proof.Proof.Gen.EvenRefIdeal.Read
public import Idealize.ShloMosaic.Lib.Pipeline.ValueKit
public import Idealize.ShloMosaic.Lib.Pointwise

@[expose] public section

set_option maxRecDepth 16384

/-! # The reference's even attention, entry by entry -/

noncomputable section

namespace Cert.EvenRefIdeal.Rows

open Cert.EvenRefIdeal Cert.EvenRefIdeal.Read Idealize.ShloMosaic Idealize.ShloMosaic.TcCoe
open Cert.AttnRow Cert.AttnMath

section
variable (x0 x1 x2 x3 : FVec Ideal S1x64 .f32) (x4 : FVec Ideal S1x128 .f32) (x5 : FVec Ideal S12288x512 .bf16)
  (x6 : FVec Ideal S12288x768 .bf16) (x7 x8 : FVec Ideal S12288x512 .bf16) (x9 : FVec Ideal S12288x1024 .bf16)
  (x10 : FVec Ideal S12288x32 .bf16) (x11 x12 : FVec Ideal S4x256x512 .f32) (x13 : FVec Ideal S1024x1024 .bf16)
  (x14 : FVec Ideal S4x256x32 .f32) (x15 x16 : FVec Ideal S12288x512 .bf16)

theorem v46_at (b : Fin 4) (h : Fin 4) (i : Fin 2) (t : Fin 1024) :
    val_main_v46 (F := Ideal) x5 x7 x11 (ix4 b h i t) = rowMax (scA x5 x7 x11 b h i t) := by
  pointwise [val_main_v46, rowMax, val_main_cst_3, v45_at]

theorem v47_at (i : S4x4x2x1024.Idx) : val_main_v47 (F := Ideal) i = Ideal.ofBits .f32 0xFF800000#32 := by
  pointwise [val_main_v47, val_main_cst_4]

theorem v48_at (b : Fin 4) (h : Fin 4) (i : Fin 2) (t : Fin 1024) :
    val_main_v48 (F := Ideal) x5 x7 x11 (ix4 b h i t) = rowMax (scA x5 x7 x11 b h i t) := by
  rw [val_main_v48_apply, v46_at, v47_at, negInf_eq]
  exact max_eq_right bot_le

theorem v52_at (b : Fin 4) (h : Fin 4) (i : Fin 2) (t : Fin 1024) (k : Fin 1280) :
    val_main_v52 (F := Ideal) x5 x7 x11 (ix5 b h i t k)
      = Ideal.exp (scA x5 x7 x11 b h i t k - rowMax (scA x5 x7 x11 b h i t)) := by
  pointwise [val_main_v52, val_main_v51, val_main_v50, val_main_v49, v48_at, v45_at]

theorem v53_at (b : Fin 4) (h : Fin 4) (i : Fin 2) (t : Fin 1024) :
    val_main_v53 (F := Ideal) x5 x7 x11 (ix4 b h i t)
      = ∑ k : Fin 1280, Ideal.exp (scA x5 x7 x11 b h i t k - rowMax (scA x5 x7 x11 b h i t)) := by
  pointwise [val_main_v53, val_main_cst_5, v52_at]

theorem v55_at (b : Fin 4) (h : Fin 4) (i : Fin 2) (t : Fin 1024) (k : Fin 1280) :
    val_main_v55 (F := Ideal) x5 x7 x11 (ix5 b h i t k)
      = ∑ k : Fin 1280, Ideal.exp (scA x5 x7 x11 b h i t k - rowMax (scA x5 x7 x11 b h i t)) := by
  pointwise [val_main_v55, val_main_v54, v53_at]

theorem v56_at (b : Fin 4) (h : Fin 4) (i : Fin 2) (t : Fin 1024) (k : Fin 1280) :
    val_main_v56 (F := Ideal) x5 x7 x11 (ix5 b h i t k) = wt (scA x5 x7 x11 b h i t) k := by
  rw [val_main_v56_apply, v55_at, v52_at]
  rfl

theorem v58_at (b : Fin 4) (h : Fin 4) (t : Fin 1024) (k : Fin 1280) :
    val_main_v58 (F := Ideal) x5 x7 x11 (ix4 b h t k) = val_main_v56 (F := Ideal) x5 x7 x11 (ix5 b h 0 t k) := by
  pointwise [val_main_v58, val_main_v57]

theorem v60_at (b : Fin 4) (h : Fin 4) (t : Fin 1024) (k : Fin 1280) :
    val_main_v60 (F := Ideal) x5 x7 x11 (ix4 b h t k) = val_main_v56 (F := Ideal) x5 x7 x11 (ix5 b h 1 t k) := by
  pointwise [val_main_v60, val_main_v59]

end
end Cert.EvenRefIdeal.Rows
-- ==== Proof.AttnRefLam.lean ====
module

public import proofs.«01_k».proof.Proof.AttnRefInputs
public import proofs.«01_k».proof.Proof.Gen.EvenRefIdeal.Read
public import Idealize.ShloMosaic.Lib.Pipeline.ValueKit
public import Idealize.ShloMosaic.Lib.Pointwise

@[expose] public section

set_option maxRecDepth 16384

/-! # The reference's even attention, entry by entry -/

noncomputable section

namespace Cert.EvenRefIdeal.Rows

open Cert.EvenRefIdeal Cert.EvenRefIdeal.Read Idealize.ShloMosaic Idealize.ShloMosaic.TcCoe
open Cert.AttnRow Cert.AttnMath

section
variable (x0 x1 x2 x3 : FVec Ideal S1x64 .f32) (x4 : FVec Ideal S1x128 .f32) (x5 : FVec Ideal S12288x512 .bf16)
  (x6 : FVec Ideal S12288x768 .bf16) (x7 x8 : FVec Ideal S12288x512 .bf16) (x9 : FVec Ideal S12288x1024 .bf16)
  (x10 : FVec Ideal S12288x32 .bf16) (x11 x12 : FVec Ideal S4x256x512 .f32) (x13 : FVec Ideal S1024x1024 .bf16)
  (x14 : FVec Ideal S4x256x32 .f32) (x15 x16 : FVec Ideal S12288x512 .bf16)

theorem v42_at (i : S_.Idx) :
    val_main_v42 (F := Ideal) x0 x1 x2 x3 i
      = lam (fun j => x0 (ix2 0 j)) (fun j => x1 (ix2 0 j)) (fun j => x2 (ix2 0 j)) (fun j => x3 (ix2 0 j)) := by
  pointwise [val_main_v42, val_main_v41, val_main_v40, val_main_v39, val_main_v38, val_main_v37, val_main_v36, val_main_v35, lam,
    val_main_cst, val_main_cst_0, val_main_cst_1]
  rw [Fin.sum_univ_one, Fin.sum_univ_one]

end
end Cert.EvenRefIdeal.Rows
-- ==== Proof.AttnRefOut.lean ====
module

public import proofs.«01_k».proof.Proof.AttnRefSoftA
public import proofs.«01_k».proof.Proof.AttnRefLam
public import proofs.«01_k».proof.Proof.Gen.EvenRefIdeal.Read
public import Idealize.ShloMosaic.Lib.Pipeline.ValueKit
public import Idealize.ShloMosaic.Lib.Pointwise

@[expose] public section

set_option maxRecDepth 16384

/-! # The reference's even attention, entry by entry -/

noncomputable section

namespace Cert.EvenRefIdeal.Rows

open Cert.EvenRefIdeal Cert.EvenRefIdeal.Read Idealize.ShloMosaic Idealize.ShloMosaic.TcCoe
open Cert.AttnRow Cert.AttnMath

section
variable (x0 x1 x2 x3 : FVec Ideal S1x64 .f32) (x4 : FVec Ideal S1x128 .f32) (x5 : FVec Ideal S12288x512 .bf16)
  (x6 : FVec Ideal S12288x768 .bf16) (x7 x8 : FVec Ideal S12288x512 .bf16) (x9 : FVec Ideal S12288x1024 .bf16)
  (x10 : FVec Ideal S12288x32 .bf16) (x11 x12 : FVec Ideal S4x256x512 .f32) (x13 : FVec Ideal S1024x1024 .bf16)
  (x14 : FVec Ideal S4x256x32 .f32) (x15 x16 : FVec Ideal S12288x512 .bf16)

theorem v62_at (b : Fin 4) (h : Fin 4) (t : Fin 1024) (k : Fin 1280) :
    val_main_v62 (F := Ideal) x0 x1 x2 x3 x5 x7 x11 (ix4 b h t k)
      = lam (fun j => x0 (ix2 0 j)) (fun j => x1 (ix2 0 j)) (fun j => x2 (ix2 0 j))
          (fun j => x3 (ix2 0 j)) * wt (scA x5 x7 x11 b h 1 t) k := by
  rw [val_main_v62_apply, v60_at, v56_at, val_main_v61_apply, v42_at]
  rfl

theorem v63_at (b : Fin 4) (h : Fin 4) (t : Fin 1024) (k : Fin 1280) :
    val_main_v63 (F := Ideal) x0 x1 x2 x3 x5 x7 x11 (ix4 b h t k)
      = wt (scA x5 x7 x11 b h 0 t) k - lam (fun j => x0 (ix2 0 j)) (fun j => x1 (ix2 0 j)) (fun j => x2 (ix2 0 j))
          (fun j => x3 (ix2 0 j)) * wt (scA x5 x7 x11 b h 1 t) k := by
  rw [val_main_v63_apply, v58_at, v56_at, v62_at]
  rfl

/-- The difference of the two attentions, as the reference forms it. -/
def rdA (b : Fin 4) (h : Fin 4) (t : Fin 1024) (e : Fin 128) : EReal :=
  ∑ k : Fin 1280, (wt (scA x5 x7 x11 b h 0 t) k - lam (fun j => x0 (ix2 0 j)) (fun j => x1 (ix2 0 j)) (fun j => x2 (ix2 0 j))
    (fun j => x3 (ix2 0 j)) * wt (scA x5 x7 x11 b h 1 t) k) * vaA x8 x12 b h e k

theorem v65_at (b : Fin 4) (t : Fin 1024) (h : Fin 4) (e : Fin 128) :
    val_main_v65 (F := Ideal) x0 x1 x2 x3 x5 x7 x8 x11 x12 (ix4 b t h e) = rdA x0 x1 x2 x3 x5 x7 x8 x11 x12 b h t e := by
  pointwise [val_main_v65, val_main_v64, v63_at, v12_at, rdA]
  try exact Finset.sum_congr rfl fun k _ => mul_comm _ _

theorem v81_at (b : Fin 4) (t : Fin 1024) (h : Fin 4) (e : Fin 128) :
    val_main_v81 (F := Ideal) x0 x1 x2 x3 x4 x5 x7 x8 x11 x12 (ix4 b t h e)
      = rmsA (rdA x0 x1 x2 x3 x5 x7 x8 x11 x12 b h t) (fun e => x4 (ix2 0 e)) e := by
  pointwise [val_main_v81, val_main_v80, val_main_v79, val_main_v78, val_main_v77, val_main_v76, val_main_v75, val_main_v74,
    val_main_v73, val_main_v72, val_main_v71, val_main_v70, val_main_v69, val_main_v68, val_main_v67, val_main_v66, v65_at,
    val_main_cst_6, val_main_cst_7, val_main_cst_8, val_main_cst_9, rmsA]

/-- The first result: the rows before 8192 are the argument's. -/
theorem v104_at (i : Fin 12288) (n : Fin 512) :
    val_main_v104 (F := Ideal) x0 x1 x2 x3 x4 x5 x7 x8 x11 x12 x15 (ix2 i n) = if h : i.val < 8192 then x15 (ix2 i n) else
      rmsA (rdA x0 x1 x2 x3 x5 x7 x8 x11 x12 ⟨(i.val - 8192) / 1024, by omega⟩ ⟨n.val / 128, by omega⟩ ⟨(i.val - 8192) % 1024, by omega⟩)
        (fun e => x4 (ix2 0 e)) ⟨n.val % 128, by omega⟩ := by
  pointwise [val_main_v104, val_main_v103, val_main_v102, val_main_v101, v81_at]
end
end Cert.EvenRefIdeal.Rows
-- ==== Proof.AttnRefSoftB.lean ====
module

public import proofs.«01_k».proof.Proof.AttnRefInputs
public import proofs.«01_k».proof.Proof.Gen.EvenRefIdeal.Read
public import Idealize.ShloMosaic.Lib.Pipeline.ValueKit
public import Idealize.ShloMosaic.Lib.Pointwise

@[expose] public section

set_option maxRecDepth 16384

/-! # The reference's even attention, entry by entry -/

noncomputable section

namespace Cert.EvenRefIdeal.Rows

open Cert.EvenRefIdeal Cert.EvenRefIdeal.Read Idealize.ShloMosaic Idealize.ShloMosaic.TcCoe
open Cert.AttnRow Cert.AttnMath

section
variable (x0 x1 x2 x3 : FVec Ideal S1x64 .f32) (x4 : FVec Ideal S1x128 .f32) (x5 : FVec Ideal S12288x512 .bf16)
  (x6 : FVec Ideal S12288x768 .bf16) (x7 x8 : FVec Ideal S12288x512 .bf16) (x9 : FVec Ideal S12288x1024 .bf16)
  (x10 : FVec Ideal S12288x32 .bf16) (x11 x12 : FVec Ideal S4x256x512 .f32) (x13 : FVec Ideal S1024x1024 .bf16)
  (x14 : FVec Ideal S4x256x32 .f32) (x15 x16 : FVec Ideal S12288x512 .bf16)

theorem v88_at (b : Fin 4) (h : Fin 8) (t : Fin 1024) :
    val_main_v88 (F := Ideal) x6 x9 x10 x13 x14 (ix3 b h t) = rowMax (scB x6 x9 x10 x13 x14 b h t) := by
  pointwise [val_main_v88, rowMax, val_main_cst_11, v87_at]

theorem v89_at (i : S4x8x1024.Idx) : val_main_v89 (F := Ideal) i = Ideal.ofBits .f32 0xFF800000#32 := by
  pointwise [val_main_v89, val_main_cst_12]

theorem v90_at (b : Fin 4) (h : Fin 8) (t : Fin 1024) :
    val_main_v90 (F := Ideal) x6 x9 x10 x13 x14 (ix3 b h t) = rowMax (scB x6 x9 x10 x13 x14 b h t) := by
  rw [val_main_v90_apply, v88_at, v89_at, negInf_eq]
  exact max_eq_right bot_le

theorem v94_at (b : Fin 4) (h : Fin 8) (t : Fin 1024) (k : Fin 1280) :
    val_main_v94 (F := Ideal) x6 x9 x10 x13 x14 (ix4 b h t k)
      = Ideal.exp (scB x6 x9 x10 x13 x14 b h t k - rowMax (scB x6 x9 x10 x13 x14 b h t)) := by
  pointwise [val_main_v94, val_main_v93, val_main_v92, val_main_v91, v90_at, v87_at]

theorem v95_at (b : Fin 4) (h : Fin 8) (t : Fin 1024) :
    val_main_v95 (F := Ideal) x6 x9 x10 x13 x14 (ix3 b h t)
      = ∑ k : Fin 1280, Ideal.exp (scB x6 x9 x10 x13 x14 b h t k - rowMax (scB x6 x9 x10 x13 x14 b h t)) := by
  pointwise [val_main_v95, val_main_cst_13, v94_at]

theorem v97_at (b : Fin 4) (h : Fin 8) (t : Fin 1024) (k : Fin 1280) :
    val_main_v97 (F := Ideal) x6 x9 x10 x13 x14 (ix4 b h t k)
      = ∑ k : Fin 1280, Ideal.exp (scB x6 x9 x10 x13 x14 b h t k - rowMax (scB x6 x9 x10 x13 x14 b h t)) := by
  pointwise [val_main_v97, val_main_v96, v95_at]

theorem v98_at (b : Fin 4) (h : Fin 8) (t : Fin 1024) (k : Fin 1280) :
    val_main_v98 (F := Ideal) x6 x9 x10 x13 x14 (ix4 b h t k) = wt (scB x6 x9 x10 x13 x14 b h t) k := by
  rw [val_main_v98_apply, v97_at, v94_at]
  rfl

/-- A latent head's attention, as the reference forms it. -/
def rdB (b : Fin 4) (h : Fin 8) (t : Fin 1024) (e : Fin 64) : EReal :=
  ∑ k : Fin 1280, wt (scB x6 x9 x10 x13 x14 b h t) k * vaB x9 x13 b h e k

theorem v100_at (b : Fin 4) (t : Fin 1024) (h : Fin 8) (e : Fin 64) :
    val_main_v100 (F := Ideal) x6 x9 x10 x13 x14 (ix4 b t h e) = rdB x6 x9 x10 x13 x14 b h t e := by
  pointwise [val_main_v100, val_main_v99, v98_at, v30_at, rdB]
  try exact Finset.sum_congr rfl fun k _ => mul_comm _ _

theorem v108_at (i : Fin 12288) (n : Fin 512) :
    val_main_v108 (F := Ideal) x6 x9 x10 x13 x14 x16 (ix2 i n) = if h : i.val < 8192 then x16 (ix2 i n) else
      rdB x6 x9 x10 x13 x14 ⟨(i.val - 8192) / 1024, by omega⟩ ⟨n.val / 64, by omega⟩ ⟨(i.val - 8192) % 1024, by omega⟩
        ⟨n.val % 64, by omega⟩ := by
  pointwise [val_main_v108, val_main_v107, val_main_v106, val_main_v105, v100_at]
end
end Cert.EvenRefIdeal.Rows
-- ==== Proof.AttnBodyA.lean ====
module

public import proofs.«01_k».proof.Proof.AttnRow
public import proofs.«01_k».proof.Proof.Gen.EvenAttnIdeal.Value
public import Idealize.ShloMosaic.Lib.Pipeline.ValueKit
public import Idealize.ShloMosaic.Lib.Pointwise

@[expose] public section

set_option maxRecDepth 16384

/-! # The differential heads of the kernel's body

Each of the four heads is the same chain of operations on its own columns. -/

noncomputable section

namespace Cert.EvenAttnIdeal.Body

open Idealize.ShloMosaic Idealize.ShloMosaic.TcCoe Idealize.SL.Sem Cert.EvenAttnIdeal.Gen Cert.AttnRow Cert.AttnMath

/-- Differential head 0, as the body computes it. -/
def a0 (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) : FVec Ideal S256x128 .bf16 :=
  k0_pay21 (F := Ideal) (k0_pay3 (F := Ideal) x0 x1 x2 x3) g v (k0_pay4 (F := Ideal) cv) (k0_pay13 (F := Ideal) (k0_pay5 (F := Ideal) q1) (k0_pay6 (F := Ideal) q1 k1) (k0_pay7 (F := Ideal) c1) (constant (F := Ideal) S256x256 .f32 0x00000000#32)) (k0_pay14 (F := Ideal) (k0_pay5 (F := Ideal) q1) (k0_pay6 (F := Ideal) q1 k1) (k0_pay7 (F := Ideal) c1) (constant (F := Ideal) S256x256 .f32 0x00000000#32)) (k0_pay15 (F := Ideal) (k0_pay5 (F := Ideal) q1) (k0_pay6 (F := Ideal) q1 k1) (k0_pay7 (F := Ideal) c1) (constant (F := Ideal) S256x256 .f32 0x00000000#32)) (k0_pay17 (F := Ideal) q2 k2 c2) (k0_pay18 (F := Ideal) q2 k2 c2) (k0_pay19 (F := Ideal) q2 k2 c2) (k0_pay20 (F := Ideal) q2 k2 c2)

theorem a0_at (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) (r : Fin 256) (e : Fin 128) :
    a0 x0 x1 x2 x3 g q1 q2 k1 k2 c1 c2 v cv (ix2 r e) = rmsA (dA (lam (fun j => x0 (ix2 0 j)) (fun j => x1 (ix2 0 j)) (fun j => x2 (ix2 0 j)) (fun j => x3 (ix2 0 j)))
      (fun j => q1 (ix2 r j)) (fun j => q2 (ix2 r j)) (fun k j => k1 (ix2 k j)) (fun k j => k2 (ix2 k j))
      (fun k j => c1 (ix3 0 k j)) (fun k j => c2 (ix3 0 k j)) (fun k e => v (ix2 k e)) (fun k e => cv (ix3 0 k e)))
      (fun e => g (ix2 0 e)) e := by
  pointwise [a0, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, rmsA, dA, lam, sA, two, rowMax]

/-- Differential head 1, as the body computes it. -/
def a1 (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) : FVec Ideal S256x128 .bf16 :=
  k0_pay35 (F := Ideal) (k0_pay3 (F := Ideal) x0 x1 x2 x3) g v (k0_pay22 (F := Ideal) cv) (k0_pay28 (F := Ideal) q2 k2) (k0_pay29 (F := Ideal) q2 c2) (k0_pay31 (F := Ideal) (k0_pay23 (F := Ideal) q1) (FloatOps.ofBits (F := Ideal) .f32 0x3E000000#32) k1 c1) (k0_pay32 (F := Ideal) (k0_pay23 (F := Ideal) q1) (FloatOps.ofBits (F := Ideal) .f32 0x3E000000#32) k1 c1) (k0_pay33 (F := Ideal) (k0_pay23 (F := Ideal) q1) (FloatOps.ofBits (F := Ideal) .f32 0x3E000000#32) k1 c1) (k0_pay34 (F := Ideal) q2 k2)

theorem a1_eq (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) :
    a1 x0 x1 x2 x3 g q1 q2 k1 k2 c1 c2 v cv = a0 x0 x1 x2 x3 g q1 q2 k1 k2 c1 c2 v cv := rfl

/-- Differential head 2, as the body computes it. -/
def a2 (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) : FVec Ideal S256x128 .bf16 :=
  k0_pay47 (F := Ideal) g (k0_pay45 (F := Ideal) (k0_pay3 (F := Ideal) x0 x1 x2 x3) v (k0_pay36 (F := Ideal) cv) (k0_pay38 (F := Ideal) q1 k1) (k0_pay39 (F := Ideal) q1 c1) (k0_pay41 (F := Ideal) q2 k2) (k0_pay42 (F := Ideal) q2 c2) (k0_pay43 (F := Ideal) q1 k1 c1) (k0_pay44 (F := Ideal) q1 k1 c1)) (k0_pay46 (F := Ideal) (k0_pay3 (F := Ideal) x0 x1 x2 x3) v (k0_pay36 (F := Ideal) cv) (k0_pay38 (F := Ideal) q1 k1) (k0_pay39 (F := Ideal) q1 c1) (k0_pay41 (F := Ideal) q2 k2) (k0_pay42 (F := Ideal) q2 c2) (k0_pay43 (F := Ideal) q1 k1 c1) (k0_pay44 (F := Ideal) q1 k1 c1))

theorem a2_eq (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) :
    a2 x0 x1 x2 x3 g q1 q2 k1 k2 c1 c2 v cv = a0 x0 x1 x2 x3 g q1 q2 k1 k2 c1 c2 v cv := rfl

/-- Differential head 3, as the body computes it. -/
def a3 (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) : FVec Ideal S256x128 .bf16 :=
  k0_pay62 (F := Ideal) (k0_pay3 (F := Ideal) x0 x1 x2 x3) g (k0_pay48 (F := Ideal) cv) (k0_pay58 (F := Ideal) (k0_pay52 (F := Ideal) q2) (k0_pay53 (F := Ideal) q2 k2) c2) (k0_pay59 (F := Ideal) v (k0_pay48 (F := Ideal) cv) (k0_pay50 (F := Ideal) q1 k1) (k0_pay51 (F := Ideal) q1 c1)) (k0_pay60 (F := Ideal) v (k0_pay52 (F := Ideal) q2) (k0_pay53 (F := Ideal) q2 k2) c2) (k0_pay61 (F := Ideal) (k0_pay52 (F := Ideal) q2) (k0_pay53 (F := Ideal) q2 k2) c2)

theorem a3_eq (x0 x1 x2 x3 : FVec Ideal S1x64 .f32) (g : FVec Ideal S1x128 .f32) (q1 q2 : FVec Ideal S256x64 .bf16)
    (k1 k2 : FVec Ideal S1024x64 .bf16) (c1 c2 : FVec Ideal S1x256x64 .f32)
    (v : FVec Ideal S1024x128 .bf16) (cv : FVec Ideal S1x256x128 .f32) :
    a3 x0 x1 x2 x3 g q1 q2 k1 k2 c1 c2 v cv = a0 x0 x1 x2 x3 g q1 q2 k1 k2 c1 c2 v cv := rfl

end Cert.EvenAttnIdeal.Body
-- ==== Proof.AttnBodyB.lean ====
module

public import proofs.«01_k».proof.Proof.AttnRow
public import proofs.«01_k».proof.Proof.Gen.EvenAttnIdeal.Value
public import Idealize.ShloMosaic.Lib.Pipeline.ValueKit
public import Idealize.ShloMosaic.Lib.Pointwise

@[expose] public section

set_option maxRecDepth 16384

/-! # The latent heads of the kernel's body

Each of the eight heads is the same chain of operations on its own columns. -/

noncomputable section

namespace Cert.EvenAttnIdeal.Body

open Idealize.ShloMosaic Idealize.ShloMosaic.TcCoe Idealize.SL.Sem Cert.EvenAttnIdeal.Gen Cert.AttnRow Cert.AttnMath

/-- Latent head 0, as the body computes it. -/
def b0 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay71 (F := Ideal) (k0_pay64 (F := Ideal) kr qn qr kn) v (k0_pay65 (F := Ideal) (k0_pay63 (F := Ideal) cr) qn qr cn) (k0_pay66 (F := Ideal) cv) (k0_pay70 (F := Ideal) (k0_pay64 (F := Ideal) kr qn qr kn))

theorem b0_at (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) (r : Fin 256) (e : Fin 64) :
    b0 qn qr kn kr cn cr v cv (ix2 r e) = oB (fun j => qn (ix2 r j)) (fun j => qr (ix2 r j)) (fun k j => kn (ix2 k j)) (fun k j => kr (ix2 k j))
      (fun k j => cn (ix3 0 k j)) (fun k j => cr (ix3 0 k j)) (fun k => v (ix2 k e)) (fun k => cv (ix3 0 k e)) := by
  pointwise [b0, k0_pay63, k0_pay64, k0_pay65, k0_pay66, k0_pay70, k0_pay71, oB, sB, two, rowMax]

/-- Latent head 1, as the body computes it. -/
def b1 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay72 (F := Ideal) (k0_pay67 (F := Ideal) kr qn qr kn) v (k0_pay68 (F := Ideal) (k0_pay63 (F := Ideal) cr) qn qr cn) (k0_pay69 (F := Ideal) cv)

theorem b1_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b1 qn qr kn kr cn cr v cv = b0 qn qr kn kr cn cr v cv := rfl

/-- Latent head 2, as the body computes it. -/
def b2 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay87 (F := Ideal) v (k0_pay75 (F := Ideal) cv) (k0_pay80 (F := Ideal) (k0_pay73 (F := Ideal) kr qn qr kn) (k0_pay74 (F := Ideal) (k0_pay63 (F := Ideal) cr) qn qr cn)) (k0_pay81 (F := Ideal) (k0_pay73 (F := Ideal) kr qn qr kn) (k0_pay74 (F := Ideal) (k0_pay63 (F := Ideal) cr) qn qr cn)) (k0_pay82 (F := Ideal) (k0_pay73 (F := Ideal) kr qn qr kn) (k0_pay74 (F := Ideal) (k0_pay63 (F := Ideal) cr) qn qr cn))

theorem b2_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b2 qn qr kn kr cn cr v cv = b0 qn qr kn kr cn cr v cv := rfl

/-- Latent head 3, as the body computes it. -/
def b3 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay88 (F := Ideal) v (k0_pay78 (F := Ideal) cv) (k0_pay84 (F := Ideal) (k0_pay63 (F := Ideal) cr) qn qr (k0_pay76 (F := Ideal) kr qn qr kn) cn) (k0_pay85 (F := Ideal) (k0_pay63 (F := Ideal) cr) qn qr (k0_pay76 (F := Ideal) kr qn qr kn) cn) (k0_pay86 (F := Ideal) (k0_pay63 (F := Ideal) cr) qn qr (k0_pay76 (F := Ideal) kr qn qr kn) cn)

theorem b3_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b3 qn qr kn kr cn cr v cv = b0 qn qr kn kr cn cr v cv := rfl

/-- Latent head 4, as the body computes it. -/
def b4 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay101 (F := Ideal) v (k0_pay93 (F := Ideal) cv) (k0_pay98 (F := Ideal) (k0_pay89 (F := Ideal) kr qn qr kn) (k0_pay90 (F := Ideal) (k0_pay63 (F := Ideal) cr) qn qr cn) (k0_pay91 (F := Ideal))) (k0_pay99 (F := Ideal) (k0_pay89 (F := Ideal) kr qn qr kn) (k0_pay90 (F := Ideal) (k0_pay63 (F := Ideal) cr) qn qr cn) (k0_pay91 (F := Ideal))) (k0_pay100 (F := Ideal) (k0_pay89 (F := Ideal) kr qn qr kn) (k0_pay90 (F := Ideal) (k0_pay63 (F := Ideal) cr) qn qr cn) (k0_pay91 (F := Ideal)))

theorem b4_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b4 qn qr kn kr cn cr v cv = b0 qn qr kn kr cn cr v cv := rfl

/-- Latent head 5, as the body computes it. -/
def b5 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay102 (F := Ideal) (k0_pay94 (F := Ideal) kr qn qr kn) v (k0_pay95 (F := Ideal) (k0_pay63 (F := Ideal) cr) qn qr cn) (k0_pay96 (F := Ideal) cv)

theorem b5_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b5 qn qr kn kr cn cr v cv = b0 qn qr kn kr cn cr v cv := rfl

/-- Latent head 6, as the body computes it. -/
def b6 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay1 (F := Ideal) (k0_pay114 (F := Ideal) (k0_pay103 (F := Ideal) kr qn qr kn) v (k0_pay104 (F := Ideal) (k0_pay63 (F := Ideal) cr) qn qr cn) (k0_pay105 (F := Ideal) cv))

theorem b6_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b6 qn qr kn kr cn cr v cv = b0 qn qr kn kr cn cr v cv := rfl

/-- Latent head 7, as the body computes it. -/
def b7 (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) : FVec Ideal S256x64 .bf16 :=
  k0_pay2 (F := Ideal) (k0_pay109 (F := Ideal) cv) (k0_pay112 (F := Ideal) (k0_pay106 (F := Ideal) kr qn qr kn) (k0_pay107 (F := Ideal) (k0_pay63 (F := Ideal) cr) qn qr cn)) (k0_pay113 (F := Ideal) (k0_pay106 (F := Ideal) kr qn qr kn) (k0_pay107 (F := Ideal) (k0_pay63 (F := Ideal) cr) qn qr cn)) (k0_pay115 (F := Ideal) (k0_pay106 (F := Ideal) kr qn qr kn) v (k0_pay107 (F := Ideal) (k0_pay63 (F := Ideal) cr) qn qr cn))

theorem b7_eq (qn : FVec Ideal S256x64 .bf16) (qr : FVec Ideal S256x32 .bf16) (kn : FVec Ideal S1024x64 .bf16)
    (kr : FVec Ideal S1024x32 .bf16) (cn : FVec Ideal S1x256x64 .bf16) (cr : FVec Ideal S1x256x32 .f32)
    (v : FVec Ideal S1024x64 .bf16) (cv : FVec Ideal S1x256x64 .bf16) :
    b7 qn qr kn kr cn cr v cv = b0 qn qr kn kr cn cr v cv := rfl

end Cert.EvenAttnIdeal.Body
-- ==== Proof.AttnBlocks.lean ====
module

public import proofs.«01_k».proof.Proof.AttnBodyA
public import proofs.«01_k».proof.Proof.AttnBodyB

@[expose] public section

set_option maxRecDepth 16384

/-! # What one grid point of the even attention writes

Grid point `t` handles the `t % 4`-th run of 256 queries of request `t / 4`.  The entries of its blocks are
entries of the whole arrays, and each 64 or 128 columns of a result block is one head. -/

noncomputable section

namespace Cert.EvenAttnIdeal.Final

open Cert.EvenAttnIdeal Cert.EvenAttnIdeal.Gen Cert.EvenAttnIdeal.Body Idealize.ShloMosaic Idealize.ShloMosaic.TcCoe Idealize.SL.Sem
open Idealize.ShloMosaic.Pipeline (Dat)
open Cert.AttnRow Cert.AttnMath

/-- Each window's block index at each point. -/
theorem idx : ∀ t : Fin cfg0.N, t.val < 16 ∧ win0_0.index t = ![0, 0] ∧ win0_1.index t = ![0, 0] ∧ win0_2.index t = ![0, 0] ∧ win0_3.index t = ![0, 0] ∧ win0_4.index t = ![0, 0] ∧ win0_5.index t = ![32 + t.val, 0] ∧ win0_6.index t = ![32 + t.val, 0] ∧ win0_7.index t = ![8 + t.val / 4, 0] ∧ win0_8.index t = ![8 + t.val / 4, 0] ∧ win0_9.index t = ![8 + t.val / 4, 0] ∧ win0_10.index t = ![8 + t.val / 4, 0] ∧ win0_11.index t = ![t.val / 4, 0, 0] ∧ win0_12.index t = ![t.val / 4, 0, 0] ∧ win0_13.index t = ![t.val / 4, 0, 0] ∧ win0_14.index t = ![t.val / 4, 0, 0] ∧ win0_15.index t = ![32 + t.val, 0] ∧ win0_16.index t = ![32 + t.val, 0] :=
  (by decide +kernel : ∀ t : Fin grid0.N, _)

/-- Row `r` of the query block at point `t`. -/
def tok (t : Fin cfg0.N) (r : Fin 256) : Fin 12288 := ⟨8192 + 256 * t.val + r, by have := (idx t).1; omega⟩

/-- The request point `t` belongs to. -/
def req (t : Fin cfg0.N) : Fin 4 := ⟨t.val / 4, by have := (idx t).1; omega⟩

/-- Row `k` of request `b` in the arrays of all rows. -/
def row (b : Fin 4) (k : Fin 1024) : Fin 12288 := ⟨8192 + 1024 * b.val + k, by omega⟩

section Blocks
variable (m : (ℓ : Loc nD τ sig) → Buf (Elt Ideal) ℓ) (c : Dev nD) (t : Fin cfg0.N)

theorem blk0 (j : Fin 64) :
    (show FVec Ideal S1x64 .f32 from iblk m c 0 t) (ix2 0 j) = (show FVec Ideal S1x64 .f32 from m ((c : Thread nD τ).loc main_arg0)) (ix2 0 j) := by
  blk_point [iblk, V, idx t, tok, row, req]

theorem blk1 (j : Fin 64) :
    (show FVec Ideal S1x64 .f32 from iblk m c 1 t) (ix2 0 j) = (show FVec Ideal S1x64 .f32 from m ((c : Thread nD τ).loc main_arg1)) (ix2 0 j) := by
  blk_point [iblk, V, idx t, tok, row, req]

theorem blk2 (j : Fin 64) :
    (show FVec Ideal S1x64 .f32 from iblk m c 2 t) (ix2 0 j) = (show FVec Ideal S1x64 .f32 from m ((c : Thread nD τ).loc main_arg2)) (ix2 0 j) := by
  blk_point [iblk, V, idx t, tok, row, req]

theorem blk3 (j : Fin 64) :
    (show FVec Ideal S1x64 .f32 from iblk m c 3 t) (ix2 0 j) = (show FVec Ideal S1x64 .f32 from m ((c : Thread nD τ).loc main_arg3)) (ix2 0 j) := by
  blk_point [iblk, V, idx t, tok, row, req]

theorem blk4 (j : Fin 128) :
    (show FVec Ideal S1x128 .f32 from iblk m c 4 t) (ix2 0 j) = (show FVec Ideal S1x128 .f32 from m ((c : Thread nD τ).loc main_arg4)) (ix2 0 j) := by
  blk_point [iblk, V, idx t, tok, row, req]

theorem blk5 (r : Fin 256) (j : Fin 512) :
    (show FVec Ideal S256x512 .bf16 from iblk m c 5 t) (ix2 r j) = (show FVec Ideal S12288x512 .bf16 from m ((c : Thread nD τ).loc main_arg5)) (ix2 (tok t r) j) := by
  blk_point [iblk, V, idx t, tok, row, req]

theorem blk6 (r : Fin 256) (j : Fin 768) :
    (show FVec Ideal S256x768 .bf16 from iblk m c 6 t) (ix2 r j) = (show FVec Ideal S12288x768 .bf16 from m ((c : Thread nD τ).loc main_arg6)) (ix2 (tok t r) j) := by
  blk_point [iblk, V, idx t, tok, row, req]

theorem blk7 (k : Fin 1024) (j : Fin 512) :
    (show FVec Ideal S1024x512 .bf16 from iblk m c 7 t) (ix2 k j) = (show FVec Ideal S12288x512 .bf16 from m ((c : Thread nD τ).loc main_arg7)) (ix2 (row (req t) k) j) := by
  blk_point [iblk, V, idx t, tok, row, req]

theorem blk8 (k : Fin 1024) (j : Fin 512) :
    (show FVec Ideal S1024x512 .bf16 from iblk m c 8 t) (ix2 k j) = (show FVec Ideal S12288x512 .bf16 from m ((c : Thread nD τ).loc main_arg8)) (ix2 (row (req t) k) j) := by
  blk_point [iblk, V, idx t, tok, row, req]

theorem blk9 (k : Fin 1024) (j : Fin 1024) :
    (show FVec Ideal S1024x1024 .bf16 from iblk m c 9 t) (ix2 k j) = (show FVec Ideal S12288x1024 .bf16 from m ((c : Thread nD τ).loc main_arg9)) (ix2 (row (req t) k) j) := by
  blk_point [iblk, V, idx t, tok, row, req]

theorem blk10 (k : Fin 1024) (j : Fin 32) :
    (show FVec Ideal S1024x32 .bf16 from iblk m c 10 t) (ix2 k j) = (show FVec Ideal S12288x32 .bf16 from m ((c : Thread nD τ).loc main_arg10)) (ix2 (row (req t) k) j) := by
  blk_point [iblk, V, idx t, tok, row, req]

theorem blk11 (k : Fin 256) (j : Fin 512) :
    (show FVec Ideal S1x256x512 .f32 from iblk m c 11 t) (ix3 0 k j) = (show FVec Ideal S4x256x512 .f32 from m ((c : Thread nD τ).loc main_arg11)) (ix3 (req t) k j) := by
  blk_point [iblk, V, idx t, tok, row, req]

theorem blk12 (k : Fin 256) (j : Fin 512) :
    (show FVec Ideal S1x256x512 .f32 from iblk m c 12 t) (ix3 0 k j) = (show FVec Ideal S4x256x512 .f32 from m ((c : Thread nD τ).loc main_arg12)) (ix3 (req t) k j) := by
  blk_point [iblk, V, idx t, tok, row, req]

theorem blk13 (k : Fin 256) (j : Fin 1024) :
    (show FVec Ideal S1x256x1024 .bf16 from iblk m c 13 t) (ix3 0 k j) = (show FVec Ideal S1024x1024 .bf16 from m ((c : Thread nD τ).loc main_arg13)) (ix2 ⟨256 * (req t).val + k, by omega⟩ j) := by
  blk_point [iblk, V, idx t, tok, row, req]

theorem blk14 (k : Fin 256) (j : Fin 32) :
    (show FVec Ideal S1x256x32 .f32 from iblk m c 14 t) (ix3 0 k j) = (show FVec Ideal S4x256x32 .f32 from m ((c : Thread nD τ).loc main_arg14)) (ix3 (req t) k j) := by
  blk_point [iblk, V, idx t, tok, row, req]

end Blocks

end Cert.EvenAttnIdeal.Final
-- ==== Proof.AttnOut.lean ====
module

public import proofs.«01_k».proof.Proof.AttnBlocks

@[expose] public section

set_option maxRecDepth 16384

/-! # The two result blocks of one grid point, head by head -/

noncomputable section

namespace Cert.EvenAttnIdeal.Final

open Cert.EvenAttnIdeal Cert.EvenAttnIdeal.Gen Cert.EvenAttnIdeal.Body Idealize.ShloMosaic Idealize.ShloMosaic.TcCoe Idealize.SL.Sem
open Cert.AttnRow Cert.AttnMath

/-- A load of a run of columns, of a matrix or of a stack of one, reads the columns it names. -/
theorem ldr {s : Shape} {e : EltTy} (X : s.Idx → Elt Ideal e) (off size : Fin s.rank → Nat) (inb)
    (x : (Rect.unit off size inb).shape.Idx) (i : s.Idx) (hi : ∀ a, (i a : Nat) = off a + x a) :
    View.ld X (Rect.unit off size inb) x = X i := View.ld_unit_apply_of X off size inb x i hi

theorem out15_at (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S256x768 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x32 .bf16) (harg12 : arg12.IsWhole) (arg13 : Memref sig .tc .vmem S1x256x512 .f32) (harg13 : arg13.IsWhole) (arg14 : Memref sig .tc .vmem S1x256x512 .f32) (harg14 : arg14.IsWhole) (arg15 : Memref sig .tc .vmem S1x256x1024 .bf16) (harg15 : arg15.IsWhole) (arg16 : Memref sig .tc .vmem S1x256x32 .f32) (harg16 : arg16.IsWhole) (arg19 : Memref sig .tc .vmem S256x512 .bf16) (harg19 : arg19.IsWhole) (arg20 : Memref sig .tc .vmem S256x512 .bf16) (harg20 : arg20.IsWhole)
        (x0 : Vec Ideal S1x64 .f32) (x1 : Vec Ideal S1x64 .f32) (x2 : Vec Ideal S1x64 .f32) (x3 : Vec Ideal S1x64 .f32) (x4 : Vec Ideal S1x128 .f32) (x5 : Vec Ideal S256x512 .bf16) (x6 : Vec Ideal S256x768 .bf16) (x7 : Vec Ideal S1024x512 .bf16) (x8 : Vec Ideal S1024x512 .bf16) (x9 : Vec Ideal S1024x1024 .bf16) (x10 : Vec Ideal S1024x32 .bf16) (x11 : Vec Ideal S1x256x512 .f32) (x12 : Vec Ideal S1x256x512 .f32) (x13 : Vec Ideal S1x256x1024 .bf16) (x14 : Vec Ideal S1x256x32 .f32) (r : Fin 256) (hd : Fin 4) (e : Fin 128) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20 x0 x1 x2 x3 x4 x5 x6 x7 x8 x9 x10 x11 x12 x13 x14 (ix2 r (colA hd e))
      = headA (fun j => x0 (ix2 0 j)) (fun j => x1 (ix2 0 j)) (fun j => x2 (ix2 0 j)) (fun j => x3 (ix2 0 j)) (fun j => x4 (ix2 0 j)) (fun j => x5 (ix2 r j)) (fun k j => x7 (ix2 k j)) (fun k j => x8 (ix2 k j)) (fun k j => x11 (ix3 0 k j)) (fun k j => x12 (ix3 0 k j)) hd e := by
  frame_out
  canon_tiles x h
  · obtain ⟨r', e', rfl⟩ : ∃ (r' : Fin 256) (e' : Fin 128), x = ix2 r' e' := ⟨_, _, eq_ix2 x⟩
    simp only [ix2_0, ix2_1, colA] at h0 h1
    have he := e.isLt
    have he' := e'.isLt
    have hh : hd.val = 3 := by omega
    obtain rfl : r = r' := Fin.ext (by omega)
    obtain rfl : e = e' := Fin.ext (by omega)
    obtain rfl : hd = 3 := Fin.ext hh
    refine ((congrFun (a3_eq _ _ _ _ _ _ _ _ _ _ _ _ _) _).trans (a0_at _ _ _ _ _ _ _ _ _ _ _ _ _ _ _)).trans ?_
    exact rmsA_congr (fun j => ldr _ _ _ _ _ _ (fun a => by match a with | ⟨0, _⟩ => simp | ⟨1, _⟩ => (simp [colA1]; try omega))) (fun j => ldr _ _ _ _ _ _ (fun a => by match a with | ⟨0, _⟩ => simp | ⟨1, _⟩ => (simp [colA2]; try omega))) (fun k j => ldr _ _ _ _ _ _ (fun a => by match a with | ⟨0, _⟩ => simp | ⟨1, _⟩ => (simp [colA1]; try omega))) (fun k j => ldr _ _ _ _ _ _ (fun a => by match a with | ⟨0, _⟩ => simp | ⟨1, _⟩ => (simp [colA2]; try omega)))
      (fun k j => ldr _ _ _ _ _ _ (fun a => by match a with | ⟨0, _⟩ => simp | ⟨1, _⟩ => simp | ⟨2, _⟩ => (simp [colA1]; try omega))) (fun k j => ldr _ _ _ _ _ _ (fun a => by match a with | ⟨0, _⟩ => simp | ⟨1, _⟩ => simp | ⟨2, _⟩ => (simp [colA2]; try omega))) (fun k j => ldr _ _ _ _ _ _ (fun a => by match a with | ⟨0, _⟩ => simp | ⟨1, _⟩ => (simp [colA]; try omega))) (fun k j => ldr _ _ _ _ _ _ (fun a => by match a with | ⟨0, _⟩ => simp | ⟨1, _⟩ => simp | ⟨2, _⟩ => (simp [colA]; try omega)))
  · obtain ⟨r', e', rfl⟩ : ∃ (r' : Fin 256) (e' : Fin 128), x = ix2 r' e' := ⟨_, _, eq_ix2 x⟩
    simp only [ix2_0, ix2_1, colA] at h0 h1
    have he := e.isLt
    have he' := e'.isLt
    have hh : hd.val = 2 := by omega
    obtain rfl : r = r' := Fin.ext (by omega)
    obtain rfl : e = e' := Fin.ext (by omega)
    obtain rfl : hd = 2 := Fin.ext hh
    refine ((congrFun (a2_eq _ _ _ _ _ _ _ _ _ _ _ _ _) _).trans (a0_at _ _ _ _ _ _ _ _ _ _ _ _ _ _ _)).trans ?_
    exact rmsA_congr (fun j => ldr _ _ _ _ _ _ (fun a => by match a with | ⟨0, _⟩ => simp | ⟨1, _⟩ => (simp [colA1]; try omega))) (fun j => ldr _ _ _ _ _ _ (fun a => by match a with | ⟨0, _⟩ => simp | ⟨1, _⟩ => (simp [colA2]; try omega))) (fun k j => ldr _ _ _ _ _ _ (fun a => by match a with | ⟨0, _⟩ => simp | ⟨1, _⟩ => (simp [colA1]; try omega))) (fun k j => ldr _ _ _ _ _ _ (fun a => by match a with | ⟨0, _⟩ => simp | ⟨1, _⟩ => (simp [colA2]; try omega)))
      (fun k j => ldr _ _ _ _ _ _ (fun a => by match a with | ⟨0, _⟩ => simp | ⟨1, _⟩ => simp | ⟨2, _⟩ => (simp [colA1]; try omega))) (fun k j => ldr _ _ _ _ _ _ (fun a => by match a with | ⟨0, _⟩ => simp | ⟨1, _⟩ => simp | ⟨2, _⟩ => (simp [colA2]; try omega))) (fun k j => ldr _ _ _ _ _ _ (fun a => by match a with | ⟨0, _⟩ => simp | ⟨1, _⟩ => (simp [colA]; try omega))) (fun k j => ldr _ _ _ _ _ _ (fun a => by match a with | ⟨0, _⟩ => simp | ⟨1, _⟩ => simp | ⟨2, _⟩ => (simp [colA]; try omega)))
  · obtain ⟨r', e', rfl⟩ : ∃ (r' : Fin 256) (e' : Fin 128), x = ix2 r' e' := ⟨_, _, eq_ix2 x⟩
    simp only [ix2_0, ix2_1, colA] at h0 h1
    have he := e.isLt
    have he' := e'.isLt
    have hh : hd.val = 1 := by omega
    obtain rfl : r = r' := Fin.ext (by omega)
    obtain rfl : e = e' := Fin.ext (by omega)
    obtain rfl : hd = 1 := Fin.ext hh
    refine ((congrFun (a1_eq _ _ _ _ _ _ _ _ _ _ _ _ _) _).trans (a0_at _ _ _ _ _ _ _ _ _ _ _ _ _ _ _)).trans ?_
    exact rmsA_congr (fun j => ldr _ _ _ _ _ _ (fun a => by match a with | ⟨0, _⟩ => simp | ⟨1, _⟩ => (simp [colA1]; try omega))) (fun j => ldr _ _ _ _ _ _ (fun a => by match a with | ⟨0, _⟩ => simp | ⟨1, _⟩ => (simp [colA2]; try omega))) (fun k j => ldr _ _ _ _ _ _ (fun a => by match a with | ⟨0, _⟩ => simp | ⟨1, _⟩ => (simp [colA1]; try omega))) (fun k j => ldr _ _ _ _ _ _ (fun a => by match a with | ⟨0, _⟩ => simp | ⟨1, _⟩ => (simp [colA2]; try omega)))
      (fun k j => ldr _ _ _ _ _ _ (fun a => by match a with | ⟨0, _⟩ => simp | ⟨1, _⟩ => simp | ⟨2, _⟩ => (simp [colA1]; try omega))) (fun k j => ldr _ _ _ _ _ _ (fun a => by match a with | ⟨0, _⟩ => simp | ⟨1, _⟩ => simp | ⟨2, _⟩ => (simp [colA2]; try omega))) (fun k j => ldr _ _ _ _ _ _ (fun a => by match a with | ⟨0, _⟩ => simp | ⟨1, _⟩ => (simp [colA]; try omega))) (fun k j => ldr _ _ _ _ _ _ (fun a => by match a with | ⟨0, _⟩ => simp | ⟨1, _⟩ => simp | ⟨2, _⟩ => (simp [colA]; try omega)))
  · obtain ⟨r', e', rfl⟩ : ∃ (r' : Fin 256) (e' : Fin 128), x = ix2 r' e' := ⟨_, _, eq_ix2 x⟩
    simp only [ix2_0, ix2_1, colA] at h0 h1
    have he := e.isLt
    have he' := e'.isLt
    have hh : hd.val = 0 := by omega
    obtain rfl : r = r' := Fin.ext (by omega)
    obtain rfl : e = e' := Fin.ext (by omega)
    obtain rfl : hd = 0 := Fin.ext hh
    refine ((a0_at _ _ _ _ _ _ _ _ _ _ _ _ _ _ _)).trans ?_
    exact rmsA_congr (fun j => ldr _ _ _ _ _ _ (fun a => by match a with | ⟨0, _⟩ => simp | ⟨1, _⟩ => (simp [colA1]; try omega))) (fun j => ldr _ _ _ _ _ _ (fun a => by match a with | ⟨0, _⟩ => simp | ⟨1, _⟩ => (simp [colA2]; try omega))) (fun k j => ldr _ _ _ _ _ _ (fun a => by match a with | ⟨0, _⟩ => simp | ⟨1, _⟩ => (simp [colA1]; try omega))) (fun k j => ldr _ _ _ _ _ _ (fun a => by match a with | ⟨0, _⟩ => simp | ⟨1, _⟩ => (simp [colA2]; try omega)))
      (fun k j => ldr _ _ _ _ _ _ (fun a => by match a with | ⟨0, _⟩ => simp | ⟨1, _⟩ => simp | ⟨2, _⟩ => (simp [colA1]; try omega))) (fun k j => ldr _ _ _ _ _ _ (fun a => by match a with | ⟨0, _⟩ => simp | ⟨1, _⟩ => simp | ⟨2, _⟩ => (simp [colA2]; try omega))) (fun k j => ldr _ _ _ _ _ _ (fun a => by match a with | ⟨0, _⟩ => simp | ⟨1, _⟩ => (simp [colA]; try omega))) (fun k j => ldr _ _ _ _ _ _ (fun a => by match a with | ⟨0, _⟩ => simp | ⟨1, _⟩ => simp | ⟨2, _⟩ => (simp [colA]; try omega)))

theorem out16_at (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S256x768 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x32 .bf16) (harg12 : arg12.IsWhole) (arg13 : Memref sig .tc .vmem S1x256x512 .f32) (harg13 : arg13.IsWhole) (arg14 : Memref sig .tc .vmem S1x256x512 .f32) (harg14 : arg14.IsWhole) (arg15 : Memref sig .tc .vmem S1x256x1024 .bf16) (harg15 : arg15.IsWhole) (arg16 : Memref sig .tc .vmem S1x256x32 .f32) (harg16 : arg16.IsWhole) (arg19 : Memref sig .tc .vmem S256x512 .bf16) (harg19 : arg19.IsWhole) (arg20 : Memref sig .tc .vmem S256x512 .bf16) (harg20 : arg20.IsWhole)
        (x0 : Vec Ideal S1x64 .f32) (x1 : Vec Ideal S1x64 .f32) (x2 : Vec Ideal S1x64 .f32) (x3 : Vec Ideal S1x64 .f32) (x4 : Vec Ideal S1x128 .f32) (x5 : Vec Ideal S256x512 .bf16) (x6 : Vec Ideal S256x768 .bf16) (x7 : Vec Ideal S1024x512 .bf16) (x8 : Vec Ideal S1024x512 .bf16) (x9 : Vec Ideal S1024x1024 .bf16) (x10 : Vec Ideal S1024x32 .bf16) (x11 : Vec Ideal S1x256x512 .f32) (x12 : Vec Ideal S1x256x512 .f32) (x13 : Vec Ideal S1x256x1024 .bf16) (x14 : Vec Ideal S1x256x32 .f32) (r : Fin 256) (hd : Fin 8) (e : Fin 64) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20 x0 x1 x2 x3 x4 x5 x6 x7 x8 x9 x10 x11 x12 x13 x14 (ix2 r (colB hd e))
      = headB (fun j => x6 (ix2 r j)) (fun k j => x9 (ix2 k j)) (fun k j => x10 (ix2 k j)) (fun k j => x13 (ix3 0 k j)) (fun k j => x14 (ix3 0 k j)) hd e := by
  frame_out
  canon_tiles x h
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 7 := by omega
    obtain rfl : r = r' := Fin.ext (by omega)
    obtain rfl : e = e' := Fin.ext (by omega)
    obtain rfl : hd = 7 := Fin.ext hh
    refine ((congrFun (b7_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 6 := by omega
    obtain rfl : r = r' := Fin.ext (by omega)
    obtain rfl : e = e' := Fin.ext (by omega)
    obtain rfl : hd = 6 := Fin.ext hh
    refine ((congrFun (b6_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 5 := by omega
    obtain rfl : r = r' := Fin.ext (by omega)
    obtain rfl : e = e' := Fin.ext (by omega)
    obtain rfl : hd = 5 := Fin.ext hh
    refine ((congrFun (b5_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 4 := by omega
    obtain rfl : r = r' := Fin.ext (by omega)
    obtain rfl : e = e' := Fin.ext (by omega)
    obtain rfl : hd = 4 := Fin.ext hh
    refine ((congrFun (b4_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 3 := by omega
    obtain rfl : r = r' := Fin.ext (by omega)
    obtain rfl : e = e' := Fin.ext (by omega)
    obtain rfl : hd = 3 := Fin.ext hh
    refine ((congrFun (b3_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 2 := by omega
    obtain rfl : r = r' := Fin.ext (by omega)
    obtain rfl : e = e' := Fin.ext (by omega)
    obtain rfl : hd = 2 := Fin.ext hh
    refine ((congrFun (b2_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 1 := by omega
    obtain rfl : r = r' := Fin.ext (by omega)
    obtain rfl : e = e' := Fin.ext (by omega)
    obtain rfl : hd = 1 := Fin.ext hh
    refine ((congrFun (b1_eq _ _ _ _ _ _ _ _) _).trans (b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))
  · obtain ⟨r', e', rfl⟩ : ∃ (r' : Fin 256) (e' : Fin 64), x = ix2 r' e' := ⟨_, _, eq_ix2 x⟩
    simp only [ix2_0, ix2_1, colB] at h0 h1
    have he := e.isLt
    have he' := e'.isLt
    have hh : hd.val = 0 := by omega
    obtain rfl : r = r' := Fin.ext (by omega)
    obtain rfl : e = e' := Fin.ext (by omega)
    obtain rfl : hd = 0 := Fin.ext hh
    refine ((b0_at _ _ _ _ _ _ _ _ _ _)).trans ?_
    exact oB_congr (fun j => ldr _ _ _ _ _ _ (fun a => by match a with | ⟨0, _⟩ => simp | ⟨1, _⟩ => (simp [colQ]; try omega))) (fun j => ldr _ _ _ _ _ _ (fun a => by match a with | ⟨0, _⟩ => simp | ⟨1, _⟩ => (simp [colR]; try omega))) (fun k j => ldr _ _ _ _ _ _ (fun a => by match a with | ⟨0, _⟩ => simp | ⟨1, _⟩ => (simp [colK]; try omega))) (fun _ _ => rfl)
      (fun k j => ldr _ _ _ _ _ _ (fun a => by match a with | ⟨0, _⟩ => simp | ⟨1, _⟩ => simp | ⟨2, _⟩ => (simp [colK]; try omega))) (fun _ _ => rfl) (fun k => ldr _ _ _ _ _ _ (fun a => by match a with | ⟨0, _⟩ => simp | ⟨1, _⟩ => (simp [colV]; try omega))) (fun k => ldr _ _ _ _ _ _ (fun a => by match a with | ⟨0, _⟩ => simp | ⟨1, _⟩ => simp | ⟨2, _⟩ => (simp [colV]; try omega)))

end Cert.EvenAttnIdeal.Final
-- ==== Proof.AttnFinal.lean ====
module

public import proofs.«01_k».proof.Proof.AttnOut

@[expose] public section

set_option maxRecDepth 16384

/-! # The even attention's two result arrays after the kernel's run

The rows from 8192 on are written, one block of 256 per grid point; the rows before them keep what the aliased
argument held. -/

noncomputable section

namespace Cert.EvenAttnIdeal.Final

open Cert.EvenAttnIdeal Cert.EvenAttnIdeal.Gen Cert.EvenAttnIdeal.Body Idealize.ShloMosaic Idealize.ShloMosaic.TcCoe Idealize.SL.Sem
open Idealize.ShloMosaic.Pipeline (Dat)
open Cert.AttnRow Cert.AttnMath

/-- The differential heads' result at row `ρ` of request `b`. -/
def valA (a0 a1 a2 a3 : FVec Ideal S1x64 .f32) (a4 : FVec Ideal S1x128 .f32) (a5 a7 a8 : FVec Ideal S12288x512 .bf16)
    (a11 a12 : FVec Ideal S4x256x512 .f32) (ρ : Fin 12288) (b : Fin 4) (h : Fin 4) (e : Fin 128) : EReal :=
  headA (fun j => a0 (ix2 0 j)) (fun j => a1 (ix2 0 j)) (fun j => a2 (ix2 0 j)) (fun j => a3 (ix2 0 j)) (fun j => a4 (ix2 0 j))
    (fun j => a5 (ix2 ρ j)) (fun k j => a7 (ix2 (row b k) j)) (fun k j => a8 (ix2 (row b k) j))
    (fun k j => a11 (ix3 b k j)) (fun k j => a12 (ix3 b k j)) h e

/-- The latent heads' result at row `ρ` of request `b`. -/
def valB (a6 : FVec Ideal S12288x768 .bf16) (a9 : FVec Ideal S12288x1024 .bf16) (a10 : FVec Ideal S12288x32 .bf16)
    (a13 : FVec Ideal S1024x1024 .bf16) (a14 : FVec Ideal S4x256x32 .f32) (ρ : Fin 12288) (b : Fin 4) (h : Fin 8) (e : Fin 64) : EReal :=
  headB (fun j => a6 (ix2 ρ j)) (fun k j => a9 (ix2 (row b k) j)) (fun k j => a10 (ix2 (row b k) j))
    (fun k j => a13 (ix2 ⟨256 * b.val + k, by omega⟩ j)) (fun k j => a14 (ix3 b k j)) h e

/-- The request of a row. -/
def reqOf (ρ : Fin 12288) : Fin 4 := ⟨(ρ.val - 8192) / 1024, by omega⟩

/-- A column's differential head, and its place in it. -/
def hdA (n : Fin 512) : Fin 4 := ⟨n.val / 128, by omega⟩
def enA (n : Fin 512) : Fin 128 := ⟨n.val % 128, by omega⟩
/-- A column's latent head, and its place in it. -/
def hdB (n : Fin 512) : Fin 8 := ⟨n.val / 64, by omega⟩
def enB (n : Fin 512) : Fin 64 := ⟨n.val % 64, by omega⟩

theorem colA_hd (n : Fin 512) : colA (hdA n) (enA n) = n := Fin.ext (by simp only [colA, hdA, enA]; omega)
theorem colB_hd (n : Fin 512) : colB (hdB n) (enB n) = n := Fin.ext (by simp only [colB, hdB, enB]; omega)

/-- The first result array. -/
def res0 (a0 a1 a2 a3 : FVec Ideal S1x64 .f32) (a4 : FVec Ideal S1x128 .f32) (a5 a7 a8 : FVec Ideal S12288x512 .bf16)
    (a11 a12 : FVec Ideal S4x256x512 .f32) (a15 : FVec Ideal S12288x512 .bf16) : FVec Ideal S12288x512 .bf16 :=
  fun i => if 32 * 256 ≤ (i 0 : ℕ) then
    valA a0 a1 a2 a3 a4 a5 a7 a8 a11 a12 (i 0) (reqOf (i 0)) (hdA (i 1)) (enA (i 1)) else a15 i

/-- The second result array. -/
def res1 (a6 : FVec Ideal S12288x768 .bf16) (a9 : FVec Ideal S12288x1024 .bf16) (a10 : FVec Ideal S12288x32 .bf16)
    (a13 : FVec Ideal S1024x1024 .bf16) (a14 : FVec Ideal S4x256x32 .f32) (a16 : FVec Ideal S12288x512 .bf16) :
    FVec Ideal S12288x512 .bf16 :=
  fun i => if 32 * 256 ≤ (i 0 : ℕ) then
    valB a6 a9 a10 a13 a14 (i 0) (reqOf (i 0)) (hdB (i 1)) (enB (i 1)) else a16 i

theorem headA_congr {x0 x1 x2 x3 y0 y1 y2 y3 : Fin 64 → EReal} {g g' : Fin 128 → EReal} {q p : Fin 512 → EReal}
    {k v k' v' : Fin 1024 → Fin 512 → EReal} {ck cv ck' cv' : Fin 256 → Fin 512 → EReal} {h : Fin 4} {e : Fin 128}
    (h0 : ∀ j, x0 j = y0 j) (h1 : ∀ j, x1 j = y1 j) (h2 : ∀ j, x2 j = y2 j) (h3 : ∀ j, x3 j = y3 j) (h4 : ∀ j, g j = g' j)
    (h5 : ∀ j, q j = p j) (h7 : ∀ i j, k i j = k' i j) (h8 : ∀ i j, v i j = v' i j) (h11 : ∀ i j, ck i j = ck' i j)
    (h12 : ∀ i j, cv i j = cv' i j) : headA x0 x1 x2 x3 g q k v ck cv h e = headA y0 y1 y2 y3 g' p k' v' ck' cv' h e := by
  obtain rfl := funext h0
  obtain rfl := funext h1
  obtain rfl := funext h2
  obtain rfl := funext h3
  obtain rfl := funext h4
  obtain rfl := funext h5
  obtain rfl := funext fun i => funext (h7 i)
  obtain rfl := funext fun i => funext (h8 i)
  obtain rfl := funext fun i => funext (h11 i)
  obtain rfl := funext fun i => funext (h12 i)
  rfl

theorem headB_congr {q p : Fin 768 → EReal} {kv kv' : Fin 1024 → Fin 1024 → EReal} {kr kr' : Fin 1024 → Fin 32 → EReal}
    {ckv ckv' : Fin 256 → Fin 1024 → EReal} {ckr ckr' : Fin 256 → Fin 32 → EReal} {h : Fin 8} {e : Fin 64}
    (h6 : ∀ j, q j = p j) (h9 : ∀ i j, kv i j = kv' i j) (h10 : ∀ i j, kr i j = kr' i j) (h13 : ∀ i j, ckv i j = ckv' i j)
    (h14 : ∀ i j, ckr i j = ckr' i j) : headB q kv kr ckv ckr h e = headB p kv' kr' ckv' ckr' h e := by
  obtain rfl := funext h6
  obtain rfl := funext fun i => funext (h9 i)
  obtain rfl := funext fun i => funext (h10 i)
  obtain rfl := funext fun i => funext (h13 i)
  obtain rfl := funext fun i => funext (h14 i)
  rfl

variable (m : (ℓ : Loc nD τ sig) → Buf (Elt Ideal) ℓ) (c : Dev nD)

theorem V_v1_0 : V m c main_v1_0 = m ((c : Thread nD τ).loc main_arg15) := by unfold V; after_results; try rfl
theorem V_v1_1 : V m c main_v1_1 = m ((c : Thread nD τ).loc main_arg16) := by unfold V; after_results; try rfl

theorem reqOf_tok (t : Fin cfg0.N) (r : Fin 256) : reqOf (tok t r) = req t :=
  Fin.ext (by simp only [reqOf, tok, req]; omega)

theorem point15 (t : Fin cfg0.N) (r : Fin 256) (h : Fin 4) (e : Fin 128) :
    (outsAt0 m c t).1 (ix2 r (colA h e)) = valA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (tok t r) (req t) h e := by
  unfold outsAt0
  exact Eq.trans (out15_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r h e)
    (headA_congr (blk0 m c t) (blk1 m c t) (blk2 m c t) (blk3 m c t) (blk4 m c t) (blk5 m c t r) (blk7 m c t) (blk8 m c t)
    (blk11 m c t) (blk12 m c t))

theorem point16 (t : Fin cfg0.N) (r : Fin 256) (h : Fin 8) (e : Fin 64) :
    (outsAt0 m c t).2 (ix2 r (colB h e)) = valB (m ((c : Thread nD τ).loc main_arg6)) (m ((c : Thread nD τ).loc main_arg9)) (m ((c : Thread nD τ).loc main_arg10)) (m ((c : Thread nD τ).loc main_arg13)) (m ((c : Thread nD τ).loc main_arg14)) (tok t r) (req t) h e := by
  unfold outsAt0
  exact Eq.trans (out16_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r h e)
    (headB_congr (blk6 m c t r) (blk9 m c t) (blk10 m c t) (blk13 m c t) (blk14 m c t))

/-- The first result array after the run. -/
theorem final15 : (dats m 0 c).arrAt 15 cfg0.N = res0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg15)) := by
  rw [← V_v1_0 m c]
  refine (dats m 0 c).arrAt_eq_of_coversWhere 15 _ (fun β => 32 ≤ β 0) (by decide +kernel) (fun t hf y => ?_)
    (fun j => by blk_simp [Pipeline.Window.cell_apply]; omega)
  blk_simp
  rw [after0_15]
  idx_vars y
  have e : ((cfg0.win 15).blk t).view.emb (ix2 y0 y1) = ix2 (tok t y0) y1 := by
    blk_ext [idx t, tok]
  show _ = valA _ _ _ _ _ _ _ _ _ _ (((cfg0.win 15).blk t).view.emb (ix2 y0 y1) 0) (reqOf (((cfg0.win 15).blk t).view.emb (ix2 y0 y1) 0))
    (hdA (((cfg0.win 15).blk t).view.emb (ix2 y0 y1) 1)) (enA (((cfg0.win 15).blk t).view.emb (ix2 y0 y1) 1))
  rw [e]
  show _ = valA _ _ _ _ _ _ _ _ _ _ (tok t y0) (reqOf (tok t y0)) (hdA y1) (enA y1)
  rw [reqOf_tok, ← point15, colA_hd]

/-- The second result array after the run. -/
theorem final16 : (dats m 0 c).arrAt 16 cfg0.N = res1 (m ((c : Thread nD τ).loc main_arg6)) (m ((c : Thread nD τ).loc main_arg9)) (m ((c : Thread nD τ).loc main_arg10)) (m ((c : Thread nD τ).loc main_arg13)) (m ((c : Thread nD τ).loc main_arg14)) (m ((c : Thread nD τ).loc main_arg16)) := by
  rw [← V_v1_1 m c]
  refine (dats m 0 c).arrAt_eq_of_coversWhere 16 _ (fun β => 32 ≤ β 0) (by decide +kernel) (fun t hf y => ?_)
    (fun j => by blk_simp [Pipeline.Window.cell_apply]; omega)
  blk_simp
  rw [after0_16]
  idx_vars y
  have e : ((cfg0.win 16).blk t).view.emb (ix2 y0 y1) = ix2 (tok t y0) y1 := by
    blk_ext [idx t, tok]
  show _ = valB _ _ _ _ _ (((cfg0.win 16).blk t).view.emb (ix2 y0 y1) 0) (reqOf (((cfg0.win 16).blk t).view.emb (ix2 y0 y1) 0))
    (hdB (((cfg0.win 16).blk t).view.emb (ix2 y0 y1) 1)) (enB (((cfg0.win 16).blk t).view.emb (ix2 y0 y1) 1))
  rw [e]
  show _ = valB _ _ _ _ _ (tok t y0) (reqOf (tok t y0)) (hdB y1) (enB y1)
  rw [reqOf_tok, ← point16, colB_hd]

end Cert.EvenAttnIdeal.Final
-- ==== Proof.AttnMatch.lean ====
module

public import proofs.«01_k».proof.Proof.AttnRefOut
public import proofs.«01_k».proof.Proof.AttnRefSoftB
public import proofs.«01_k».proof.Proof.AttnFinal

@[expose] public section

set_option maxRecDepth 16384

/-! # The kernel's two attention arrays are the reference's, on finite arguments -/

noncomputable section

namespace Cert.EvenRefIdeal.Match

open Cert.EvenRefIdeal Cert.EvenRefIdeal.Read Cert.EvenRefIdeal.Rows Idealize.ShloMosaic Idealize.ShloMosaic.TcCoe
open Cert.AttnRow Cert.AttnMath
open Cert.EvenAttnIdeal.Final (valA valB reqOf hdA enA hdB enB res0 res1 row)

theorem joinKeys_real {x : Fin 1024 → EReal} {y : Fin 256 → EReal} (hx : ∀ k, IsReal (x k)) (hy : ∀ k, IsReal (y k)) (k : Fin 1280) :
    IsReal (joinKeys x y k) := by
  unfold joinKeys
  split
  · exact hx _
  · exact hy _

theorem joinKeys_lo {α : Type} (x : Fin 1024 → α) (y : Fin 256 → α) (k : Fin 1024) : joinKeys x y ⟨k, by omega⟩ = x k := by
  unfold joinKeys
  rw [dif_pos k.isLt]

theorem joinKeys_hi {α : Type} (x : Fin 1024 → α) (y : Fin 256 → α) (k : Fin 256) : joinKeys x y ⟨1024 + k, by omega⟩ = y k := by
  unfold joinKeys
  rw [dif_neg (by simp)]
  exact congrArg y (Fin.ext (by simp))

/-- A difference of two attentions, over the keys laid end to end. -/
theorem dA_eq {l : EReal} (hl : IsReal l) {q1 q2 : Fin 64 → EReal} {k1 k2 : Fin 1024 → Fin 64 → EReal}
    {c1 c2 : Fin 256 → Fin 64 → EReal} {v : Fin 1024 → Fin 128 → EReal} {cv : Fin 256 → Fin 128 → EReal} {e : Fin 128}
    (s s' w : Fin 1280 → EReal) (hs : ∀ k, IsReal (s k)) (hs' : ∀ k, IsReal (s' k)) (hw : ∀ k, IsReal (w k))
    (h1 : ∀ k : Fin 1024, sA q1 (k1 k) = s ⟨k, by omega⟩) (h2 : ∀ k : Fin 256, sA q1 (c1 k) = s ⟨1024 + k, by omega⟩)
    (h3 : ∀ k : Fin 1024, sA q2 (k2 k) = s' ⟨k, by omega⟩) (h4 : ∀ k : Fin 256, sA q2 (c2 k) = s' ⟨1024 + k, by omega⟩)
    (h5 : ∀ k : Fin 1024, v k e = w ⟨k, by omega⟩) (h6 : ∀ k : Fin 256, cv k e = w ⟨1024 + k, by omega⟩) :
    dA l q1 q2 k1 k2 c1 c2 v cv e = ∑ k, (wt s k - l * wt s' k) * w k := by
  unfold dA
  rw [two_eq (by omega) (by omega : 1280 = 1024 + 256) s w hs hw _ _ _ _ h1 h2 h5 h6,
    two_eq (by omega) (by omega : 1280 = 1024 + 256) s' w hs' hw _ _ _ _ h3 h4 h5 h6,
    wt_diff (wt_real (by omega) hs) (wt_real (by omega) hs') hw hl]

section
variable {x0 x1 x2 x3 : FVec Ideal S1x64 .f32} {x4 : FVec Ideal S1x128 .f32} {x5 : FVec Ideal S12288x512 .bf16}
  {x6 : FVec Ideal S12288x768 .bf16} {x7 x8 : FVec Ideal S12288x512 .bf16} {x9 : FVec Ideal S12288x1024 .bf16}
  {x10 : FVec Ideal S12288x32 .bf16} {x11 x12 : FVec Ideal S4x256x512 .f32} {x13 : FVec Ideal S1024x1024 .bf16}
  {x14 : FVec Ideal S4x256x32 .f32} {x15 x16 : FVec Ideal S12288x512 .bf16}

theorem lam_real (h0 : ∀ i, IsReal (x0 i)) (h1 : ∀ i, IsReal (x1 i)) (h2 : ∀ i, IsReal (x2 i)) (h3 : ∀ i, IsReal (x3 i)) :
    IsReal (lam (fun j => x0 (ix2 0 j)) (fun j => x1 (ix2 0 j)) (fun j => x2 (ix2 0 j)) (fun j => x3 (ix2 0 j))) :=
  ((IsReal.exp (IsReal.sum fun _ => (h0 _).mul (h1 _))).sub (IsReal.exp (IsReal.sum fun _ => (h2 _).mul (h3 _)))).add fifth_real

theorem scA_real (h5 : ∀ i, IsReal (x5 i)) (h7 : ∀ i, IsReal (x7 i)) (h11 : ∀ i, IsReal (x11 i)) (b : Fin 4) (h : Fin 4)
    (i : Fin 2) (t : Fin 1024) (k : Fin 1280) : IsReal (scA x5 x7 x11 b h i t k) :=
  (IsReal.sum fun _ => (h5 _).mul (joinKeys_real (fun _ => h7 _) (fun _ => h11 _) k)).mul eighth_real

theorem scB_real (h6 : ∀ i, IsReal (x6 i)) (h9 : ∀ i, IsReal (x9 i)) (h10 : ∀ i, IsReal (x10 i)) (h13 : ∀ i, IsReal (x13 i))
    (h14 : ∀ i, IsReal (x14 i)) (b : Fin 4) (h : Fin 8) (t : Fin 1024) (k : Fin 1280) : IsReal (scB x6 x9 x10 x13 x14 b h t k) :=
  ((IsReal.sum fun _ => (h6 _).mul (joinKeys_real (fun _ => h9 _) (fun _ => h13 _) k)).add
    (IsReal.sum fun _ => (h6 _).mul (joinKeys_real (fun _ => h10 _) (fun _ => h14 _) k))).mul root96_real

/-- A row after the first 8192, by its request and its place in it. -/
theorem row_split (ρ : Fin 12288) (hρ : ¬ ρ.val < 8192) :
    rowOf ⟨(ρ.val - 8192) / 1024, by omega⟩ ⟨(ρ.val - 8192) % 1024, by omega⟩ = ρ :=
  Fin.ext (by simp only [rowOf]; omega)

theorem row_eq (b : Fin 4) (k : Fin 1024) : row b k = rowOf b k := Fin.ext (by simp only [row, rowOf]; omega)
theorem colA1_eq (h : Fin 4) (j : Fin 64) : colA1 h j = colH h 0 j := Fin.ext (by simp only [colA1, colH]; simp; omega)
theorem colA2_eq (h : Fin 4) (j : Fin 64) : colA2 h j = colH h 1 j := Fin.ext (by simp only [colA2, colH]; simp; omega)
theorem colA_eq (h : Fin 4) (j : Fin 128) : colA h j = colE h j := Fin.ext (by simp only [colA, colE]; omega)
theorem colQ_eq (h : Fin 8) (j : Fin 64) : colQ h j = colP h j := Fin.ext (by simp only [colQ, colP]; omega)
theorem colR_eq (h : Fin 8) (j : Fin 32) : colR h j = colS h j := Fin.ext (by simp only [colR, colS]; omega)
theorem colK_eq (h : Fin 8) (j : Fin 64) : colK h j = colN h j := Fin.ext (by simp only [colK, colN]; omega)
theorem colV_eq (h : Fin 8) (j : Fin 64) : colV h j = colW h j := Fin.ext (by simp only [colV, colW]; omega)
theorem past_eq (b : Fin 4) (k : Fin 256) : (⟨256 * b.val + k, by omega⟩ : Fin 1024) = pastOf b k :=
  Fin.ext (by simp only [pastOf]; omega)

theorem valA_eq (h0 : ∀ i, IsReal (x0 i)) (h1 : ∀ i, IsReal (x1 i)) (h2 : ∀ i, IsReal (x2 i)) (h3 : ∀ i, IsReal (x3 i))
    (h5 : ∀ i, IsReal (x5 i)) (h7 : ∀ i, IsReal (x7 i)) (h8 : ∀ i, IsReal (x8 i)) (h11 : ∀ i, IsReal (x11 i))
    (h12 : ∀ i, IsReal (x12 i)) (b : Fin 4) (t : Fin 1024) (h : Fin 4) (e : Fin 128) :
    rmsA (rdA x0 x1 x2 x3 x5 x7 x8 x11 x12 b h t) (fun e => x4 (ix2 0 e)) e
      = valA x0 x1 x2 x3 x4 x5 x7 x8 x11 x12 (rowOf b t) b h e := by
  unfold valA headA
  refine congrArg (fun d => rmsA d (fun e => x4 (ix2 0 e)) e) (funext fun e => ?_)
  refine (dA_eq (lam_real h0 h1 h2 h3) (scA x5 x7 x11 b h 0 t) (scA x5 x7 x11 b h 1 t) (vaA x8 x12 b h e)
    (scA_real h5 h7 h11 b h 0 t) (scA_real h5 h7 h11 b h 1 t) (joinKeys_real (fun _ => h8 _) (fun _ => h12 _))
    (fun k => ?_) (fun k => ?_) (fun k => ?_) (fun k => ?_) (fun k => ?_) (fun k => ?_)).symm
  · unfold sA scA
    rw [scale_first (fun _ => h5 _) (fun _ => h7 _) eighth_real]
    simp only [joinKeys_lo, row_eq, colA1_eq]
  · unfold sA scA
    rw [scale_first (fun _ => h5 _) (fun _ => h11 _) eighth_real]
    simp only [joinKeys_hi, row_eq, colA1_eq]
  · unfold sA scA
    rw [scale_first (fun _ => h5 _) (fun _ => h7 _) eighth_real]
    simp only [joinKeys_lo, row_eq, colA2_eq]
  · unfold sA scA
    rw [scale_first (fun _ => h5 _) (fun _ => h11 _) eighth_real]
    simp only [joinKeys_hi, row_eq, colA2_eq]
  · unfold vaA
    simp only [joinKeys_lo, row_eq, colA_eq]
  · unfold vaA
    simp only [joinKeys_hi, row_eq, colA_eq]

theorem valB_eq (h6 : ∀ i, IsReal (x6 i)) (h9 : ∀ i, IsReal (x9 i)) (h10 : ∀ i, IsReal (x10 i)) (h13 : ∀ i, IsReal (x13 i))
    (h14 : ∀ i, IsReal (x14 i)) (b : Fin 4) (t : Fin 1024) (h : Fin 8) (e : Fin 64) :
    rdB x6 x9 x10 x13 x14 b h t e = valB x6 x9 x10 x13 x14 (rowOf b t) b h e := by
  unfold valB headB oB
  refine (two_eq (by omega) (by omega : 1280 = 1024 + 256) (scB x6 x9 x10 x13 x14 b h t) (vaB x9 x13 b h e)
    (scB_real h6 h9 h10 h13 h14 b h t) (joinKeys_real (fun _ => h9 _) (fun _ => h13 _)) _ _ _ _
    (fun k => ?_) (fun k => ?_) (fun k => ?_) (fun k => ?_)).symm
  · unfold sB scB
    simp only [joinKeys_lo, row_eq, colQ_eq, colR_eq, colK_eq]
  · unfold sB scB
    simp only [joinKeys_hi, colQ_eq, colR_eq, colK_eq, past_eq]
  · unfold vaB
    simp only [joinKeys_lo, row_eq, colV_eq]
  · unfold vaB
    simp only [joinKeys_hi, colV_eq, past_eq]

theorem res0_eq (h0 : ∀ i, IsReal (x0 i)) (h1 : ∀ i, IsReal (x1 i)) (h2 : ∀ i, IsReal (x2 i)) (h3 : ∀ i, IsReal (x3 i))
    (h5 : ∀ i, IsReal (x5 i)) (h7 : ∀ i, IsReal (x7 i)) (h8 : ∀ i, IsReal (x8 i)) (h11 : ∀ i, IsReal (x11 i))
    (h12 : ∀ i, IsReal (x12 i)) :
    val_main_v104 (F := Ideal) x0 x1 x2 x3 x4 x5 x7 x8 x11 x12 x15 = res0 x0 x1 x2 x3 x4 x5 x7 x8 x11 x12 x15 := by
  funext y
  obtain ⟨i, n, rfl⟩ : ∃ (i : Fin 12288) (n : Fin 512), y = ix2 i n := ⟨y 0, y 1, by funext a; match a with | 0 => rfl | 1 => rfl⟩
  rw [v104_at]
  show _ = if 32 * 256 ≤ i.val then valA x0 x1 x2 x3 x4 x5 x7 x8 x11 x12 i (reqOf i) (hdA n) (enA n) else x15 (ix2 i n)
  by_cases hi : i.val < 8192
  · rw [dif_pos hi, if_neg (by omega)]
  · rw [dif_neg hi, if_pos (by omega), valA_eq h0 h1 h2 h3 h5 h7 h8 h11 h12, row_split i hi]
    rfl

theorem res1_eq (h6 : ∀ i, IsReal (x6 i)) (h9 : ∀ i, IsReal (x9 i)) (h10 : ∀ i, IsReal (x10 i)) (h13 : ∀ i, IsReal (x13 i))
    (h14 : ∀ i, IsReal (x14 i)) :
    val_main_v108 (F := Ideal) x6 x9 x10 x13 x14 x16 = res1 x6 x9 x10 x13 x14 x16 := by
  funext y
  obtain ⟨i, n, rfl⟩ : ∃ (i : Fin 12288) (n : Fin 512), y = ix2 i n := ⟨y 0, y 1, by funext a; match a with | 0 => rfl | 1 => rfl⟩
  rw [v108_at]
  show _ = if 32 * 256 ≤ i.val then valB x6 x9 x10 x13 x14 i (reqOf i) (hdB n) (enB n) else x16 (ix2 i n)
  by_cases hi : i.val < 8192
  · rw [dif_pos hi, if_neg (by omega)]
  · rw [dif_neg hi, if_pos (by omega), valB_eq h6 h9 h10 h13 h14, row_split i hi]
    rfl
end

end Cert.EvenRefIdeal.Match
-- ==== Proof.EvenAttnClaims.lean ====
/- The value claim of the even layer's attention over the sample requests: on finite arguments the kernel and the reference
end with the same two arrays. -/
module

public import proofs.«01_k».proof.Defs
public import proofs.«01_k».proof.Proof.Gen.EvenRefIdeal.Run
public import proofs.«01_k».proof.Proof.AttnFinite
public import proofs.«01_k».proof.Proof.AttnMatch

@[expose] public section

set_option maxRecDepth 16384

noncomputable section

namespace Cert.Proof.EvenAttnClaims

open Idealize.ShloMosaic Idealize.SL.Sem

theorem algebraic : Cert.algebraic_EvenAttnIdeal_EvenRefIdeal_pre_even_attention_finite := by
  intro m ρ m' ρ' hpre hagree
  refine ⟨fun c => Cert.EvenAttnIdeal.Final.res0 (m ((c.tc : Thread Cert.EvenAttnIdeal.nD Cert.EvenAttnIdeal.τ).loc Cert.EvenAttnIdeal.main_arg0)) (m ((c.tc : Thread Cert.EvenAttnIdeal.nD Cert.EvenAttnIdeal.τ).loc Cert.EvenAttnIdeal.main_arg1)) (m ((c.tc : Thread Cert.EvenAttnIdeal.nD Cert.EvenAttnIdeal.τ).loc Cert.EvenAttnIdeal.main_arg2)) (m ((c.tc : Thread Cert.EvenAttnIdeal.nD Cert.EvenAttnIdeal.τ).loc Cert.EvenAttnIdeal.main_arg3)) (m ((c.tc : Thread Cert.EvenAttnIdeal.nD Cert.EvenAttnIdeal.τ).loc Cert.EvenAttnIdeal.main_arg4)) (m ((c.tc : Thread Cert.EvenAttnIdeal.nD Cert.EvenAttnIdeal.τ).loc Cert.EvenAttnIdeal.main_arg5)) (m ((c.tc : Thread Cert.EvenAttnIdeal.nD Cert.EvenAttnIdeal.τ).loc Cert.EvenAttnIdeal.main_arg7)) (m ((c.tc : Thread Cert.EvenAttnIdeal.nD Cert.EvenAttnIdeal.τ).loc Cert.EvenAttnIdeal.main_arg8)) (m ((c.tc : Thread Cert.EvenAttnIdeal.nD Cert.EvenAttnIdeal.τ).loc Cert.EvenAttnIdeal.main_arg11)) (m ((c.tc : Thread Cert.EvenAttnIdeal.nD Cert.EvenAttnIdeal.τ).loc Cert.EvenAttnIdeal.main_arg12)) (m ((c.tc : Thread Cert.EvenAttnIdeal.nD Cert.EvenAttnIdeal.τ).loc Cert.EvenAttnIdeal.main_arg15)),
    fun c => Cert.EvenAttnIdeal.Final.res1 (m ((c.tc : Thread Cert.EvenAttnIdeal.nD Cert.EvenAttnIdeal.τ).loc Cert.EvenAttnIdeal.main_arg6)) (m ((c.tc : Thread Cert.EvenAttnIdeal.nD Cert.EvenAttnIdeal.τ).loc Cert.EvenAttnIdeal.main_arg9)) (m ((c.tc : Thread Cert.EvenAttnIdeal.nD Cert.EvenAttnIdeal.τ).loc Cert.EvenAttnIdeal.main_arg10)) (m ((c.tc : Thread Cert.EvenAttnIdeal.nD Cert.EvenAttnIdeal.τ).loc Cert.EvenAttnIdeal.main_arg13)) (m ((c.tc : Thread Cert.EvenAttnIdeal.nD Cert.EvenAttnIdeal.τ).loc Cert.EvenAttnIdeal.main_arg14)) (m ((c.tc : Thread Cert.EvenAttnIdeal.nD Cert.EvenAttnIdeal.τ).loc Cert.EvenAttnIdeal.main_arg16)), ?_, ?_⟩
  · exact (θ_run Cert.EvenAttnIdeal.defs _ _).mono
      (fun _ h c => ⟨(h c).1.trans (Cert.EvenAttnIdeal.Final.final15 m c), (h c).2.1.trans (Cert.EvenAttnIdeal.Final.final16 m c), (h c).2.2⟩)
      (Cert.EvenAttnIdeal.Value.run_blocks m ρ)
  refine (θ_run Cert.EvenRefIdeal.defs _ _).mono (fun r h c => ?_) (Cert.EvenRefIdeal.Value.run (F := Ideal) m' ρ')
  obtain ⟨e0, e1, e2, e3, e4, e5, e6, e7, e8, e9, e10, e11, e12, e13, e14, e15, e16⟩ := hagree c
  obtain ⟨h0, h1, hk⟩ := h c
  obtain ⟨f0, f1, f2, f3, f5, f6, f7, f8, f9, f10, f11, f12, f13, f14⟩ := Cert.AttnFinite.finite _ _ _ _ _ _ _ _ _ _ _ _ _ _ _ _ _ (hpre c)
  refine ⟨h0.trans ?_, h1.trans ?_, hk⟩
  · rw [Cert.EvenRefIdeal.Read.val_main_v104_eq, e0, e1, e2, e3, e4, e5, e7, e8, e11, e12, e15]
    exact Cert.EvenRefIdeal.Match.res0_eq f0 f1 f2 f3 f5 f7 f8 f11 f12
  · rw [Cert.EvenRefIdeal.Read.val_main_v108_eq, e6, e9, e10, e13, e14, e16]
    exact Cert.EvenRefIdeal.Match.res1_eq f6 f9 f10 f13 f14

end Cert.Proof.EvenAttnClaims
-- ==== Proof.InBlocks.lean ====
/- The blocks of the even layer's input projection, read from the program's arguments. -/
module

public import proofs.«01_k».proof.Proof.Gen.InEvenIdeal.Value
public import Idealize.ShloMosaic.Lib.Pipeline.ValueKit
public import Idealize.ShloMosaic.Lib.Pointwise

@[expose] public section

set_option maxRecDepth 16384

noncomputable section

namespace Cert.InEvenIdeal.Blocks

open Cert.InEvenIdeal Cert.InEvenIdeal.Gen Idealize.ShloMosaic Idealize.ShloMosaic.TcCoe Idealize.SL.Sem
open Idealize.ShloMosaic.Pipeline (Dat)

variable (m : (ℓ : Loc nD τ sig) → Buf (Elt Ideal) ℓ)

/-- The token block worked on at a point: the sample's blocks first, then the prompt's. -/
abbrev tile (t : Fin cfg0.N) : ℕ := if t.val < 8 then t.val + 16 else t.val - 8

/-- Each window's block index at each point. -/
theorem idx : ∀ t : Fin cfg0.N, t.val < 24 ∧ win0_0.index t = ![if t.val < 8 then t.val + 16 else t.val - 8, 0]
    ∧ win0_1.index t = ![0, if 8 ≤ t.val then 0 else t.val / 2 + 1, 0, 0]
    ∧ win0_2.index t = ![if 8 ≤ t.val then 0 else t.val % 2 + 1, 0, 0] ∧ win0_3.index t = ![0, 0] ∧ win0_4.index t = ![0, 0] ∧ win0_5.index t = ![0, 0]
    ∧ win0_6.index t = ![0, 0] ∧ win0_7.index t = ![0, 0] ∧ win0_8.index t = ![if t.val < 8 then t.val + 16 else t.val - 8, 0] ∧ win0_9.index t = ![if t.val < 8 then t.val + 16 else t.val - 8, 0]
    ∧ win0_10.index t = ![if t.val < 8 then t.val + 16 else t.val - 8, 0] ∧ win0_11.index t = ![if t.val < 8 then t.val + 16 else t.val - 8, 0] ∧ win0_12.index t = ![if t.val < 8 then t.val + 16 else t.val - 8, 0]
    ∧ win0_13.index t = ![if t.val < 8 then t.val + 16 else t.val - 8, 0] ∧ win0_14.index t = ![t.val - 8, 0] ∧ win0_15.index t = ![t.val - 8, 0]
    ∧ win0_16.index t = ![t.val - 8, 0] ∧ win0_17.index t = ![t.val - 8, 0] :=
  (by decide +kernel : ∀ t : Fin grid0.N, _)

/-- Token `r` of the block at point `t`. -/
def tok (t : Fin cfg0.N) (r : Fin 512) : Fin 12288 := ⟨tile t * 512 + r, by have := (idx t).1; unfold tile; split <;> omega⟩

end Cert.InEvenIdeal.Blocks
-- ==== Proof.InBlk.lean ====
/- The blocks of the even layer's input projection as entries of its arrays. -/
module

public import proofs.«01_k».proof.Proof.InBlocks
public import proofs.«01_k».proof.Proof.PostRow

@[expose] public section

set_option maxRecDepth 16384

noncomputable section

namespace Cert.InEvenIdeal.Blocks

open Cert.InEvenIdeal Cert.InEvenIdeal.Gen Idealize.ShloMosaic Idealize.ShloMosaic.TcCoe Idealize.SL.Sem
open Cert.PostRow (seg modRow)

variable (m : (ℓ : Loc nD τ sig) → Buf (Elt Ideal) ℓ) (c : Dev nD) (t : Fin cfg0.N)

theorem seg_tok (r : Fin 512) :
    (seg (tok t r) : ℕ) = if 8 ≤ t.val then 0 else t.val / 2 + 1 := by
  have ht := (idx t).1
  show (if (tok t r).val < 8192 then 0 else ((tok t r).val - 8192) / 1024 + 1) = _
  have e : (tok t r).val = (if t.val < 8 then t.val + 16 else t.val - 8) * 512 + r.val := rfl
  by_cases h : t.val < 8
  · rw [if_pos h] at e
    rw [if_neg (by omega), if_neg (by omega)]; omega
  · rw [if_neg h] at e
    rw [if_pos (by omega), if_pos (by omega)]

/-- The block's rows of the rotation's lane tables. -/
def half : Fin 3 := ⟨if 8 ≤ t.val then 0 else t.val % 2 + 1, by split <;> omega⟩

theorem blk0 (r : Fin 512) (j : Fin 1024) :
    (show FVec Ideal S512x1024 .f32 from iblk m c 0 t) (ix2 r j) = (show FVec Ideal S12288x1024 .f32 from V m c main_v2) (ix2 (tok t r) j) := by
  blk_ext [iblk, idx t, tok, tile]

theorem blk1 (r : Fin 512) (i : Fin 6) (j : Fin 1024) :
    (show FVec Ideal S1x1x6x1024 .f32 from iblk m c 1 t) (ix4 0 0 i j) = modRow (m ((c : Thread nD τ).loc main_arg2)) i (tok t r) j := by
  have hs := seg_tok t r
  rw [← V_main_arg2 m c]
  unfold modRow
  blk_ext [iblk, idx t]

theorem blk2 (r : Fin 512) (n : Fin 1536) :
    (show FVec Ideal S1x512x1536 .f32 from iblk m c 2 t) (ix3 0 r n) = (show FVec Ideal S3x512x1536 .f32 from V m c main_v81) (ix3 (half t) r n) := by
  blk_ext [iblk, idx t, half]

theorem blk3 (k : Fin 1024) (n : Fin 2048) :
    (show FVec Ideal S1024x2048 .bf16 from iblk m c 3 t) (ix2 k n) = (show FVec Ideal S1024x2048 .bf16 from V m c main_v84) (ix2 k n) := by
  blk_ext [iblk, idx t]

theorem blk4 (k : Fin 256) :
    (show FVec Ideal S1x256 .f32 from iblk m c 4 t) (ix2 0 k) = (show FVec Ideal S1x256 .f32 from V m c main_v102) (ix2 0 k) := by
  blk_ext [iblk, idx t]

theorem blk5 (k : Fin 256) (n : Fin 768) :
    (show FVec Ideal S256x768 .bf16 from iblk m c 5 t) (ix2 k n) = (show FVec Ideal S256x768 .bf16 from V m c main_v92) (ix2 k n) := by
  blk_ext [iblk, idx t]

theorem blk6 (k : Fin 128) :
    (show FVec Ideal S1x128 .f32 from iblk m c 6 t) (ix2 0 k) = (show FVec Ideal S1x128 .f32 from V m c main_v104) (ix2 0 k) := by
  blk_ext [iblk, idx t]

theorem blk7 (k : Fin 128) (n : Fin 1024) :
    (show FVec Ideal S128x1024 .bf16 from iblk m c 7 t) (ix2 k n) = (show FVec Ideal S128x1024 .bf16 from V m c main_v100) (ix2 k n) := by
  blk_ext [iblk, idx t]

end Cert.InEvenIdeal.Blocks
-- ==== Proof.InBody.lean ====
/- What the body of the even layer's input projection computes from its blocks, entry by entry. -/
module

public import proofs.«01_k».proof.Proof.Gen.InEvenIdeal.Value
public import Idealize.ShloMosaic.Lib.Pipeline.ValueKit
public import Idealize.ShloMosaic.Lib.Pointwise

@[expose] public section

set_option maxRecDepth 16384

noncomputable section

namespace Cert.InEvenIdeal.Body

open Cert.InEvenIdeal Cert.InEvenIdeal.Gen Idealize.ShloMosaic Idealize.SL.Sem

variable (x0 : FVec Ideal S512x1024 .f32) (x1 : FVec Ideal S1x1x6x1024 .f32) (x2 : FVec Ideal S1x512x1536 .f32)
  (x3 : FVec Ideal S1024x2048 .bf16) (x4 : FVec Ideal S1x256 .f32) (x5 : FVec Ideal S256x768 .bf16)
  (x6 : FVec Ideal S1x128 .f32) (x7 : FVec Ideal S128x1024 .bf16) (p : FVec Ideal S512x2048 .f32)

/-- The modulated row through the input projection. -/
theorem proj_at (r : Fin 512) (n : Fin 2048) :
    k0_pay3 (F := Ideal) x0 x1 x3 (ix2 r n)
      = ∑ k : Fin 1024, (x0 (ix2 r k) * (1 + x1 (ix4 0 0 1 k)) + x1 (ix4 0 0 0 k)) * x3 (ix2 k n) := by
  pointwise [k0_pay3]

theorem cosA_at (r : Fin 512) (n : Fin 512) : k0_pay5 (F := Ideal) x2 (ix2 r n) = x2 (ix3 0 r ⟨n, by omega⟩) := by
  pointwise [k0_pay5, k0_pay4]

theorem sinA_at (r : Fin 512) (n : Fin 512) : k0_pay6 (F := Ideal) x2 (ix2 r n) = x2 (ix3 0 r ⟨512 + n, by omega⟩) := by
  pointwise [k0_pay6, k0_pay4]

theorem cosB_at (r : Fin 512) (n : Fin 256) : k0_pay7 (F := Ideal) x2 (ix2 r n) = x2 (ix3 0 r ⟨1024 + n, by omega⟩) := by
  pointwise [k0_pay7, k0_pay4]

theorem sinB_at (r : Fin 512) (n : Fin 256) : k0_pay8 (F := Ideal) x2 (ix2 r n) = x2 (ix3 0 r ⟨1280 + n, by omega⟩) := by
  pointwise [k0_pay8, k0_pay4]

theorem q_at (r : Fin 512) (n : Fin 512) :
    k0_pay9 (F := Ideal) x0 x1 x3 (ix2 r n) = k0_pay3 (F := Ideal) x0 x1 x3 (ix2 r ⟨n, by omega⟩) := by
  pointwise [k0_pay9]

theorem v_at (r : Fin 512) (n : Fin 512) : k0_pay14 (F := Ideal) p (ix2 r n) = p (ix2 r ⟨1024 + n, by omega⟩) := by
  pointwise [k0_pay14]

theorem v16_at (r : Fin 512) (n : Fin 512) : k0_pay15 (F := Ideal) p (ix2 r n) = p (ix2 r ⟨1024 + n, by omega⟩) := by
  pointwise [k0_pay15, k0_pay14]

/-- The compressed query, normalised and expanded. -/
theorem bq_at (r : Fin 512) (n : Fin 768) :
    k0_pay16 (F := Ideal) p x4 x5 (ix2 r n)
      = ∑ k : Fin 256, (p (ix2 r ⟨1536 + k, by omega⟩)
          * Ideal.rsqrt (Ideal.div (∑ j : Fin 256, p (ix2 r ⟨1536 + j, by omega⟩) * p (ix2 r ⟨1536 + j, by omega⟩)) (Ideal.ofBits .f32 0x43800000#32)
              + Ideal.ofBits .f32 0x358637BD#32) * x4 (ix2 0 k)) * x5 (ix2 k n) := by
  pointwise [k0_pay16]

theorem ckv_at (r : Fin 512) (n : Fin 128) :
    k0_pay23 (F := Ideal) p x6 (ix2 r n)
      = p (ix2 r ⟨1792 + n, by omega⟩)
          * Ideal.rsqrt (Ideal.div (∑ j : Fin 128, p (ix2 r ⟨1792 + j, by omega⟩) * p (ix2 r ⟨1792 + j, by omega⟩)) (Ideal.ofBits .f32 0x43000000#32)
              + Ideal.ofBits .f32 0x358637BD#32) * x6 (ix2 0 n) := by
  pointwise [k0_pay23]

theorem kvb_at (r : Fin 512) (n : Fin 1024) :
    k0_pay24 (F := Ideal) p x6 x7 (ix2 r n) = ∑ k : Fin 128, k0_pay23 (F := Ideal) p x6 (ix2 r k) * x7 (ix2 k n) := by
  pointwise [k0_pay24]

theorem nope_at (r : Fin 512) (n : Fin 512) :
    k0_pay17 (F := Ideal) p x4 x5 (ix2 r n) = k0_pay16 (F := Ideal) p x4 x5 (ix2 r ⟨n, by omega⟩) := by
  pointwise [k0_pay17]

theorem ropeIn_at (r : Fin 512) (n : Fin 256) :
    k0_pay18 (F := Ideal) p x4 x5 (ix2 r n) = k0_pay16 (F := Ideal) p x4 x5 (ix2 r ⟨512 + n, by omega⟩) := by
  pointwise [k0_pay18]

theorem krIn_at (r : Fin 512) (n : Fin 128) : k0_pay25 (F := Ideal) p (ix2 r n) = p (ix2 r ⟨1920 + n, by omega⟩) := by
  pointwise [k0_pay25]

end Cert.InEvenIdeal.Body
-- ==== Proof.InTables.lean ====
/- The operands that the program prepares for the even layer's input projection, read from its arguments. -/
module

public import proofs.«01_k».proof.Proof.InBlocks
public import proofs.«01_k».proof.Proof.Gen.InEvenRefIdeal.Read

@[expose] public section

set_option maxRecDepth 16384

noncomputable section

namespace Cert.InEvenIdeal.Tables

open Cert.InEvenIdeal Cert.InEvenIdeal.Gen Idealize.ShloMosaic Idealize.ShloMosaic.TcCoe Idealize.SL.Sem
open Cert.InEvenRefIdeal.Read (val_main_v2 val_main_v25 val_main_v33 val_main_v47 val_main_v54 val_main_v68 val_main_v99 val_main_v123 val_main_v166 val_main_v190)

variable (m : (ℓ : Loc nD τ sig) → Buf (Elt Ideal) ℓ) (c : Dev nD)

/-- One lane table of the rotation: a block for the prompt's rows, then the two halves of the grid. -/
def laneA (fill : BitVec 32) (l r : FVec Ideal S1024x32 .f32) : FVec Ideal S3x512x512 .f32 :=
  concatenate S3x512x512 0 [⟨S1x512x512, broadcastInDim S1x512x512 ![] bcast_S_S1x512x512 (constant S_ .f32 fill)⟩,
    ⟨S2x512x512, shapeCast S2x512x512 (shapeCast S1024x512 (broadcastInDim S1x1024x8x64 ![0, 1, 2, 3] bcast_S1x1024x1x64_S1x1024x8x64_0_1_2_3
      (shapeCast S1x1024x1x64 (concatenate S1024x64 1 [⟨S1024x32, l⟩, ⟨S1024x32, r⟩] concatenates_S1024x32_S1024x32_S1024x64_d1) shapeCasts_S1024x64_S1x1024x1x64))
      shapeCasts_S1x1024x8x64_S1024x512) shapeCasts_S1024x512_S2x512x512⟩] concatenates_S1x512x512_S2x512x512_S3x512x512_d0

/-- The same for heads of 32 lanes. -/
def laneB (fill : BitVec 32) (l r : FVec Ideal S1024x16 .f32) : FVec Ideal S3x512x256 .f32 :=
  concatenate S3x512x256 0 [⟨S1x512x256, broadcastInDim S1x512x256 ![] bcast_S_S1x512x256 (constant S_ .f32 fill)⟩,
    ⟨S2x512x256, shapeCast S2x512x256 (shapeCast S1024x256 (broadcastInDim S1x1024x8x32 ![0, 1, 2, 3] bcast_S1x1024x1x32_S1x1024x8x32_0_1_2_3
      (shapeCast S1x1024x1x32 (concatenate S1024x32 1 [⟨S1024x16, l⟩, ⟨S1024x16, r⟩] concatenates_S1024x16_S1024x16_S1024x32_d1) shapeCasts_S1024x32_S1x1024x1x32))
      shapeCasts_S1x1024x8x32_S1024x256) shapeCasts_S1024x256_S2x512x256⟩] concatenates_S1x512x256_S2x512x256_S3x512x256_d0

set_option maxHeartbeats 2000000

theorem tokens : (show FVec Ideal S12288x1024 .f32 from V m c main_v2)
    = val_main_v2 (F := Ideal) (m ((c : Thread nD τ).loc main_arg0)) (m ((c : Thread nD τ).loc main_arg1)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem wIn : (show FVec Ideal S1024x2048 .bf16 from V m c main_v84)
    = truncf .bf16 (pad S1024x2048 ![0, 0] ![0, 96] ![0, 0] (val_main_v25 (F := Ideal) (m ((c : Thread nD τ).loc main_arg3)))
        (sitofp .f32 (constantI S_ 32 0#32)) pads_S1024x1952_S1024x2048_000_0960 h_S_) bitsLt_bf16_f32 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem gCq : (show FVec Ideal S1x256 .f32 from V m c main_v102)
    = broadcastInDim S1x256 ![1] bcast_S256_S1x256_1 (val_main_v33 (F := Ideal) (m ((c : Thread nD τ).loc main_arg4))) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem gCkv : (show FVec Ideal S1x128 .f32 from V m c main_v104)
    = broadcastInDim S1x128 ![1] bcast_S128_S1x128_1 (val_main_v54 (F := Ideal) (m ((c : Thread nD τ).loc main_arg6))) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The query expansion's columns by head, the unrotated part first. -/
def splitQ (w : FVec Ideal S256x768 .f32) : FVec Ideal S256x768 .bf16 :=
  truncf .bf16 (concatenate S256x768 1 [⟨S256x512, shapeCast S256x512 (extractStridedSlice S256x8x64 ![0, 0, 0] (shapeCast S256x8x96 w shapeCasts_S256x768_S256x8x96) slices_S256x8x96_S256x8x64_0_0_0) shapeCasts_S256x8x64_S256x512⟩,
    ⟨S256x256, shapeCast S256x256 (extractStridedSlice S256x8x32 ![0, 0, 64] (shapeCast S256x8x96 w shapeCasts_S256x768_S256x8x96) slices_S256x8x96_S256x8x32_0_0_64) shapeCasts_S256x8x32_S256x256⟩]
    concatenates_S256x512_S256x256_S256x768_d1) bitsLt_bf16_f32

theorem wQ : (show FVec Ideal S256x768 .bf16 from V m c main_v92) = splitQ (val_main_v47 (F := Ideal) (m ((c : Thread nD τ).loc main_arg5))) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The key and value expansion's columns by head, the keys first. -/
def splitKv (w : FVec Ideal S128x1024 .f32) : FVec Ideal S128x1024 .bf16 :=
  truncf .bf16 (concatenate S128x1024 1 [⟨S128x512, shapeCast S128x512 (extractStridedSlice S128x8x64 ![0, 0, 0] (shapeCast S128x8x128 w shapeCasts_S128x1024_S128x8x128) slices_S128x8x128_S128x8x64_0_0_0) shapeCasts_S128x8x64_S128x512⟩,
    ⟨S128x512, shapeCast S128x512 (extractStridedSlice S128x8x64 ![0, 0, 64] (shapeCast S128x8x128 w shapeCasts_S128x1024_S128x8x128) slices_S128x8x128_S128x8x64_0_0_64) shapeCasts_S128x8x64_S128x512⟩]
    concatenates_S128x512_S128x512_S128x1024_d1) bitsLt_bf16_f32

theorem wKv : (show FVec Ideal S128x1024 .bf16 from V m c main_v100) = splitKv (val_main_v68 (F := Ideal) (m ((c : Thread nD τ).loc main_arg7))) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

end Cert.InEvenIdeal.Tables
-- ==== Proof.InLaneAt.lean ====
/- The entries of the operands that the program prepares for the even layer's input projection. -/
module

public import proofs.«01_k».proof.Proof.InTables

@[expose] public section

set_option maxRecDepth 16384

noncomputable section

namespace Cert.InEvenIdeal.Tables

open Cert.InEvenIdeal Cert.InEvenIdeal.Gen Idealize.ShloMosaic Idealize.ShloMosaic.TcCoe Idealize.SL.Sem

theorem laneA_prompt (f : BitVec 32) (l r : FVec Ideal S1024x32 .f32) (i n : Fin 512) :
    laneA f l r (ix3 0 i n) = Ideal.ofBits .f32 f := by
  pointwise [laneA]

theorem laneA_low (f : BitVec 32) (l r : FVec Ideal S1024x32 .f32) (h : Fin 2) (i n : Fin 512) (hn : n.val % 64 < 32) :
    laneA f l r (ix3 ⟨h + 1, by omega⟩ i n) = l (ix2 ⟨h * 512 + i, by omega⟩ ⟨n.val % 64, hn⟩) := by
  pointwise [laneA]
  rw [dif_neg (by omega), dif_pos hn]
  simp only [Nat.add_sub_cancel]

theorem laneA_high (f : BitVec 32) (l r : FVec Ideal S1024x32 .f32) (h : Fin 2) (i n : Fin 512) (hn : ¬ n.val % 64 < 32) :
    laneA f l r (ix3 ⟨h + 1, by omega⟩ i n) = r (ix2 ⟨h * 512 + i, by omega⟩ ⟨n.val % 64 - 32, by omega⟩) := by
  pointwise [laneA]
  rw [dif_neg (by omega), dif_neg hn]
  simp only [Nat.add_sub_cancel]

theorem laneB_prompt (f : BitVec 32) (l r : FVec Ideal S1024x16 .f32) (i : Fin 512) (n : Fin 256) :
    laneB f l r (ix3 0 i n) = Ideal.ofBits .f32 f := by
  pointwise [laneB]

theorem laneB_low (f : BitVec 32) (l r : FVec Ideal S1024x16 .f32) (h : Fin 2) (i : Fin 512) (n : Fin 256) (hn : n.val % 32 < 16) :
    laneB f l r (ix3 ⟨h + 1, by omega⟩ i n) = l (ix2 ⟨h * 512 + i, by omega⟩ ⟨n.val % 32, hn⟩) := by
  pointwise [laneB]
  rw [dif_neg (by omega), dif_pos hn]
  simp only [Nat.add_sub_cancel]

theorem laneB_high (f : BitVec 32) (l r : FVec Ideal S1024x16 .f32) (h : Fin 2) (i : Fin 512) (n : Fin 256) (hn : ¬ n.val % 32 < 16) :
    laneB f l r (ix3 ⟨h + 1, by omega⟩ i n) = r (ix2 ⟨h * 512 + i, by omega⟩ ⟨n.val % 32 - 16, by omega⟩) := by
  pointwise [laneB]
  rw [dif_neg (by omega), dif_neg hn]
  simp only [Nat.add_sub_cancel]

theorem splitQ_nope (w : FVec Ideal S256x768 .f32) (k : Fin 256) (n : Fin 512) :
    splitQ w (ix2 k ⟨n, by omega⟩) = w (ix2 k ⟨n.val / 64 * 96 + n.val % 64, by omega⟩) := by
  pointwise [splitQ]

theorem splitQ_rope (w : FVec Ideal S256x768 .f32) (k : Fin 256) (n : Fin 256) :
    splitQ w (ix2 k ⟨512 + n, by omega⟩) = w (ix2 k ⟨n.val / 32 * 96 + (64 + n.val % 32), by omega⟩) := by
  pointwise [splitQ]

theorem splitKv_key (w : FVec Ideal S128x1024 .f32) (k : Fin 128) (n : Fin 512) :
    splitKv w (ix2 k ⟨n, by omega⟩) = w (ix2 k ⟨n.val / 64 * 128 + n.val % 64, by omega⟩) := by
  pointwise [splitKv]

theorem splitKv_value (w : FVec Ideal S128x1024 .f32) (k : Fin 128) (n : Fin 512) :
    splitKv w (ix2 k ⟨512 + n, by omega⟩) = w (ix2 k ⟨n.val / 64 * 128 + (64 + n.val % 64), by omega⟩) := by
  pointwise [splitKv]

theorem padded (w : FVec Ideal S1024x1952 .f32) (z : FVec Ideal S_ .f32) (k : Fin 1024) (n : Fin 1952) :
    pad S1024x2048 ![0, 0] ![0, 96] ![0, 0] w z pads_S1024x1952_S1024x2048_000_0960 h_S_ (ix2 k ⟨n, by omega⟩) = w (ix2 k n) := by
  pointwise []

end Cert.InEvenIdeal.Tables
-- ==== Proof.InLanes.lean ====
/- The rotation's lane tables, read from the reference's cosines and sines. -/
module

public import proofs.«01_k».proof.Proof.InTables

@[expose] public section

set_option maxRecDepth 16384

noncomputable section

namespace Cert.InEvenIdeal.Tables

open Cert.InEvenIdeal Cert.InEvenIdeal.Gen Idealize.ShloMosaic Idealize.ShloMosaic.TcCoe Idealize.SL.Sem
open Cert.InEvenRefIdeal.Read (val_main_v99 val_main_v123 val_main_v166 val_main_v190)

variable (m : (ℓ : Loc nD τ sig) → Buf (Elt Ideal) ℓ) (c : Dev nD)

set_option maxHeartbeats 2000000

/-- The operations before the four tables are joined. -/
abbrev early : List (HloOp τ sig (Elt Ideal)) :=
  List.flatten [hostOps0, hostOps0_1, hostOps0_2, hostOps0_3, hostOps0_4, hostOps0_5, hostOps0_6, hostOps0_7, hostOps0_8.take 39]

/-- The operations from there on. -/
abbrev late : List (HloOp τ sig (Elt Ideal)) := List.flatten [hostOps0_8.drop 39, hostOps0_9, hostOps0_10]

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

theorem cut (b : Ref sig .tc) : V m c b = StableHlo.after late (StableHlo.after early (fun b => m (c, b))) b := by
  rw [← after_two]
  rfl

section Late
variable (W : Valuation τ sig (Elt Ideal))

theorem late81 : (show FVec Ideal S3x512x1536 .f32 from StableHlo.after late W (Proc.devRef .tc main_v81))
    = concatenate S3x512x1536 2 [⟨S3x512x512, (show FVec Ideal S3x512x512 .f32 from W (Proc.devRef .tc main_v39))⟩,
        ⟨S3x512x512, (show FVec Ideal S3x512x512 .f32 from W (Proc.devRef .tc main_v41))⟩,
        ⟨S3x512x256, (show FVec Ideal S3x512x256 .f32 from W (Proc.devRef .tc main_v78))⟩,
        ⟨S3x512x256, (show FVec Ideal S3x512x256 .f32 from W (Proc.devRef .tc main_v80))⟩]
        concatenates_S3x512x512_S3x512x512_S3x512x256_S3x512x256_S3x512x1536_d2 := by
  simp only [late, hostOps0_8, hostOps0_9, hostOps0_10, List.drop_succ_cons, List.drop_zero, List.flatten_cons, List.flatten_nil, List.append_nil, List.cons_append, List.nil_append]
  after_results
  rfl

theorem late39 : StableHlo.after late W (Proc.devRef .tc main_v39) = W (Proc.devRef .tc main_v39) := by
  simp only [late, hostOps0_8, hostOps0_9, hostOps0_10, List.drop_succ_cons, List.drop_zero, List.flatten_cons, List.flatten_nil, List.append_nil, List.cons_append, List.nil_append]
  after_results

theorem late41 : StableHlo.after late W (Proc.devRef .tc main_v41) = W (Proc.devRef .tc main_v41) := by
  simp only [late, hostOps0_8, hostOps0_9, hostOps0_10, List.drop_succ_cons, List.drop_zero, List.flatten_cons, List.flatten_nil, List.append_nil, List.cons_append, List.nil_append]
  after_results

theorem late78 : StableHlo.after late W (Proc.devRef .tc main_v78) = W (Proc.devRef .tc main_v78) := by
  simp only [late, hostOps0_8, hostOps0_9, hostOps0_10, List.drop_succ_cons, List.drop_zero, List.flatten_cons, List.flatten_nil, List.append_nil, List.cons_append, List.nil_append]
  after_results

theorem late80 : StableHlo.after late W (Proc.devRef .tc main_v80) = W (Proc.devRef .tc main_v80) := by
  simp only [late, hostOps0_8, hostOps0_9, hostOps0_10, List.drop_succ_cons, List.drop_zero, List.flatten_cons, List.flatten_nil, List.append_nil, List.cons_append, List.nil_append]
  after_results

end Late

theorem lanes39 : (show FVec Ideal S3x512x512 .f32 from V m c main_v39) = laneA 0x3F800000#32 (val_main_v99 (F := Ideal)) (val_main_v99 (F := Ideal)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem lanes41 : (show FVec Ideal S3x512x512 .f32 from V m c main_v41) = laneA 0x00000000#32 (Host.negf (val_main_v123 (F := Ideal))) (val_main_v123 (F := Ideal)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem lanes78 : (show FVec Ideal S3x512x256 .f32 from V m c main_v78) = laneB 0x3F800000#32 (val_main_v166 (F := Ideal)) (val_main_v166 (F := Ideal)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem lanes80 : (show FVec Ideal S3x512x256 .f32 from V m c main_v80) = laneB 0x00000000#32 (Host.negf (val_main_v190 (F := Ideal))) (val_main_v190 (F := Ideal)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

theorem rope : (show FVec Ideal S3x512x1536 .f32 from V m c main_v81)
    = concatenate S3x512x1536 2 [⟨S3x512x512, laneA 0x3F800000#32 (val_main_v99 (F := Ideal)) (val_main_v99 (F := Ideal))⟩,
        ⟨S3x512x512, laneA 0x00000000#32 (Host.negf (val_main_v123 (F := Ideal))) (val_main_v123 (F := Ideal))⟩,
        ⟨S3x512x256, laneB 0x3F800000#32 (val_main_v166 (F := Ideal)) (val_main_v166 (F := Ideal))⟩,
        ⟨S3x512x256, laneB 0x00000000#32 (Host.negf (val_main_v190 (F := Ideal))) (val_main_v190 (F := Ideal))⟩]
        concatenates_S3x512x512_S3x512x512_S3x512x256_S3x512x256_S3x512x1536_d2 := by
  rw [← lanes39 m c, ← lanes41 m c, ← lanes78 m c, ← lanes80 m c, cut, cut, cut, cut, cut, late39, late41, late78, late80]
  exact late81 _

end Cert.InEvenIdeal.Tables
-- ==== Proof.InAngles.lean ====
/- The cosines and sines at a token's lanes. -/
module

public import proofs.«01_k».proof.Proof.InBlk
public import proofs.«01_k».proof.Proof.InBody
public import proofs.«01_k».proof.Proof.InLaneAt
public import proofs.«01_k».proof.Proof.InLanes

@[expose] public section

set_option maxRecDepth 16384

noncomputable section

namespace Cert.InEvenIdeal.Angles

open Cert.InEvenIdeal Cert.InEvenIdeal.Gen Cert.InEvenIdeal.Blocks Idealize.ShloMosaic Idealize.ShloMosaic.TcCoe Idealize.SL.Sem
open Cert.InEvenRefIdeal.Read (val_main_v99 val_main_v123 val_main_v166 val_main_v190)

theorem joinA (A : FVec Ideal S3x512x512 .f32) (B : FVec Ideal S3x512x512 .f32) (C : FVec Ideal S3x512x256 .f32) (D : FVec Ideal S3x512x256 .f32) (b : Fin 3) (r : Fin 512) (n : Fin 512) :
    concatenate S3x512x1536 2 [⟨S3x512x512, A⟩, ⟨S3x512x512, B⟩, ⟨S3x512x256, C⟩, ⟨S3x512x256, D⟩]
        concatenates_S3x512x512_S3x512x512_S3x512x256_S3x512x256_S3x512x1536_d2 (ix3 b r ⟨n, by omega⟩) = A (ix3 b r n) := by
  pointwise []

theorem joinB (A : FVec Ideal S3x512x512 .f32) (B : FVec Ideal S3x512x512 .f32) (C : FVec Ideal S3x512x256 .f32) (D : FVec Ideal S3x512x256 .f32) (b : Fin 3) (r : Fin 512) (n : Fin 512) :
    concatenate S3x512x1536 2 [⟨S3x512x512, A⟩, ⟨S3x512x512, B⟩, ⟨S3x512x256, C⟩, ⟨S3x512x256, D⟩]
        concatenates_S3x512x512_S3x512x512_S3x512x256_S3x512x256_S3x512x1536_d2 (ix3 b r ⟨512 + n, by omega⟩) = B (ix3 b r n) := by
  pointwise []

theorem joinC (A : FVec Ideal S3x512x512 .f32) (B : FVec Ideal S3x512x512 .f32) (C : FVec Ideal S3x512x256 .f32) (D : FVec Ideal S3x512x256 .f32) (b : Fin 3) (r : Fin 512) (n : Fin 256) :
    concatenate S3x512x1536 2 [⟨S3x512x512, A⟩, ⟨S3x512x512, B⟩, ⟨S3x512x256, C⟩, ⟨S3x512x256, D⟩]
        concatenates_S3x512x512_S3x512x512_S3x512x256_S3x512x256_S3x512x1536_d2 (ix3 b r ⟨1024 + n, by omega⟩) = C (ix3 b r n) := by
  pointwise []
  rw [dif_neg (by omega), dif_neg (by omega), dif_pos (by omega)]
  exact congrArg (fun x => C (ix3 b r x)) (Fin.ext (by dsimp only; omega))

theorem joinD (A : FVec Ideal S3x512x512 .f32) (B : FVec Ideal S3x512x512 .f32) (C : FVec Ideal S3x512x256 .f32) (D : FVec Ideal S3x512x256 .f32) (b : Fin 3) (r : Fin 512) (n : Fin 256) :
    concatenate S3x512x1536 2 [⟨S3x512x512, A⟩, ⟨S3x512x512, B⟩, ⟨S3x512x256, C⟩, ⟨S3x512x256, D⟩]
        concatenates_S3x512x512_S3x512x512_S3x512x256_S3x512x256_S3x512x1536_d2 (ix3 b r ⟨1280 + n, by omega⟩) = D (ix3 b r n) := by
  pointwise []
  rw [dif_neg (by omega), dif_neg (by omega), dif_neg (by omega)]
  exact congrArg (fun x => D (ix3 b r x)) (Fin.ext (by dsimp only; omega))

variable (m : (ℓ : Loc nD τ sig) → Buf (Elt Ideal) ℓ) (c : Dev nD) (t : Fin cfg0.N)

theorem half_prompt (h : 8 ≤ t.val) : half t = 0 := Fin.ext (by simp only [half, if_pos h]; rfl)

theorem half_sample (h : ¬ 8 ≤ t.val) : half t = ⟨(⟨t.val % 2, by omega⟩ : Fin 2).val + 1, by simp only []; omega⟩ := Fin.ext (by simp only [half, if_neg h])

/-- The place of a latent token in its request. -/
def place (r : Fin 512) : Fin 1024 := ⟨((tok t r).val - 8192) % 1024, by omega⟩

theorem place_eq (h : ¬ 8 ≤ t.val) (r : Fin 512) :
    (⟨(⟨t.val % 2, by omega⟩ : Fin 2).val * 512 + r.val, by simp only []; omega⟩ : Fin 1024) = place t r := by
  refine Fin.ext ?_
  have e : (tok t r).val = (if t.val < 8 then t.val + 16 else t.val - 8) * 512 + r.val := rfl
  rw [if_pos (by omega)] at e
  simp only [place, e]
  omega

theorem prompt_iff (r : Fin 512) : (tok t r).val < 8192 ↔ 8 ≤ t.val := by
  have e : (tok t r).val = (if t.val < 8 then t.val + 16 else t.val - 8) * 512 + r.val := rfl
  have ht := (idx t).1
  rw [e]
  split <;> omega

theorem neg_at {s : Shape} (x : FVec Ideal s .f32) (i : s.Idx) : Host.negf x i = -(x i) := by
  pointwise []

theorem cosA_prompt (h : 8 ≤ t.val) (r : Fin 512) (n : Fin 512) : k0_pay5 (F := Ideal) (iblk m c 2 t) (ix2 r n) = 1 := by
  rw [Body.cosA_at]
  refine (blk2 m c t r _).trans ?_
  rw [Tables.rope]
  rw [half_prompt t h, joinA, Tables.laneA_prompt, Ideal.ofBits_one_f32]

theorem cosA_low (h : ¬ 8 ≤ t.val) (r : Fin 512) (n : Fin 512) (hn : n.val % 64 < 32) :
    k0_pay5 (F := Ideal) (iblk m c 2 t) (ix2 r n) = val_main_v99 (F := Ideal) (ix2 (place t r) ⟨n.val % 64, hn⟩) := by
  rw [Body.cosA_at]
  refine (blk2 m c t r _).trans ?_
  rw [Tables.rope]
  rw [half_sample t h, joinA, Tables.laneA_low _ _ _ _ _ _ hn, place_eq t h]

theorem cosA_high (h : ¬ 8 ≤ t.val) (r : Fin 512) (n : Fin 512) (hn : ¬ n.val % 64 < 32) :
    k0_pay5 (F := Ideal) (iblk m c 2 t) (ix2 r n) = val_main_v99 (F := Ideal) (ix2 (place t r) ⟨n.val % 64 - 32, by omega⟩) := by
  rw [Body.cosA_at]
  refine (blk2 m c t r _).trans ?_
  rw [Tables.rope]
  rw [half_sample t h, joinA, Tables.laneA_high _ _ _ _ _ _ hn, place_eq t h]

theorem sinA_prompt (h : 8 ≤ t.val) (r : Fin 512) (n : Fin 512) : k0_pay6 (F := Ideal) (iblk m c 2 t) (ix2 r n) = 0 := by
  rw [Body.sinA_at]
  refine (blk2 m c t r _).trans ?_
  rw [Tables.rope]
  rw [half_prompt t h, joinB, Tables.laneA_prompt, Ideal.ofBits_zero_f32]

theorem sinA_low (h : ¬ 8 ≤ t.val) (r : Fin 512) (n : Fin 512) (hn : n.val % 64 < 32) :
    k0_pay6 (F := Ideal) (iblk m c 2 t) (ix2 r n) = -val_main_v123 (F := Ideal) (ix2 (place t r) ⟨n.val % 64, hn⟩) := by
  rw [Body.sinA_at]
  refine (blk2 m c t r _).trans ?_
  rw [Tables.rope]
  rw [half_sample t h, joinB, Tables.laneA_low _ _ _ _ _ _ hn, neg_at, place_eq t h]

theorem sinA_high (h : ¬ 8 ≤ t.val) (r : Fin 512) (n : Fin 512) (hn : ¬ n.val % 64 < 32) :
    k0_pay6 (F := Ideal) (iblk m c 2 t) (ix2 r n) = val_main_v123 (F := Ideal) (ix2 (place t r) ⟨n.val % 64 - 32, by omega⟩) := by
  rw [Body.sinA_at]
  refine (blk2 m c t r _).trans ?_
  rw [Tables.rope]
  rw [half_sample t h, joinB, Tables.laneA_high _ _ _ _ _ _ hn, place_eq t h]

theorem cosB_prompt (h : 8 ≤ t.val) (r : Fin 512) (n : Fin 256) : k0_pay7 (F := Ideal) (iblk m c 2 t) (ix2 r n) = 1 := by
  rw [Body.cosB_at]
  refine (blk2 m c t r _).trans ?_
  rw [Tables.rope]
  rw [half_prompt t h, joinC, Tables.laneB_prompt, Ideal.ofBits_one_f32]

theorem cosB_low (h : ¬ 8 ≤ t.val) (r : Fin 512) (n : Fin 256) (hn : n.val % 32 < 16) :
    k0_pay7 (F := Ideal) (iblk m c 2 t) (ix2 r n) = val_main_v166 (F := Ideal) (ix2 (place t r) ⟨n.val % 32, hn⟩) := by
  rw [Body.cosB_at]
  refine (blk2 m c t r _).trans ?_
  rw [Tables.rope]
  rw [half_sample t h, joinC, Tables.laneB_low _ _ _ _ _ _ hn, place_eq t h]

theorem cosB_high (h : ¬ 8 ≤ t.val) (r : Fin 512) (n : Fin 256) (hn : ¬ n.val % 32 < 16) :
    k0_pay7 (F := Ideal) (iblk m c 2 t) (ix2 r n) = val_main_v166 (F := Ideal) (ix2 (place t r) ⟨n.val % 32 - 16, by omega⟩) := by
  rw [Body.cosB_at]
  refine (blk2 m c t r _).trans ?_
  rw [Tables.rope]
  rw [half_sample t h, joinC, Tables.laneB_high _ _ _ _ _ _ hn, place_eq t h]

theorem sinB_prompt (h : 8 ≤ t.val) (r : Fin 512) (n : Fin 256) : k0_pay8 (F := Ideal) (iblk m c 2 t) (ix2 r n) = 0 := by
  rw [Body.sinB_at]
  refine (blk2 m c t r _).trans ?_
  rw [Tables.rope]
  rw [half_prompt t h, joinD, Tables.laneB_prompt, Ideal.ofBits_zero_f32]

theorem sinB_low (h : ¬ 8 ≤ t.val) (r : Fin 512) (n : Fin 256) (hn : n.val % 32 < 16) :
    k0_pay8 (F := Ideal) (iblk m c 2 t) (ix2 r n) = -val_main_v190 (F := Ideal) (ix2 (place t r) ⟨n.val % 32, hn⟩) := by
  rw [Body.sinB_at]
  refine (blk2 m c t r _).trans ?_
  rw [Tables.rope]
  rw [half_sample t h, joinD, Tables.laneB_low _ _ _ _ _ _ hn, neg_at, place_eq t h]

theorem sinB_high (h : ¬ 8 ≤ t.val) (r : Fin 512) (n : Fin 256) (hn : ¬ n.val % 32 < 16) :
    k0_pay8 (F := Ideal) (iblk m c 2 t) (ix2 r n) = val_main_v190 (F := Ideal) (ix2 (place t r) ⟨n.val % 32 - 16, by omega⟩) := by
  rw [Body.sinB_at]
  refine (blk2 m c t r _).trans ?_
  rw [Tables.rope]
  rw [half_sample t h, joinD, Tables.laneB_high _ _ _ _ _ _ hn, place_eq t h]

end Cert.InEvenIdeal.Angles
-- ==== Proof.InRefRow.lean ====
/- The projected row of a token in the reference. -/
module

public import proofs.«01_k».proof.Proof.Gen.InEvenRefIdeal.Read
public import proofs.«01_k».proof.Proof.PostRow
public import Idealize.ShloMosaic.Lib.Pipeline.ValueKit
public import Idealize.ShloMosaic.Lib.Pointwise

@[expose] public section

set_option maxRecDepth 16384

noncomputable section

namespace Cert.InEvenRefIdeal.Rows

open Cert.InEvenRefIdeal Cert.InEvenRefIdeal.Gen Cert.InEvenRefIdeal.Read Idealize.ShloMosaic Idealize.ShloMosaic.TcCoe Idealize.SL.Sem

variable (x0 : FVec Ideal S32x256x1024 .f32) (x1 : FVec Ideal S4x1024x1024 .f32) (x2 : FVec Ideal S2x8x6x1024 .f32)
  (x3 : FVec Ideal S1x1024x1952 .f32) (x4 : FVec Ideal S1x256 .f32) (x5 : FVec Ideal S1x256x768 .f32)
  (x6 : FVec Ideal S1x128 .f32) (x7 : FVec Ideal S1x128x1024 .f32)

open Cert.PostRow (seg modRow)

theorem mod_eq (i : Fin 6) (t : Fin 12288) (j : Fin 1024) (v : EReal)
    (h : v = if h : (t : ℕ) < 8192 then x2 (ix4 0 0 i j) else x2 (ix4 0 ⟨1 + ((t : ℕ) - 8192) / 1024, by omega⟩ i j)) :
    v = modRow x2 i t j := by
  rw [h]
  unfold modRow seg
  by_cases ht : (t : ℕ) < 8192
  · rw [dif_pos ht]
    exact congrArg x2 (by blk_ext [if_pos ht])
  · rw [dif_neg ht]
    exact congrArg x2 (by blk_ext [if_neg ht])

theorem scale_at (t : Fin 12288) (j : Fin 1024) : val_main_v11 (F := Ideal) x2 (ix2 t j) = modRow x2 1 t j := by
  refine mod_eq x2 1 t j _ ?_
  pointwise [val_main_v11, val_main_v10, val_main_v9, val_main_v8, val_main_v7, val_main_v6, val_main_v5, val_main_v4, val_main_v3]

theorem shift_at (t : Fin 12288) (j : Fin 1024) : val_main_v23 (F := Ideal) x2 (ix2 t j) = modRow x2 0 t j := by
  refine mod_eq x2 0 t j _ ?_
  pointwise [val_main_v23, val_main_v22, val_main_v21, val_main_v20, val_main_v19, val_main_v18, val_main_v17, val_main_v16, val_main_v15]

theorem input_at (t : Fin 12288) (j : Fin 1024) :
    val_main_v24 (F := Ideal) x0 x1 x2 (ix2 t j)
      = val_main_v2 (F := Ideal) x0 x1 (ix2 t j) * (1 + modRow x2 1 t j) + modRow x2 0 t j := by
  pointwise [val_main_v24, val_main_v14, val_main_v13, val_main_v12, val_main_cst, scale_at, shift_at]

theorem proj_at (t : Fin 12288) (n : Fin 1952) :
    val_main_v26 (F := Ideal) x0 x1 x2 x3 (ix2 t n)
      = ∑ k : Fin 1024, (val_main_v2 (F := Ideal) x0 x1 (ix2 t k) * (1 + modRow x2 1 t k) + modRow x2 0 t k) * val_main_v25 (F := Ideal) x3 (ix2 k n) := by
  pointwise [val_main_v26, input_at]

theorem aq_at (t : Fin 12288) (n : Fin 512) : val_main_v27 (F := Ideal) x0 x1 x2 x3 (ix2 t n) = val_main_v26 (F := Ideal) x0 x1 x2 x3 (ix2 t ⟨n, by omega⟩) := by
  pointwise [val_main_v27]
theorem ak_at (t : Fin 12288) (n : Fin 512) : val_main_v28 (F := Ideal) x0 x1 x2 x3 (ix2 t n) = val_main_v26 (F := Ideal) x0 x1 x2 x3 (ix2 t ⟨512 + n, by omega⟩) := by
  pointwise [val_main_v28]
theorem av_at (t : Fin 12288) (n : Fin 512) : val_main_v29 (F := Ideal) x0 x1 x2 x3 (ix2 t n) = val_main_v26 (F := Ideal) x0 x1 x2 x3 (ix2 t ⟨1024 + n, by omega⟩) := by
  pointwise [val_main_v29]
theorem cq_at (t : Fin 12288) (n : Fin 256) : val_main_v30 (F := Ideal) x0 x1 x2 x3 (ix2 t n) = val_main_v26 (F := Ideal) x0 x1 x2 x3 (ix2 t ⟨1536 + n, by omega⟩) := by
  pointwise [val_main_v30]
theorem ckv_at (t : Fin 12288) (n : Fin 128) : val_main_v31 (F := Ideal) x0 x1 x2 x3 (ix2 t n) = val_main_v26 (F := Ideal) x0 x1 x2 x3 (ix2 t ⟨1792 + n, by omega⟩) := by
  pointwise [val_main_v31]
theorem krin_at (t : Fin 12288) (n : Fin 32) : val_main_v32 (F := Ideal) x0 x1 x2 x3 (ix2 t n) = val_main_v26 (F := Ideal) x0 x1 x2 x3 (ix2 t ⟨1920 + n, by omega⟩) := by
  pointwise [val_main_v32]

theorem rmsQ_at (t : Fin 12288) (k : Fin 256) :
    val_main_v46 (F := Ideal) x0 x1 x2 x3 x4 (ix2 t k)
      = val_main_v30 (F := Ideal) x0 x1 x2 x3 (ix2 t k)
        * Ideal.rsqrt (Ideal.div (∑ j : Fin 256, val_main_v30 (F := Ideal) x0 x1 x2 x3 (ix2 t j) * val_main_v30 (F := Ideal) x0 x1 x2 x3 (ix2 t j)) (Ideal.ofBits .f32 0x43800000#32)
            + Ideal.ofBits .f32 0x358637BD#32) * val_main_v33 (F := Ideal) x4 (ix1 k) := by
  pointwise [val_main_v46, val_main_v45, val_main_v44, val_main_v43, val_main_v42, val_main_v41, val_main_v40, val_main_v39, val_main_v38, val_main_v37,
    val_main_v36, val_main_v35, val_main_v34, val_main_cst_0, val_main_cst_1, val_main_cst_2]

theorem rmsKv_at (t : Fin 12288) (k : Fin 128) :
    val_main_v67 (F := Ideal) x0 x1 x2 x3 x6 (ix2 t k)
      = val_main_v31 (F := Ideal) x0 x1 x2 x3 (ix2 t k)
        * Ideal.rsqrt (Ideal.div (∑ j : Fin 128, val_main_v31 (F := Ideal) x0 x1 x2 x3 (ix2 t j) * val_main_v31 (F := Ideal) x0 x1 x2 x3 (ix2 t j)) (Ideal.ofBits .f32 0x43000000#32)
            + Ideal.ofBits .f32 0x358637BD#32) * val_main_v54 (F := Ideal) x6 (ix1 k) := by
  pointwise [val_main_v67, val_main_v66, val_main_v65, val_main_v64, val_main_v63, val_main_v62, val_main_v61, val_main_v60, val_main_v59, val_main_v58,
    val_main_v57, val_main_v56, val_main_v55, val_main_cst_3, val_main_cst_4, val_main_cst_5]

theorem wideQ_at (t : Fin 12288) (n : Fin 768) :
    val_main_v48 (F := Ideal) x0 x1 x2 x3 x4 x5 (ix2 t n)
      = ∑ k : Fin 256, val_main_v46 (F := Ideal) x0 x1 x2 x3 x4 (ix2 t k) * val_main_v47 (F := Ideal) x5 (ix2 k n) := by
  pointwise [val_main_v48]

theorem wideKv_at (t : Fin 12288) (n : Fin 1024) :
    val_main_v69 (F := Ideal) x0 x1 x2 x3 x6 x7 (ix2 t n)
      = ∑ k : Fin 128, val_main_v67 (F := Ideal) x0 x1 x2 x3 x6 (ix2 t k) * val_main_v68 (F := Ideal) x7 (ix2 k n) := by
  pointwise [val_main_v69]

theorem nope_at (t : Fin 12288) (n : Fin 512) :
    val_main_v51 (F := Ideal) x0 x1 x2 x3 x4 x5 (ix2 t n)
      = val_main_v48 (F := Ideal) x0 x1 x2 x3 x4 x5 (ix2 t ⟨n.val / 64 * 96 + n.val % 64, by omega⟩) := by
  pointwise [val_main_v51, val_main_v50, val_main_v49]

theorem ropeIn_at (t : Fin 12288) (n : Fin 256) :
    val_main_v53 (F := Ideal) x0 x1 x2 x3 x4 x5 (ix2 t n)
      = val_main_v48 (F := Ideal) x0 x1 x2 x3 x4 x5 (ix2 t ⟨n.val / 32 * 96 + (64 + n.val % 32), by omega⟩) := by
  pointwise [val_main_v53, val_main_v52, val_main_v49]

theorem keyB_at (t : Fin 12288) (n : Fin 512) :
    val_main_v72 (F := Ideal) x0 x1 x2 x3 x6 x7 (ix2 t n)
      = val_main_v69 (F := Ideal) x0 x1 x2 x3 x6 x7 (ix2 t ⟨n.val / 64 * 128 + n.val % 64, by omega⟩) := by
  pointwise [val_main_v72, val_main_v71, val_main_v70]

theorem valueB_at (t : Fin 12288) (n : Fin 512) :
    val_main_v74 (F := Ideal) x0 x1 x2 x3 x6 x7 (ix2 t n)
      = val_main_v69 (F := Ideal) x0 x1 x2 x3 x6 x7 (ix2 t ⟨n.val / 64 * 128 + (64 + n.val % 64), by omega⟩) := by
  pointwise [val_main_v74, val_main_v73, val_main_v70]

theorem kvb_at (t : Fin 12288) (n : Fin 1024) :
    val_main_v278 (F := Ideal) x0 x1 x2 x3 x6 x7 (ix2 t n)
      = if h : n.val < 512 then val_main_v72 (F := Ideal) x0 x1 x2 x3 x6 x7 (ix2 t ⟨n.val, h⟩)
        else val_main_v74 (F := Ideal) x0 x1 x2 x3 x6 x7 (ix2 t ⟨n.val - 512, by omega⟩) := by
  pointwise [val_main_v278]

theorem query_at (t : Fin 12288) (n : Fin 768) :
    val_main_v208 (F := Ideal) x0 x1 x2 x3 x4 x5 (ix2 t n)
      = if h : n.val < 512 then val_main_v51 (F := Ideal) x0 x1 x2 x3 x4 x5 (ix2 t ⟨n.val, h⟩)
        else val_main_v207 (F := Ideal) x0 x1 x2 x3 x4 x5 (ix2 t ⟨n.val - 512, by omega⟩) := by
  pointwise [val_main_v208]

theorem stateK_at (t : Fin 8192) (n : Fin 512) : val_main_v347 (F := Ideal) x0 x1 x2 x3 (ix2 t n) = val_main_v28 (F := Ideal) x0 x1 x2 x3 (ix2 ⟨t, by omega⟩ n) := by
  pointwise [val_main_v347]
theorem stateV_at (t : Fin 8192) (n : Fin 512) : val_main_v348 (F := Ideal) x0 x1 x2 x3 (ix2 t n) = val_main_v29 (F := Ideal) x0 x1 x2 x3 (ix2 ⟨t, by omega⟩ n) := by
  pointwise [val_main_v348]
theorem stateC_at (t : Fin 8192) (n : Fin 128) : val_main_v349 (F := Ideal) x0 x1 x2 x3 x6 (ix2 t n) = val_main_v67 (F := Ideal) x0 x1 x2 x3 x6 (ix2 ⟨t, by omega⟩ n) := by
  pointwise [val_main_v349]
theorem stateR_at (t : Fin 8192) (n : Fin 32) : val_main_v350 (F := Ideal) x0 x1 x2 x3 (ix2 t n) = val_main_v32 (F := Ideal) x0 x1 x2 x3 (ix2 ⟨t, by omega⟩ n) := by
  pointwise [val_main_v350]

/-- Both rotations of the attention's own heads use the same angles. -/
theorem cosA_eq : val_main_v234 (F := Ideal) = val_main_v99 (F := Ideal) := rfl
theorem sinA_eq : val_main_v258 (F := Ideal) = val_main_v123 (F := Ideal) := rfl
theorem cosB_eq : val_main_v304 (F := Ideal) = val_main_v166 (F := Ideal) := rfl
theorem sinB_eq : val_main_v328 (F := Ideal) = val_main_v190 (F := Ideal) := rfl

end Cert.InEvenRefIdeal.Rows
-- ==== Proof.InRows.lean ====
/- The kernel's projected rows and the low-rank branch's rows are the reference's. -/
module

public import proofs.«01_k».proof.Proof.InBlk
public import proofs.«01_k».proof.Proof.InBody
public import proofs.«01_k».proof.Proof.InLaneAt
public import proofs.«01_k».proof.Proof.InRefRow

@[expose] public section

set_option maxRecDepth 16384

noncomputable section

namespace Cert.InEvenIdeal.Rows

open Cert.InEvenIdeal Cert.InEvenIdeal.Gen Cert.InEvenIdeal.Blocks Idealize.ShloMosaic Idealize.ShloMosaic.TcCoe Idealize.SL.Sem
open Cert.InEvenRefIdeal.Read Cert.PostRow

variable (m : (ℓ : Loc nD τ sig) → Buf (Elt Ideal) ℓ) (c : Dev nD) (t : Fin cfg0.N)

/-- Argument 0. -/
abbrev A0 : FVec Ideal S32x256x1024 .f32 := m ((c : Thread nD τ).loc main_arg0)
/-- Argument 1. -/
abbrev A1 : FVec Ideal S4x1024x1024 .f32 := m ((c : Thread nD τ).loc main_arg1)
/-- Argument 2. -/
abbrev A2 : FVec Ideal S2x8x6x1024 .f32 := m ((c : Thread nD τ).loc main_arg2)
/-- Argument 3. -/
abbrev A3 : FVec Ideal S1x1024x1952 .f32 := m ((c : Thread nD τ).loc main_arg3)
/-- Argument 4. -/
abbrev A4 : FVec Ideal S1x256 .f32 := m ((c : Thread nD τ).loc main_arg4)
/-- Argument 5. -/
abbrev A5 : FVec Ideal S1x256x768 .f32 := m ((c : Thread nD τ).loc main_arg5)
/-- Argument 6. -/
abbrev A6 : FVec Ideal S1x128 .f32 := m ((c : Thread nD τ).loc main_arg6)
/-- Argument 7. -/
abbrev A7 : FVec Ideal S1x128x1024 .f32 := m ((c : Thread nD τ).loc main_arg7)

theorem weight_at (k : Fin 1024) (n : Fin 1952) : (show FVec Ideal S1024x2048 .bf16 from iblk m c 3 t) (ix2 k ⟨n, by omega⟩) = val_main_v25 (F := Ideal) (A3 m c) (ix2 k n) := by
  refine (blk3 m c t k _).trans ?_
  rw [Tables.wIn]
  exact Tables.padded _ _ k n

theorem proj_eq (r : Fin 512) (n : Fin 1952) :
    (k0_pay3 (F := Ideal) (iblk m c 0 t) (iblk m c 1 t) (iblk m c 3 t)) (ix2 r ⟨n, by omega⟩) = val_main_v26 (F := Ideal) (A0 m c) (A1 m c) (A2 m c) (A3 m c) (ix2 (tok t r) n) := by
  rw [Body.proj_at, Cert.InEvenRefIdeal.Rows.proj_at]
  refine Finset.sum_congr rfl fun k _ => ?_
  have h0 := (blk0 m c t r k).trans (congrFun (Tables.tokens m c) _)
  exact congrArg₂ (fun a b : EReal => a * b)
    (congrArg₂ (fun a b : EReal => a + b) (congrArg₂ (fun a b : EReal => a * b) h0 (congrArg (fun a : EReal => 1 + a) (blk1 m c t r 1 k))) (blk1 m c t r 0 k))
    (weight_at m c t k n)

theorem q_eq (r : Fin 512) (n : Fin 512) :
    k0_pay9 (F := Ideal) (iblk m c 0 t) (iblk m c 1 t) (iblk m c 3 t) (ix2 r n) = val_main_v27 (F := Ideal) (A0 m c) (A1 m c) (A2 m c) (A3 m c) (ix2 (tok t r) n) := by
  rw [Body.q_at, Cert.InEvenRefIdeal.Rows.aq_at]
  exact proj_eq m c t r ⟨n, by omega⟩

theorem k_eq (r : Fin 512) (n : Fin 512) : (k0_pay3 (F := Ideal) (iblk m c 0 t) (iblk m c 1 t) (iblk m c 3 t)) (ix2 r ⟨512 + n, by omega⟩) = val_main_v28 (F := Ideal) (A0 m c) (A1 m c) (A2 m c) (A3 m c) (ix2 (tok t r) n) := by
  rw [Cert.InEvenRefIdeal.Rows.ak_at]
  exact proj_eq m c t r ⟨512 + n, by omega⟩

theorem v_eq (r : Fin 512) (n : Fin 512) : (k0_pay3 (F := Ideal) (iblk m c 0 t) (iblk m c 1 t) (iblk m c 3 t)) (ix2 r ⟨1024 + n, by omega⟩) = val_main_v29 (F := Ideal) (A0 m c) (A1 m c) (A2 m c) (A3 m c) (ix2 (tok t r) n) := by
  rw [Cert.InEvenRefIdeal.Rows.av_at]
  exact proj_eq m c t r ⟨1024 + n, by omega⟩

theorem cq_eq (r : Fin 512) (n : Fin 256) : (k0_pay3 (F := Ideal) (iblk m c 0 t) (iblk m c 1 t) (iblk m c 3 t)) (ix2 r ⟨1536 + n, by omega⟩) = val_main_v30 (F := Ideal) (A0 m c) (A1 m c) (A2 m c) (A3 m c) (ix2 (tok t r) n) := by
  rw [Cert.InEvenRefIdeal.Rows.cq_at]
  exact proj_eq m c t r ⟨1536 + n, by omega⟩

theorem ckvIn_eq (r : Fin 512) (n : Fin 128) : (k0_pay3 (F := Ideal) (iblk m c 0 t) (iblk m c 1 t) (iblk m c 3 t)) (ix2 r ⟨1792 + n, by omega⟩) = val_main_v31 (F := Ideal) (A0 m c) (A1 m c) (A2 m c) (A3 m c) (ix2 (tok t r) n) := by
  rw [Cert.InEvenRefIdeal.Rows.ckv_at]
  exact proj_eq m c t r ⟨1792 + n, by omega⟩

theorem krIn_eq (r : Fin 512) (n : Fin 32) : k0_pay25 (F := Ideal) (k0_pay3 (F := Ideal) (iblk m c 0 t) (iblk m c 1 t) (iblk m c 3 t)) (ix2 r ⟨n, by omega⟩) = val_main_v32 (F := Ideal) (A0 m c) (A1 m c) (A2 m c) (A3 m c) (ix2 (tok t r) n) := by
  rw [Body.krIn_at, Cert.InEvenRefIdeal.Rows.krin_at]
  exact proj_eq m c t r ⟨1920 + n, by omega⟩

theorem gq_at (k : Fin 256) : (show FVec Ideal S1x256 .f32 from iblk m c 4 t) (ix2 0 k) = val_main_v33 (F := Ideal) (A4 m c) (ix1 k) := by
  refine (blk4 m c t k).trans ?_
  rw [Tables.gCq]
  pointwise []

theorem gkv_at (k : Fin 128) : (show FVec Ideal S1x128 .f32 from iblk m c 6 t) (ix2 0 k) = val_main_v54 (F := Ideal) (A6 m c) (ix1 k) := by
  refine (blk6 m c t k).trans ?_
  rw [Tables.gCkv]
  pointwise []

theorem rmsQ_eq (r : Fin 512) (k : Fin 256) :
    (k0_pay3 (F := Ideal) (iblk m c 0 t) (iblk m c 1 t) (iblk m c 3 t)) (ix2 r ⟨1536 + k, by omega⟩)
        * Ideal.rsqrt (Ideal.div (∑ j : Fin 256, (k0_pay3 (F := Ideal) (iblk m c 0 t) (iblk m c 1 t) (iblk m c 3 t)) (ix2 r ⟨1536 + j, by omega⟩) * (k0_pay3 (F := Ideal) (iblk m c 0 t) (iblk m c 1 t) (iblk m c 3 t)) (ix2 r ⟨1536 + j, by omega⟩)) (Ideal.ofBits .f32 0x43800000#32)
            + Ideal.ofBits .f32 0x358637BD#32) * (show FVec Ideal S1x256 .f32 from iblk m c 4 t) (ix2 0 k)
      = val_main_v46 (F := Ideal) (A0 m c) (A1 m c) (A2 m c) (A3 m c) (A4 m c) (ix2 (tok t r) k) := by
  simp only [cq_eq, gq_at, Cert.InEvenRefIdeal.Rows.rmsQ_at]

theorem ckv_eq (r : Fin 512) (k : Fin 128) :
    k0_pay23 (F := Ideal) (k0_pay3 (F := Ideal) (iblk m c 0 t) (iblk m c 1 t) (iblk m c 3 t)) (iblk m c 6 t) (ix2 r k) = val_main_v67 (F := Ideal) (A0 m c) (A1 m c) (A2 m c) (A3 m c) (A6 m c) (ix2 (tok t r) k) := by
  have h := gkv_at m c t k
  rw [Body.ckv_at]
  simp only [ckvIn_eq, Cert.InEvenRefIdeal.Rows.rmsKv_at]
  exact congrArg _ h

/-- A column of the widened query, wherever the reference keeps it. -/
theorem wide_eq (r : Fin 512) (n n' : Fin 768)
    (h : ∀ k, (show FVec Ideal S256x768 .bf16 from iblk m c 5 t) (ix2 k n) = val_main_v47 (F := Ideal) (A5 m c) (ix2 k n')) :
    k0_pay16 (F := Ideal) (k0_pay3 (F := Ideal) (iblk m c 0 t) (iblk m c 1 t) (iblk m c 3 t)) (iblk m c 4 t) (iblk m c 5 t) (ix2 r n) = val_main_v48 (F := Ideal) (A0 m c) (A1 m c) (A2 m c) (A3 m c) (A4 m c) (A5 m c) (ix2 (tok t r) n') := by
  rw [Body.bq_at, Cert.InEvenRefIdeal.Rows.wideQ_at]
  refine Finset.sum_congr rfl fun k _ => ?_
  exact congrArg₂ (fun a b : EReal => a * b) (rmsQ_eq m c t r k) (h k)

theorem nope_eq (r : Fin 512) (n : Fin 512) :
    k0_pay17 (F := Ideal) (k0_pay3 (F := Ideal) (iblk m c 0 t) (iblk m c 1 t) (iblk m c 3 t)) (iblk m c 4 t) (iblk m c 5 t) (ix2 r n) = val_main_v51 (F := Ideal) (A0 m c) (A1 m c) (A2 m c) (A3 m c) (A4 m c) (A5 m c) (ix2 (tok t r) n) := by
  rw [Body.nope_at, Cert.InEvenRefIdeal.Rows.nope_at]
  refine wide_eq m c t r _ _ fun k => ?_
  refine (blk5 m c t k _).trans ?_
  rw [Tables.wQ]
  exact Tables.splitQ_nope _ k n

theorem ropeIn_eq (r : Fin 512) (n : Fin 256) :
    k0_pay18 (F := Ideal) (k0_pay3 (F := Ideal) (iblk m c 0 t) (iblk m c 1 t) (iblk m c 3 t)) (iblk m c 4 t) (iblk m c 5 t) (ix2 r n) = val_main_v53 (F := Ideal) (A0 m c) (A1 m c) (A2 m c) (A3 m c) (A4 m c) (A5 m c) (ix2 (tok t r) n) := by
  rw [Body.ropeIn_at, Cert.InEvenRefIdeal.Rows.ropeIn_at]
  refine wide_eq m c t r _ _ fun k => ?_
  refine (blk5 m c t k _).trans ?_
  rw [Tables.wQ]
  exact Tables.splitQ_rope _ k n

theorem wideKv_eq (r : Fin 512) (n n' : Fin 1024)
    (h : ∀ k, (show FVec Ideal S128x1024 .bf16 from iblk m c 7 t) (ix2 k n) = val_main_v68 (F := Ideal) (A7 m c) (ix2 k n')) :
    k0_pay24 (F := Ideal) (k0_pay3 (F := Ideal) (iblk m c 0 t) (iblk m c 1 t) (iblk m c 3 t)) (iblk m c 6 t) (iblk m c 7 t) (ix2 r n) = val_main_v69 (F := Ideal) (A0 m c) (A1 m c) (A2 m c) (A3 m c) (A6 m c) (A7 m c) (ix2 (tok t r) n') := by
  rw [Body.kvb_at, Cert.InEvenRefIdeal.Rows.wideKv_at]
  refine Finset.sum_congr rfl fun k _ => ?_
  exact congrArg₂ (fun a b : EReal => a * b) (ckv_eq m c t r k) (h k)

theorem keyB_eq (r : Fin 512) (n : Fin 512) :
    k0_pay24 (F := Ideal) (k0_pay3 (F := Ideal) (iblk m c 0 t) (iblk m c 1 t) (iblk m c 3 t)) (iblk m c 6 t) (iblk m c 7 t) (ix2 r ⟨n, by omega⟩) = val_main_v72 (F := Ideal) (A0 m c) (A1 m c) (A2 m c) (A3 m c) (A6 m c) (A7 m c) (ix2 (tok t r) n) := by
  rw [Cert.InEvenRefIdeal.Rows.keyB_at]
  refine wideKv_eq m c t r _ _ fun k => ?_
  refine (blk7 m c t k _).trans ?_
  rw [Tables.wKv]
  exact Tables.splitKv_key _ k n

theorem valueB_eq (r : Fin 512) (n : Fin 512) :
    k0_pay24 (F := Ideal) (k0_pay3 (F := Ideal) (iblk m c 0 t) (iblk m c 1 t) (iblk m c 3 t)) (iblk m c 6 t) (iblk m c 7 t) (ix2 r ⟨512 + n, by omega⟩) = val_main_v74 (F := Ideal) (A0 m c) (A1 m c) (A2 m c) (A3 m c) (A6 m c) (A7 m c) (ix2 (tok t r) n) := by
  rw [Cert.InEvenRefIdeal.Rows.valueB_at]
  refine wideKv_eq m c t r _ _ fun k => ?_
  refine (blk7 m c t k _).trans ?_
  rw [Tables.wKv]
  exact Tables.splitKv_value _ k n

end Cert.InEvenIdeal.Rows
-- ==== Proof.InRot.lean ====
/- The rotation inside the body of the even layer's input projection. -/
module

public import proofs.«01_k».proof.Proof.Gen.InEvenIdeal.Value
public import Idealize.ShloMosaic.Lib.Pipeline.ValueKit
public import Idealize.ShloMosaic.Lib.Pointwise

@[expose] public section

set_option maxRecDepth 16384

noncomputable section

namespace Cert.InEvenIdeal.Rot

open Cert.InEvenIdeal Cert.InEvenIdeal.Gen Idealize.ShloMosaic Idealize.SL.Sem

/-- The lane's place in its head. -/
theorem lane_at (r : Fin 512) (n : Fin 512) : k0_pay10 (ix2 r n) = BitVec.ofNat 32 (n.val % 64) := by
  pointwise [k0_pay10]
  revert n
  decide +kernel

theorem rotQ_at (co si p : FVec Ideal S512x512 .f32) (l : IVec S512x512 32) (r : Fin 512) (n : Fin 512) (h : l (ix2 r n) = BitVec.ofNat 32 (n.val % 64)) :
    k0_pay11 (F := Ideal) co si p l (ix2 r n)
      = p (ix2 r n) * co (ix2 r n) + (if n.val % 64 < 32 then p (ix2 r ⟨(n.val + 32) % 512, by omega⟩) else p (ix2 r ⟨(n.val + 480) % 512, by omega⟩)) * si (ix2 r n) := by
  pointwise [k0_pay11]
  have hs : IntOp.cmpi CmpIPredicate.slt (BitVec.ofNat 32 (n.val % 64)) 32#32 = if n.val % 64 < 32 then 1#1 else 0#1 := by
    clear h
    revert n; decide +kernel
  rw [h, hs]
  have e1 : (n.val + 512 - 480) % 512 = (n.val + 32) % 512 := by omega
  have e2 : (n.val + 512 - 32) % 512 = (n.val + 480) % 512 := by omega
  simp only [e1, e2]
  split <;> rfl

/-- The kernel's test that a lane lies in the first half of its head. -/
theorem slt64 (n : Fin 512) :
    IntOp.cmpi CmpIPredicate.slt (Scalar.select (IntOp.andi (IntOp.xori (IntOp.cmpi CmpIPredicate.slt (IntOp.remsi ArithUnit.vector (BitVec.ofNat 32 n.val) (Scalar.select (Scalar.cmpi CmpIPredicate.eq 64#32 0#32) 1#32 64#32)) 0#32)
      (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 n.val) (Scalar.select (Scalar.cmpi CmpIPredicate.eq 64#32 0#32) 1#32 64#32)) 0#32)) (IntOp.addi (IntOp.remsi ArithUnit.vector (BitVec.ofNat 32 n.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n.val) (Scalar.select (Scalar.cmpi CmpIPredicate.eq 64#32 0#32) 1#32 64#32))) 32#32
      = if n.val % 64 < 32 then 1#1 else 0#1 := by
  revert n; decide +kernel

/-- The kernel's test that a lane of the query's rotated part lies in the first half of its head. -/
theorem slt32 (n : Fin 256) :
    IntOp.cmpi CmpIPredicate.slt (Scalar.select (IntOp.andi (IntOp.xori (IntOp.cmpi CmpIPredicate.slt (IntOp.remsi ArithUnit.vector (BitVec.ofNat 32 n.val) (Scalar.select (Scalar.cmpi CmpIPredicate.eq 32#32 0#32) 1#32 32#32)) 0#32)
      (Scalar.cmpi CmpIPredicate.slt 32#32 0#32)) (IntOp.cmpi CmpIPredicate.ne (IntOp.remsi ArithUnit.vector (BitVec.ofNat 32 n.val) (Scalar.select (Scalar.cmpi CmpIPredicate.eq 32#32 0#32) 1#32 32#32)) 0#32)) (IntOp.addi (IntOp.remsi ArithUnit.vector (BitVec.ofNat 32 n.val) (Scalar.select (Scalar.cmpi CmpIPredicate.eq 32#32 0#32) 1#32 32#32)) 32#32) (IntOp.remsi ArithUnit.vector (BitVec.ofNat 32 n.val) (Scalar.select (Scalar.cmpi CmpIPredicate.eq 32#32 0#32) 1#32 32#32))) 16#32
      = if n.val % 32 < 16 then 1#1 else 0#1 := by
  revert n; decide +kernel

/-- The kernel's test that a lane lies in the first half of its head. -/
theorem slt32' (n : Fin 32) :
    IntOp.cmpi CmpIPredicate.slt (Scalar.select (IntOp.andi (IntOp.xori (IntOp.cmpi CmpIPredicate.slt (IntOp.remsi ArithUnit.vector (BitVec.ofNat 32 n.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32)) (IntOp.cmpi CmpIPredicate.ne (IntOp.remsi ArithUnit.vector (BitVec.ofNat 32 n.val) (Scalar.select (Scalar.cmpi CmpIPredicate.eq 32#32 0#32) 1#32 32#32)) 0#32)) (IntOp.addi (IntOp.remsi ArithUnit.vector (BitVec.ofNat 32 n.val) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 n.val) (Scalar.select (Scalar.cmpi CmpIPredicate.eq 32#32 0#32) 1#32 32#32))) 16#32
      = if n.val % 32 < 16 then 1#1 else 0#1 := by
  revert n; decide +kernel

theorem rotK_at (co si : FVec Ideal S512x512 .f32) (p : FVec Ideal S512x2048 .f32) (r : Fin 512) (n : Fin 512) :
    k0_pay12 (F := Ideal) p co si (ix2 r n)
      = p (ix2 r ⟨512 + n, by omega⟩) * co (ix2 r n) + (if n.val % 64 < 32 then p (ix2 r ⟨512 + (n.val + 32) % 512, by omega⟩) else p (ix2 r ⟨512 + (n.val + 480) % 512, by omega⟩)) * si (ix2 r n) := by
  have e1 : (n.val + 512 - 480) % 512 = (n.val + 32) % 512 := by omega
  have e2 : (n.val + 512 - 32) % 512 = (n.val + 480) % 512 := by omega
  pointwise [k0_pay12]
  simp only [e1, e2]
  rw [slt64]
  split <;> rfl

theorem rotB_at (co si p : FVec Ideal S512x256 .f32) (r : Fin 512) (n : Fin 256) :
    k0_pay22 (F := Ideal) co si p 32#32 k0_pay19 k0_pay20 k0_pay21 (Scalar.cmpi .slt 32#32 0#32) (ix2 r n)
      = p (ix2 r n) * co (ix2 r n) + (if n.val % 32 < 16 then p (ix2 r ⟨(n.val + 16) % 256, by omega⟩) else p (ix2 r ⟨(n.val + 240) % 256, by omega⟩)) * si (ix2 r n) := by
  have e1 : (n.val + 256 - 240) % 256 = (n.val + 16) % 256 := by omega
  have e2 : (n.val + 256 - 16) % 256 = (n.val + 240) % 256 := by omega
  pointwise [k0_pay22, k0_pay19, k0_pay20, k0_pay21]
  simp only [e1, e2]
  rw [slt32]
  split <;> rfl

theorem rotR_at (co si : FVec Ideal S512x256 .f32) (p : FVec Ideal S512x128 .f32) (r : Fin 512) (n : Fin 32) :
    k0_pay1 (F := Ideal) co si p (ix2 r n)
      = p (ix2 r ⟨n, by omega⟩) * co (ix2 r ⟨n, by omega⟩) + (if n.val % 32 < 16 then p (ix2 r ⟨(n.val + 16) % 128, by omega⟩) else p (ix2 r ⟨(n.val + 112) % 128, by omega⟩)) * si (ix2 r ⟨n, by omega⟩) := by
  have e1 : (n.val + 128 - 112) % 128 = (n.val + 16) % 128 := by omega
  have e2 : (n.val + 128 - 16) % 128 = (n.val + 112) % 128 := by omega
  pointwise [k0_pay1]
  simp only [e1, e2]
  rw [slt32' n]
  split <;> rfl

end Cert.InEvenIdeal.Rot
-- ==== Proof.InRefRopeA.lean ====
/- The rotated results of the even layer's input projection in the reference. -/
module

public import proofs.«01_k».proof.Proof.Gen.InEvenRefIdeal.Read
public import proofs.«01_k».proof.Proof.PostRow
public import Idealize.ShloMosaic.Lib.Pipeline.ValueKit
public import Idealize.ShloMosaic.Lib.Pointwise

@[expose] public section

set_option maxRecDepth 16384

noncomputable section

namespace Cert.InEvenRefIdeal.Rows

open Cert.InEvenRefIdeal Cert.InEvenRefIdeal.Gen Cert.InEvenRefIdeal.Read Idealize.ShloMosaic Idealize.ShloMosaic.TcCoe Idealize.SL.Sem

variable (x0 : FVec Ideal S32x256x1024 .f32) (x1 : FVec Ideal S4x1024x1024 .f32) (x2 : FVec Ideal S2x8x6x1024 .f32)
  (x3 : FVec Ideal S1x1024x1952 .f32) (x4 : FVec Ideal S1x256 .f32) (x5 : FVec Ideal S1x256x768 .f32)
  (x6 : FVec Ideal S1x128 .f32) (x7 : FVec Ideal S1x128x1024 .f32)

theorem qa_split (b : Fin 4) (s : Fin 1024) (h : Fin 8) (l : Fin 64) :
    val_main_v76 (F := Ideal) x0 x1 x2 x3 (ix4 b s h l) = val_main_v27 (F := Ideal) x0 x1 x2 x3 (ix2 ⟨8192 + (b * 1024 + s), by omega⟩ ⟨h * 64 + l, by omega⟩) := by
  unfold val_main_v76 val_main_v75
  generalize val_main_v27 (F := Ideal) x0 x1 x2 x3 = y
  pointwise []

theorem qa_cos127 (b : Fin 4) (s : Fin 1024) (h : Fin 8) (l : Fin 32) :
    val_main_v127 (F := Ideal) (ix4 b s h l) = val_main_v99 (F := Ideal) (ix2 s l) := by
  unfold val_main_v127 val_main_v100
  generalize val_main_v99 (F := Ideal) = y
  pointwise []

theorem qa_cos134 (b : Fin 4) (s : Fin 1024) (h : Fin 8) (l : Fin 32) :
    val_main_v134 (F := Ideal) (ix4 b s h l) = val_main_v99 (F := Ideal) (ix2 s l) := by
  unfold val_main_v134 val_main_v100
  generalize val_main_v99 (F := Ideal) = y
  pointwise []

theorem qa_sin129 (b : Fin 4) (s : Fin 1024) (h : Fin 8) (l : Fin 32) :
    val_main_v129 (F := Ideal) (ix4 b s h l) = val_main_v123 (F := Ideal) (ix2 s l) := by
  unfold val_main_v129 val_main_v124
  generalize val_main_v123 (F := Ideal) = y
  pointwise []

theorem qa_sin132 (b : Fin 4) (s : Fin 1024) (h : Fin 8) (l : Fin 32) :
    val_main_v132 (F := Ideal) (ix4 b s h l) = val_main_v123 (F := Ideal) (ix2 s l) := by
  unfold val_main_v132 val_main_v124
  generalize val_main_v123 (F := Ideal) = y
  pointwise []

theorem qa_left (b : Fin 4) (s : Fin 1024) (h : Fin 8) (l : Fin 32) :
    val_main_v125 (F := Ideal) x0 x1 x2 x3 (ix4 b s h l) = val_main_v76 (F := Ideal) x0 x1 x2 x3 (ix4 b s h ⟨l, by omega⟩) := by
  unfold val_main_v125
  generalize val_main_v76 (F := Ideal) x0 x1 x2 x3 = y
  pointwise []

theorem qa_right (b : Fin 4) (s : Fin 1024) (h : Fin 8) (l : Fin 32) :
    val_main_v126 (F := Ideal) x0 x1 x2 x3 (ix4 b s h l) = val_main_v76 (F := Ideal) x0 x1 x2 x3 (ix4 b s h ⟨32 + l, by omega⟩) := by
  unfold val_main_v126
  generalize val_main_v76 (F := Ideal) x0 x1 x2 x3 = y
  pointwise []

theorem qa_first (b : Fin 4) (s : Fin 1024) (h : Fin 8) (l : Fin 32) :
    val_main_v131 (F := Ideal) x0 x1 x2 x3 (ix4 b s h l)
      = val_main_v27 (F := Ideal) x0 x1 x2 x3 (ix2 ⟨8192 + (b * 1024 + s), by omega⟩ ⟨h * 64 + l, by omega⟩) * val_main_v99 (F := Ideal) (ix2 s l)
        - val_main_v27 (F := Ideal) x0 x1 x2 x3 (ix2 ⟨8192 + (b * 1024 + s), by omega⟩ ⟨h * 64 + (32 + l), by omega⟩) * val_main_v123 (F := Ideal) (ix2 s l) := by
  rw [val_main_v131_apply, val_main_v128_apply, val_main_v130_apply, qa_left, qa_right, qa_cos127, qa_sin129, qa_split, qa_split]
  rfl

theorem qa_second (b : Fin 4) (s : Fin 1024) (h : Fin 8) (l : Fin 32) :
    val_main_v136 (F := Ideal) x0 x1 x2 x3 (ix4 b s h l)
      = val_main_v27 (F := Ideal) x0 x1 x2 x3 (ix2 ⟨8192 + (b * 1024 + s), by omega⟩ ⟨h * 64 + l, by omega⟩) * val_main_v123 (F := Ideal) (ix2 s l)
        + val_main_v27 (F := Ideal) x0 x1 x2 x3 (ix2 ⟨8192 + (b * 1024 + s), by omega⟩ ⟨h * 64 + (32 + l), by omega⟩) * val_main_v99 (F := Ideal) (ix2 s l) := by
  rw [val_main_v136_apply, val_main_v133_apply, val_main_v135_apply, qa_left, qa_right, qa_sin132, qa_cos134, qa_split, qa_split]
  rfl

theorem qa_heads (s : Fin 4096) (n : Fin 512) :
    val_main_v139 (F := Ideal) x0 x1 x2 x3 (ix2 s n)
      = if hn : n.val % 64 < 32 then val_main_v131 (F := Ideal) x0 x1 x2 x3 (ix4 ⟨s.val / 1024, by omega⟩ ⟨s.val % 1024, by omega⟩ ⟨n.val / 64, by omega⟩ ⟨n.val % 64, hn⟩)
        else val_main_v136 (F := Ideal) x0 x1 x2 x3 (ix4 ⟨s.val / 1024, by omega⟩ ⟨s.val % 1024, by omega⟩ ⟨n.val / 64, by omega⟩ ⟨n.val % 64 - 32, by omega⟩) := by
  unfold val_main_v139 val_main_v137
  generalize val_main_v131 (F := Ideal) x0 x1 x2 x3 = y
  generalize val_main_v136 (F := Ideal) x0 x1 x2 x3 = z
  pointwise []

theorem qa_tokens (t : Fin 12288) (n : Fin 512) :
    val_main_v140 (F := Ideal) x0 x1 x2 x3 (ix2 t n)
      = if h : t.val < 8192 then val_main_v27 (F := Ideal) x0 x1 x2 x3 (ix2 t n) else val_main_v139 (F := Ideal) x0 x1 x2 x3 (ix2 ⟨t.val - 8192, by omega⟩ n) := by
  unfold val_main_v140 val_main_v138
  generalize val_main_v27 (F := Ideal) x0 x1 x2 x3 = y
  generalize val_main_v139 (F := Ideal) x0 x1 x2 x3 = z
  pointwise []

/-- The rotated query: the prompt's rows are unchanged. -/
theorem qa_prompt (t : Fin 12288) (n : Fin 512) (h : t.val < 8192) :
    val_main_v140 (F := Ideal) x0 x1 x2 x3 (ix2 t n) = val_main_v27 (F := Ideal) x0 x1 x2 x3 (ix2 t n) := by
  rw [qa_tokens, dif_pos h]

/-- The rotated query: first half of a head in a latent row. -/
theorem qa_low (t : Fin 12288) (n : Fin 512) (h : ¬ t.val < 8192) (hn : n.val % 64 < 32) :
    val_main_v140 (F := Ideal) x0 x1 x2 x3 (ix2 t n)
      = val_main_v27 (F := Ideal) x0 x1 x2 x3 (ix2 t n) * val_main_v99 (F := Ideal) (ix2 ⟨(t.val - 8192) % 1024, by omega⟩ ⟨n.val % 64, hn⟩)
        - val_main_v27 (F := Ideal) x0 x1 x2 x3 (ix2 t ⟨n.val + 32, by omega⟩) * val_main_v123 (F := Ideal) (ix2 ⟨(t.val - 8192) % 1024, by omega⟩ ⟨n.val % 64, hn⟩) := by
  have e0 : (⟨8192 + ((t.val - 8192) / 1024 * 1024 + (t.val - 8192) % 1024), by omega⟩ : Fin 12288) = t := Fin.ext (by dsimp only; omega)
  have e1 : (⟨n.val / 64 * 64 + n.val % 64, by omega⟩ : Fin 512) = n := Fin.ext (by dsimp only; omega)
  have e2 : (⟨n.val / 64 * 64 + (32 + n.val % 64), by omega⟩ : Fin 512) = ⟨n.val + 32, by omega⟩ := Fin.ext (by dsimp only; omega)
  rw [qa_tokens, dif_neg h, qa_heads, dif_pos hn, qa_first]
  simp only [e0, e1, e2]

/-- The rotated query: second half of a head in a latent row. -/
theorem qa_high (t : Fin 12288) (n : Fin 512) (h : ¬ t.val < 8192) (hn : ¬ n.val % 64 < 32) :
    val_main_v140 (F := Ideal) x0 x1 x2 x3 (ix2 t n)
      = val_main_v27 (F := Ideal) x0 x1 x2 x3 (ix2 t ⟨n.val - 32, by omega⟩) * val_main_v123 (F := Ideal) (ix2 ⟨(t.val - 8192) % 1024, by omega⟩ ⟨n.val % 64 - 32, by omega⟩)
        + val_main_v27 (F := Ideal) x0 x1 x2 x3 (ix2 t n) * val_main_v99 (F := Ideal) (ix2 ⟨(t.val - 8192) % 1024, by omega⟩ ⟨n.val % 64 - 32, by omega⟩) := by
  have e0 : (⟨8192 + ((t.val - 8192) / 1024 * 1024 + (t.val - 8192) % 1024), by omega⟩ : Fin 12288) = t := Fin.ext (by dsimp only; omega)
  have e1 : (⟨n.val / 64 * 64 + (32 + (n.val % 64 - 32)), by omega⟩ : Fin 512) = n := Fin.ext (by dsimp only; omega)
  have e2 : (⟨n.val / 64 * 64 + (n.val % 64 - 32), by omega⟩ : Fin 512) = ⟨n.val - 32, by omega⟩ := Fin.ext (by dsimp only; omega)
  rw [qa_tokens, dif_neg h, qa_heads, dif_neg hn, qa_second]
  simp only [e0, e1, e2]

theorem ka_split (b : Fin 4) (s : Fin 1024) (h : Fin 8) (l : Fin 64) :
    val_main_v211 (F := Ideal) x0 x1 x2 x3 (ix4 b s h l) = val_main_v28 (F := Ideal) x0 x1 x2 x3 (ix2 ⟨8192 + (b * 1024 + s), by omega⟩ ⟨h * 64 + l, by omega⟩) := by
  unfold val_main_v211 val_main_v210
  generalize val_main_v28 (F := Ideal) x0 x1 x2 x3 = y
  pointwise []

theorem ka_cos127 (b : Fin 4) (s : Fin 1024) (h : Fin 8) (l : Fin 32) :
    val_main_v262 (F := Ideal) (ix4 b s h l) = val_main_v234 (F := Ideal) (ix2 s l) := by
  unfold val_main_v262 val_main_v235
  generalize val_main_v234 (F := Ideal) = y
  pointwise []

theorem ka_cos134 (b : Fin 4) (s : Fin 1024) (h : Fin 8) (l : Fin 32) :
    val_main_v269 (F := Ideal) (ix4 b s h l) = val_main_v234 (F := Ideal) (ix2 s l) := by
  unfold val_main_v269 val_main_v235
  generalize val_main_v234 (F := Ideal) = y
  pointwise []

theorem ka_sin129 (b : Fin 4) (s : Fin 1024) (h : Fin 8) (l : Fin 32) :
    val_main_v264 (F := Ideal) (ix4 b s h l) = val_main_v258 (F := Ideal) (ix2 s l) := by
  unfold val_main_v264 val_main_v259
  generalize val_main_v258 (F := Ideal) = y
  pointwise []

theorem ka_sin132 (b : Fin 4) (s : Fin 1024) (h : Fin 8) (l : Fin 32) :
    val_main_v267 (F := Ideal) (ix4 b s h l) = val_main_v258 (F := Ideal) (ix2 s l) := by
  unfold val_main_v267 val_main_v259
  generalize val_main_v258 (F := Ideal) = y
  pointwise []

theorem ka_left (b : Fin 4) (s : Fin 1024) (h : Fin 8) (l : Fin 32) :
    val_main_v260 (F := Ideal) x0 x1 x2 x3 (ix4 b s h l) = val_main_v211 (F := Ideal) x0 x1 x2 x3 (ix4 b s h ⟨l, by omega⟩) := by
  unfold val_main_v260
  generalize val_main_v211 (F := Ideal) x0 x1 x2 x3 = y
  pointwise []

theorem ka_right (b : Fin 4) (s : Fin 1024) (h : Fin 8) (l : Fin 32) :
    val_main_v261 (F := Ideal) x0 x1 x2 x3 (ix4 b s h l) = val_main_v211 (F := Ideal) x0 x1 x2 x3 (ix4 b s h ⟨32 + l, by omega⟩) := by
  unfold val_main_v261
  generalize val_main_v211 (F := Ideal) x0 x1 x2 x3 = y
  pointwise []

theorem ka_first (b : Fin 4) (s : Fin 1024) (h : Fin 8) (l : Fin 32) :
    val_main_v266 (F := Ideal) x0 x1 x2 x3 (ix4 b s h l)
      = val_main_v28 (F := Ideal) x0 x1 x2 x3 (ix2 ⟨8192 + (b * 1024 + s), by omega⟩ ⟨h * 64 + l, by omega⟩) * val_main_v234 (F := Ideal) (ix2 s l)
        - val_main_v28 (F := Ideal) x0 x1 x2 x3 (ix2 ⟨8192 + (b * 1024 + s), by omega⟩ ⟨h * 64 + (32 + l), by omega⟩) * val_main_v258 (F := Ideal) (ix2 s l) := by
  rw [val_main_v266_apply, val_main_v263_apply, val_main_v265_apply, ka_left, ka_right, ka_cos127, ka_sin129, ka_split, ka_split]
  rfl

theorem ka_second (b : Fin 4) (s : Fin 1024) (h : Fin 8) (l : Fin 32) :
    val_main_v271 (F := Ideal) x0 x1 x2 x3 (ix4 b s h l)
      = val_main_v28 (F := Ideal) x0 x1 x2 x3 (ix2 ⟨8192 + (b * 1024 + s), by omega⟩ ⟨h * 64 + l, by omega⟩) * val_main_v258 (F := Ideal) (ix2 s l)
        + val_main_v28 (F := Ideal) x0 x1 x2 x3 (ix2 ⟨8192 + (b * 1024 + s), by omega⟩ ⟨h * 64 + (32 + l), by omega⟩) * val_main_v234 (F := Ideal) (ix2 s l) := by
  rw [val_main_v271_apply, val_main_v268_apply, val_main_v270_apply, ka_left, ka_right, ka_sin132, ka_cos134, ka_split, ka_split]
  rfl

theorem ka_heads (s : Fin 4096) (n : Fin 512) :
    val_main_v274 (F := Ideal) x0 x1 x2 x3 (ix2 s n)
      = if hn : n.val % 64 < 32 then val_main_v266 (F := Ideal) x0 x1 x2 x3 (ix4 ⟨s.val / 1024, by omega⟩ ⟨s.val % 1024, by omega⟩ ⟨n.val / 64, by omega⟩ ⟨n.val % 64, hn⟩)
        else val_main_v271 (F := Ideal) x0 x1 x2 x3 (ix4 ⟨s.val / 1024, by omega⟩ ⟨s.val % 1024, by omega⟩ ⟨n.val / 64, by omega⟩ ⟨n.val % 64 - 32, by omega⟩) := by
  unfold val_main_v274 val_main_v272
  generalize val_main_v266 (F := Ideal) x0 x1 x2 x3 = y
  generalize val_main_v271 (F := Ideal) x0 x1 x2 x3 = z
  pointwise []

theorem ka_tokens (t : Fin 12288) (n : Fin 512) :
    val_main_v275 (F := Ideal) x0 x1 x2 x3 (ix2 t n)
      = if h : t.val < 8192 then val_main_v28 (F := Ideal) x0 x1 x2 x3 (ix2 t n) else val_main_v274 (F := Ideal) x0 x1 x2 x3 (ix2 ⟨t.val - 8192, by omega⟩ n) := by
  unfold val_main_v275 val_main_v273
  generalize val_main_v28 (F := Ideal) x0 x1 x2 x3 = y
  generalize val_main_v274 (F := Ideal) x0 x1 x2 x3 = z
  pointwise []

/-- The rotated key: the prompt's rows are unchanged. -/
theorem ka_prompt (t : Fin 12288) (n : Fin 512) (h : t.val < 8192) :
    val_main_v275 (F := Ideal) x0 x1 x2 x3 (ix2 t n) = val_main_v28 (F := Ideal) x0 x1 x2 x3 (ix2 t n) := by
  rw [ka_tokens, dif_pos h]

/-- The rotated key: first half of a head in a latent row. -/
theorem ka_low (t : Fin 12288) (n : Fin 512) (h : ¬ t.val < 8192) (hn : n.val % 64 < 32) :
    val_main_v275 (F := Ideal) x0 x1 x2 x3 (ix2 t n)
      = val_main_v28 (F := Ideal) x0 x1 x2 x3 (ix2 t n) * val_main_v234 (F := Ideal) (ix2 ⟨(t.val - 8192) % 1024, by omega⟩ ⟨n.val % 64, hn⟩)
        - val_main_v28 (F := Ideal) x0 x1 x2 x3 (ix2 t ⟨n.val + 32, by omega⟩) * val_main_v258 (F := Ideal) (ix2 ⟨(t.val - 8192) % 1024, by omega⟩ ⟨n.val % 64, hn⟩) := by
  have e0 : (⟨8192 + ((t.val - 8192) / 1024 * 1024 + (t.val - 8192) % 1024), by omega⟩ : Fin 12288) = t := Fin.ext (by dsimp only; omega)
  have e1 : (⟨n.val / 64 * 64 + n.val % 64, by omega⟩ : Fin 512) = n := Fin.ext (by dsimp only; omega)
  have e2 : (⟨n.val / 64 * 64 + (32 + n.val % 64), by omega⟩ : Fin 512) = ⟨n.val + 32, by omega⟩ := Fin.ext (by dsimp only; omega)
  rw [ka_tokens, dif_neg h, ka_heads, dif_pos hn, ka_first]
  simp only [e0, e1, e2]

/-- The rotated key: second half of a head in a latent row. -/
theorem ka_high (t : Fin 12288) (n : Fin 512) (h : ¬ t.val < 8192) (hn : ¬ n.val % 64 < 32) :
    val_main_v275 (F := Ideal) x0 x1 x2 x3 (ix2 t n)
      = val_main_v28 (F := Ideal) x0 x1 x2 x3 (ix2 t ⟨n.val - 32, by omega⟩) * val_main_v258 (F := Ideal) (ix2 ⟨(t.val - 8192) % 1024, by omega⟩ ⟨n.val % 64 - 32, by omega⟩)
        + val_main_v28 (F := Ideal) x0 x1 x2 x3 (ix2 t n) * val_main_v234 (F := Ideal) (ix2 ⟨(t.val - 8192) % 1024, by omega⟩ ⟨n.val % 64 - 32, by omega⟩) := by
  have e0 : (⟨8192 + ((t.val - 8192) / 1024 * 1024 + (t.val - 8192) % 1024), by omega⟩ : Fin 12288) = t := Fin.ext (by dsimp only; omega)
  have e1 : (⟨n.val / 64 * 64 + (32 + (n.val % 64 - 32)), by omega⟩ : Fin 512) = n := Fin.ext (by dsimp only; omega)
  have e2 : (⟨n.val / 64 * 64 + (n.val % 64 - 32), by omega⟩ : Fin 512) = ⟨n.val - 32, by omega⟩ := Fin.ext (by dsimp only; omega)
  rw [ka_tokens, dif_neg h, ka_heads, dif_neg hn, ka_second]
  simp only [e0, e1, e2]

end Cert.InEvenRefIdeal.Rows
-- ==== Proof.InRefRopeB.lean ====
/- The rotated results of the low-rank branch in the reference. -/
module

public import proofs.«01_k».proof.Proof.Gen.InEvenRefIdeal.Read
public import proofs.«01_k».proof.Proof.PostRow
public import Idealize.ShloMosaic.Lib.Pipeline.ValueKit
public import Idealize.ShloMosaic.Lib.Pointwise

@[expose] public section

set_option maxRecDepth 16384

noncomputable section

namespace Cert.InEvenRefIdeal.Rows

open Cert.InEvenRefIdeal Cert.InEvenRefIdeal.Gen Cert.InEvenRefIdeal.Read Idealize.ShloMosaic Idealize.ShloMosaic.TcCoe Idealize.SL.Sem

variable (x0 : FVec Ideal S32x256x1024 .f32) (x1 : FVec Ideal S4x1024x1024 .f32) (x2 : FVec Ideal S2x8x6x1024 .f32)
  (x3 : FVec Ideal S1x1024x1952 .f32) (x4 : FVec Ideal S1x256 .f32) (x5 : FVec Ideal S1x256x768 .f32)
  (x6 : FVec Ideal S1x128 .f32) (x7 : FVec Ideal S1x128x1024 .f32)

theorem bq_split (b : Fin 4) (s : Fin 1024) (h : Fin 8) (l : Fin 32) :
    val_main_v143 (F := Ideal) x0 x1 x2 x3 x4 x5 (ix4 b s h l) = val_main_v53 (F := Ideal) x0 x1 x2 x3 x4 x5 (ix2 ⟨8192 + (b * 1024 + s), by omega⟩ ⟨h * 32 + l, by omega⟩) := by
  unfold val_main_v143 val_main_v142
  generalize val_main_v53 (F := Ideal) x0 x1 x2 x3 x4 x5 = y
  pointwise []

theorem bq_cos127 (b : Fin 4) (s : Fin 1024) (h : Fin 8) (l : Fin 16) :
    val_main_v194 (F := Ideal) (ix4 b s h l) = val_main_v166 (F := Ideal) (ix2 s l) := by
  unfold val_main_v194 val_main_v167
  generalize val_main_v166 (F := Ideal) = y
  pointwise []

theorem bq_cos134 (b : Fin 4) (s : Fin 1024) (h : Fin 8) (l : Fin 16) :
    val_main_v201 (F := Ideal) (ix4 b s h l) = val_main_v166 (F := Ideal) (ix2 s l) := by
  unfold val_main_v201 val_main_v167
  generalize val_main_v166 (F := Ideal) = y
  pointwise []

theorem bq_sin129 (b : Fin 4) (s : Fin 1024) (h : Fin 8) (l : Fin 16) :
    val_main_v196 (F := Ideal) (ix4 b s h l) = val_main_v190 (F := Ideal) (ix2 s l) := by
  unfold val_main_v196 val_main_v191
  generalize val_main_v190 (F := Ideal) = y
  pointwise []

theorem bq_sin132 (b : Fin 4) (s : Fin 1024) (h : Fin 8) (l : Fin 16) :
    val_main_v199 (F := Ideal) (ix4 b s h l) = val_main_v190 (F := Ideal) (ix2 s l) := by
  unfold val_main_v199 val_main_v191
  generalize val_main_v190 (F := Ideal) = y
  pointwise []

theorem bq_left (b : Fin 4) (s : Fin 1024) (h : Fin 8) (l : Fin 16) :
    val_main_v192 (F := Ideal) x0 x1 x2 x3 x4 x5 (ix4 b s h l) = val_main_v143 (F := Ideal) x0 x1 x2 x3 x4 x5 (ix4 b s h ⟨l, by omega⟩) := by
  unfold val_main_v192
  generalize val_main_v143 (F := Ideal) x0 x1 x2 x3 x4 x5 = y
  pointwise []

theorem bq_right (b : Fin 4) (s : Fin 1024) (h : Fin 8) (l : Fin 16) :
    val_main_v193 (F := Ideal) x0 x1 x2 x3 x4 x5 (ix4 b s h l) = val_main_v143 (F := Ideal) x0 x1 x2 x3 x4 x5 (ix4 b s h ⟨16 + l, by omega⟩) := by
  unfold val_main_v193
  generalize val_main_v143 (F := Ideal) x0 x1 x2 x3 x4 x5 = y
  pointwise []

theorem bq_first (b : Fin 4) (s : Fin 1024) (h : Fin 8) (l : Fin 16) :
    val_main_v198 (F := Ideal) x0 x1 x2 x3 x4 x5 (ix4 b s h l)
      = val_main_v53 (F := Ideal) x0 x1 x2 x3 x4 x5 (ix2 ⟨8192 + (b * 1024 + s), by omega⟩ ⟨h * 32 + l, by omega⟩) * val_main_v166 (F := Ideal) (ix2 s l)
        - val_main_v53 (F := Ideal) x0 x1 x2 x3 x4 x5 (ix2 ⟨8192 + (b * 1024 + s), by omega⟩ ⟨h * 32 + (16 + l), by omega⟩) * val_main_v190 (F := Ideal) (ix2 s l) := by
  rw [val_main_v198_apply, val_main_v195_apply, val_main_v197_apply, bq_left, bq_right, bq_cos127, bq_sin129, bq_split, bq_split]
  rfl

theorem bq_second (b : Fin 4) (s : Fin 1024) (h : Fin 8) (l : Fin 16) :
    val_main_v203 (F := Ideal) x0 x1 x2 x3 x4 x5 (ix4 b s h l)
      = val_main_v53 (F := Ideal) x0 x1 x2 x3 x4 x5 (ix2 ⟨8192 + (b * 1024 + s), by omega⟩ ⟨h * 32 + l, by omega⟩) * val_main_v190 (F := Ideal) (ix2 s l)
        + val_main_v53 (F := Ideal) x0 x1 x2 x3 x4 x5 (ix2 ⟨8192 + (b * 1024 + s), by omega⟩ ⟨h * 32 + (16 + l), by omega⟩) * val_main_v166 (F := Ideal) (ix2 s l) := by
  rw [val_main_v203_apply, val_main_v200_apply, val_main_v202_apply, bq_left, bq_right, bq_sin132, bq_cos134, bq_split, bq_split]
  rfl

theorem bq_heads (s : Fin 4096) (n : Fin 256) :
    val_main_v206 (F := Ideal) x0 x1 x2 x3 x4 x5 (ix2 s n)
      = if hn : n.val % 32 < 16 then val_main_v198 (F := Ideal) x0 x1 x2 x3 x4 x5 (ix4 ⟨s.val / 1024, by omega⟩ ⟨s.val % 1024, by omega⟩ ⟨n.val / 32, by omega⟩ ⟨n.val % 32, hn⟩)
        else val_main_v203 (F := Ideal) x0 x1 x2 x3 x4 x5 (ix4 ⟨s.val / 1024, by omega⟩ ⟨s.val % 1024, by omega⟩ ⟨n.val / 32, by omega⟩ ⟨n.val % 32 - 16, by omega⟩) := by
  unfold val_main_v206 val_main_v204
  generalize val_main_v198 (F := Ideal) x0 x1 x2 x3 x4 x5 = y
  generalize val_main_v203 (F := Ideal) x0 x1 x2 x3 x4 x5 = z
  pointwise []

theorem bq_tokens (t : Fin 12288) (n : Fin 256) :
    val_main_v207 (F := Ideal) x0 x1 x2 x3 x4 x5 (ix2 t n)
      = if h : t.val < 8192 then val_main_v53 (F := Ideal) x0 x1 x2 x3 x4 x5 (ix2 t n) else val_main_v206 (F := Ideal) x0 x1 x2 x3 x4 x5 (ix2 ⟨t.val - 8192, by omega⟩ n) := by
  unfold val_main_v207 val_main_v205
  generalize val_main_v53 (F := Ideal) x0 x1 x2 x3 x4 x5 = y
  generalize val_main_v206 (F := Ideal) x0 x1 x2 x3 x4 x5 = z
  pointwise []

/-- The rotated part of the low-rank query: the prompt's rows are unchanged. -/
theorem bq_prompt (t : Fin 12288) (n : Fin 256) (h : t.val < 8192) :
    val_main_v207 (F := Ideal) x0 x1 x2 x3 x4 x5 (ix2 t n) = val_main_v53 (F := Ideal) x0 x1 x2 x3 x4 x5 (ix2 t n) := by
  rw [bq_tokens, dif_pos h]

/-- The rotated part of the low-rank query: first half of a head in a latent row. -/
theorem bq_low (t : Fin 12288) (n : Fin 256) (h : ¬ t.val < 8192) (hn : n.val % 32 < 16) :
    val_main_v207 (F := Ideal) x0 x1 x2 x3 x4 x5 (ix2 t n)
      = val_main_v53 (F := Ideal) x0 x1 x2 x3 x4 x5 (ix2 t n) * val_main_v166 (F := Ideal) (ix2 ⟨(t.val - 8192) % 1024, by omega⟩ ⟨n.val % 32, hn⟩)
        - val_main_v53 (F := Ideal) x0 x1 x2 x3 x4 x5 (ix2 t ⟨n.val + 16, by omega⟩) * val_main_v190 (F := Ideal) (ix2 ⟨(t.val - 8192) % 1024, by omega⟩ ⟨n.val % 32, hn⟩) := by
  have e0 : (⟨8192 + ((t.val - 8192) / 1024 * 1024 + (t.val - 8192) % 1024), by omega⟩ : Fin 12288) = t := Fin.ext (by dsimp only; omega)
  have e1 : (⟨n.val / 32 * 32 + n.val % 32, by omega⟩ : Fin 256) = n := Fin.ext (by dsimp only; omega)
  have e2 : (⟨n.val / 32 * 32 + (16 + n.val % 32), by omega⟩ : Fin 256) = ⟨n.val + 16, by omega⟩ := Fin.ext (by dsimp only; omega)
  rw [bq_tokens, dif_neg h, bq_heads, dif_pos hn, bq_first]
  simp only [e0, e1, e2]

/-- The rotated part of the low-rank query: second half of a head in a latent row. -/
theorem bq_high (t : Fin 12288) (n : Fin 256) (h : ¬ t.val < 8192) (hn : ¬ n.val % 32 < 16) :
    val_main_v207 (F := Ideal) x0 x1 x2 x3 x4 x5 (ix2 t n)
      = val_main_v53 (F := Ideal) x0 x1 x2 x3 x4 x5 (ix2 t ⟨n.val - 16, by omega⟩) * val_main_v190 (F := Ideal) (ix2 ⟨(t.val - 8192) % 1024, by omega⟩ ⟨n.val % 32 - 16, by omega⟩)
        + val_main_v53 (F := Ideal) x0 x1 x2 x3 x4 x5 (ix2 t n) * val_main_v166 (F := Ideal) (ix2 ⟨(t.val - 8192) % 1024, by omega⟩ ⟨n.val % 32 - 16, by omega⟩) := by
  have e0 : (⟨8192 + ((t.val - 8192) / 1024 * 1024 + (t.val - 8192) % 1024), by omega⟩ : Fin 12288) = t := Fin.ext (by dsimp only; omega)
  have e1 : (⟨n.val / 32 * 32 + (16 + (n.val % 32 - 16)), by omega⟩ : Fin 256) = n := Fin.ext (by dsimp only; omega)
  have e2 : (⟨n.val / 32 * 32 + (n.val % 32 - 16), by omega⟩ : Fin 256) = ⟨n.val - 16, by omega⟩ := Fin.ext (by dsimp only; omega)
  rw [bq_tokens, dif_neg h, bq_heads, dif_neg hn, bq_second]
  simp only [e0, e1, e2]

theorem kr_split (b : Fin 4) (s : Fin 1024) (h : Fin 1) (l : Fin 32) :
    val_main_v281 (F := Ideal) x0 x1 x2 x3 (ix4 b s h l) = val_main_v32 (F := Ideal) x0 x1 x2 x3 (ix2 ⟨8192 + (b * 1024 + s), by omega⟩ ⟨h * 32 + l, by omega⟩) := by
  unfold val_main_v281 val_main_v280
  generalize val_main_v32 (F := Ideal) x0 x1 x2 x3 = y
  pointwise []

theorem kr_cos127 (b : Fin 4) (s : Fin 1024) (h : Fin 1) (l : Fin 16) :
    val_main_v332 (F := Ideal) (ix4 b s h l) = val_main_v304 (F := Ideal) (ix2 s l) := by
  unfold val_main_v332 val_main_v305
  generalize val_main_v304 (F := Ideal) = y
  pointwise []

theorem kr_cos134 (b : Fin 4) (s : Fin 1024) (h : Fin 1) (l : Fin 16) :
    val_main_v339 (F := Ideal) (ix4 b s h l) = val_main_v304 (F := Ideal) (ix2 s l) := by
  unfold val_main_v339 val_main_v305
  generalize val_main_v304 (F := Ideal) = y
  pointwise []

theorem kr_sin129 (b : Fin 4) (s : Fin 1024) (h : Fin 1) (l : Fin 16) :
    val_main_v334 (F := Ideal) (ix4 b s h l) = val_main_v328 (F := Ideal) (ix2 s l) := by
  unfold val_main_v334 val_main_v329
  generalize val_main_v328 (F := Ideal) = y
  pointwise []

theorem kr_sin132 (b : Fin 4) (s : Fin 1024) (h : Fin 1) (l : Fin 16) :
    val_main_v337 (F := Ideal) (ix4 b s h l) = val_main_v328 (F := Ideal) (ix2 s l) := by
  unfold val_main_v337 val_main_v329
  generalize val_main_v328 (F := Ideal) = y
  pointwise []

theorem kr_left (b : Fin 4) (s : Fin 1024) (h : Fin 1) (l : Fin 16) :
    val_main_v330 (F := Ideal) x0 x1 x2 x3 (ix4 b s h l) = val_main_v281 (F := Ideal) x0 x1 x2 x3 (ix4 b s h ⟨l, by omega⟩) := by
  obtain rfl : h = 0 := Subsingleton.elim _ _
  unfold val_main_v330
  generalize val_main_v281 (F := Ideal) x0 x1 x2 x3 = y
  pointwise []

theorem kr_right (b : Fin 4) (s : Fin 1024) (h : Fin 1) (l : Fin 16) :
    val_main_v331 (F := Ideal) x0 x1 x2 x3 (ix4 b s h l) = val_main_v281 (F := Ideal) x0 x1 x2 x3 (ix4 b s h ⟨16 + l, by omega⟩) := by
  obtain rfl : h = 0 := Subsingleton.elim _ _
  unfold val_main_v331
  generalize val_main_v281 (F := Ideal) x0 x1 x2 x3 = y
  pointwise []

theorem kr_first (b : Fin 4) (s : Fin 1024) (h : Fin 1) (l : Fin 16) :
    val_main_v336 (F := Ideal) x0 x1 x2 x3 (ix4 b s h l)
      = val_main_v32 (F := Ideal) x0 x1 x2 x3 (ix2 ⟨8192 + (b * 1024 + s), by omega⟩ ⟨h * 32 + l, by omega⟩) * val_main_v304 (F := Ideal) (ix2 s l)
        - val_main_v32 (F := Ideal) x0 x1 x2 x3 (ix2 ⟨8192 + (b * 1024 + s), by omega⟩ ⟨h * 32 + (16 + l), by omega⟩) * val_main_v328 (F := Ideal) (ix2 s l) := by
  rw [val_main_v336_apply, val_main_v333_apply, val_main_v335_apply, kr_left, kr_right, kr_cos127, kr_sin129, kr_split, kr_split]
  rfl

theorem kr_second (b : Fin 4) (s : Fin 1024) (h : Fin 1) (l : Fin 16) :
    val_main_v341 (F := Ideal) x0 x1 x2 x3 (ix4 b s h l)
      = val_main_v32 (F := Ideal) x0 x1 x2 x3 (ix2 ⟨8192 + (b * 1024 + s), by omega⟩ ⟨h * 32 + l, by omega⟩) * val_main_v328 (F := Ideal) (ix2 s l)
        + val_main_v32 (F := Ideal) x0 x1 x2 x3 (ix2 ⟨8192 + (b * 1024 + s), by omega⟩ ⟨h * 32 + (16 + l), by omega⟩) * val_main_v304 (F := Ideal) (ix2 s l) := by
  rw [val_main_v341_apply, val_main_v338_apply, val_main_v340_apply, kr_left, kr_right, kr_sin132, kr_cos134, kr_split, kr_split]
  rfl

theorem kr_heads (s : Fin 4096) (n : Fin 32) :
    val_main_v344 (F := Ideal) x0 x1 x2 x3 (ix2 s n)
      = if hn : n.val % 32 < 16 then val_main_v336 (F := Ideal) x0 x1 x2 x3 (ix4 ⟨s.val / 1024, by omega⟩ ⟨s.val % 1024, by omega⟩ ⟨n.val / 32, by omega⟩ ⟨n.val % 32, hn⟩)
        else val_main_v341 (F := Ideal) x0 x1 x2 x3 (ix4 ⟨s.val / 1024, by omega⟩ ⟨s.val % 1024, by omega⟩ ⟨n.val / 32, by omega⟩ ⟨n.val % 32 - 16, by omega⟩) := by
  unfold val_main_v344 val_main_v342
  generalize val_main_v336 (F := Ideal) x0 x1 x2 x3 = y
  generalize val_main_v341 (F := Ideal) x0 x1 x2 x3 = z
  pointwise []
  have e1 : n.val % 32 = n.val := by omega
  have e2 : (⟨n.val / 32, by omega⟩ : Fin 1) = 0 := Subsingleton.elim _ _
  simp only [e1, e2]

theorem kr_tokens (t : Fin 12288) (n : Fin 32) :
    val_main_v345 (F := Ideal) x0 x1 x2 x3 (ix2 t n)
      = if h : t.val < 8192 then val_main_v32 (F := Ideal) x0 x1 x2 x3 (ix2 t n) else val_main_v344 (F := Ideal) x0 x1 x2 x3 (ix2 ⟨t.val - 8192, by omega⟩ n) := by
  unfold val_main_v345 val_main_v343
  generalize val_main_v32 (F := Ideal) x0 x1 x2 x3 = y
  generalize val_main_v344 (F := Ideal) x0 x1 x2 x3 = z
  pointwise []

/-- The rotated shared key: the prompt's rows are unchanged. -/
theorem kr_prompt (t : Fin 12288) (n : Fin 32) (h : t.val < 8192) :
    val_main_v345 (F := Ideal) x0 x1 x2 x3 (ix2 t n) = val_main_v32 (F := Ideal) x0 x1 x2 x3 (ix2 t n) := by
  rw [kr_tokens, dif_pos h]

/-- The rotated shared key: first half of a head in a latent row. -/
theorem kr_low (t : Fin 12288) (n : Fin 32) (h : ¬ t.val < 8192) (hn : n.val % 32 < 16) :
    val_main_v345 (F := Ideal) x0 x1 x2 x3 (ix2 t n)
      = val_main_v32 (F := Ideal) x0 x1 x2 x3 (ix2 t n) * val_main_v304 (F := Ideal) (ix2 ⟨(t.val - 8192) % 1024, by omega⟩ ⟨n.val % 32, hn⟩)
        - val_main_v32 (F := Ideal) x0 x1 x2 x3 (ix2 t ⟨n.val + 16, by omega⟩) * val_main_v328 (F := Ideal) (ix2 ⟨(t.val - 8192) % 1024, by omega⟩ ⟨n.val % 32, hn⟩) := by
  have e0 : (⟨8192 + ((t.val - 8192) / 1024 * 1024 + (t.val - 8192) % 1024), by omega⟩ : Fin 12288) = t := Fin.ext (by dsimp only; omega)
  have e1 : (⟨n.val / 32 * 32 + n.val % 32, by omega⟩ : Fin 32) = n := Fin.ext (by dsimp only; omega)
  have e2 : (⟨n.val / 32 * 32 + (16 + n.val % 32), by omega⟩ : Fin 32) = ⟨n.val + 16, by omega⟩ := Fin.ext (by dsimp only; omega)
  rw [kr_tokens, dif_neg h, kr_heads, dif_pos hn, kr_first]
  simp only [e0, e1, e2]

/-- The rotated shared key: second half of a head in a latent row. -/
theorem kr_high (t : Fin 12288) (n : Fin 32) (h : ¬ t.val < 8192) (hn : ¬ n.val % 32 < 16) :
    val_main_v345 (F := Ideal) x0 x1 x2 x3 (ix2 t n)
      = val_main_v32 (F := Ideal) x0 x1 x2 x3 (ix2 t ⟨n.val - 16, by omega⟩) * val_main_v328 (F := Ideal) (ix2 ⟨(t.val - 8192) % 1024, by omega⟩ ⟨n.val % 32 - 16, by omega⟩)
        + val_main_v32 (F := Ideal) x0 x1 x2 x3 (ix2 t n) * val_main_v304 (F := Ideal) (ix2 ⟨(t.val - 8192) % 1024, by omega⟩ ⟨n.val % 32 - 16, by omega⟩) := by
  have e0 : (⟨8192 + ((t.val - 8192) / 1024 * 1024 + (t.val - 8192) % 1024), by omega⟩ : Fin 12288) = t := Fin.ext (by dsimp only; omega)
  have e1 : (⟨n.val / 32 * 32 + (16 + (n.val % 32 - 16)), by omega⟩ : Fin 32) = n := Fin.ext (by dsimp only; omega)
  have e2 : (⟨n.val / 32 * 32 + (n.val % 32 - 16), by omega⟩ : Fin 32) = ⟨n.val - 16, by omega⟩ := Fin.ext (by dsimp only; omega)
  rw [kr_tokens, dif_neg h, kr_heads, dif_neg hn, kr_second]
  simp only [e0, e1, e2]

end Cert.InEvenRefIdeal.Rows
-- ==== Proof.InOuts.lean ====
/- What each grid point leaves in its result blocks. -/
module

public import proofs.«01_k».proof.Proof.InAngles
public import proofs.«01_k».proof.Proof.InRows
public import proofs.«01_k».proof.Proof.InRot
public import proofs.«01_k».proof.Proof.InRefRopeA
public import proofs.«01_k».proof.Proof.InRefRopeB

@[expose] public section

set_option maxRecDepth 16384

noncomputable section

namespace Cert.InEvenIdeal.Outs

open Cert.InEvenIdeal Cert.InEvenIdeal.Gen Cert.InEvenIdeal.Blocks Idealize.ShloMosaic Idealize.ShloMosaic.TcCoe Idealize.SL.Sem
open Cert.InEvenIdeal.Rows Cert.InEvenIdeal.Angles Cert.InEvenRefIdeal.Read

variable (m : (ℓ : Loc nD τ sig) → Buf (Elt Ideal) ℓ) (c : Dev nD) (t : Fin cfg0.N)

theorem rotated_prompt (p q : EReal) : p * 1 + q * 0 = p := by rw [mul_one, mul_zero, add_zero]
theorem rotated_low (p q a b : EReal) : p * a + q * -b = p * a - q * b := by rw [mul_neg, sub_eq_add_neg]
theorem rotated_high (p q a b : EReal) : p * a + q * b = q * b + p * a := add_comm _ _

section Bodies
variable (x2 : FVec Ideal S512x512 .f32) (x3 : FVec Ideal S512x256 .f32) (p : FVec Ideal S512x2048 .f32)

theorem key16 (co si : FVec Ideal S512x512 .f32) (r n : Fin 512) : k0_pay13 (F := Ideal) p co si (ix2 r n) = k0_pay12 (F := Ideal) p co si (ix2 r n) := rfl
theorem shared16 (co si : FVec Ideal S512x256 .f32) (q : FVec Ideal S512x128 .f32) (r : Fin 512) (n : Fin 32) : k0_pay2 (F := Ideal) co si q (ix2 r n) = k0_pay1 (F := Ideal) co si q (ix2 r n) := rfl

end Bodies

/-- The rotated entry of a token. -/
theorem query_eq (r : Fin 512) (n : Fin 512) :
    k0_pay11 (F := Ideal) (k0_pay5 (iblk m c 2 t)) (k0_pay6 (iblk m c 2 t)) (k0_pay9 (iblk m c 0 t) (iblk m c 1 t) (iblk m c 3 t)) k0_pay10 (ix2 r n) = val_main_v140 (F := Ideal) (A0 m c) (A1 m c) (A2 m c) (A3 m c) (ix2 (tok t r) n) := by
  rw [Rot.rotQ_at _ _ _ _ _ _ (Rot.lane_at r n)]
  by_cases h : 8 ≤ t.val
  · rw [Cert.InEvenRefIdeal.Rows.qa_prompt _ _ _ _ _ _ ((prompt_iff t r).mpr h), cosA_prompt m c t h r n, sinA_prompt m c t h r n, rotated_prompt]
    exact q_eq m c t r n
  · have h' : ¬ (tok t r).val < 8192 := fun e => h ((prompt_iff t r).mp e)
    by_cases hn : n.val % 64 < 32
    · have e : (⟨(n.val + 32) % 512, by omega⟩ : Fin 512) = ⟨(n.val + 32), by omega⟩ := Fin.ext (by dsimp only; omega)
      rw [if_pos hn, e, Cert.InEvenRefIdeal.Rows.qa_low _ _ _ _ _ _ h' hn, cosA_low m c t h r n hn, sinA_low m c t h r n hn, rotated_low, ← q_eq m c t r n, ← q_eq m c t r ⟨n.val + 32, by omega⟩]
      rfl
    · have e : (⟨(n.val + 480) % 512, by omega⟩ : Fin 512) = ⟨(n.val - 32), by omega⟩ := Fin.ext (by dsimp only; omega)
      rw [if_neg hn, e, Cert.InEvenRefIdeal.Rows.qa_high _ _ _ _ _ _ h' hn, cosA_high m c t h r n hn, sinA_high m c t h r n hn, rotated_high, ← q_eq m c t r n, ← q_eq m c t r ⟨n.val - 32, by omega⟩]
      rfl

/-- The rotated entry of a token. -/
theorem key_eq (r : Fin 512) (n : Fin 512) :
    k0_pay12 (F := Ideal) (k0_pay3 (F := Ideal) (iblk m c 0 t) (iblk m c 1 t) (iblk m c 3 t)) (k0_pay5 (iblk m c 2 t)) (k0_pay6 (iblk m c 2 t)) (ix2 r n) = val_main_v275 (F := Ideal) (A0 m c) (A1 m c) (A2 m c) (A3 m c) (ix2 (tok t r) n) := by
  rw [Rot.rotK_at]
  by_cases h : 8 ≤ t.val
  · rw [Cert.InEvenRefIdeal.Rows.ka_prompt _ _ _ _ _ _ ((prompt_iff t r).mpr h), cosA_prompt m c t h r n, sinA_prompt m c t h r n, rotated_prompt]
    exact k_eq m c t r n
  · have h' : ¬ (tok t r).val < 8192 := fun e => h ((prompt_iff t r).mp e)
    by_cases hn : n.val % 64 < 32
    · have e : (⟨512 + (n.val + 32) % 512, by omega⟩ : Fin 2048) = ⟨512 + (n.val + 32), by omega⟩ := Fin.ext (by dsimp only; omega)
      rw [if_pos hn, e, Cert.InEvenRefIdeal.Rows.ka_low _ _ _ _ _ _ h' hn, cosA_low m c t h r n hn, sinA_low m c t h r n hn, rotated_low, ← k_eq m c t r n, ← k_eq m c t r ⟨n.val + 32, by omega⟩, Cert.InEvenRefIdeal.Rows.cosA_eq, Cert.InEvenRefIdeal.Rows.sinA_eq]
      rfl
    · have e : (⟨512 + (n.val + 480) % 512, by omega⟩ : Fin 2048) = ⟨512 + (n.val - 32), by omega⟩ := Fin.ext (by dsimp only; omega)
      rw [if_neg hn, e, Cert.InEvenRefIdeal.Rows.ka_high _ _ _ _ _ _ h' hn, cosA_high m c t h r n hn, sinA_high m c t h r n hn, rotated_high, ← k_eq m c t r n, ← k_eq m c t r ⟨n.val - 32, by omega⟩, Cert.InEvenRefIdeal.Rows.cosA_eq, Cert.InEvenRefIdeal.Rows.sinA_eq]
      rfl

/-- The rotated entry of a token. -/
theorem ropeB_eq (r : Fin 512) (n : Fin 256) :
    k0_pay22 (F := Ideal) (k0_pay7 (iblk m c 2 t)) (k0_pay8 (iblk m c 2 t)) (k0_pay18 (k0_pay3 (F := Ideal) (iblk m c 0 t) (iblk m c 1 t) (iblk m c 3 t)) (iblk m c 4 t) (iblk m c 5 t)) 32#32 k0_pay19 k0_pay20 k0_pay21 (Scalar.cmpi .slt 32#32 0#32) (ix2 r n) = val_main_v207 (F := Ideal) (A0 m c) (A1 m c) (A2 m c) (A3 m c) (A4 m c) (A5 m c) (ix2 (tok t r) n) := by
  rw [Rot.rotB_at]
  by_cases h : 8 ≤ t.val
  · rw [Cert.InEvenRefIdeal.Rows.bq_prompt _ _ _ _ _ _ _ _ ((prompt_iff t r).mpr h), cosB_prompt m c t h r n, sinB_prompt m c t h r n, rotated_prompt]
    exact ropeIn_eq m c t r n
  · have h' : ¬ (tok t r).val < 8192 := fun e => h ((prompt_iff t r).mp e)
    by_cases hn : n.val % 32 < 16
    · have e : (⟨(n.val + 16) % 256, by omega⟩ : Fin 256) = ⟨(n.val + 16), by omega⟩ := Fin.ext (by dsimp only; omega)
      rw [if_pos hn, e, Cert.InEvenRefIdeal.Rows.bq_low _ _ _ _ _ _ _ _ h' hn, cosB_low m c t h r n hn, sinB_low m c t h r n hn, rotated_low, ← ropeIn_eq m c t r n, ← ropeIn_eq m c t r ⟨n.val + 16, by omega⟩]
      rfl
    · have e : (⟨(n.val + 240) % 256, by omega⟩ : Fin 256) = ⟨(n.val - 16), by omega⟩ := Fin.ext (by dsimp only; omega)
      rw [if_neg hn, e, Cert.InEvenRefIdeal.Rows.bq_high _ _ _ _ _ _ _ _ h' hn, cosB_high m c t h r n hn, sinB_high m c t h r n hn, rotated_high, ← ropeIn_eq m c t r n, ← ropeIn_eq m c t r ⟨n.val - 16, by omega⟩]
      rfl

/-- The rotated entry of a token. -/
theorem shared_eq (r : Fin 512) (n : Fin 32) :
    k0_pay1 (F := Ideal) (k0_pay7 (iblk m c 2 t)) (k0_pay8 (iblk m c 2 t)) (k0_pay25 (k0_pay3 (F := Ideal) (iblk m c 0 t) (iblk m c 1 t) (iblk m c 3 t))) (ix2 r n) = val_main_v345 (F := Ideal) (A0 m c) (A1 m c) (A2 m c) (A3 m c) (ix2 (tok t r) n) := by
  rw [Rot.rotR_at]
  by_cases h : 8 ≤ t.val
  · rw [Cert.InEvenRefIdeal.Rows.kr_prompt _ _ _ _ _ _ ((prompt_iff t r).mpr h), cosB_prompt m c t h r ⟨n.val, by omega⟩, sinB_prompt m c t h r ⟨n.val, by omega⟩, rotated_prompt]
    exact krIn_eq m c t r n
  · have h' : ¬ (tok t r).val < 8192 := fun e => h ((prompt_iff t r).mp e)
    by_cases hn : n.val % 32 < 16
    · have e : (⟨(n.val + 16) % 128, by omega⟩ : Fin 128) = ⟨(n.val + 16), by omega⟩ := Fin.ext (by dsimp only; omega)
      rw [if_pos hn, e, Cert.InEvenRefIdeal.Rows.kr_low _ _ _ _ _ _ h' hn, cosB_low m c t h r ⟨n.val, by omega⟩ hn, sinB_low m c t h r ⟨n.val, by omega⟩ hn, rotated_low, ← krIn_eq m c t r n, ← krIn_eq m c t r ⟨n.val + 16, by omega⟩, Cert.InEvenRefIdeal.Rows.cosB_eq, Cert.InEvenRefIdeal.Rows.sinB_eq]
      rfl
    · have e : (⟨(n.val + 112) % 128, by omega⟩ : Fin 128) = ⟨(n.val - 16), by omega⟩ := Fin.ext (by dsimp only; omega)
      rw [if_neg hn, e, Cert.InEvenRefIdeal.Rows.kr_high _ _ _ _ _ _ h' hn, cosB_high m c t h r ⟨n.val, by omega⟩ hn, sinB_high m c t h r ⟨n.val, by omega⟩ hn, rotated_high, ← krIn_eq m c t r n, ← krIn_eq m c t r ⟨n.val - 16, by omega⟩, Cert.InEvenRefIdeal.Rows.cosB_eq, Cert.InEvenRefIdeal.Rows.sinB_eq]
      rfl

theorem out8_at (r : Fin 512) (n : Fin 512) : (outsAt0 m c t).1 (ix2 r n) = val_main_v141 (F := Ideal) (A0 m c) (A1 m c) (A2 m c) (A3 m c) (ix2 (tok t r) n) := by
  unfold outsAt0
  dsimp only
  frame_out
  exact query_eq m c t r n

theorem out10_at (r : Fin 512) (n : Fin 512) : (outsAt0 m c t).2.2.1 (ix2 r n) = val_main_v276 (F := Ideal) (A0 m c) (A1 m c) (A2 m c) (A3 m c) (ix2 (tok t r) n) := by
  unfold outsAt0
  dsimp only
  frame_out
  exact key_eq m c t r n

theorem out11_at (r : Fin 512) (n : Fin 512) : (outsAt0 m c t).2.2.2.1 (ix2 r n) = val_main_v277 (F := Ideal) (A0 m c) (A1 m c) (A2 m c) (A3 m c) (ix2 (tok t r) n) := by
  unfold outsAt0
  dsimp only
  frame_out
  exact (Body.v16_at _ r n).trans (v_eq m c t r n)

theorem out12_at (r : Fin 512) (n : Fin 1024) : (outsAt0 m c t).2.2.2.2.1 (ix2 r n) = val_main_v279 (F := Ideal) (A0 m c) (A1 m c) (A2 m c) (A3 m c) (A6 m c) (A7 m c) (ix2 (tok t r) n) := by
  unfold outsAt0
  dsimp only
  frame_out
  rw [val_main_v279_apply]
  show _ = val_main_v278 (F := Ideal) (A0 m c) (A1 m c) (A2 m c) (A3 m c) (A6 m c) (A7 m c) (ix2 (tok t r) n)
  rw [Cert.InEvenRefIdeal.Rows.kvb_at]
  by_cases h : n.val < 512
  · rw [dif_pos h]
    exact keyB_eq m c t r ⟨n.val, h⟩
  · rw [dif_neg h, ← valueB_eq m c t r ⟨n.val - 512, by omega⟩]
    exact congrArg (fun x => k0_pay24 (F := Ideal) (k0_pay3 (F := Ideal) (iblk m c 0 t) (iblk m c 1 t) (iblk m c 3 t)) (iblk m c 6 t) (iblk m c 7 t) (ix2 r x)) (Fin.ext (by dsimp only; omega))

theorem out13_at (r : Fin 512) (n : Fin 32) : (outsAt0 m c t).2.2.2.2.2.1 (ix2 r n) = val_main_v346 (F := Ideal) (A0 m c) (A1 m c) (A2 m c) (A3 m c) (ix2 (tok t r) n) := by
  unfold outsAt0
  dsimp only
  frame_out
  exact shared_eq m c t r n

theorem out9_at (r : Fin 512) (n : Fin 768) : (outsAt0 m c t).2.1 (ix2 r n) = val_main_v209 (F := Ideal) (A0 m c) (A1 m c) (A2 m c) (A3 m c) (A4 m c) (A5 m c) (ix2 (tok t r) n) := by
  unfold outsAt0
  dsimp only
  frame_out
  rw [val_main_v209_apply]
  show _ = val_main_v208 (F := Ideal) (A0 m c) (A1 m c) (A2 m c) (A3 m c) (A4 m c) (A5 m c) (ix2 (tok t r) n)
  rw [Cert.InEvenRefIdeal.Rows.query_at]
  canon_tiles x h using (View.cover_of_tiledBy _ ![512, 256] (by sl_kernel_rfl) _)
  · obtain ⟨a, b, rfl⟩ : ∃ (a : Fin 512) (b : Fin 256), x = ix2 a b := ⟨_, _, eq_ix2 x⟩
    have e0 : r = a := Fin.ext h0
    have e1 : n.val = 512 + b.val := h1
    subst e0
    rw [dif_neg (by omega)]
    have e2 : (⟨n.val - 512, by omega⟩ : Fin 256) = b := Fin.ext (by dsimp only; omega)
    rw [e2]
    exact ropeB_eq m c t r b
  · obtain ⟨a, b, rfl⟩ : ∃ (a : Fin 512) (b : Fin 512), x = ix2 a b := ⟨_, _, eq_ix2 x⟩
    have e0 : r = a := Fin.ext h0
    have e1 : n.val = b.val := h1
    subst e0
    rw [dif_pos (by omega)]
    have e2 : (⟨n.val, by omega⟩ : Fin 512) = b := Fin.ext e1
    rw [e2]
    exact nope_eq m c t r b

/-- A prompt point's state rows. -/
theorem out14_at (h : 8 ≤ t.val) (r : Fin 512) (n : Fin 512) : (outsAt0 m c t).2.2.2.2.2.2.1 (ix2 r n) = val_main_v347 (F := Ideal) (A0 m c) (A1 m c) (A2 m c) (A3 m c) (ix2 ⟨(tok t r).val, (prompt_iff t r).mpr h⟩ n) := by
  unfold outsAt0
  dsimp only
  frame_out
  rw [Cert.InEvenRefIdeal.Rows.stateK_at]
  exact (key_eq m c t r n).trans (Cert.InEvenRefIdeal.Rows.ka_prompt _ _ _ _ _ _ ((prompt_iff t r).mpr h))

/-- A prompt point's state rows. -/
theorem out15_at (h : 8 ≤ t.val) (r : Fin 512) (n : Fin 512) : (outsAt0 m c t).2.2.2.2.2.2.2.1 (ix2 r n) = val_main_v348 (F := Ideal) (A0 m c) (A1 m c) (A2 m c) (A3 m c) (ix2 ⟨(tok t r).val, (prompt_iff t r).mpr h⟩ n) := by
  unfold outsAt0
  dsimp only
  frame_out
  rw [Cert.InEvenRefIdeal.Rows.stateV_at]
  exact (Body.v_at _ r n).trans (v_eq m c t r n)

/-- A prompt point's state rows. -/
theorem out16_at (h : 8 ≤ t.val) (r : Fin 512) (n : Fin 128) : (outsAt0 m c t).2.2.2.2.2.2.2.2.1 (ix2 r n) = val_main_v349 (F := Ideal) (A0 m c) (A1 m c) (A2 m c) (A3 m c) (A6 m c) (ix2 ⟨(tok t r).val, (prompt_iff t r).mpr h⟩ n) := by
  unfold outsAt0
  dsimp only
  frame_out
  rw [Cert.InEvenRefIdeal.Rows.stateC_at]
  exact ckv_eq m c t r n

/-- A prompt point's state rows. -/
theorem out17_at (h : 8 ≤ t.val) (r : Fin 512) (n : Fin 32) : (outsAt0 m c t).2.2.2.2.2.2.2.2.2 (ix2 r n) = val_main_v350 (F := Ideal) (A0 m c) (A1 m c) (A2 m c) (A3 m c) (ix2 ⟨(tok t r).val, (prompt_iff t r).mpr h⟩ n) := by
  unfold outsAt0
  dsimp only
  frame_out
  rw [Cert.InEvenRefIdeal.Rows.stateR_at]
  exact (shared_eq m c t r n).trans (Cert.InEvenRefIdeal.Rows.kr_prompt _ _ _ _ _ _ ((prompt_iff t r).mpr h))

end Cert.InEvenIdeal.Outs
-- ==== Proof.InFinal.lean ====
/- The ten result arrays after the run. -/
module

public import proofs.«01_k».proof.Proof.InOuts

@[expose] public section

set_option maxRecDepth 16384

noncomputable section

namespace Cert.InEvenIdeal.Final

open Cert.InEvenIdeal Cert.InEvenIdeal.Gen Cert.InEvenIdeal.Blocks Idealize.ShloMosaic Idealize.ShloMosaic.TcCoe Idealize.SL.Sem
open Cert.InEvenIdeal.Angles (prompt_iff)
open Cert.InEvenIdeal.Rows Cert.InEvenIdeal.Outs Cert.InEvenRefIdeal.Read
open Idealize.ShloMosaic.Pipeline (Dat)

variable (m : (ℓ : Loc nD τ sig) → Buf (Elt Ideal) ℓ) (c : Dev nD)

theorem final8 : (dats m 0 c).arrAt 8 (cfgs 0).N = val_main_v141 (F := Ideal) (A0 m c) (A1 m c) (A2 m c) (A3 m c) := by
  refine (dats m 0 c).arrAt_eq_of_covers 8 _ (by decide +kernel) fun t hf y => ?_
  blk_simp
  rw [after0_8]
  idx_vars y
  have e : ((cfg0.win 8).blk t).view.emb (ix2 y0 y1) = ix2 (tok t y0) y1 := by blk_ext [idx t, tok, tile]
  rw [e]
  exact out8_at m c t y0 y1

theorem final9 : (dats m 0 c).arrAt 9 (cfgs 0).N = val_main_v209 (F := Ideal) (A0 m c) (A1 m c) (A2 m c) (A3 m c) (A4 m c) (A5 m c) := by
  refine (dats m 0 c).arrAt_eq_of_covers 9 _ (by decide +kernel) fun t hf y => ?_
  blk_simp
  rw [after0_9]
  idx_vars y
  have e : ((cfg0.win 9).blk t).view.emb (ix2 y0 y1) = ix2 (tok t y0) y1 := by blk_ext [idx t, tok, tile]
  rw [e]
  exact out9_at m c t y0 y1

theorem final10 : (dats m 0 c).arrAt 10 (cfgs 0).N = val_main_v276 (F := Ideal) (A0 m c) (A1 m c) (A2 m c) (A3 m c) := by
  refine (dats m 0 c).arrAt_eq_of_covers 10 _ (by decide +kernel) fun t hf y => ?_
  blk_simp
  rw [after0_10]
  idx_vars y
  have e : ((cfg0.win 10).blk t).view.emb (ix2 y0 y1) = ix2 (tok t y0) y1 := by blk_ext [idx t, tok, tile]
  rw [e]
  exact out10_at m c t y0 y1

theorem final11 : (dats m 0 c).arrAt 11 (cfgs 0).N = val_main_v277 (F := Ideal) (A0 m c) (A1 m c) (A2 m c) (A3 m c) := by
  refine (dats m 0 c).arrAt_eq_of_covers 11 _ (by decide +kernel) fun t hf y => ?_
  blk_simp
  rw [after0_11]
  idx_vars y
  have e : ((cfg0.win 11).blk t).view.emb (ix2 y0 y1) = ix2 (tok t y0) y1 := by blk_ext [idx t, tok, tile]
  rw [e]
  exact out11_at m c t y0 y1

theorem final12 : (dats m 0 c).arrAt 12 (cfgs 0).N = val_main_v279 (F := Ideal) (A0 m c) (A1 m c) (A2 m c) (A3 m c) (A6 m c) (A7 m c) := by
  refine (dats m 0 c).arrAt_eq_of_covers 12 _ (by decide +kernel) fun t hf y => ?_
  blk_simp
  rw [after0_12]
  idx_vars y
  have e : ((cfg0.win 12).blk t).view.emb (ix2 y0 y1) = ix2 (tok t y0) y1 := by blk_ext [idx t, tok, tile]
  rw [e]
  exact out12_at m c t y0 y1

theorem final13 : (dats m 0 c).arrAt 13 (cfgs 0).N = val_main_v346 (F := Ideal) (A0 m c) (A1 m c) (A2 m c) (A3 m c) := by
  refine (dats m 0 c).arrAt_eq_of_covers 13 _ (by decide +kernel) fun t hf y => ?_
  blk_simp
  rw [after0_13]
  idx_vars y
  have e : ((cfg0.win 13).blk t).view.emb (ix2 y0 y1) = ix2 (tok t y0) y1 := by blk_ext [idx t, tok, tile]
  rw [e]
  exact out13_at m c t y0 y1

theorem final14 : (dats m 0 c).arrAt 14 (cfgs 0).N = val_main_v347 (F := Ideal) (A0 m c) (A1 m c) (A2 m c) (A3 m c) := by
  refine (dats m 0 c).arrAt_eq_of_covers 14 _ (by decide +kernel) fun t hf y => ?_
  have h8 : 8 ≤ t.val := (by decide +kernel : ∀ t : Fin grid0.N, win0_14.flush t = true → 8 ≤ t.val) t hf
  blk_simp
  rw [after0_14]
  idx_vars y
  have e : ((cfg0.win 14).blk t).view.emb (ix2 y0 y1) = ix2 ⟨(tok t y0).val, (prompt_iff t y0).mpr h8⟩ y1 := by
    have hi : ¬ t.val < 8 := by omega
    blk_ext [idx t, tok, tile, if_neg hi]
  rw [e]
  exact out14_at m c t h8 y0 y1

theorem final15 : (dats m 0 c).arrAt 15 (cfgs 0).N = val_main_v348 (F := Ideal) (A0 m c) (A1 m c) (A2 m c) (A3 m c) := by
  refine (dats m 0 c).arrAt_eq_of_covers 15 _ (by decide +kernel) fun t hf y => ?_
  have h8 : 8 ≤ t.val := (by decide +kernel : ∀ t : Fin grid0.N, win0_15.flush t = true → 8 ≤ t.val) t hf
  blk_simp
  rw [after0_15]
  idx_vars y
  have e : ((cfg0.win 15).blk t).view.emb (ix2 y0 y1) = ix2 ⟨(tok t y0).val, (prompt_iff t y0).mpr h8⟩ y1 := by
    have hi : ¬ t.val < 8 := by omega
    blk_ext [idx t, tok, tile, if_neg hi]
  rw [e]
  exact out15_at m c t h8 y0 y1

theorem final16 : (dats m 0 c).arrAt 16 (cfgs 0).N = val_main_v349 (F := Ideal) (A0 m c) (A1 m c) (A2 m c) (A3 m c) (A6 m c) := by
  refine (dats m 0 c).arrAt_eq_of_covers 16 _ (by decide +kernel) fun t hf y => ?_
  have h8 : 8 ≤ t.val := (by decide +kernel : ∀ t : Fin grid0.N, win0_16.flush t = true → 8 ≤ t.val) t hf
  blk_simp
  rw [after0_16]
  idx_vars y
  have e : ((cfg0.win 16).blk t).view.emb (ix2 y0 y1) = ix2 ⟨(tok t y0).val, (prompt_iff t y0).mpr h8⟩ y1 := by
    have hi : ¬ t.val < 8 := by omega
    blk_ext [idx t, tok, tile, if_neg hi]
  rw [e]
  exact out16_at m c t h8 y0 y1

theorem final17 : (dats m 0 c).arrAt 17 (cfgs 0).N = val_main_v350 (F := Ideal) (A0 m c) (A1 m c) (A2 m c) (A3 m c) := by
  refine (dats m 0 c).arrAt_eq_of_covers 17 _ (by decide +kernel) fun t hf y => ?_
  have h8 : 8 ≤ t.val := (by decide +kernel : ∀ t : Fin grid0.N, win0_17.flush t = true → 8 ≤ t.val) t hf
  blk_simp
  rw [after0_17]
  idx_vars y
  have e : ((cfg0.win 17).blk t).view.emb (ix2 y0 y1) = ix2 ⟨(tok t y0).val, (prompt_iff t y0).mpr h8⟩ y1 := by
    have hi : ¬ t.val < 8 := by omega
    blk_ext [idx t, tok, tile, if_neg hi]
  rw [e]
  exact out17_at m c t h8 y0 y1

end Cert.InEvenIdeal.Final
-- ==== Proof.InEvenClaims.lean ====
/- The value claim of the even layer's input projection: kernel and reference end with the same ten arrays. -/
module

public import proofs.«01_k».proof.Defs
public import proofs.«01_k».proof.Proof.Gen.InEvenRefIdeal.Run
public import proofs.«01_k».proof.Proof.InFinal

@[expose] public section

set_option maxRecDepth 16384

noncomputable section

namespace Cert.Proof.InEvenClaims

open Idealize.ShloMosaic Idealize.SL.Sem

theorem algebraic : Cert.algebraic_InEvenIdeal_InEvenRefIdeal := by
  intro m ρ m' ρ' _ hagree
  refine ⟨fun c => Cert.InEvenRefIdeal.Read.val_main_v141 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)),
    fun c => Cert.InEvenRefIdeal.Read.val_main_v209 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)) (m ((c.tc : Thread Cert.InEvenIdeal.nD Cert.InEvenIdeal.τ).loc Cert.InEvenIdeal.main_arg4)) (m ((c.tc : Thread Cert.InEvenIdeal.nD Cert.InEvenIdeal.τ).loc Cert.InEvenIdeal.main_arg5)),
    fun c => Cert.InEvenRefIdeal.Read.val_main_v276 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)),
    fun c => Cert.InEvenRefIdeal.Read.val_main_v277 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)),
    fun c => Cert.InEvenRefIdeal.Read.val_main_v279 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)) (m ((c.tc : Thread Cert.InEvenIdeal.nD Cert.InEvenIdeal.τ).loc Cert.InEvenIdeal.main_arg6)) (m ((c.tc : Thread Cert.InEvenIdeal.nD Cert.InEvenIdeal.τ).loc Cert.InEvenIdeal.main_arg7)),
    fun c => Cert.InEvenRefIdeal.Read.val_main_v346 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)),
    fun c => Cert.InEvenRefIdeal.Read.val_main_v347 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)),
    fun c => Cert.InEvenRefIdeal.Read.val_main_v348 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)),
    fun c => Cert.InEvenRefIdeal.Read.val_main_v349 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)) (m ((c.tc : Thread Cert.InEvenIdeal.nD Cert.InEvenIdeal.τ).loc Cert.InEvenIdeal.main_arg6)),
    fun c => Cert.InEvenRefIdeal.Read.val_main_v350 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)), ?_, ?_⟩
  · exact (θ_run Cert.InEvenIdeal.defs _ _).mono
      (fun _ h c => ⟨((h c).1).trans (Cert.InEvenIdeal.Final.final8 m c),
        ((h c).2.1).trans (Cert.InEvenIdeal.Final.final9 m c),
        ((h c).2.2.1).trans (Cert.InEvenIdeal.Final.final10 m c),
        ((h c).2.2.2.1).trans (Cert.InEvenIdeal.Final.final11 m c),
        ((h c).2.2.2.2.1).trans (Cert.InEvenIdeal.Final.final12 m c),
        ((h c).2.2.2.2.2.1).trans (Cert.InEvenIdeal.Final.final13 m c),
        ((h c).2.2.2.2.2.2.1).trans (Cert.InEvenIdeal.Final.final14 m c),
        ((h c).2.2.2.2.2.2.2.1).trans (Cert.InEvenIdeal.Final.final15 m c),
        ((h c).2.2.2.2.2.2.2.2.1).trans (Cert.InEvenIdeal.Final.final16 m c),
        ((h c).2.2.2.2.2.2.2.2.2.1).trans (Cert.InEvenIdeal.Final.final17 m c), (h c).2.2.2.2.2.2.2.2.2.2⟩)
      (Cert.InEvenIdeal.Value.run_blocks m ρ)
  refine (θ_run Cert.InEvenRefIdeal.defs _ _).mono (fun r h c => ?_) (Cert.InEvenRefIdeal.Value.run (F := Ideal) m' ρ')
  obtain ⟨e0, e1, e2, e3, e4, e5, e6, e7⟩ := hagree c
  have f0 : StableHlo.launchContents m' c (Proc.devRef .tc Cert.InEvenRefIdeal.main_arg0) = m ((c.tc : Thread Cert.InEvenIdeal.nD Cert.InEvenIdeal.τ).loc Cert.InEvenIdeal.main_arg0) := e0
  have f1 : StableHlo.launchContents m' c (Proc.devRef .tc Cert.InEvenRefIdeal.main_arg1) = m ((c.tc : Thread Cert.InEvenIdeal.nD Cert.InEvenIdeal.τ).loc Cert.InEvenIdeal.main_arg1) := e1
  have f2 : StableHlo.launchContents m' c (Proc.devRef .tc Cert.InEvenRefIdeal.main_arg2) = m ((c.tc : Thread Cert.InEvenIdeal.nD Cert.InEvenIdeal.τ).loc Cert.InEvenIdeal.main_arg2) := e2
  have f3 : StableHlo.launchContents m' c (Proc.devRef .tc Cert.InEvenRefIdeal.main_arg3) = m ((c.tc : Thread Cert.InEvenIdeal.nD Cert.InEvenIdeal.τ).loc Cert.InEvenIdeal.main_arg3) := e3
  have f4 : StableHlo.launchContents m' c (Proc.devRef .tc Cert.InEvenRefIdeal.main_arg4) = m ((c.tc : Thread Cert.InEvenIdeal.nD Cert.InEvenIdeal.τ).loc Cert.InEvenIdeal.main_arg4) := e4
  have f5 : StableHlo.launchContents m' c (Proc.devRef .tc Cert.InEvenRefIdeal.main_arg5) = m ((c.tc : Thread Cert.InEvenIdeal.nD Cert.InEvenIdeal.τ).loc Cert.InEvenIdeal.main_arg5) := e5
  have f6 : StableHlo.launchContents m' c (Proc.devRef .tc Cert.InEvenRefIdeal.main_arg6) = m ((c.tc : Thread Cert.InEvenIdeal.nD Cert.InEvenIdeal.τ).loc Cert.InEvenIdeal.main_arg6) := e6
  have f7 : StableHlo.launchContents m' c (Proc.devRef .tc Cert.InEvenRefIdeal.main_arg7) = m ((c.tc : Thread Cert.InEvenIdeal.nD Cert.InEvenIdeal.τ).loc Cert.InEvenIdeal.main_arg7) := e7
  obtain ⟨h0, h1, h2, h3, h4, h5, h6, h7, h8, h9, hk⟩ := h c
  refine ⟨h0.trans ?_, h1.trans ?_, h2.trans ?_, h3.trans ?_, h4.trans ?_, h5.trans ?_, h6.trans ?_, h7.trans ?_, h8.trans ?_, h9.trans ?_, hk⟩
  · rw [Cert.InEvenRefIdeal.Read.val_main_v141_eq, f0, f1, f2, f3]
  · rw [Cert.InEvenRefIdeal.Read.val_main_v209_eq, f0, f1, f2, f3, f4, f5]
  · rw [Cert.InEvenRefIdeal.Read.val_main_v276_eq, f0, f1, f2, f3]
  · rw [Cert.InEvenRefIdeal.Read.val_main_v277_eq, f0, f1, f2, f3]
  · rw [Cert.InEvenRefIdeal.Read.val_main_v279_eq, f0, f1, f2, f3, f6, f7]
  · rw [Cert.InEvenRefIdeal.Read.val_main_v346_eq, f0, f1, f2, f3]
  · rw [Cert.InEvenRefIdeal.Read.val_main_v347_eq, f0, f1, f2, f3]
  · rw [Cert.InEvenRefIdeal.Read.val_main_v348_eq, f0, f1, f2, f3]
  · rw [Cert.InEvenRefIdeal.Read.val_main_v349_eq, f0, f1, f2, f3, f6]
  · rw [Cert.InEvenRefIdeal.Read.val_main_v350_eq, f0, f1, f2, f3]

end Cert.Proof.InEvenClaims
-- ==== Proof.ModsRow.lean ====
/- The modulation vectors: the body's block and the reference's rows as one function of the condition vectors. -/
module

public import proofs.«01_k».proof.Proof.Gen.ModsIdeal.Value
public import proofs.«01_k».proof.Proof.Gen.ModsRefIdeal.Read
public import Idealize.ShloMosaic.Lib.Pipeline.ValueKit
public import Idealize.ShloMosaic.Lib.Pointwise

@[expose] public section

set_option maxRecDepth 16384

noncomputable section

namespace Cert.ModsRow

open Idealize.ShloMosaic Idealize.ShloMosaic.TcCoe Idealize.SL.Sem

/-- `a · 1/(1 + exp(−a))`. -/
def silu (a : EReal) : EReal := a * Ideal.div 1 (1 + Ideal.exp (-a))

section Kernel
open Cert.ModsIdeal Cert.ModsIdeal.Gen

theorem body_at (x0 : FVec Ideal S8x1024 .f32) (x1 : FVec Ideal S1x1024x1024 .f32) (x2 : FVec Ideal S1x1x1024 .f32) (r : Fin 8) (n : Fin 1024) :
    k0_pay1 (F := Ideal) x0 x1 x2 (ix3 0 r n) = (∑ k : Fin 1024, silu (x0 (ix2 r k)) * x1 (ix3 0 k n)) + x2 (ix3 0 0 n) := by
  pointwise [k0_pay1, silu, zero_sub]

end Kernel

section Reference
open Cert.ModsRefIdeal Cert.ModsRefIdeal.Gen Cert.ModsRefIdeal.Read

variable (x0 : FVec Ideal S4x1024 .f32) (x1 : FVec Ideal S1024 .f32) (x2 : FVec Ideal S2x1024x6144 .f32) (x3 : FVec Ideal S2x6144 .f32)

theorem silu0_at (r : Fin 8) (k : Fin 1024) : val_main_v3 (F := Ideal) x0 x1 (ix2 r k) = silu (val_main_v2 (F := Ideal) x0 x1 (ix2 r k)) := by
  unfold val_main_v3 val_main_call0_v5 val_main_call0_v3 val_main_call0_v1 val_main_call0_v0
  generalize val_main_v2 (F := Ideal) x0 x1 = y
  pointwise [val_main_call0_v4, val_main_call0_cst_0, val_main_call0_v2, val_main_call0_cst, silu]

theorem silu1_at (r : Fin 8) (k : Fin 1024) : val_main_v12 (F := Ideal) x0 x1 (ix2 r k) = silu (val_main_v2 (F := Ideal) x0 x1 (ix2 r k)) := by
  unfold val_main_v12 val_main_call1_v5 val_main_call1_v3 val_main_call1_v1 val_main_call1_v0
  generalize val_main_v2 (F := Ideal) x0 x1 = y
  pointwise [val_main_call1_v4, val_main_call1_cst_0, val_main_call1_v2, val_main_call1_cst, silu]

theorem layer0_at (r : Fin 8) (n : Fin 6144) : val_main_v11 (F := Ideal) x0 x1 x2 x3 (ix2 r n)
    = (∑ k : Fin 1024, silu (val_main_v2 (F := Ideal) x0 x1 (ix2 r k)) * x2 (ix3 0 k n)) + x3 (ix2 0 n) := by
  pointwise [val_main_v11, val_main_v10, val_main_v9, val_main_v8, val_main_v7, val_main_v6, val_main_v5, val_main_v4, silu0_at]

theorem layer1_at (r : Fin 8) (n : Fin 6144) : val_main_v20 (F := Ideal) x0 x1 x2 x3 (ix2 r n)
    = (∑ k : Fin 1024, silu (val_main_v2 (F := Ideal) x0 x1 (ix2 r k)) * x2 (ix3 1 k n)) + x3 (ix2 1 n) := by
  pointwise [val_main_v20, val_main_v19, val_main_v18, val_main_v17, val_main_v16, val_main_v15, val_main_v14, val_main_v13, silu1_at]

theorem result_at (l : Fin 2) (r : Fin 8) (n : Fin 6144) : val_main_v23 (F := Ideal) x0 x1 x2 x3 (ix3 l r n)
    = (∑ k : Fin 1024, silu (val_main_v2 (F := Ideal) x0 x1 (ix2 r k)) * x2 (ix3 l k n)) + x3 (ix2 l n) := by
  match l with
  | 0 =>
    rw [← layer0_at]
    unfold val_main_v23 val_main_v21 val_main_v22
    generalize val_main_v11 (F := Ideal) x0 x1 x2 x3 = y
    generalize val_main_v20 (F := Ideal) x0 x1 x2 x3 = z
    pointwise []
  | 1 =>
    rw [← layer1_at]
    unfold val_main_v23 val_main_v21 val_main_v22
    generalize val_main_v11 (F := Ideal) x0 x1 x2 x3 = y
    generalize val_main_v20 (F := Ideal) x0 x1 x2 x3 = z
    pointwise []

end Reference

end Cert.ModsRow
-- ==== Proof.ModsFinal.lean ====
/- The modulation call's result array after the run. -/
module

public import proofs.«01_k».proof.Proof.ModsRow

@[expose] public section

set_option maxRecDepth 16384

noncomputable section

namespace Cert.ModsIdeal.Final

open Cert.ModsIdeal Cert.ModsIdeal.Gen Cert.ModsRow Idealize.ShloMosaic Idealize.ShloMosaic.TcCoe Idealize.SL.Sem
open Cert.ModsRefIdeal.Read (val_main_v2 val_main_v23)
open Idealize.ShloMosaic.Pipeline (Dat)

variable (m : (ℓ : Loc nD τ sig) → Buf (Elt Ideal) ℓ) (c : Dev nD)

/-- Each window's block index at each point: the layer and the block of columns. -/
theorem idx : ∀ t : Fin cfg0.N, t.val < 12 ∧ win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- The layer at a point. -/
def lay (t : Fin cfg0.N) : Fin 2 := ⟨t.val / 6, by have := (idx t).1; omega⟩

/-- Column `n` of the block at a point. -/
def col (t : Fin cfg0.N) (n : Fin 1024) : Fin 6144 := ⟨t.val % 6 * 1024 + n, by omega⟩

set_option maxHeartbeats 2000000

theorem cond : (show FVec Ideal S8x1024 .f32 from V m c main_v2)
    = val_main_v2 (F := Ideal) (m ((c : Thread nD τ).loc main_arg0)) (m ((c : Thread nD τ).loc main_arg1)) := by
  simp only [V, hostOps0]
  after_results
  rfl

theorem bias : (show FVec Ideal S2x1x6144 .f32 from V m c main_v3)
    = shapeCast S2x1x6144 (show FVec Ideal S2x6144 .f32 from m ((c : Thread nD τ).loc main_arg3)) shapeCasts_S2x6144_S2x1x6144 := by
  simp only [V, hostOps0]
  after_results
  rfl

theorem bias_at (b : FVec Ideal S2x6144 .f32) (l : Fin 2) (n : Fin 6144) :
    shapeCast S2x1x6144 b shapeCasts_S2x6144_S2x1x6144 (ix3 l 0 n) = b (ix2 l n) := by
  pointwise []

theorem blk0 (t : Fin cfg0.N) (r : Fin 8) (k : Fin 1024) :
    (show FVec Ideal S8x1024 .f32 from iblk m c 0 t) (ix2 r k) = (show FVec Ideal S8x1024 .f32 from V m c main_v2) (ix2 r k) := by
  blk_ext [iblk, idx t]

theorem blk1 (t : Fin cfg0.N) (k : Fin 1024) (n : Fin 1024) :
    (show FVec Ideal S1x1024x1024 .f32 from iblk m c 1 t) (ix3 0 k n)
      = (show FVec Ideal S2x1024x6144 .f32 from m ((c : Thread nD τ).loc main_arg2)) (ix3 (lay t) k (col t n)) := by
  rw [← V_main_arg2 m c]
  blk_ext [iblk, idx t, lay, col]

theorem blk2 (t : Fin cfg0.N) (n : Fin 1024) :
    (show FVec Ideal S1x1x1024 .f32 from iblk m c 2 t) (ix3 0 0 n)
      = (show FVec Ideal S2x1x6144 .f32 from V m c main_v3) (ix3 (lay t) 0 (col t n)) := by
  blk_ext [iblk, idx t, lay, col]

theorem out_at (t : Fin cfg0.N) (r : Fin 8) (n : Fin 1024) :
    out0_3 (F := Ideal) (iblk m c 0 t) (iblk m c 1 t) (iblk m c 2 t) (ix3 0 r n)
      = val_main_v23 (F := Ideal) (m ((c : Thread nD τ).loc main_arg0)) (m ((c : Thread nD τ).loc main_arg1))
          (m ((c : Thread nD τ).loc main_arg2)) (m ((c : Thread nD τ).loc main_arg3)) (ix3 (lay t) r (col t n)) := by
  rw [result_at]
  refine Eq.trans (b := k0_pay1 (F := Ideal) (iblk m c 0 t) (iblk m c 1 t) (iblk m c 2 t) (ix3 0 r n)) ?_ ?_
  · unfold out0_3
    frame_out
  rw [body_at]
  refine congrArg₂ (· + ·) (Finset.sum_congr rfl fun k _ => ?_) ?_
  · exact congrArg₂ (· * ·) (congrArg silu ((blk0 m c t r k).trans (congrFun (cond m c) _))) (blk1 m c t k n)
  · exact ((blk2 m c t n).trans (congrFun (bias m c) _)).trans (bias_at _ _ _)

theorem final3 : (dats m 0 c).arrAt 3 (cfgs 0).N = val_main_v23 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  blk_simp
  rw [after0_3]
  idx_vars y
  obtain rfl : y0 = 0 := Subsingleton.elim _ _
  have e : ((cfg0.win 3).blk t).view.emb (ix3 0 y1 y2) = ix3 (lay t) y1 (col t y2) := by blk_ext [idx t, lay, col]
  rw [e]
  exact out_at m c t y1 y2

end Cert.ModsIdeal.Final
-- ==== Proof.ModsClaims.lean ====
/- The value claim of the modulation call: kernel and reference end with the same array. -/
module

public import proofs.«01_k».proof.Defs
public import proofs.«01_k».proof.Proof.Gen.ModsRefIdeal.Run
public import proofs.«01_k».proof.Proof.ModsFinal

@[expose] public section

set_option maxRecDepth 16384

noncomputable section

namespace Cert.Proof.ModsClaims

open Idealize.ShloMosaic Idealize.SL.Sem

theorem algebraic : Cert.algebraic_ModsIdeal_ModsRefIdeal := by
  intro m ρ m' ρ' _ hagree
  refine ⟨fun c => Cert.ModsRefIdeal.Read.val_main_v23 (F := Ideal) (m ((c.tc : Thread Cert.ModsIdeal.nD Cert.ModsIdeal.τ).loc Cert.ModsIdeal.main_arg0)) (m ((c.tc : Thread Cert.ModsIdeal.nD Cert.ModsIdeal.τ).loc Cert.ModsIdeal.main_arg1)) (m ((c.tc : Thread Cert.ModsIdeal.nD Cert.ModsIdeal.τ).loc Cert.ModsIdeal.main_arg2)) (m ((c.tc : Thread Cert.ModsIdeal.nD Cert.ModsIdeal.τ).loc Cert.ModsIdeal.main_arg3)), ?_, ?_⟩
  · exact (θ_run Cert.ModsIdeal.defs _ _).mono
      (fun _ h c => ⟨(h c).1.trans (Cert.ModsIdeal.Final.final3 m c), (h c).2⟩)
      (Cert.ModsIdeal.Value.run_blocks m ρ)
  refine (θ_run Cert.ModsRefIdeal.defs _ _).mono (fun r h c => ?_) (Cert.ModsRefIdeal.Value.run (F := Ideal) m' ρ')
  obtain ⟨e0, e1, e2, e3⟩ := hagree c
  obtain ⟨h0, hk⟩ := h c
  refine ⟨h0.trans ?_, hk⟩
  rw [e0, e1, e2, e3]
  exact Cert.ModsRefIdeal.Read.val_main_v23_eq _ _ _ _

end Cert.Proof.ModsClaims
-- ==== Proof.OddBlocks.lean ====
/- The blocks of the odd layer's input projection, read from the program's arguments. -/
module

public import proofs.«01_k».proof.Proof.Gen.InOddIdeal.Value
public import Idealize.ShloMosaic.Lib.Pipeline.ValueKit
public import Idealize.ShloMosaic.Lib.Pointwise

@[expose] public section

set_option maxRecDepth 16384

noncomputable section

namespace Cert.InOddIdeal.Blocks

open Cert.InOddIdeal Cert.InOddIdeal.Gen Idealize.ShloMosaic Idealize.ShloMosaic.TcCoe Idealize.SL.Sem
open Idealize.ShloMosaic.Pipeline (Dat)

variable (m : (ℓ : Loc nD τ sig) → Buf (Elt Ideal) ℓ)

/-- The token block worked on at a point: the sample's blocks first, then the prompt's. -/
abbrev tile (t : Fin cfg0.N) : ℕ := if t.val < 8 then t.val + 16 else t.val - 8

/-- Each window's block index at each point. -/
theorem idx : ∀ t : Fin cfg0.N, t.val < 24 ∧ win0_0.index t = ![if t.val < 8 then t.val + 16 else t.val - 8, 0]
    ∧ win0_1.index t = ![1, if 8 ≤ t.val then 0 else t.val / 2 + 1, 0, 0]
    ∧ win0_2.index t = ![if 8 ≤ t.val then 0 else t.val % 2 + 1, 0, 0] ∧ win0_3.index t = ![0, 0] ∧ win0_4.index t = ![0, 0] ∧ win0_5.index t = ![0, 0]
    ∧ win0_6.index t = ![0, 0] ∧ win0_7.index t = ![if t.val < 8 then t.val + 16 else t.val - 8, 0] ∧ win0_8.index t = ![if t.val < 8 then t.val + 16 else t.val - 8, 0] ∧ win0_9.index t = ![if t.val < 8 then t.val + 16 else t.val - 8, 0]
    ∧ win0_10.index t = ![if t.val < 8 then t.val + 16 else t.val - 8, 0] ∧ win0_11.index t = ![if t.val < 8 then t.val + 16 else t.val - 8, 0] ∧ win0_12.index t = ![if t.val < 8 then t.val + 16 else t.val - 8, 0]
    ∧ win0_13.index t = ![t.val - 8, 0] ∧ win0_14.index t = ![t.val - 8, 0] ∧ win0_15.index t = ![t.val - 8, 0]
    ∧ win0_16.index t = ![t.val - 8, 0] :=
  (by decide +kernel : ∀ t : Fin grid0.N, _)

/-- Token `r` of the block at point `t`. -/
def tok (t : Fin cfg0.N) (r : Fin 512) : Fin 12288 := ⟨tile t * 512 + r, by have := (idx t).1; unfold tile; split <;> omega⟩

end Cert.InOddIdeal.Blocks
-- ==== Proof.OddTables.lean ====
/- The operands that the program prepares for the odd layer's input projection, read from its arguments. -/
module

public import proofs.«01_k».proof.Proof.OddBlocks
public import proofs.«01_k».proof.Proof.Gen.InOddRefIdeal.Read

@[expose] public section

set_option maxRecDepth 16384

noncomputable section

namespace Cert.InOddIdeal.Tables

open Cert.InOddIdeal Cert.InOddIdeal.Gen Idealize.ShloMosaic Idealize.ShloMosaic.TcCoe Idealize.SL.Sem
open Cert.InOddRefIdeal.Read (val_main_v48 val_main_v56 val_main_v72)

variable (m : (ℓ : Loc nD τ sig) → Buf (Elt Ideal) ℓ) (c : Dev nD)

/-- One lane table of the rotation: a block for the prompt's rows, then the two halves of the grid. -/
def lanes (fill : BitVec 32) (l r : FVec Ideal S1024x32 .f32) : FVec Ideal S3x512x512 .f32 :=
  concatenate S3x512x512 0 [⟨S1x512x512, broadcastInDim S1x512x512 ![] bcast_S_S1x512x512 (constant S_ .f32 fill)⟩,
    ⟨S2x512x512, shapeCast S2x512x512 (shapeCast S1024x512 (broadcastInDim S1x1024x8x64 ![0, 1, 2, 3] bcast_S1x1024x1x64_S1x1024x8x64_0_1_2_3
      (shapeCast S1x1024x1x64 (concatenate S1024x64 1 [⟨S1024x32, l⟩, ⟨S1024x32, r⟩] concatenates_S1024x32_S1024x32_S1024x64_d1) shapeCasts_S1024x64_S1x1024x1x64))
      shapeCasts_S1x1024x8x64_S1024x512) shapeCasts_S1024x512_S2x512x512⟩] concatenates_S1x512x512_S2x512x512_S3x512x512_d0

/-- Which lanes share a head. -/
def heads : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)) : FVec Ideal S8x8 .f32)))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3F800000#32))))) shapeCasts_S8x64x8x64_S512x512) bitsLt_bf16_f32

/-- The query norm's weights, once a head. -/
def weightQ (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

/-- The key norm's weights, once a head. -/
def weightK (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

set_option maxHeartbeats 2000000

theorem wIn : (show FVec Ideal S1024x2304 .bf16 from V m c main_v50) = truncf .bf16 (val_main_v48 (F := Ideal) (m ((c : Thread nD τ).loc main_arg2))) bitsLt_bf16_f32 := by
  simp only [V, hostOps0, hostOps0_1, hostOps0_2, hostOps0_3, hostOps0_4, hostOps0_5, hostOps0_6,
    List.flatten_cons, List.flatten_nil, List.append_nil, List.cons_append, List.nil_append]
  after_results
  rfl

theorem gQ : (show FVec Ideal S1x512 .f32 from V m c main_v55) = weightQ (val_main_v56 (F := Ideal) (m ((c : Thread nD τ).loc main_arg3))) := by
  simp only [V, hostOps0, hostOps0_1, hostOps0_2, hostOps0_3, hostOps0_4, hostOps0_5, hostOps0_6,
    List.flatten_cons, List.flatten_nil, List.append_nil, List.cons_append, List.nil_append]
  after_results
  rfl

theorem gK : (show FVec Ideal S1x128 .f32 from V m c main_v60) = weightK (val_main_v72 (F := Ideal) (m ((c : Thread nD τ).loc main_arg4))) := by
  simp only [V, hostOps0, hostOps0_1, hostOps0_2, hostOps0_3, hostOps0_4, hostOps0_5, hostOps0_6,
    List.flatten_cons, List.flatten_nil, List.append_nil, List.cons_append, List.nil_append]
  after_results
  rfl

theorem sameHead : (show FVec Ideal S512x512 .bf16 from V m c main_v48) = heads := by
  simp only [V, hostOps0, hostOps0_1, hostOps0_2, hostOps0_3, hostOps0_4, hostOps0_5, hostOps0_6,
    List.flatten_cons, List.flatten_nil, List.append_nil, List.cons_append, List.nil_append]
  after_results
  rfl

end Cert.InOddIdeal.Tables
-- ==== Proof.OddLanes.lean ====
/- The lane tables that the odd layer's input projection rotates with. -/
module

public import proofs.«01_k».proof.Proof.OddTables

@[expose] public section

set_option maxRecDepth 16384

noncomputable section

namespace Cert.InOddIdeal.Tables

open Cert.InOddIdeal Cert.InOddIdeal.Gen Idealize.ShloMosaic Idealize.ShloMosaic.TcCoe Idealize.SL.Sem
open Cert.InOddRefIdeal.Read (val_main_v22 val_main_v24)

variable (m : (ℓ : Loc nD τ sig) → Buf (Elt Ideal) ℓ) (c : Dev nD)

set_option maxHeartbeats 2000000

/-- The operations before the two tables are joined. -/
abbrev early : List (HloOp τ sig (Elt Ideal)) := List.flatten [hostOps0, hostOps0_1, hostOps0_2, hostOps0_3, hostOps0_4.take 39]

/-- The operations from there on. -/
abbrev late : List (HloOp τ sig (Elt Ideal)) := List.flatten [hostOps0_4.drop 39, hostOps0_5, hostOps0_6]

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

theorem cut (b : Ref sig .tc) : V m c b = StableHlo.after late (StableHlo.after early (fun b => m (c, b))) b := by
  rw [← after_two]
  rfl

section Late
variable (W : Valuation τ sig (Elt Ideal))

theorem late39 : (show FVec Ideal S3x512x1024 .f32 from StableHlo.after late W (Proc.devRef .tc main_v39))
    = concatenate S3x512x1024 2 [⟨S3x512x512, (show FVec Ideal S3x512x512 .f32 from W (Proc.devRef .tc main_v36))⟩,
        ⟨S3x512x512, (show FVec Ideal S3x512x512 .f32 from W (Proc.devRef .tc main_v38))⟩] concatenates_S3x512x512_S3x512x512_S3x512x1024_d2 := by
  simp only [late, hostOps0_4, hostOps0_5, hostOps0_6, List.drop_succ_cons, List.drop_zero, List.flatten_cons, List.flatten_nil, List.append_nil, List.cons_append, List.nil_append]
  after_results

theorem late36 : StableHlo.after late W (Proc.devRef .tc main_v36) = W (Proc.devRef .tc main_v36) := by
  simp only [late, hostOps0_4, hostOps0_5, hostOps0_6, List.drop_succ_cons, List.drop_zero, List.flatten_cons, List.flatten_nil, List.append_nil, List.cons_append, List.nil_append]
  after_results

theorem late38 : StableHlo.after late W (Proc.devRef .tc main_v38) = W (Proc.devRef .tc main_v38) := by
  simp only [late, hostOps0_4, hostOps0_5, hostOps0_6, List.drop_succ_cons, List.drop_zero, List.flatten_cons, List.flatten_nil, List.append_nil, List.cons_append, List.nil_append]
  after_results

end Late

theorem lanes36 : (show FVec Ideal S3x512x512 .f32 from V m c main_v36) = lanes 0x3F800000#32 (val_main_v22 (F := Ideal)) (val_main_v22 (F := Ideal)) := by
  simp only [V, hostOps0, hostOps0_1, hostOps0_2, hostOps0_3, hostOps0_4, hostOps0_5, hostOps0_6,
    List.flatten_cons, List.flatten_nil, List.append_nil, List.cons_append, List.nil_append]
  after_results
  rfl

theorem lanes38 : (show FVec Ideal S3x512x512 .f32 from V m c main_v38) = lanes 0x00000000#32 (Host.negf (val_main_v24 (F := Ideal))) (val_main_v24 (F := Ideal)) := by
  simp only [V, hostOps0, hostOps0_1, hostOps0_2, hostOps0_3, hostOps0_4, hostOps0_5, hostOps0_6,
    List.flatten_cons, List.flatten_nil, List.append_nil, List.cons_append, List.nil_append]
  after_results
  rfl

theorem rope : (show FVec Ideal S3x512x1024 .f32 from V m c main_v39)
    = concatenate S3x512x1024 2 [⟨S3x512x512, lanes 0x3F800000#32 (val_main_v22 (F := Ideal)) (val_main_v22 (F := Ideal))⟩,
        ⟨S3x512x512, lanes 0x00000000#32 (Host.negf (val_main_v24 (F := Ideal))) (val_main_v24 (F := Ideal))⟩]
        concatenates_S3x512x512_S3x512x512_S3x512x1024_d2 := by
  rw [← lanes36 m c, ← lanes38 m c, cut, cut, cut, late36, late38]
  exact late39 _

end Cert.InOddIdeal.Tables
-- ==== Proof.OddLaneAt.lean ====
/- The entries of the operands that the program prepares for the odd layer's input projection. -/
module

public import proofs.«01_k».proof.Proof.OddTables

@[expose] public section

set_option maxRecDepth 16384

noncomputable section

namespace Cert.InOddIdeal.Tables

open Cert.InOddIdeal Cert.InOddIdeal.Gen Idealize.ShloMosaic Idealize.ShloMosaic.TcCoe Idealize.SL.Sem

theorem lanes_prompt (f : BitVec 32) (l r : FVec Ideal S1024x32 .f32) (i n : Fin 512) :
    lanes f l r (ix3 0 i n) = Ideal.ofBits .f32 f := by
  pointwise [lanes]

theorem lanes_low (f : BitVec 32) (l r : FVec Ideal S1024x32 .f32) (h : Fin 2) (i n : Fin 512) (hn : n.val % 64 < 32) :
    lanes f l r (ix3 ⟨h + 1, by omega⟩ i n) = l (ix2 ⟨h * 512 + i, by omega⟩ ⟨n.val % 64, hn⟩) := by
  pointwise [lanes]
  rw [dif_neg (by omega), dif_pos hn]
  simp only [Nat.add_sub_cancel]

theorem lanes_high (f : BitVec 32) (l r : FVec Ideal S1024x32 .f32) (h : Fin 2) (i n : Fin 512) (hn : ¬ n.val % 64 < 32) :
    lanes f l r (ix3 ⟨h + 1, by omega⟩ i n) = r (ix2 ⟨h * 512 + i, by omega⟩ ⟨n.val % 64 - 32, by omega⟩) := by
  pointwise [lanes]
  rw [dif_neg (by omega), dif_neg hn]
  simp only [Nat.add_sub_cancel]

theorem weightQ_at (g : FVec Ideal S64 .f32) (n : Fin 512) : weightQ g (ix2 0 n) = g (ix1 ⟨n.val % 64, by omega⟩) := by
  pointwise [weightQ]

theorem weightK_at (g : FVec Ideal S64 .f32) (n : Fin 128) : weightK g (ix2 0 n) = g (ix1 ⟨n.val % 64, by omega⟩) := by
  pointwise [weightK]

/-- Whether two heads are the same, as the program compares them. -/
theorem same (a b : Fin 8) : (IntOp.cmpi CmpIPredicate.eq (IntOp.addi (BitVec.ofNat 32 a.val) 0#32) (BitVec.ofNat 32 b.val)) = if a.val = b.val then 1#1 else 0#1 := by
  revert a b; decide +kernel

theorem heads_at (k n : Fin 512) : heads (ix2 k n) = if k.val / 64 = n.val / 64 then 1 else 0 := by
  have e := same ⟨k.val / 64, by omega⟩ ⟨n.val / 64, by omega⟩
  dsimp only at e
  pointwise [heads]
  rw [e]
  split
  · show ((1 : ℕ) : ℝ) = (1 : EReal)
    simp
  · show ((0 : ℕ) : ℝ) = (0 : EReal)
    simp

end Cert.InOddIdeal.Tables
-- ==== Proof.OddBlk.lean ====
/- The blocks of the odd layer's input projection as entries of its arrays. -/
module

public import proofs.«01_k».proof.Proof.OddBlocks
public import proofs.«01_k».proof.Proof.PostRow

@[expose] public section

set_option maxRecDepth 16384

noncomputable section

namespace Cert.InOddIdeal.Blocks

open Cert.InOddIdeal Cert.InOddIdeal.Gen Idealize.ShloMosaic Idealize.ShloMosaic.TcCoe Idealize.SL.Sem
open Cert.PostRow (seg)

/-- Modulation vector `i` of token `t` in the odd layer. -/
def oddRow (M : FVec Ideal S2x8x6x1024 .f32) (i : Fin 6) (t : Fin 12288) (j : Fin 1024) : EReal := M (ix4 1 (seg t) i j)

variable (m : (ℓ : Loc nD τ sig) → Buf (Elt Ideal) ℓ) (c : Dev nD) (t : Fin cfg0.N)

theorem seg_tok (r : Fin 512) :
    (seg (tok t r) : ℕ) = if 8 ≤ t.val then 0 else t.val / 2 + 1 := by
  have ht := (idx t).1
  show (if (tok t r).val < 8192 then 0 else ((tok t r).val - 8192) / 1024 + 1) = _
  have e : (tok t r).val = (if t.val < 8 then t.val + 16 else t.val - 8) * 512 + r.val := rfl
  by_cases h : t.val < 8
  · rw [if_pos h] at e
    rw [if_neg (by omega), if_neg (by omega)]; omega
  · rw [if_neg h] at e
    rw [if_pos (by omega), if_pos (by omega)]

/-- The block's rows of the rotation's lane tables. -/
def half : Fin 3 := ⟨if 8 ≤ t.val then 0 else t.val % 2 + 1, by split <;> omega⟩

theorem blk0 (r : Fin 512) (j : Fin 1024) :
    (show FVec Ideal S512x1024 .f32 from iblk m c 0 t) (ix2 r j) = (show FVec Ideal S12288x1024 .f32 from m ((c : Thread nD τ).loc main_arg0)) (ix2 (tok t r) j) := by
  rw [← V_main_arg0 m c]
  blk_ext [iblk, idx t, tok, tile]

theorem blk1 (r : Fin 512) (i : Fin 6) (j : Fin 1024) :
    (show FVec Ideal S1x1x6x1024 .f32 from iblk m c 1 t) (ix4 0 0 i j) = oddRow (m ((c : Thread nD τ).loc main_arg1)) i (tok t r) j := by
  have hs := seg_tok t r
  rw [← V_main_arg1 m c]
  unfold oddRow
  blk_ext [iblk, idx t]

theorem blk2 (r : Fin 512) (n : Fin 1024) :
    (show FVec Ideal S1x512x1024 .f32 from iblk m c 2 t) (ix3 0 r n) = (show FVec Ideal S3x512x1024 .f32 from V m c main_v39) (ix3 (half t) r n) := by
  blk_ext [iblk, idx t, half]

theorem blk3 (k : Fin 1024) (n : Fin 2304) :
    (show FVec Ideal S1024x2304 .bf16 from iblk m c 3 t) (ix2 k n) = (show FVec Ideal S1024x2304 .bf16 from V m c main_v50) (ix2 k n) := by
  blk_ext [iblk, idx t]

theorem blk4 (k : Fin 512) :
    (show FVec Ideal S1x512 .f32 from iblk m c 4 t) (ix2 0 k) = (show FVec Ideal S1x512 .f32 from V m c main_v55) (ix2 0 k) := by
  blk_ext [iblk, idx t]

theorem blk5 (k : Fin 128) :
    (show FVec Ideal S1x128 .f32 from iblk m c 5 t) (ix2 0 k) = (show FVec Ideal S1x128 .f32 from V m c main_v60) (ix2 0 k) := by
  blk_ext [iblk, idx t]

theorem blk6 (k n : Fin 512) :
    (show FVec Ideal S512x512 .bf16 from iblk m c 6 t) (ix2 k n) = (show FVec Ideal S512x512 .bf16 from V m c main_v48) (ix2 k n) := by
  blk_ext [iblk, idx t]

end Cert.InOddIdeal.Blocks
-- ==== Proof.OddBody.lean ====
/- The body of the odd layer's input projection, entry by entry. -/
module

public import proofs.«01_k».proof.Proof.Gen.InOddIdeal.Value
public import Idealize.ShloMosaic.Lib.Pipeline.ValueKit
public import Idealize.ShloMosaic.Lib.Pointwise

@[expose] public section

set_option maxRecDepth 16384

noncomputable section

namespace Cert.InOddIdeal.Body

open Cert.InOddIdeal Cert.InOddIdeal.Gen Idealize.ShloMosaic Idealize.SL.Sem

variable (x0 : FVec Ideal S512x1024 .f32) (x1 : FVec Ideal S1x1x6x1024 .f32) (x2 : FVec Ideal S1x512x1024 .f32)
  (x3 : FVec Ideal S1024x2304 .bf16) (x4 : FVec Ideal S1x512 .f32) (x5 : FVec Ideal S1x128 .f32) (x6 : FVec Ideal S512x512 .bf16)
  (p : FVec Ideal S512x2304 .f32)

/-- The modulated row through the input projection. -/
theorem proj_at (r : Fin 512) (n : Fin 2304) :
    k0_pay6 (F := Ideal) x0 x1 x3 (ix2 r n)
      = ∑ k : Fin 1024, (x0 (ix2 r k) * (1 + x1 (ix4 0 0 1 k)) + x1 (ix4 0 0 0 k)) * x3 (ix2 k n) := by
  pointwise [k0_pay6]

theorem cos_at (r : Fin 512) (n : Fin 512) : k0_pay8 (F := Ideal) x2 (ix2 r n) = x2 (ix3 0 r ⟨n, by omega⟩) := by
  pointwise [k0_pay8, k0_pay7]

theorem sin_at (r : Fin 512) (n : Fin 512) : k0_pay9 (F := Ideal) x2 (ix2 r n) = x2 (ix3 0 r ⟨512 + n, by omega⟩) := by
  pointwise [k0_pay9, k0_pay7]

theorem chunkQ_at (r : Fin 512) (n : Fin 512) :
    k0_pay12 (F := Ideal) x0 x1 x3 x6 (ix2 r n)
      = k0_pay6 (F := Ideal) x0 x1 x3 (ix2 r ⟨n, by omega⟩) * Ideal.rsqrt
          ((∑ k : Fin 512, k0_pay6 (F := Ideal) x0 x1 x3 (ix2 r ⟨k, by omega⟩) * k0_pay6 (F := Ideal) x0 x1 x3 (ix2 r ⟨k, by omega⟩) * x6 (ix2 k n)
            + ∑ k : Fin 512, (k0_pay6 (F := Ideal) x0 x1 x3 (ix2 r ⟨k, by omega⟩) * k0_pay6 (F := Ideal) x0 x1 x3 (ix2 r ⟨k, by omega⟩)
                - k0_pay6 (F := Ideal) x0 x1 x3 (ix2 r ⟨k, by omega⟩) * k0_pay6 (F := Ideal) x0 x1 x3 (ix2 r ⟨k, by omega⟩)) * x6 (ix2 k n))
              * Ideal.ofBits .f32 0x3C800000#32 + Ideal.ofBits .f32 0x358637BD#32) := by
  unfold k0_pay12
  generalize k0_pay6 (F := Ideal) x0 x1 x3 = p
  pointwise [k0_pay10]

theorem chunkK_at (r : Fin 512) (n : Fin 128) :
    k0_pay16 (F := Ideal) p x6 (ix2 r n)
      = (∑ k : Fin 128, p (ix2 r ⟨512 + k, by omega⟩) * p (ix2 r ⟨512 + k, by omega⟩) * x6 (ix2 ⟨k, by omega⟩ ⟨n, by omega⟩)
            + ∑ k : Fin 128, (p (ix2 r ⟨512 + k, by omega⟩) * p (ix2 r ⟨512 + k, by omega⟩)
                - p (ix2 r ⟨512 + k, by omega⟩) * p (ix2 r ⟨512 + k, by omega⟩)) * x6 (ix2 ⟨k, by omega⟩ ⟨n, by omega⟩))
              * Ideal.ofBits .f32 0x3C800000#32 := by
  pointwise [k0_pay16, k0_pay14]

/-- The kernel's test that a lane lies in the first half of its head. -/
theorem slt64 (n : Fin 512) :
    IntOp.cmpi CmpIPredicate.slt (Scalar.select (IntOp.andi (IntOp.xori (IntOp.cmpi CmpIPredicate.slt (IntOp.remsi ArithUnit.vector (BitVec.ofNat 32 n.val) (Scalar.select (Scalar.cmpi CmpIPredicate.eq 64#32 0#32) 1#32 64#32)) 0#32)
      (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 n.val) (Scalar.select (Scalar.cmpi CmpIPredicate.eq 64#32 0#32) 1#32 64#32)) 0#32)) (IntOp.addi (IntOp.remsi ArithUnit.vector (BitVec.ofNat 32 n.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n.val) (Scalar.select (Scalar.cmpi CmpIPredicate.eq 64#32 0#32) 1#32 64#32))) 32#32
      = if n.val % 64 < 32 then 1#1 else 0#1 := by
  revert n; decide +kernel

theorem rotQ_at (co si q : FVec Ideal S512x512 .f32) (g : FVec Ideal S1x512 .f32) (r : Fin 512) (n : Fin 512) :
    k0_pay13 (F := Ideal) co si g q (ix2 r n)
      = q (ix2 r n) * g (ix2 0 n) * co (ix2 r n) + (if n.val % 64 < 32 then q (ix2 r ⟨(n.val + 32) % 512, by omega⟩) * g (ix2 0 ⟨(n.val + 32) % 512, by omega⟩)
          else q (ix2 r ⟨(n.val + 480) % 512, by omega⟩) * g (ix2 0 ⟨(n.val + 480) % 512, by omega⟩)) * si (ix2 r n) := by
  have e1 : (n.val + 512 - 480) % 512 = (n.val + 32) % 512 := by omega
  have e2 : (n.val + 512 - 32) % 512 = (n.val + 480) % 512 := by omega
  pointwise [k0_pay13]
  simp only [e1, e2]
  rw [slt64]
  split <;> rfl

theorem rotK_at (co si : FVec Ideal S512x512 .f32) (q v : FVec Ideal S512x128 .f32) (g : FVec Ideal S1x128 .f32) (r : Fin 512) (n : Fin 128) :
    k0_pay17 (F := Ideal) co si q g v (ix2 r n)
      = q (ix2 r n) * Ideal.rsqrt (v (ix2 r n) + Ideal.ofBits .f32 0x358637BD#32) * g (ix2 0 n) * co (ix2 r ⟨n, by omega⟩)
        + (if n.val % 64 < 32 then q (ix2 r ⟨(n.val + 32) % 128, by omega⟩) * Ideal.rsqrt (v (ix2 r ⟨(n.val + 32) % 128, by omega⟩) + Ideal.ofBits .f32 0x358637BD#32) * g (ix2 0 ⟨(n.val + 32) % 128, by omega⟩)
          else q (ix2 r ⟨(n.val + 96) % 128, by omega⟩) * Ideal.rsqrt (v (ix2 r ⟨(n.val + 96) % 128, by omega⟩) + Ideal.ofBits .f32 0x358637BD#32) * g (ix2 0 ⟨(n.val + 96) % 128, by omega⟩)) * si (ix2 r ⟨n, by omega⟩) := by
  have e1 : (n.val + 128 - 96) % 128 = (n.val + 32) % 128 := by omega
  have e2 : (n.val + 128 - 32) % 128 = (n.val + 96) % 128 := by omega
  have hs := slt64 ⟨n.val, by omega⟩
  pointwise [k0_pay17]
  simp only [e1, e2]
  dsimp only at hs
  rw [hs]
  split <;> rfl

theorem k_at (r : Fin 512) (n : Fin 128) : k0_pay14 (F := Ideal) p (ix2 r n) = p (ix2 r ⟨512 + n, by omega⟩) := by
  pointwise [k0_pay14]
theorem v_at (r : Fin 512) (n : Fin 128) : k0_pay19 (F := Ideal) p (ix2 r n) = p (ix2 r ⟨640 + n, by omega⟩) := by
  pointwise [k0_pay19]
theorem dq_at (r : Fin 512) (n : Fin 512) : k0_pay1 (F := Ideal) p (ix2 r n) = p (ix2 r ⟨768 + n, by omega⟩) := by
  pointwise [k0_pay1]
theorem dk_at (r : Fin 512) (n : Fin 512) : k0_pay2 (F := Ideal) p (ix2 r n) = p (ix2 r ⟨1280 + n, by omega⟩) := by
  pointwise [k0_pay2]
theorem dv_at (r : Fin 512) (n : Fin 512) : k0_pay4 (F := Ideal) p (ix2 r n) = p (ix2 r ⟨1792 + n, by omega⟩) := by
  pointwise [k0_pay4]

end Cert.InOddIdeal.Body
-- ==== Proof.OddAngles.lean ====
/- The rotation's angles in the body of the odd layer's input projection. -/
module

public import proofs.«01_k».proof.Proof.OddLanes
public import proofs.«01_k».proof.Proof.OddLaneAt
public import proofs.«01_k».proof.Proof.OddBlk
public import proofs.«01_k».proof.Proof.OddBody

@[expose] public section

set_option maxRecDepth 16384

noncomputable section

namespace Cert.InOddIdeal.Angles

open Cert.InOddIdeal Cert.InOddIdeal.Gen Cert.InOddIdeal.Blocks Idealize.ShloMosaic Idealize.ShloMosaic.TcCoe Idealize.SL.Sem
open Cert.InOddRefIdeal.Read (val_main_v22 val_main_v24)

theorem joinA (A B : FVec Ideal S3x512x512 .f32) (b : Fin 3) (r : Fin 512) (n : Fin 512) :
    concatenate S3x512x1024 2 [⟨S3x512x512, A⟩, ⟨S3x512x512, B⟩] concatenates_S3x512x512_S3x512x512_S3x512x1024_d2 (ix3 b r ⟨n, by omega⟩) = A (ix3 b r n) := by
  pointwise []

theorem joinB (A B : FVec Ideal S3x512x512 .f32) (b : Fin 3) (r : Fin 512) (n : Fin 512) :
    concatenate S3x512x1024 2 [⟨S3x512x512, A⟩, ⟨S3x512x512, B⟩] concatenates_S3x512x512_S3x512x512_S3x512x1024_d2 (ix3 b r ⟨512 + n, by omega⟩) = B (ix3 b r n) := by
  pointwise []

variable (m : (ℓ : Loc nD τ sig) → Buf (Elt Ideal) ℓ) (c : Dev nD) (t : Fin cfg0.N)

theorem half_prompt (h : 8 ≤ t.val) : half t = 0 := Fin.ext (by simp only [half, if_pos h]; rfl)

theorem half_sample (h : ¬ 8 ≤ t.val) : half t = ⟨(⟨t.val % 2, by omega⟩ : Fin 2).val + 1, by simp only []; omega⟩ := Fin.ext (by simp only [half, if_neg h])

/-- The place of a latent token in its request. -/
def place (r : Fin 512) : Fin 1024 := ⟨((tok t r).val - 8192) % 1024, by omega⟩

theorem place_eq (h : ¬ 8 ≤ t.val) (r : Fin 512) :
    (⟨(⟨t.val % 2, by omega⟩ : Fin 2).val * 512 + r.val, by simp only []; omega⟩ : Fin 1024) = place t r := by
  refine Fin.ext ?_
  have e : (tok t r).val = (if t.val < 8 then t.val + 16 else t.val - 8) * 512 + r.val := rfl
  rw [if_pos (by omega)] at e
  simp only [place, e]
  omega

theorem prompt_iff (r : Fin 512) : (tok t r).val < 8192 ↔ 8 ≤ t.val := by
  have e : (tok t r).val = (if t.val < 8 then t.val + 16 else t.val - 8) * 512 + r.val := rfl
  have ht := (idx t).1
  rw [e]
  split <;> omega

theorem neg_at {s : Shape} (x : FVec Ideal s .f32) (i : s.Idx) : Host.negf x i = -(x i) := by
  pointwise []

theorem cos_prompt (h : 8 ≤ t.val) (r : Fin 512) (n : Fin 512) : k0_pay8 (F := Ideal) (iblk m c 2 t) (ix2 r n) = 1 := by
  rw [Body.cos_at]
  refine (blk2 m c t r _).trans ?_
  rw [Tables.rope]
  rw [half_prompt t h, joinA, Tables.lanes_prompt, Ideal.ofBits_one_f32]

theorem cos_low (h : ¬ 8 ≤ t.val) (r : Fin 512) (n : Fin 512) (hn : n.val % 64 < 32) :
    k0_pay8 (F := Ideal) (iblk m c 2 t) (ix2 r n) = val_main_v22 (F := Ideal) (ix2 (place t r) ⟨n.val % 64, hn⟩) := by
  rw [Body.cos_at]
  refine (blk2 m c t r _).trans ?_
  rw [Tables.rope]
  rw [half_sample t h, joinA, Tables.lanes_low _ _ _ _ _ _ hn, place_eq t h]

theorem cos_high (h : ¬ 8 ≤ t.val) (r : Fin 512) (n : Fin 512) (hn : ¬ n.val % 64 < 32) :
    k0_pay8 (F := Ideal) (iblk m c 2 t) (ix2 r n) = val_main_v22 (F := Ideal) (ix2 (place t r) ⟨n.val % 64 - 32, by omega⟩) := by
  rw [Body.cos_at]
  refine (blk2 m c t r _).trans ?_
  rw [Tables.rope]
  rw [half_sample t h, joinA, Tables.lanes_high _ _ _ _ _ _ hn, place_eq t h]

theorem sin_prompt (h : 8 ≤ t.val) (r : Fin 512) (n : Fin 512) : k0_pay9 (F := Ideal) (iblk m c 2 t) (ix2 r n) = 0 := by
  rw [Body.sin_at]
  refine (blk2 m c t r _).trans ?_
  rw [Tables.rope]
  rw [half_prompt t h, joinB, Tables.lanes_prompt, Ideal.ofBits_zero_f32]

theorem sin_low (h : ¬ 8 ≤ t.val) (r : Fin 512) (n : Fin 512) (hn : n.val % 64 < 32) :
    k0_pay9 (F := Ideal) (iblk m c 2 t) (ix2 r n) = -val_main_v24 (F := Ideal) (ix2 (place t r) ⟨n.val % 64, hn⟩) := by
  rw [Body.sin_at]
  refine (blk2 m c t r _).trans ?_
  rw [Tables.rope]
  rw [half_sample t h, joinB, Tables.lanes_low _ _ _ _ _ _ hn, neg_at, place_eq t h]

theorem sin_high (h : ¬ 8 ≤ t.val) (r : Fin 512) (n : Fin 512) (hn : ¬ n.val % 64 < 32) :
    k0_pay9 (F := Ideal) (iblk m c 2 t) (ix2 r n) = val_main_v24 (F := Ideal) (ix2 (place t r) ⟨n.val % 64 - 32, by omega⟩) := by
  rw [Body.sin_at]
  refine (blk2 m c t r _).trans ?_
  rw [Tables.rope]
  rw [half_sample t h, joinB, Tables.lanes_high _ _ _ _ _ _ hn, place_eq t h]

end Cert.InOddIdeal.Angles
-- ==== Proof.OddRefRow.lean ====
/- The reference of the odd layer's input projection, entry by entry. -/
module

public import proofs.«01_k».proof.Proof.Gen.InOddRefIdeal.Read
public import proofs.«01_k».proof.Proof.OddBlk
public import Idealize.ShloMosaic.Lib.Pipeline.ValueKit
public import Idealize.ShloMosaic.Lib.Pointwise

@[expose] public section

set_option maxRecDepth 16384

noncomputable section

namespace Cert.InOddRefIdeal.Rows

open Cert.InOddRefIdeal Cert.InOddRefIdeal.Gen Cert.InOddRefIdeal.Read Idealize.ShloMosaic Idealize.ShloMosaic.TcCoe Idealize.SL.Sem
open Cert.PostRow (seg)
open Cert.InOddIdeal.Blocks (oddRow)

variable (x0 : FVec Ideal S12288x1024 .f32) (x1 : FVec Ideal S2x8x6x1024 .f32) (x2 : FVec Ideal S1x1024x2304 .f32)
  (x3 : FVec Ideal S1x64 .f32) (x4 : FVec Ideal S1x64 .f32)

theorem mod_eq (i : Fin 6) (t : Fin 12288) (j : Fin 1024) (v : EReal)
    (h : v = if h : (t : ℕ) < 8192 then x1 (ix4 1 0 i j) else x1 (ix4 1 ⟨1 + ((t : ℕ) - 8192) / 1024, by omega⟩ i j)) :
    v = oddRow x1 i t j := by
  rw [h]
  unfold oddRow seg
  by_cases ht : (t : ℕ) < 8192
  · rw [dif_pos ht]
    exact congrArg x1 (by blk_ext [if_pos ht])
  · rw [dif_neg ht]
    exact congrArg x1 (by blk_ext [if_neg ht])

theorem scale_at (t : Fin 12288) (j : Fin 1024) : val_main_v34 (F := Ideal) x1 (ix2 t j) = oddRow x1 1 t j := by
  refine mod_eq x1 1 t j _ ?_
  pointwise [val_main_v34, val_main_v33, val_main_v32, val_main_v31, val_main_v30, val_main_v29, val_main_v28, val_main_v27, val_main_v26]

theorem shift_at (t : Fin 12288) (j : Fin 1024) : val_main_v46 (F := Ideal) x1 (ix2 t j) = oddRow x1 0 t j := by
  refine mod_eq x1 0 t j _ ?_
  pointwise [val_main_v46, val_main_v45, val_main_v44, val_main_v43, val_main_v42, val_main_v41, val_main_v40, val_main_v39, val_main_v38]

theorem input_at (t : Fin 12288) (j : Fin 1024) :
    val_main_v47 (F := Ideal) x0 x1 (ix2 t j) = x0 (ix2 t j) * (1 + oddRow x1 1 t j) + oddRow x1 0 t j := by
  pointwise [val_main_v47, val_main_v37, val_main_v36, val_main_v35, val_main_cst_2, scale_at, shift_at]

theorem proj_at (t : Fin 12288) (n : Fin 2304) :
    val_main_v49 (F := Ideal) x0 x1 x2 (ix2 t n)
      = ∑ k : Fin 1024, (x0 (ix2 t k) * (1 + oddRow x1 1 t k) + oddRow x1 0 t k) * val_main_v48 (F := Ideal) x2 (ix2 k n) := by
  pointwise [val_main_v49, input_at]

theorem cq_at (t : Fin 12288) (n : Fin 512) : val_main_v50 (F := Ideal) x0 x1 x2 (ix2 t n) = val_main_v49 (F := Ideal) x0 x1 x2 (ix2 t ⟨n, by omega⟩) := by
  pointwise [val_main_v50]
theorem ck_at (t : Fin 12288) (n : Fin 128) : val_main_v51 (F := Ideal) x0 x1 x2 (ix2 t n) = val_main_v49 (F := Ideal) x0 x1 x2 (ix2 t ⟨512 + n, by omega⟩) := by
  pointwise [val_main_v51]
theorem cv_at (t : Fin 12288) (n : Fin 128) : val_main_v52 (F := Ideal) x0 x1 x2 (ix2 t n) = val_main_v49 (F := Ideal) x0 x1 x2 (ix2 t ⟨640 + n, by omega⟩) := by
  pointwise [val_main_v52]
theorem dq_at (t : Fin 12288) (n : Fin 512) : val_main_v53 (F := Ideal) x0 x1 x2 (ix2 t n) = val_main_v49 (F := Ideal) x0 x1 x2 (ix2 t ⟨768 + n, by omega⟩) := by
  pointwise [val_main_v53]
theorem dk_at (t : Fin 12288) (n : Fin 512) : val_main_v54 (F := Ideal) x0 x1 x2 (ix2 t n) = val_main_v49 (F := Ideal) x0 x1 x2 (ix2 t ⟨1280 + n, by omega⟩) := by
  pointwise [val_main_v54]
theorem dv_at (t : Fin 12288) (n : Fin 512) : val_main_v55 (F := Ideal) x0 x1 x2 (ix2 t n) = val_main_v49 (F := Ideal) x0 x1 x2 (ix2 t ⟨1792 + n, by omega⟩) := by
  pointwise [val_main_v55]

theorem normQ_at (t : Fin 12288) (n : Fin 512) :
    val_main_v71 (F := Ideal) x0 x1 x2 x3 (ix2 t n)
      = val_main_v50 (F := Ideal) x0 x1 x2 (ix2 t n)
        * Ideal.rsqrt (Ideal.div (∑ l : Fin 64, val_main_v50 (F := Ideal) x0 x1 x2 (ix2 t ⟨n.val / 64 * 64 + l.val, by omega⟩) * val_main_v50 (F := Ideal) x0 x1 x2 (ix2 t ⟨n.val / 64 * 64 + l.val, by omega⟩)) (Ideal.ofBits .f32 0x42800000#32)
            + Ideal.ofBits .f32 0x358637BD#32) * val_main_v56 (F := Ideal) x3 (ix1 ⟨n.val % 64, by omega⟩) := by
  have e : (⟨n.val / 64 * 64 + n.val % 64, by omega⟩ : Fin 512) = n := Fin.ext (by dsimp only; omega)
  unfold val_main_v71 val_main_v70 val_main_v69 val_main_v68 val_main_v67 val_main_v66 val_main_v65 val_main_v64 val_main_v63 val_main_v62 val_main_v61 val_main_v60 val_main_v59 val_main_v58 val_main_v57
  generalize val_main_v50 (F := Ideal) x0 x1 x2 = y
  pointwise [val_main_cst_3, val_main_cst_4, val_main_cst_5]

theorem normK_at (t : Fin 12288) (n : Fin 128) :
    val_main_v87 (F := Ideal) x0 x1 x2 x4 (ix2 t n)
      = val_main_v51 (F := Ideal) x0 x1 x2 (ix2 t n)
        * Ideal.rsqrt (Ideal.div (∑ l : Fin 64, val_main_v51 (F := Ideal) x0 x1 x2 (ix2 t ⟨n.val / 64 * 64 + l.val, by omega⟩) * val_main_v51 (F := Ideal) x0 x1 x2 (ix2 t ⟨n.val / 64 * 64 + l.val, by omega⟩)) (Ideal.ofBits .f32 0x42800000#32)
            + Ideal.ofBits .f32 0x358637BD#32) * val_main_v72 (F := Ideal) x4 (ix1 ⟨n.val % 64, by omega⟩) := by
  have e : (⟨n.val / 64 * 64 + n.val % 64, by omega⟩ : Fin 128) = n := Fin.ext (by dsimp only; omega)
  unfold val_main_v87 val_main_v86 val_main_v85 val_main_v84 val_main_v83 val_main_v82 val_main_v81 val_main_v80 val_main_v79 val_main_v78 val_main_v77 val_main_v76 val_main_v75 val_main_v74 val_main_v73
  generalize val_main_v51 (F := Ideal) x0 x1 x2 = y
  pointwise [val_main_cst_6, val_main_cst_7, val_main_cst_8]

theorem stateK_at (t : Fin 8192) (n : Fin 128) : val_main_v130 (F := Ideal) x0 x1 x2 x4 (ix2 t n) = val_main_v87 (F := Ideal) x0 x1 x2 x4 (ix2 ⟨t, by omega⟩ n) := by
  pointwise [val_main_v130]
theorem stateV_at (t : Fin 8192) (n : Fin 128) : val_main_v131 (F := Ideal) x0 x1 x2 (ix2 t n) = val_main_v52 (F := Ideal) x0 x1 x2 (ix2 ⟨t, by omega⟩ n) := by
  pointwise [val_main_v131]
theorem stateDK_at (t : Fin 8192) (n : Fin 512) : val_main_v132 (F := Ideal) x0 x1 x2 (ix2 t n) = val_main_v54 (F := Ideal) x0 x1 x2 (ix2 ⟨t, by omega⟩ n) := by
  pointwise [val_main_v132]
theorem stateDV_at (t : Fin 8192) (n : Fin 512) : val_main_v133 (F := Ideal) x0 x1 x2 (ix2 t n) = val_main_v55 (F := Ideal) x0 x1 x2 (ix2 ⟨t, by omega⟩ n) := by
  pointwise [val_main_v133]

end Cert.InOddRefIdeal.Rows
-- ==== Proof.OddRefRope.lean ====
/- The reference's rotation of the odd layer's queries and keys, entry by entry. -/
module

public import proofs.«01_k».proof.Proof.Gen.InOddRefIdeal.Read
public import Idealize.ShloMosaic.Lib.Pipeline.ValueKit
public import Idealize.ShloMosaic.Lib.Pointwise

@[expose] public section

set_option maxRecDepth 16384

noncomputable section

namespace Cert.InOddRefIdeal.Rows

open Cert.InOddRefIdeal Cert.InOddRefIdeal.Gen Cert.InOddRefIdeal.Read Idealize.ShloMosaic Idealize.ShloMosaic.TcCoe Idealize.SL.Sem

variable (x0 : FVec Ideal S12288x1024 .f32) (x1 : FVec Ideal S2x8x6x1024 .f32) (x2 : FVec Ideal S1x1024x2304 .f32)
  (x3 : FVec Ideal S1x64 .f32) (x4 : FVec Ideal S1x64 .f32)

theorem q_split (b : Fin 4) (s : Fin 1024) (h : Fin 8) (l : Fin 64) :
    val_main_v89 (F := Ideal) x0 x1 x2 x3 (ix4 b s h l) = val_main_v71 (F := Ideal) x0 x1 x2 x3 (ix2 ⟨8192 + (b * 1024 + s), by omega⟩ ⟨h * 64 + l, by omega⟩) := by
  unfold val_main_v89 val_main_v88
  generalize val_main_v71 (F := Ideal) x0 x1 x2 x3 = y
  pointwise []

theorem q_cos127 (b : Fin 4) (s : Fin 1024) (h : Fin 8) (l : Fin 32) :
    val_main_v92 (F := Ideal) (ix4 b s h l) = val_main_v22 (F := Ideal) (ix2 s l) := by
  unfold val_main_v92 val_main_v23
  generalize val_main_v22 (F := Ideal) = y
  pointwise []

theorem q_cos134 (b : Fin 4) (s : Fin 1024) (h : Fin 8) (l : Fin 32) :
    val_main_v99 (F := Ideal) (ix4 b s h l) = val_main_v22 (F := Ideal) (ix2 s l) := by
  unfold val_main_v99 val_main_v23
  generalize val_main_v22 (F := Ideal) = y
  pointwise []

theorem q_sin129 (b : Fin 4) (s : Fin 1024) (h : Fin 8) (l : Fin 32) :
    val_main_v94 (F := Ideal) (ix4 b s h l) = val_main_v24 (F := Ideal) (ix2 s l) := by
  unfold val_main_v94 val_main_v25
  generalize val_main_v24 (F := Ideal) = y
  pointwise []

theorem q_sin132 (b : Fin 4) (s : Fin 1024) (h : Fin 8) (l : Fin 32) :
    val_main_v97 (F := Ideal) (ix4 b s h l) = val_main_v24 (F := Ideal) (ix2 s l) := by
  unfold val_main_v97 val_main_v25
  generalize val_main_v24 (F := Ideal) = y
  pointwise []

theorem q_left (b : Fin 4) (s : Fin 1024) (h : Fin 8) (l : Fin 32) :
    val_main_v90 (F := Ideal) x0 x1 x2 x3 (ix4 b s h l) = val_main_v89 (F := Ideal) x0 x1 x2 x3 (ix4 b s h ⟨l, by omega⟩) := by
  unfold val_main_v90
  generalize val_main_v89 (F := Ideal) x0 x1 x2 x3 = y
  pointwise []

theorem q_right (b : Fin 4) (s : Fin 1024) (h : Fin 8) (l : Fin 32) :
    val_main_v91 (F := Ideal) x0 x1 x2 x3 (ix4 b s h l) = val_main_v89 (F := Ideal) x0 x1 x2 x3 (ix4 b s h ⟨32 + l, by omega⟩) := by
  unfold val_main_v91
  generalize val_main_v89 (F := Ideal) x0 x1 x2 x3 = y
  pointwise []

theorem q_first (b : Fin 4) (s : Fin 1024) (h : Fin 8) (l : Fin 32) :
    val_main_v96 (F := Ideal) x0 x1 x2 x3 (ix4 b s h l)
      = val_main_v71 (F := Ideal) x0 x1 x2 x3 (ix2 ⟨8192 + (b * 1024 + s), by omega⟩ ⟨h * 64 + l, by omega⟩) * val_main_v22 (F := Ideal) (ix2 s l)
        - val_main_v71 (F := Ideal) x0 x1 x2 x3 (ix2 ⟨8192 + (b * 1024 + s), by omega⟩ ⟨h * 64 + (32 + l), by omega⟩) * val_main_v24 (F := Ideal) (ix2 s l) := by
  rw [val_main_v96_apply, val_main_v93_apply, val_main_v95_apply, q_left, q_right, q_cos127, q_sin129, q_split, q_split]
  rfl

theorem q_second (b : Fin 4) (s : Fin 1024) (h : Fin 8) (l : Fin 32) :
    val_main_v101 (F := Ideal) x0 x1 x2 x3 (ix4 b s h l)
      = val_main_v71 (F := Ideal) x0 x1 x2 x3 (ix2 ⟨8192 + (b * 1024 + s), by omega⟩ ⟨h * 64 + l, by omega⟩) * val_main_v24 (F := Ideal) (ix2 s l)
        + val_main_v71 (F := Ideal) x0 x1 x2 x3 (ix2 ⟨8192 + (b * 1024 + s), by omega⟩ ⟨h * 64 + (32 + l), by omega⟩) * val_main_v22 (F := Ideal) (ix2 s l) := by
  rw [val_main_v101_apply, val_main_v98_apply, val_main_v100_apply, q_left, q_right, q_sin132, q_cos134, q_split, q_split]
  rfl

theorem q_heads (s : Fin 4096) (n : Fin 512) :
    val_main_v104 (F := Ideal) x0 x1 x2 x3 (ix2 s n)
      = if hn : n.val % 64 < 32 then val_main_v96 (F := Ideal) x0 x1 x2 x3 (ix4 ⟨s.val / 1024, by omega⟩ ⟨s.val % 1024, by omega⟩ ⟨n.val / 64, by omega⟩ ⟨n.val % 64, hn⟩)
        else val_main_v101 (F := Ideal) x0 x1 x2 x3 (ix4 ⟨s.val / 1024, by omega⟩ ⟨s.val % 1024, by omega⟩ ⟨n.val / 64, by omega⟩ ⟨n.val % 64 - 32, by omega⟩) := by
  unfold val_main_v104 val_main_v102
  generalize val_main_v96 (F := Ideal) x0 x1 x2 x3 = y
  generalize val_main_v101 (F := Ideal) x0 x1 x2 x3 = z
  pointwise []

theorem q_tokens (t : Fin 12288) (n : Fin 512) :
    val_main_v105 (F := Ideal) x0 x1 x2 x3 (ix2 t n)
      = if h : t.val < 8192 then val_main_v71 (F := Ideal) x0 x1 x2 x3 (ix2 t n) else val_main_v104 (F := Ideal) x0 x1 x2 x3 (ix2 ⟨t.val - 8192, by omega⟩ n) := by
  unfold val_main_v105 val_main_v103
  generalize val_main_v71 (F := Ideal) x0 x1 x2 x3 = y
  generalize val_main_v104 (F := Ideal) x0 x1 x2 x3 = z
  pointwise []

/-- The rotated query: the prompt's rows are unchanged. -/
theorem q_prompt (t : Fin 12288) (n : Fin 512) (h : t.val < 8192) :
    val_main_v105 (F := Ideal) x0 x1 x2 x3 (ix2 t n) = val_main_v71 (F := Ideal) x0 x1 x2 x3 (ix2 t n) := by
  rw [q_tokens, dif_pos h]

/-- The rotated query: first half of a head in a latent row. -/
theorem q_low (t : Fin 12288) (n : Fin 512) (h : ¬ t.val < 8192) (hn : n.val % 64 < 32) :
    val_main_v105 (F := Ideal) x0 x1 x2 x3 (ix2 t n)
      = val_main_v71 (F := Ideal) x0 x1 x2 x3 (ix2 t n) * val_main_v22 (F := Ideal) (ix2 ⟨(t.val - 8192) % 1024, by omega⟩ ⟨n.val % 64, hn⟩)
        - val_main_v71 (F := Ideal) x0 x1 x2 x3 (ix2 t ⟨n.val + 32, by omega⟩) * val_main_v24 (F := Ideal) (ix2 ⟨(t.val - 8192) % 1024, by omega⟩ ⟨n.val % 64, hn⟩) := by
  have e0 : (⟨8192 + ((t.val - 8192) / 1024 * 1024 + (t.val - 8192) % 1024), by omega⟩ : Fin 12288) = t := Fin.ext (by dsimp only; omega)
  have e1 : (⟨n.val / 64 * 64 + n.val % 64, by omega⟩ : Fin 512) = n := Fin.ext (by dsimp only; omega)
  have e2 : (⟨n.val / 64 * 64 + (32 + n.val % 64), by omega⟩ : Fin 512) = ⟨n.val + 32, by omega⟩ := Fin.ext (by dsimp only; omega)
  rw [q_tokens, dif_neg h, q_heads, dif_pos hn, q_first]
  simp only [e0, e1, e2]

/-- The rotated query: second half of a head in a latent row. -/
theorem q_high (t : Fin 12288) (n : Fin 512) (h : ¬ t.val < 8192) (hn : ¬ n.val % 64 < 32) :
    val_main_v105 (F := Ideal) x0 x1 x2 x3 (ix2 t n)
      = val_main_v71 (F := Ideal) x0 x1 x2 x3 (ix2 t ⟨n.val - 32, by omega⟩) * val_main_v24 (F := Ideal) (ix2 ⟨(t.val - 8192) % 1024, by omega⟩ ⟨n.val % 64 - 32, by omega⟩)
        + val_main_v71 (F := Ideal) x0 x1 x2 x3 (ix2 t n) * val_main_v22 (F := Ideal) (ix2 ⟨(t.val - 8192) % 1024, by omega⟩ ⟨n.val % 64 - 32, by omega⟩) := by
  have e0 : (⟨8192 + ((t.val - 8192) / 1024 * 1024 + (t.val - 8192) % 1024), by omega⟩ : Fin 12288) = t := Fin.ext (by dsimp only; omega)
  have e1 : (⟨n.val / 64 * 64 + (32 + (n.val % 64 - 32)), by omega⟩ : Fin 512) = n := Fin.ext (by dsimp only; omega)
  have e2 : (⟨n.val / 64 * 64 + (n.val % 64 - 32), by omega⟩ : Fin 512) = ⟨n.val - 32, by omega⟩ := Fin.ext (by dsimp only; omega)
  rw [q_tokens, dif_neg h, q_heads, dif_neg hn, q_second]
  simp only [e0, e1, e2]

theorem k_split (b : Fin 4) (s : Fin 1024) (h : Fin 2) (l : Fin 64) :
    val_main_v108 (F := Ideal) x0 x1 x2 x4 (ix4 b s h l) = val_main_v87 (F := Ideal) x0 x1 x2 x4 (ix2 ⟨8192 + (b * 1024 + s), by omega⟩ ⟨h * 64 + l, by omega⟩) := by
  unfold val_main_v108 val_main_v107
  generalize val_main_v87 (F := Ideal) x0 x1 x2 x4 = y
  pointwise []

theorem k_cos127 (b : Fin 4) (s : Fin 1024) (h : Fin 2) (l : Fin 32) :
    val_main_v111 (F := Ideal) (ix4 b s h l) = val_main_v22 (F := Ideal) (ix2 s l) := by
  unfold val_main_v111 val_main_v23
  generalize val_main_v22 (F := Ideal) = y
  pointwise []

theorem k_cos134 (b : Fin 4) (s : Fin 1024) (h : Fin 2) (l : Fin 32) :
    val_main_v118 (F := Ideal) (ix4 b s h l) = val_main_v22 (F := Ideal) (ix2 s l) := by
  unfold val_main_v118 val_main_v23
  generalize val_main_v22 (F := Ideal) = y
  pointwise []

theorem k_sin129 (b : Fin 4) (s : Fin 1024) (h : Fin 2) (l : Fin 32) :
    val_main_v113 (F := Ideal) (ix4 b s h l) = val_main_v24 (F := Ideal) (ix2 s l) := by
  unfold val_main_v113 val_main_v25
  generalize val_main_v24 (F := Ideal) = y
  pointwise []

theorem k_sin132 (b : Fin 4) (s : Fin 1024) (h : Fin 2) (l : Fin 32) :
    val_main_v116 (F := Ideal) (ix4 b s h l) = val_main_v24 (F := Ideal) (ix2 s l) := by
  unfold val_main_v116 val_main_v25
  generalize val_main_v24 (F := Ideal) = y
  pointwise []

theorem k_left (b : Fin 4) (s : Fin 1024) (h : Fin 2) (l : Fin 32) :
    val_main_v109 (F := Ideal) x0 x1 x2 x4 (ix4 b s h l) = val_main_v108 (F := Ideal) x0 x1 x2 x4 (ix4 b s h ⟨l, by omega⟩) := by
  unfold val_main_v109
  generalize val_main_v108 (F := Ideal) x0 x1 x2 x4 = y
  pointwise []

theorem k_right (b : Fin 4) (s : Fin 1024) (h : Fin 2) (l : Fin 32) :
    val_main_v110 (F := Ideal) x0 x1 x2 x4 (ix4 b s h l) = val_main_v108 (F := Ideal) x0 x1 x2 x4 (ix4 b s h ⟨32 + l, by omega⟩) := by
  unfold val_main_v110
  generalize val_main_v108 (F := Ideal) x0 x1 x2 x4 = y
  pointwise []

theorem k_first (b : Fin 4) (s : Fin 1024) (h : Fin 2) (l : Fin 32) :
    val_main_v115 (F := Ideal) x0 x1 x2 x4 (ix4 b s h l)
      = val_main_v87 (F := Ideal) x0 x1 x2 x4 (ix2 ⟨8192 + (b * 1024 + s), by omega⟩ ⟨h * 64 + l, by omega⟩) * val_main_v22 (F := Ideal) (ix2 s l)
        - val_main_v87 (F := Ideal) x0 x1 x2 x4 (ix2 ⟨8192 + (b * 1024 + s), by omega⟩ ⟨h * 64 + (32 + l), by omega⟩) * val_main_v24 (F := Ideal) (ix2 s l) := by
  rw [val_main_v115_apply, val_main_v112_apply, val_main_v114_apply, k_left, k_right, k_cos127, k_sin129, k_split, k_split]
  rfl

theorem k_second (b : Fin 4) (s : Fin 1024) (h : Fin 2) (l : Fin 32) :
    val_main_v120 (F := Ideal) x0 x1 x2 x4 (ix4 b s h l)
      = val_main_v87 (F := Ideal) x0 x1 x2 x4 (ix2 ⟨8192 + (b * 1024 + s), by omega⟩ ⟨h * 64 + l, by omega⟩) * val_main_v24 (F := Ideal) (ix2 s l)
        + val_main_v87 (F := Ideal) x0 x1 x2 x4 (ix2 ⟨8192 + (b * 1024 + s), by omega⟩ ⟨h * 64 + (32 + l), by omega⟩) * val_main_v22 (F := Ideal) (ix2 s l) := by
  rw [val_main_v120_apply, val_main_v117_apply, val_main_v119_apply, k_left, k_right, k_sin132, k_cos134, k_split, k_split]
  rfl

theorem k_heads (s : Fin 4096) (n : Fin 128) :
    val_main_v123 (F := Ideal) x0 x1 x2 x4 (ix2 s n)
      = if hn : n.val % 64 < 32 then val_main_v115 (F := Ideal) x0 x1 x2 x4 (ix4 ⟨s.val / 1024, by omega⟩ ⟨s.val % 1024, by omega⟩ ⟨n.val / 64, by omega⟩ ⟨n.val % 64, hn⟩)
        else val_main_v120 (F := Ideal) x0 x1 x2 x4 (ix4 ⟨s.val / 1024, by omega⟩ ⟨s.val % 1024, by omega⟩ ⟨n.val / 64, by omega⟩ ⟨n.val % 64 - 32, by omega⟩) := by
  unfold val_main_v123 val_main_v121
  generalize val_main_v115 (F := Ideal) x0 x1 x2 x4 = y
  generalize val_main_v120 (F := Ideal) x0 x1 x2 x4 = z
  pointwise []

theorem k_tokens (t : Fin 12288) (n : Fin 128) :
    val_main_v124 (F := Ideal) x0 x1 x2 x4 (ix2 t n)
      = if h : t.val < 8192 then val_main_v87 (F := Ideal) x0 x1 x2 x4 (ix2 t n) else val_main_v123 (F := Ideal) x0 x1 x2 x4 (ix2 ⟨t.val - 8192, by omega⟩ n) := by
  unfold val_main_v124 val_main_v122
  generalize val_main_v87 (F := Ideal) x0 x1 x2 x4 = y
  generalize val_main_v123 (F := Ideal) x0 x1 x2 x4 = z
  pointwise []

/-- The rotated query: the prompt's rows are unchanged. -/
theorem k_prompt (t : Fin 12288) (n : Fin 128) (h : t.val < 8192) :
    val_main_v124 (F := Ideal) x0 x1 x2 x4 (ix2 t n) = val_main_v87 (F := Ideal) x0 x1 x2 x4 (ix2 t n) := by
  rw [k_tokens, dif_pos h]

/-- The rotated query: first half of a head in a latent row. -/
theorem k_low (t : Fin 12288) (n : Fin 128) (h : ¬ t.val < 8192) (hn : n.val % 64 < 32) :
    val_main_v124 (F := Ideal) x0 x1 x2 x4 (ix2 t n)
      = val_main_v87 (F := Ideal) x0 x1 x2 x4 (ix2 t n) * val_main_v22 (F := Ideal) (ix2 ⟨(t.val - 8192) % 1024, by omega⟩ ⟨n.val % 64, hn⟩)
        - val_main_v87 (F := Ideal) x0 x1 x2 x4 (ix2 t ⟨n.val + 32, by omega⟩) * val_main_v24 (F := Ideal) (ix2 ⟨(t.val - 8192) % 1024, by omega⟩ ⟨n.val % 64, hn⟩) := by
  have e0 : (⟨8192 + ((t.val - 8192) / 1024 * 1024 + (t.val - 8192) % 1024), by omega⟩ : Fin 12288) = t := Fin.ext (by dsimp only; omega)
  have e1 : (⟨n.val / 64 * 64 + n.val % 64, by omega⟩ : Fin 128) = n := Fin.ext (by dsimp only; omega)
  have e2 : (⟨n.val / 64 * 64 + (32 + n.val % 64), by omega⟩ : Fin 128) = ⟨n.val + 32, by omega⟩ := Fin.ext (by dsimp only; omega)
  rw [k_tokens, dif_neg h, k_heads, dif_pos hn, k_first]
  simp only [e0, e1, e2]

/-- The rotated query: second half of a head in a latent row. -/
theorem k_high (t : Fin 12288) (n : Fin 128) (h : ¬ t.val < 8192) (hn : ¬ n.val % 64 < 32) :
    val_main_v124 (F := Ideal) x0 x1 x2 x4 (ix2 t n)
      = val_main_v87 (F := Ideal) x0 x1 x2 x4 (ix2 t ⟨n.val - 32, by omega⟩) * val_main_v24 (F := Ideal) (ix2 ⟨(t.val - 8192) % 1024, by omega⟩ ⟨n.val % 64 - 32, by omega⟩)
        + val_main_v87 (F := Ideal) x0 x1 x2 x4 (ix2 t n) * val_main_v22 (F := Ideal) (ix2 ⟨(t.val - 8192) % 1024, by omega⟩ ⟨n.val % 64 - 32, by omega⟩) := by
  have e0 : (⟨8192 + ((t.val - 8192) / 1024 * 1024 + (t.val - 8192) % 1024), by omega⟩ : Fin 12288) = t := Fin.ext (by dsimp only; omega)
  have e1 : (⟨n.val / 64 * 64 + (32 + (n.val % 64 - 32)), by omega⟩ : Fin 128) = n := Fin.ext (by dsimp only; omega)
  have e2 : (⟨n.val / 64 * 64 + (n.val % 64 - 32), by omega⟩ : Fin 128) = ⟨n.val - 32, by omega⟩ := Fin.ext (by dsimp only; omega)
  rw [k_tokens, dif_neg h, k_heads, dif_neg hn, k_second]
  simp only [e0, e1, e2]

end Cert.InOddRefIdeal.Rows
-- ==== Proof.OddMath.lean ====
/- Sums over the lanes of one head, and the mean of a head. -/
module

public import proofs.«01_k».proof.Proof.AttnMath
public import Idealize.ShloMosaic.Lib.Pointwise

@[expose] public section

set_option maxRecDepth 16384

noncomputable section

namespace Cert.OddMath

open Idealize.ShloMosaic Cert.AttnMath

/-- A sum over all lanes that keeps one head's is the sum over that head. -/
theorem head_sum {a : ℕ} (f : Fin (a * 64) → EReal) (h : Fin a) (hh : ∀ l : Fin 64, h.val * 64 + l.val < a * 64) :
    ∑ k : Fin (a * 64), f k * (if k.val / 64 = h.val then 1 else 0) = ∑ l : Fin 64, f ⟨h.val * 64 + l.val, hh l⟩ := by
  rw [← Fintype.sum_equiv finProdFinEquiv (fun q : Fin a × Fin 64 => f (finProdFinEquiv q) * (if (finProdFinEquiv q).val / 64 = h.val then 1 else 0)) _ (fun _ => rfl),
    Fintype.sum_prod_type, Finset.sum_eq_single h]
  · refine Finset.sum_congr rfl fun l _ => ?_
    have e : finProdFinEquiv (h, l) = ⟨h.val * 64 + l.val, hh l⟩ := Fin.ext (by show l.val + 64 * h.val = h.val * 64 + l.val; omega)
    rw [e, if_pos (by dsimp only; omega), mul_one]
  · intro b _ hb
    refine Finset.sum_eq_zero fun l _ => ?_
    have e : (finProdFinEquiv (b, l)).val = l.val + 64 * b.val := rfl
    rw [if_neg (by rw [e]; intro hc; exact hb (Fin.ext (by omega))), mul_zero]
  · intro hc; exact absurd (Finset.mem_univ h) hc

theorem sixtyFour : Ideal.ofBits .f32 0x42800000#32 = ((64 : ℝ) : EReal) := by
  simp only [Ideal.ofBits, Ideal.ieee]
  rw [if_neg (by decide), if_neg (by decide), if_neg (by decide)]
  norm_num [Nat.shiftRight_eq_div_pow]

theorem part64 : Ideal.ofBits .f32 0x3C800000#32 = ((1 / 64 : ℝ) : EReal) := by
  simp only [Ideal.ofBits, Ideal.ieee]
  rw [if_neg (by decide), if_neg (by decide), if_neg (by decide)]
  norm_num [Nat.shiftRight_eq_div_pow]

/-- A product with a sixty-fourth is a quotient by sixty-four. -/
theorem mean64 (x : EReal) : x * Ideal.ofBits .f32 0x3C800000#32 = Ideal.div x (Ideal.ofBits .f32 0x42800000#32) := by
  rw [sixtyFour, Ideal.div_coe (by norm_num), part64]

theorem sub_self_real {x : EReal} (h : IsReal x) : x - x = 0 := by
  obtain ⟨r, rfl⟩ := h
  rw [← EReal.coe_sub, sub_self]
  rfl

/-- The kernel's mean square of a head: the second sum is zero, the first keeps the head's lanes. -/
theorem head_mean {a : ℕ} (p : Fin (a * 64) → EReal) (hp : ∀ k, IsReal (p k)) (h : Fin a) (hh : ∀ l : Fin 64, h.val * 64 + l.val < a * 64) :
    (∑ k : Fin (a * 64), p k * p k * (if k.val / 64 = h.val then 1 else 0) + ∑ k : Fin (a * 64), (p k * p k - p k * p k) * (if k.val / 64 = h.val then 1 else 0))
        * Ideal.ofBits .f32 0x3C800000#32
      = Ideal.div (∑ l : Fin 64, p ⟨h.val * 64 + l.val, hh l⟩ * p ⟨h.val * 64 + l.val, hh l⟩) (Ideal.ofBits .f32 0x42800000#32) := by
  have z : ∑ k : Fin (a * 64), (p k * p k - p k * p k) * (if k.val / 64 = h.val then (1 : EReal) else 0) = 0 :=
    Finset.sum_eq_zero fun k _ => by rw [sub_self_real ((hp k).mul (hp k)), zero_mul]
  rw [z, add_zero, head_sum (fun k => p k * p k) h hh, mean64]

end Cert.OddMath
-- ==== Proof.OddRows.lean ====
/- The rows that the odd layer's input projection computes, against the reference's. -/
module

public import proofs.«01_k».proof.Proof.OddAngles
public import proofs.«01_k».proof.Proof.OddRefRow
public import proofs.«01_k».proof.Proof.OddRefRope
public import proofs.«01_k».proof.Proof.OddMath

@[expose] public section

set_option maxRecDepth 16384

noncomputable section

namespace Cert.InOddIdeal.Rows

open Cert.InOddIdeal Cert.InOddIdeal.Gen Cert.InOddIdeal.Blocks Idealize.ShloMosaic Idealize.ShloMosaic.TcCoe Idealize.SL.Sem
open Cert.InOddRefIdeal.Read Cert.OddMath Cert.AttnMath

section Norms
variable (x0 : FVec Ideal S512x1024 .f32) (x1 : FVec Ideal S1x1x6x1024 .f32) (x3 : FVec Ideal S1024x2304 .bf16) (x6 : FVec Ideal S512x512 .bf16)
  (p : FVec Ideal S512x2304 .f32)

/-- A query's head norm, of real entries. -/
theorem chunkQ_eq (r : Fin 512) (y : Fin 512 → EReal) (hy : ∀ k : Fin 512, k0_pay6 (F := Ideal) x0 x1 x3 (ix2 r ⟨k, by omega⟩) = y k) (hr : ∀ k, IsReal (y k))
    (hb : ∀ k n : Fin 512, x6 (ix2 k n) = if k.val / 64 = n.val / 64 then 1 else 0) (n : Fin 512) :
    k0_pay12 (F := Ideal) x0 x1 x3 x6 (ix2 r n)
      = y n * Ideal.rsqrt (Ideal.div (∑ l : Fin 64, y ⟨n.val / 64 * 64 + l.val, by omega⟩ * y ⟨n.val / 64 * 64 + l.val, by omega⟩) (Ideal.ofBits .f32 0x42800000#32)
          + Ideal.ofBits .f32 0x358637BD#32) := by
  rw [Body.chunkQ_at]
  simp only [hy, hb]
  have e := head_mean (a := 8) y hr ⟨n.val / 64, by omega⟩ (fun l => by dsimp only; omega)
  exact congrArg (fun v => y n * Ideal.rsqrt (v + Ideal.ofBits .f32 0x358637BD#32)) e

/-- A key's head mean, of real entries. -/
theorem chunkK_eq (r : Fin 512) (y : Fin 128 → EReal) (hy : ∀ k : Fin 128, p (ix2 r ⟨512 + k, by omega⟩) = y k) (hr : ∀ k, IsReal (y k))
    (hb : ∀ k n : Fin 512, x6 (ix2 k n) = if k.val / 64 = n.val / 64 then 1 else 0) (n : Fin 128) :
    k0_pay16 (F := Ideal) p x6 (ix2 r n)
      = Ideal.div (∑ l : Fin 64, y ⟨n.val / 64 * 64 + l.val, by omega⟩ * y ⟨n.val / 64 * 64 + l.val, by omega⟩) (Ideal.ofBits .f32 0x42800000#32) := by
  rw [Body.chunkK_at]
  simp only [hy, hb]
  exact head_mean (a := 2) y hr ⟨n.val / 64, by omega⟩ (fun l => by dsimp only; omega)

theorem same16 (k n : Fin 512) : k0_pay10 (F := Ideal) x6 (ix2 k n) = x6 (ix2 k n) := by
  pointwise [k0_pay10]

theorem gain512 (g : FVec Ideal S1x512 .f32) (n : Fin 512) : k0_pay11 (F := Ideal) g (ix2 0 n) = g (ix2 0 n) := by
  pointwise [k0_pay11]

theorem gain128 (g : FVec Ideal S1x128 .f32) (n : Fin 128) : k0_pay15 (F := Ideal) g (ix2 0 n) = g (ix2 0 n) := by
  pointwise [k0_pay15]

/-- A query's entry after its norm and its weight. -/
theorem normQ_gen (g : FVec Ideal S1x512 .f32) (r : Fin 512) (y : Fin 512 → EReal) (hy : ∀ k : Fin 512, k0_pay6 (F := Ideal) x0 x1 x3 (ix2 r ⟨k, by omega⟩) = y k) (hr : ∀ k, IsReal (y k))
    (hb : ∀ k n : Fin 512, x6 (ix2 k n) = if k.val / 64 = n.val / 64 then 1 else 0) (n : Fin 512) (w : EReal) (hw : k0_pay11 (F := Ideal) g (ix2 0 n) = w) :
    k0_pay12 (F := Ideal) x0 x1 x3 x6 (ix2 r n) * k0_pay11 (F := Ideal) g (ix2 0 n)
      = y n * Ideal.rsqrt (Ideal.div (∑ l : Fin 64, y ⟨n.val / 64 * 64 + l.val, by omega⟩ * y ⟨n.val / 64 * 64 + l.val, by omega⟩) (Ideal.ofBits .f32 0x42800000#32)
          + Ideal.ofBits .f32 0x358637BD#32) * w := by
  rw [hw, chunkQ_eq x0 x1 x3 x6 r y hy hr hb n]

/-- A key's entry after its norm and its weight. -/
theorem normK_gen (g : FVec Ideal S1x128 .f32) (r : Fin 512) (y : Fin 128 → EReal) (hy : ∀ k : Fin 128, p (ix2 r ⟨512 + k, by omega⟩) = y k) (hr : ∀ k, IsReal (y k))
    (hb : ∀ k n : Fin 512, x6 (ix2 k n) = if k.val / 64 = n.val / 64 then 1 else 0) (n : Fin 128) (w : EReal) (hw : k0_pay15 (F := Ideal) g (ix2 0 n) = w) :
    k0_pay14 (F := Ideal) p (ix2 r n) * Ideal.rsqrt (k0_pay16 (F := Ideal) p x6 (ix2 r n) + Ideal.ofBits .f32 0x358637BD#32) * k0_pay15 (F := Ideal) g (ix2 0 n)
      = y n * Ideal.rsqrt (Ideal.div (∑ l : Fin 64, y ⟨n.val / 64 * 64 + l.val, by omega⟩ * y ⟨n.val / 64 * 64 + l.val, by omega⟩) (Ideal.ofBits .f32 0x42800000#32)
          + Ideal.ofBits .f32 0x358637BD#32) * w := by
  rw [hw, chunkK_eq x6 p r y hy hr hb n, Body.k_at, hy n]

end Norms

variable (m : (ℓ : Loc nD τ sig) → Buf (Elt Ideal) ℓ) (c : Dev nD) (t : Fin cfg0.N)

/-- Argument 0. -/
abbrev A0 : FVec Ideal S12288x1024 .f32 := m ((c : Thread nD τ).loc main_arg0)
/-- Argument 1. -/
abbrev A1 : FVec Ideal S2x8x6x1024 .f32 := m ((c : Thread nD τ).loc main_arg1)
/-- Argument 2. -/
abbrev A2 : FVec Ideal S1x1024x2304 .f32 := m ((c : Thread nD τ).loc main_arg2)
/-- Argument 3. -/
abbrev A3 : FVec Ideal S1x64 .f32 := m ((c : Thread nD τ).loc main_arg3)
/-- Argument 4. -/
abbrev A4 : FVec Ideal S1x64 .f32 := m ((c : Thread nD τ).loc main_arg4)

/-- The arguments that the projection reads hold real numbers. -/
def Real : Prop := (∀ i, IsReal (A0 m c i)) ∧ (∀ i, IsReal (A1 m c i)) ∧ (∀ i, IsReal (A2 m c i))

theorem proj_real (H : Real m c) (s : Fin 12288) (n : Fin 2304) : IsReal (val_main_v49 (F := Ideal) (A0 m c) (A1 m c) (A2 m c) (ix2 s n)) := by
  rw [Cert.InOddRefIdeal.Rows.proj_at]
  refine IsReal.sum fun k => IsReal.mul (IsReal.add (IsReal.mul (H.1 _) (IsReal.add ⟨1, rfl⟩ (H.2.1 _))) (H.2.1 _)) ?_
  have e : val_main_v48 (F := Ideal) (A2 m c) (ix2 k n) = A2 m c (ix3 0 k n) := by pointwise [val_main_v48]
  rw [e]
  exact H.2.2 _

theorem proj_eq (r : Fin 512) (n : Fin 2304) :
    k0_pay6 (F := Ideal) (iblk m c 0 t) (iblk m c 1 t) (iblk m c 3 t) (ix2 r n) = val_main_v49 (F := Ideal) (A0 m c) (A1 m c) (A2 m c) (ix2 (tok t r) n) := by
  rw [Body.proj_at, Cert.InOddRefIdeal.Rows.proj_at]
  refine Finset.sum_congr rfl fun k _ => ?_
  exact congrArg₂ (fun a b : EReal => a * b)
    (congrArg₂ (fun a b : EReal => a + b) (congrArg₂ (fun a b : EReal => a * b) (blk0 m c t r k) (congrArg (fun a : EReal => 1 + a) (blk1 m c t r 1 k))) (blk1 m c t r 0 k))
    ((blk3 m c t k n).trans (congrFun (Tables.wIn m c) _))

theorem head_eq (k n : Fin 512) : (show FVec Ideal S512x512 .bf16 from iblk m c 6 t) (ix2 k n) = if k.val / 64 = n.val / 64 then 1 else 0 :=
  ((blk6 m c t k n).trans (congrFun (Tables.sameHead m c) _)).trans (Tables.heads_at k n)

theorem gainQ_eq (n : Fin 512) : k0_pay11 (F := Ideal) (iblk m c 4 t) (ix2 0 n) = val_main_v56 (F := Ideal) (A3 m c) (ix1 ⟨n.val % 64, by omega⟩) :=
  (gain512 _ n).trans (((blk4 m c t n).trans (congrFun (Tables.gQ m c) _)).trans (Tables.weightQ_at _ n))

theorem gainK_eq (n : Fin 128) : k0_pay15 (F := Ideal) (iblk m c 5 t) (ix2 0 n) = val_main_v72 (F := Ideal) (A4 m c) (ix1 ⟨n.val % 64, by omega⟩) :=
  (gain128 _ n).trans (((blk5 m c t n).trans (congrFun (Tables.gK m c) _)).trans (Tables.weightK_at _ n))

/-- The normalised query of a token. -/
theorem normQ_eq (H : Real m c) (r : Fin 512) (n : Fin 512) :
    k0_pay12 (F := Ideal) (iblk m c 0 t) (iblk m c 1 t) (iblk m c 3 t) (iblk m c 6 t) (ix2 r n) * k0_pay11 (F := Ideal) (iblk m c 4 t) (ix2 0 n)
      = val_main_v71 (F := Ideal) (A0 m c) (A1 m c) (A2 m c) (A3 m c) (ix2 (tok t r) n) := by
  have hy : ∀ k : Fin 512, k0_pay6 (F := Ideal) (iblk m c 0 t) (iblk m c 1 t) (iblk m c 3 t) (ix2 r ⟨k, by omega⟩) = val_main_v50 (F := Ideal) (A0 m c) (A1 m c) (A2 m c) (ix2 (tok t r) k) :=
    fun k => (proj_eq m c t r _).trans (Cert.InOddRefIdeal.Rows.cq_at _ _ _ _ k).symm
  have hr : ∀ k : Fin 512, IsReal (val_main_v50 (F := Ideal) (A0 m c) (A1 m c) (A2 m c) (ix2 (tok t r) k)) := fun k => by
    rw [Cert.InOddRefIdeal.Rows.cq_at]; exact proj_real m c H _ _
  exact (normQ_gen _ _ _ _ _ r (fun k => val_main_v50 (F := Ideal) (A0 m c) (A1 m c) (A2 m c) (ix2 (tok t r) k)) hy hr (head_eq m c t) n _ (gainQ_eq m c t n)).trans
    (Cert.InOddRefIdeal.Rows.normQ_at _ _ _ _ (tok t r) n).symm

/-- The normalised key of a token. -/
theorem normK_eq (H : Real m c) (r : Fin 512) (n : Fin 128) :
    k0_pay14 (F := Ideal) (k0_pay6 (F := Ideal) (iblk m c 0 t) (iblk m c 1 t) (iblk m c 3 t)) (ix2 r n) * Ideal.rsqrt ((k0_pay16 (F := Ideal) (k0_pay6 (F := Ideal) (iblk m c 0 t) (iblk m c 1 t) (iblk m c 3 t)) (k0_pay10 (iblk m c 6 t))) (ix2 r n) + Ideal.ofBits .f32 0x358637BD#32) * k0_pay15 (F := Ideal) (iblk m c 5 t) (ix2 0 n)
      = val_main_v87 (F := Ideal) (A0 m c) (A1 m c) (A2 m c) (A4 m c) (ix2 (tok t r) n) := by
  have hy : ∀ k : Fin 128, k0_pay6 (F := Ideal) (iblk m c 0 t) (iblk m c 1 t) (iblk m c 3 t) (ix2 r ⟨512 + k, by omega⟩) = val_main_v51 (F := Ideal) (A0 m c) (A1 m c) (A2 m c) (ix2 (tok t r) k) :=
    fun k => (proj_eq m c t r _).trans (Cert.InOddRefIdeal.Rows.ck_at _ _ _ _ k).symm
  have hr : ∀ k : Fin 128, IsReal (val_main_v51 (F := Ideal) (A0 m c) (A1 m c) (A2 m c) (ix2 (tok t r) k)) := fun k => by
    rw [Cert.InOddRefIdeal.Rows.ck_at]; exact proj_real m c H _ _
  exact (normK_gen _ _ _ r (fun k => val_main_v51 (F := Ideal) (A0 m c) (A1 m c) (A2 m c) (ix2 (tok t r) k)) hy hr (fun k n => (same16 _ k n).trans (head_eq m c t k n)) n _ (gainK_eq m c t n)).trans
    (Cert.InOddRefIdeal.Rows.normK_at _ _ _ _ (tok t r) n).symm

end Cert.InOddIdeal.Rows
-- ==== Proof.OddOuts.lean ====
/- What each point of the odd layer's input projection writes. -/
module

public import proofs.«01_k».proof.Proof.OddRows

@[expose] public section

set_option maxRecDepth 16384

noncomputable section

namespace Cert.InOddIdeal.Outs

open Cert.InOddIdeal Cert.InOddIdeal.Gen Cert.InOddIdeal.Blocks Idealize.ShloMosaic Idealize.ShloMosaic.TcCoe Idealize.SL.Sem
open Cert.InOddIdeal.Rows Cert.InOddIdeal.Angles Cert.InOddRefIdeal.Read

variable (m : (ℓ : Loc nD τ sig) → Buf (Elt Ideal) ℓ) (c : Dev nD) (t : Fin cfg0.N)

theorem rotated_prompt (p q : EReal) : p * 1 + q * 0 = p := by rw [mul_one, mul_zero, add_zero]
theorem rotated_low (p q a b : EReal) : p * a + q * -b = p * a - q * b := by rw [mul_neg, sub_eq_add_neg]
theorem rotated_high (p q a b : EReal) : p * a + q * b = q * b + p * a := add_comm _ _

/-- The rotated entry of a token. -/
theorem query_eq (H : Real m c) (r : Fin 512) (n : Fin 512) :
    k0_pay13 (F := Ideal) (k0_pay8 (iblk m c 2 t)) (k0_pay9 (iblk m c 2 t)) (k0_pay11 (iblk m c 4 t)) (k0_pay12 (F := Ideal) (iblk m c 0 t) (iblk m c 1 t) (iblk m c 3 t) (iblk m c 6 t)) (ix2 r n) = val_main_v105 (F := Ideal) (A0 m c) (A1 m c) (A2 m c) (A3 m c) (ix2 (tok t r) n) := by
  refine (Body.rotQ_at _ _ _ _ r n).trans ?_
  rw [normQ_eq m c t H r n, normQ_eq m c t H r ⟨(n.val + 32) % 512, by omega⟩, normQ_eq m c t H r ⟨(n.val + 480) % 512, by omega⟩]
  by_cases h : 8 ≤ t.val
  · rw [Cert.InOddRefIdeal.Rows.q_prompt _ _ _ _ _ _ ((prompt_iff t r).mpr h), cos_prompt m c t h r ⟨n, by omega⟩, sin_prompt m c t h r ⟨n, by omega⟩, rotated_prompt]
  · have h' : ¬ (tok t r).val < 8192 := fun e => h ((prompt_iff t r).mp e)
    by_cases hn : n.val % 64 < 32
    · have e : (⟨(n.val + 32) % 512, by omega⟩ : Fin 512) = ⟨(n.val + 32), by omega⟩ := Fin.ext (by dsimp only; omega)
      rw [if_pos hn, e, Cert.InOddRefIdeal.Rows.q_low _ _ _ _ _ _ h' hn, cos_low m c t h r ⟨n, by omega⟩ hn, sin_low m c t h r ⟨n, by omega⟩ hn, rotated_low]
      rfl
    · have e : (⟨(n.val + 480) % 512, by omega⟩ : Fin 512) = ⟨(n.val - 32), by omega⟩ := Fin.ext (by dsimp only; omega)
      rw [if_neg hn, e, Cert.InOddRefIdeal.Rows.q_high _ _ _ _ _ _ h' hn, cos_high m c t h r ⟨n, by omega⟩ hn, sin_high m c t h r ⟨n, by omega⟩ hn, rotated_high]
      rfl

/-- The rotated entry of a token. -/
theorem key_eq (H : Real m c) (r : Fin 512) (n : Fin 128) :
    k0_pay17 (F := Ideal) (k0_pay8 (iblk m c 2 t)) (k0_pay9 (iblk m c 2 t)) (k0_pay14 (k0_pay6 (F := Ideal) (iblk m c 0 t) (iblk m c 1 t) (iblk m c 3 t))) (k0_pay15 (iblk m c 5 t)) (k0_pay16 (F := Ideal) (k0_pay6 (F := Ideal) (iblk m c 0 t) (iblk m c 1 t) (iblk m c 3 t)) (k0_pay10 (iblk m c 6 t))) (ix2 r n) = val_main_v124 (F := Ideal) (A0 m c) (A1 m c) (A2 m c) (A4 m c) (ix2 (tok t r) n) := by
  refine (Body.rotK_at _ _ _ _ _ r n).trans ?_
  rw [normK_eq m c t H r n, normK_eq m c t H r ⟨(n.val + 32) % 128, by omega⟩, normK_eq m c t H r ⟨(n.val + 96) % 128, by omega⟩]
  by_cases h : 8 ≤ t.val
  · rw [Cert.InOddRefIdeal.Rows.k_prompt _ _ _ _ _ _ ((prompt_iff t r).mpr h), cos_prompt m c t h r ⟨n, by omega⟩, sin_prompt m c t h r ⟨n, by omega⟩, rotated_prompt]
  · have h' : ¬ (tok t r).val < 8192 := fun e => h ((prompt_iff t r).mp e)
    by_cases hn : n.val % 64 < 32
    · have e : (⟨(n.val + 32) % 128, by omega⟩ : Fin 128) = ⟨(n.val + 32), by omega⟩ := Fin.ext (by dsimp only; omega)
      rw [if_pos hn, e, Cert.InOddRefIdeal.Rows.k_low _ _ _ _ _ _ h' hn, cos_low m c t h r ⟨n, by omega⟩ hn, sin_low m c t h r ⟨n, by omega⟩ hn, rotated_low]
      rfl
    · have e : (⟨(n.val + 96) % 128, by omega⟩ : Fin 128) = ⟨(n.val - 32), by omega⟩ := Fin.ext (by dsimp only; omega)
      rw [if_neg hn, e, Cert.InOddRefIdeal.Rows.k_high _ _ _ _ _ _ h' hn, cos_high m c t h r ⟨n, by omega⟩ hn, sin_high m c t h r ⟨n, by omega⟩ hn, rotated_high]
      rfl

theorem out7_at (H : Real m c) (r : Fin 512) (n : Fin 512) :
    out0_7 (F := Ideal) (iblk m c 0 t) (iblk m c 1 t) (iblk m c 2 t) (iblk m c 3 t) (iblk m c 4 t) (iblk m c 5 t) (iblk m c 6 t) (ix2 r n) = val_main_v106 (F := Ideal) (A0 m c) (A1 m c) (A2 m c) (A3 m c) (ix2 (tok t r) n) := by
  refine Eq.trans (b := k0_pay13 (F := Ideal) (k0_pay8 (iblk m c 2 t)) (k0_pay9 (iblk m c 2 t)) (k0_pay11 (iblk m c 4 t)) (k0_pay12 (F := Ideal) (iblk m c 0 t) (iblk m c 1 t) (iblk m c 3 t) (iblk m c 6 t)) (ix2 r n)) ?_ ?_
  · unfold_out out0_7
    frame_out
  exact query_eq m c t H r n

theorem out8_at (H : Real m c) (r : Fin 512) (n : Fin 128) :
    out0_8 (F := Ideal) (iblk m c 0 t) (iblk m c 1 t) (iblk m c 2 t) (iblk m c 3 t) (iblk m c 4 t) (iblk m c 5 t) (iblk m c 6 t) (ix2 r n) = val_main_v125 (F := Ideal) (A0 m c) (A1 m c) (A2 m c) (A4 m c) (ix2 (tok t r) n) := by
  refine Eq.trans (b := k0_pay18 (F := Ideal) (k0_pay8 (iblk m c 2 t)) (k0_pay9 (iblk m c 2 t)) (k0_pay14 (k0_pay6 (F := Ideal) (iblk m c 0 t) (iblk m c 1 t) (iblk m c 3 t))) (k0_pay15 (iblk m c 5 t)) (k0_pay16 (F := Ideal) (k0_pay6 (F := Ideal) (iblk m c 0 t) (iblk m c 1 t) (iblk m c 3 t)) (k0_pay10 (iblk m c 6 t))) (ix2 r n)) ?_ ?_
  · unfold_out out0_8
    frame_out
  exact key_eq m c t H r n

theorem out9_at (r : Fin 512) (n : Fin 128) :
    out0_9 (F := Ideal) (iblk m c 0 t) (iblk m c 1 t) (iblk m c 2 t) (iblk m c 3 t) (iblk m c 4 t) (iblk m c 5 t) (iblk m c 6 t) (ix2 r n) = val_main_v126 (F := Ideal) (A0 m c) (A1 m c) (A2 m c) (ix2 (tok t r) n) := by
  refine Eq.trans (b := k0_pay20 (F := Ideal) (k0_pay6 (F := Ideal) (iblk m c 0 t) (iblk m c 1 t) (iblk m c 3 t)) (ix2 r n)) ?_ ?_
  · unfold_out out0_9
    frame_out
  exact (Body.v_at _ r n).trans ((proj_eq m c t r _).trans (Cert.InOddRefIdeal.Rows.cv_at _ _ _ _ n).symm)

theorem out10_at (r : Fin 512) (n : Fin 512) :
    out0_10 (F := Ideal) (iblk m c 0 t) (iblk m c 1 t) (iblk m c 2 t) (iblk m c 3 t) (iblk m c 4 t) (iblk m c 5 t) (iblk m c 6 t) (ix2 r n) = val_main_v127 (F := Ideal) (A0 m c) (A1 m c) (A2 m c) (ix2 (tok t r) n) := by
  refine Eq.trans (b := k0_pay1 (F := Ideal) (k0_pay6 (F := Ideal) (iblk m c 0 t) (iblk m c 1 t) (iblk m c 3 t)) (ix2 r n)) ?_ ?_
  · unfold_out out0_10
    frame_out
  exact (Body.dq_at _ r n).trans ((proj_eq m c t r _).trans (Cert.InOddRefIdeal.Rows.dq_at _ _ _ _ n).symm)

theorem out11_at (r : Fin 512) (n : Fin 512) :
    out0_11 (F := Ideal) (iblk m c 0 t) (iblk m c 1 t) (iblk m c 2 t) (iblk m c 3 t) (iblk m c 4 t) (iblk m c 5 t) (iblk m c 6 t) (ix2 r n) = val_main_v128 (F := Ideal) (A0 m c) (A1 m c) (A2 m c) (ix2 (tok t r) n) := by
  refine Eq.trans (b := k0_pay3 (F := Ideal) (k0_pay6 (F := Ideal) (iblk m c 0 t) (iblk m c 1 t) (iblk m c 3 t)) (ix2 r n)) ?_ ?_
  · unfold_out out0_11
    frame_out
  exact (Body.dk_at _ r n).trans ((proj_eq m c t r _).trans (Cert.InOddRefIdeal.Rows.dk_at _ _ _ _ n).symm)

theorem out12_at (r : Fin 512) (n : Fin 512) :
    out0_12 (F := Ideal) (iblk m c 0 t) (iblk m c 1 t) (iblk m c 2 t) (iblk m c 3 t) (iblk m c 4 t) (iblk m c 5 t) (iblk m c 6 t) (ix2 r n) = val_main_v129 (F := Ideal) (A0 m c) (A1 m c) (A2 m c) (ix2 (tok t r) n) := by
  refine Eq.trans (b := k0_pay5 (F := Ideal) (k0_pay6 (F := Ideal) (iblk m c 0 t) (iblk m c 1 t) (iblk m c 3 t)) (ix2 r n)) ?_ ?_
  · unfold_out out0_12
    frame_out
  exact (Body.dv_at _ r n).trans ((proj_eq m c t r _).trans (Cert.InOddRefIdeal.Rows.dv_at _ _ _ _ n).symm)

theorem out13_at (H : Real m c) (h : 8 ≤ t.val) (r : Fin 512) (n : Fin 128) :
    out0_13 (F := Ideal) (iblk m c 0 t) (iblk m c 1 t) (iblk m c 2 t) (iblk m c 3 t) (iblk m c 4 t) (iblk m c 5 t) (iblk m c 6 t) (ix2 r n) = val_main_v130 (F := Ideal) (A0 m c) (A1 m c) (A2 m c) (A4 m c) (ix2 ⟨(tok t r).val, (prompt_iff t r).mpr h⟩ n) := by
  refine Eq.trans (b := k0_pay17 (F := Ideal) (k0_pay8 (iblk m c 2 t)) (k0_pay9 (iblk m c 2 t)) (k0_pay14 (k0_pay6 (F := Ideal) (iblk m c 0 t) (iblk m c 1 t) (iblk m c 3 t))) (k0_pay15 (iblk m c 5 t)) (k0_pay16 (F := Ideal) (k0_pay6 (F := Ideal) (iblk m c 0 t) (iblk m c 1 t) (iblk m c 3 t)) (k0_pay10 (iblk m c 6 t))) (ix2 r n)) ?_ ?_
  · unfold_out out0_13
    frame_out
  rw [Cert.InOddRefIdeal.Rows.stateK_at]
  exact (key_eq m c t H r n).trans (Cert.InOddRefIdeal.Rows.k_prompt _ _ _ _ _ _ ((prompt_iff t r).mpr h))

theorem out14_at (h : 8 ≤ t.val) (r : Fin 512) (n : Fin 128) :
    out0_14 (F := Ideal) (iblk m c 0 t) (iblk m c 1 t) (iblk m c 2 t) (iblk m c 3 t) (iblk m c 4 t) (iblk m c 5 t) (iblk m c 6 t) (ix2 r n) = val_main_v131 (F := Ideal) (A0 m c) (A1 m c) (A2 m c) (ix2 ⟨(tok t r).val, (prompt_iff t r).mpr h⟩ n) := by
  refine Eq.trans (b := k0_pay19 (F := Ideal) (k0_pay6 (F := Ideal) (iblk m c 0 t) (iblk m c 1 t) (iblk m c 3 t)) (ix2 r n)) ?_ ?_
  · unfold_out out0_14
    frame_out
  rw [Cert.InOddRefIdeal.Rows.stateV_at]
  exact (Body.v_at _ r n).trans ((proj_eq m c t r _).trans (Cert.InOddRefIdeal.Rows.cv_at _ _ _ _ n).symm)

theorem out15_at (h : 8 ≤ t.val) (r : Fin 512) (n : Fin 512) :
    out0_15 (F := Ideal) (iblk m c 0 t) (iblk m c 1 t) (iblk m c 2 t) (iblk m c 3 t) (iblk m c 4 t) (iblk m c 5 t) (iblk m c 6 t) (ix2 r n) = val_main_v132 (F := Ideal) (A0 m c) (A1 m c) (A2 m c) (ix2 ⟨(tok t r).val, (prompt_iff t r).mpr h⟩ n) := by
  refine Eq.trans (b := k0_pay2 (F := Ideal) (k0_pay6 (F := Ideal) (iblk m c 0 t) (iblk m c 1 t) (iblk m c 3 t)) (ix2 r n)) ?_ ?_
  · unfold_out out0_15
    frame_out
  rw [Cert.InOddRefIdeal.Rows.stateDK_at]
  exact (Body.dk_at _ r n).trans ((proj_eq m c t r _).trans (Cert.InOddRefIdeal.Rows.dk_at _ _ _ _ n).symm)

theorem out16_at (h : 8 ≤ t.val) (r : Fin 512) (n : Fin 512) :
    out0_16 (F := Ideal) (iblk m c 0 t) (iblk m c 1 t) (iblk m c 2 t) (iblk m c 3 t) (iblk m c 4 t) (iblk m c 5 t) (iblk m c 6 t) (ix2 r n) = val_main_v133 (F := Ideal) (A0 m c) (A1 m c) (A2 m c) (ix2 ⟨(tok t r).val, (prompt_iff t r).mpr h⟩ n) := by
  refine Eq.trans (b := k0_pay4 (F := Ideal) (k0_pay6 (F := Ideal) (iblk m c 0 t) (iblk m c 1 t) (iblk m c 3 t)) (ix2 r n)) ?_ ?_
  · unfold_out out0_16
    frame_out
  rw [Cert.InOddRefIdeal.Rows.stateDV_at]
  exact (Body.dv_at _ r n).trans ((proj_eq m c t r _).trans (Cert.InOddRefIdeal.Rows.dv_at _ _ _ _ n).symm)

end Cert.InOddIdeal.Outs
-- ==== Proof.OddFinal.lean ====
/- The ten result arrays of the odd layer's input projection after the run. -/
module

public import proofs.«01_k».proof.Proof.OddOuts

@[expose] public section

set_option maxRecDepth 16384

noncomputable section

namespace Cert.InOddIdeal.Final

open Cert.InOddIdeal Cert.InOddIdeal.Gen Cert.InOddIdeal.Blocks Idealize.ShloMosaic Idealize.ShloMosaic.TcCoe Idealize.SL.Sem
open Cert.InOddIdeal.Angles (prompt_iff)
open Cert.InOddIdeal.Rows Cert.InOddIdeal.Outs Cert.InOddRefIdeal.Read
open Idealize.ShloMosaic.Pipeline (Dat)

variable (m : (ℓ : Loc nD τ sig) → Buf (Elt Ideal) ℓ) (c : Dev nD)

theorem final7 (H : Real m c) : (dats m 0 c).arrAt 7 (cfgs 0).N = val_main_v106 (F := Ideal) (A0 m c) (A1 m c) (A2 m c) (A3 m c) := by
  refine (dats m 0 c).arrAt_eq_of_covers 7 _ (by decide +kernel) fun t hf y => ?_
  blk_simp
  rw [after0_7]
  idx_vars y
  have e : ((cfg0.win 7).blk t).view.emb (ix2 y0 y1) = ix2 (tok t y0) y1 := by blk_ext [idx t, tok, tile]
  rw [e]
  exact out7_at m c t H y0 y1

theorem final8 (H : Real m c) : (dats m 0 c).arrAt 8 (cfgs 0).N = val_main_v125 (F := Ideal) (A0 m c) (A1 m c) (A2 m c) (A4 m c) := by
  refine (dats m 0 c).arrAt_eq_of_covers 8 _ (by decide +kernel) fun t hf y => ?_
  blk_simp
  rw [after0_8]
  idx_vars y
  have e : ((cfg0.win 8).blk t).view.emb (ix2 y0 y1) = ix2 (tok t y0) y1 := by blk_ext [idx t, tok, tile]
  rw [e]
  exact out8_at m c t H y0 y1

theorem final9 : (dats m 0 c).arrAt 9 (cfgs 0).N = val_main_v126 (F := Ideal) (A0 m c) (A1 m c) (A2 m c) := by
  refine (dats m 0 c).arrAt_eq_of_covers 9 _ (by decide +kernel) fun t hf y => ?_
  blk_simp
  rw [after0_9]
  idx_vars y
  have e : ((cfg0.win 9).blk t).view.emb (ix2 y0 y1) = ix2 (tok t y0) y1 := by blk_ext [idx t, tok, tile]
  rw [e]
  exact out9_at m c t y0 y1

theorem final10 : (dats m 0 c).arrAt 10 (cfgs 0).N = val_main_v127 (F := Ideal) (A0 m c) (A1 m c) (A2 m c) := by
  refine (dats m 0 c).arrAt_eq_of_covers 10 _ (by decide +kernel) fun t hf y => ?_
  blk_simp
  rw [after0_10]
  idx_vars y
  have e : ((cfg0.win 10).blk t).view.emb (ix2 y0 y1) = ix2 (tok t y0) y1 := by blk_ext [idx t, tok, tile]
  rw [e]
  exact out10_at m c t y0 y1

theorem final11 : (dats m 0 c).arrAt 11 (cfgs 0).N = val_main_v128 (F := Ideal) (A0 m c) (A1 m c) (A2 m c) := by
  refine (dats m 0 c).arrAt_eq_of_covers 11 _ (by decide +kernel) fun t hf y => ?_
  blk_simp
  rw [after0_11]
  idx_vars y
  have e : ((cfg0.win 11).blk t).view.emb (ix2 y0 y1) = ix2 (tok t y0) y1 := by blk_ext [idx t, tok, tile]
  rw [e]
  exact out11_at m c t y0 y1

theorem final12 : (dats m 0 c).arrAt 12 (cfgs 0).N = val_main_v129 (F := Ideal) (A0 m c) (A1 m c) (A2 m c) := by
  refine (dats m 0 c).arrAt_eq_of_covers 12 _ (by decide +kernel) fun t hf y => ?_
  blk_simp
  rw [after0_12]
  idx_vars y
  have e : ((cfg0.win 12).blk t).view.emb (ix2 y0 y1) = ix2 (tok t y0) y1 := by blk_ext [idx t, tok, tile]
  rw [e]
  exact out12_at m c t y0 y1

theorem final13 (H : Real m c) : (dats m 0 c).arrAt 13 (cfgs 0).N = val_main_v130 (F := Ideal) (A0 m c) (A1 m c) (A2 m c) (A4 m c) := by
  refine (dats m 0 c).arrAt_eq_of_covers 13 _ (by decide +kernel) fun t hf y => ?_
  have h8 : 8 ≤ t.val := (by decide +kernel : ∀ t : Fin grid0.N, win0_13.flush t = true → 8 ≤ t.val) t hf
  blk_simp
  rw [after0_13]
  idx_vars y
  have e : ((cfg0.win 13).blk t).view.emb (ix2 y0 y1) = ix2 ⟨(tok t y0).val, (prompt_iff t y0).mpr h8⟩ y1 := by
    have hi : ¬ t.val < 8 := by omega
    blk_ext [idx t, tok, tile, if_neg hi]
  rw [e]
  exact out13_at m c t H h8 y0 y1

theorem final14 : (dats m 0 c).arrAt 14 (cfgs 0).N = val_main_v131 (F := Ideal) (A0 m c) (A1 m c) (A2 m c) := by
  refine (dats m 0 c).arrAt_eq_of_covers 14 _ (by decide +kernel) fun t hf y => ?_
  have h8 : 8 ≤ t.val := (by decide +kernel : ∀ t : Fin grid0.N, win0_14.flush t = true → 8 ≤ t.val) t hf
  blk_simp
  rw [after0_14]
  idx_vars y
  have e : ((cfg0.win 14).blk t).view.emb (ix2 y0 y1) = ix2 ⟨(tok t y0).val, (prompt_iff t y0).mpr h8⟩ y1 := by
    have hi : ¬ t.val < 8 := by omega
    blk_ext [idx t, tok, tile, if_neg hi]
  rw [e]
  exact out14_at m c t h8 y0 y1

theorem final15 : (dats m 0 c).arrAt 15 (cfgs 0).N = val_main_v132 (F := Ideal) (A0 m c) (A1 m c) (A2 m c) := by
  refine (dats m 0 c).arrAt_eq_of_covers 15 _ (by decide +kernel) fun t hf y => ?_
  have h8 : 8 ≤ t.val := (by decide +kernel : ∀ t : Fin grid0.N, win0_15.flush t = true → 8 ≤ t.val) t hf
  blk_simp
  rw [after0_15]
  idx_vars y
  have e : ((cfg0.win 15).blk t).view.emb (ix2 y0 y1) = ix2 ⟨(tok t y0).val, (prompt_iff t y0).mpr h8⟩ y1 := by
    have hi : ¬ t.val < 8 := by omega
    blk_ext [idx t, tok, tile, if_neg hi]
  rw [e]
  exact out15_at m c t h8 y0 y1

theorem final16 : (dats m 0 c).arrAt 16 (cfgs 0).N = val_main_v133 (F := Ideal) (A0 m c) (A1 m c) (A2 m c) := by
  refine (dats m 0 c).arrAt_eq_of_covers 16 _ (by decide +kernel) fun t hf y => ?_
  have h8 : 8 ≤ t.val := (by decide +kernel : ∀ t : Fin grid0.N, win0_16.flush t = true → 8 ≤ t.val) t hf
  blk_simp
  rw [after0_16]
  idx_vars y
  have e : ((cfg0.win 16).blk t).view.emb (ix2 y0 y1) = ix2 ⟨(tok t y0).val, (prompt_iff t y0).mpr h8⟩ y1 := by
    have hi : ¬ t.val < 8 := by omega
    blk_ext [idx t, tok, tile, if_neg hi]
  rw [e]
  exact out16_at m c t h8 y0 y1

end Cert.InOddIdeal.Final
-- ==== Proof.OddFinite.lean ====
/- What the precondition of the odd layer's input projection says: its tokens, modulation vectors and weight are real. -/
module

public import proofs.«01_k».proof.Proof.AttnFinite
public import proofs.«01_k».proof.Proof.Gen.Pre_project_odd_finite

@[expose] public section

set_option maxRecDepth 16384

noncomputable section

namespace Cert.OddFinite

open Idealize.ShloMosaic Cert.AttnMath Cert.AttnFinite

open Cert.Pre_project_odd_finite in
/-- The printed test of one array says that its entries are real. -/
theorem finite_of {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x)
      (broadcastInDim s ![] hb (constant (F := Ideal) S_ .f32 0x7F800000#32))) (constantI S_ 1 1#1) hr hu j = 1#1)
    (i : s.Idx) : IsReal (x i) := by
  have e := all_one rfl _ _ hr hu j h i
  refine real_of_abs (x i) ?_
  rw [← posInf_eq]
  exact e

open Cert.Pre_project_odd_finite in
theorem finite (a0 : FVec Ideal S12288x1024 .f32) (a1 : FVec Ideal S2x8x6x1024 .f32) (a2 : FVec Ideal S1x1024x2304 .f32) (a3 a4 : FVec Ideal S1x64 .f32)
    (h : fn (F := Ideal) a0 a1 a2 a3 a4 = fun _ => 1#1) : (∀ i, IsReal (a0 i)) ∧ (∀ i, IsReal (a1 i)) ∧ (∀ i, IsReal (a2 i)) := by
  have hh := congrFun h (Shape.Idx.first (by decide))
  simp only [fn] at hh
  obtain ⟨hh, h2⟩ := and_at _ _ _ hh
  obtain ⟨hh, h1⟩ := and_at _ _ _ hh
  exact ⟨finite_of _ _ _ _ _ hh, finite_of _ _ _ _ _ h1, finite_of _ _ _ _ _ h2⟩

end Cert.OddFinite
-- ==== Proof.InOddClaims.lean ====
/- The value claim of the odd layer's input projection: on finite tokens, modulation vectors and weight, kernel and reference end with the same ten arrays. -/
module

public import proofs.«01_k».proof.Defs
public import proofs.«01_k».proof.Proof.Gen.InOddRefIdeal.Run
public import proofs.«01_k».proof.Proof.OddFinal
public import proofs.«01_k».proof.Proof.OddFinite

@[expose] public section

set_option maxRecDepth 16384

noncomputable section

namespace Cert.Proof.InOddClaims

open Idealize.ShloMosaic Idealize.SL.Sem

/-- The precondition, read of the memory's arrays. -/
theorem real_of (m : (ℓ : Loc Cert.InOddIdeal.nD Cert.InOddIdeal.τ Cert.InOddIdeal.sig) → Buf (Elt Ideal) ℓ) (h : Pre_InOddIdeal_project_odd_finite m) (c : Dev Cert.InOddIdeal.nD) :
    Cert.InOddIdeal.Rows.Real m c :=
  Cert.OddFinite.finite _ _ _ _ _ (h c)

set_option maxHeartbeats 1600000 in
theorem algebraic : Cert.algebraic_InOddIdeal_InOddRefIdeal_pre_project_odd_finite := by
  intro m ρ m' ρ' hpre hagree
  have R := real_of m hpre
  refine ⟨fun c => Cert.InOddRefIdeal.Read.val_main_v106 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)) (m ((c.tc : Thread Cert.InOddIdeal.nD Cert.InOddIdeal.τ).loc Cert.InOddIdeal.main_arg3)),
    fun c => Cert.InOddRefIdeal.Read.val_main_v125 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)) (m ((c.tc : Thread Cert.InOddIdeal.nD Cert.InOddIdeal.τ).loc Cert.InOddIdeal.main_arg4)),
    fun c => Cert.InOddRefIdeal.Read.val_main_v126 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v127 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v128 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v129 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v130 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)) (m ((c.tc : Thread Cert.InOddIdeal.nD Cert.InOddIdeal.τ).loc Cert.InOddIdeal.main_arg4)),
    fun c => Cert.InOddRefIdeal.Read.val_main_v131 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v132 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v133 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)), ?_, ?_⟩
  · exact (θ_run Cert.InOddIdeal.defs _ _).mono
      (fun _ h c => ⟨((h c).1).trans (Cert.InOddIdeal.Final.final7 m c (R c)),
        ((h c).2.1).trans (Cert.InOddIdeal.Final.final8 m c (R c)),
        ((h c).2.2.1).trans (Cert.InOddIdeal.Final.final9 m c),
        ((h c).2.2.2.1).trans (Cert.InOddIdeal.Final.final10 m c),
        ((h c).2.2.2.2.1).trans (Cert.InOddIdeal.Final.final11 m c),
        ((h c).2.2.2.2.2.1).trans (Cert.InOddIdeal.Final.final12 m c),
        ((h c).2.2.2.2.2.2.1).trans (Cert.InOddIdeal.Final.final13 m c (R c)),
        ((h c).2.2.2.2.2.2.2.1).trans (Cert.InOddIdeal.Final.final14 m c),
        ((h c).2.2.2.2.2.2.2.2.1).trans (Cert.InOddIdeal.Final.final15 m c),
        ((h c).2.2.2.2.2.2.2.2.2.1).trans (Cert.InOddIdeal.Final.final16 m c), (h c).2.2.2.2.2.2.2.2.2.2⟩)
      (Cert.InOddIdeal.Value.run_blocks m ρ)
  refine (θ_run Cert.InOddRefIdeal.defs _ _).mono (fun r h c => ?_) (Cert.InOddRefIdeal.Value.run (F := Ideal) m' ρ')
  obtain ⟨e0, e1, e2, e3, e4⟩ := hagree c
  have f0 : StableHlo.launchContents m' c (Proc.devRef .tc Cert.InOddRefIdeal.main_arg0) = m ((c.tc : Thread Cert.InOddIdeal.nD Cert.InOddIdeal.τ).loc Cert.InOddIdeal.main_arg0) := e0
  have f1 : StableHlo.launchContents m' c (Proc.devRef .tc Cert.InOddRefIdeal.main_arg1) = m ((c.tc : Thread Cert.InOddIdeal.nD Cert.InOddIdeal.τ).loc Cert.InOddIdeal.main_arg1) := e1
  have f2 : StableHlo.launchContents m' c (Proc.devRef .tc Cert.InOddRefIdeal.main_arg2) = m ((c.tc : Thread Cert.InOddIdeal.nD Cert.InOddIdeal.τ).loc Cert.InOddIdeal.main_arg2) := e2
  have f3 : StableHlo.launchContents m' c (Proc.devRef .tc Cert.InOddRefIdeal.main_arg3) = m ((c.tc : Thread Cert.InOddIdeal.nD Cert.InOddIdeal.τ).loc Cert.InOddIdeal.main_arg3) := e3
  have f4 : StableHlo.launchContents m' c (Proc.devRef .tc Cert.InOddRefIdeal.main_arg4) = m ((c.tc : Thread Cert.InOddIdeal.nD Cert.InOddIdeal.τ).loc Cert.InOddIdeal.main_arg4) := e4
  obtain ⟨h0, h1, h2, h3, h4, h5, h6, h7, h8, h9, hk⟩ := h c
  refine ⟨h0.trans ?_, h1.trans ?_, h2.trans ?_, h3.trans ?_, h4.trans ?_, h5.trans ?_, h6.trans ?_, h7.trans ?_, h8.trans ?_, h9.trans ?_, hk⟩
  · rw [Cert.InOddRefIdeal.Read.val_main_v106_eq, f0, f1, f2, f3]
  · rw [Cert.InOddRefIdeal.Read.val_main_v125_eq, f0, f1, f2, f4]
  · rw [Cert.InOddRefIdeal.Read.val_main_v126_eq, f0, f1, f2]
  · rw [Cert.InOddRefIdeal.Read.val_main_v127_eq, f0, f1, f2]
  · rw [Cert.InOddRefIdeal.Read.val_main_v128_eq, f0, f1, f2]
  · rw [Cert.InOddRefIdeal.Read.val_main_v129_eq, f0, f1, f2]
  · rw [Cert.InOddRefIdeal.Read.val_main_v130_eq, f0, f1, f2, f4]
  · rw [Cert.InOddRefIdeal.Read.val_main_v131_eq, f0, f1, f2]
  · rw [Cert.InOddRefIdeal.Read.val_main_v132_eq, f0, f1, f2]
  · rw [Cert.InOddRefIdeal.Read.val_main_v133_eq, f0, f1, f2]

end Cert.Proof.InOddClaims
-- ==== Proof.lean ====
/- The claims together: each program's frame, each kernel against its idealization, each value claim. -/
module

public import proofs.«01_k».proof.Defs
public import proofs.«01_k».proof.Proof.Gen.EvenAttn
public import proofs.«01_k».proof.Proof.Gen.EvenAttn.Frame
public import proofs.«01_k».proof.Proof.Gen.EvenAttnIdeal
public import proofs.«01_k».proof.Proof.Gen.EvenAttnIdeal.Frame
public import proofs.«01_k».proof.Proof.Gen.EvenAttnIdeal.Value
public import proofs.«01_k».proof.Proof.Gen.EvenRefIdeal
public import proofs.«01_k».proof.Proof.Gen.EvenRefIdeal.Run
public import proofs.«01_k».proof.Proof.Gen.EvenRefIdeal.Read
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.InEven
public import proofs.«01_k».proof.Proof.Gen.InEven.Frame
public import proofs.«01_k».proof.Proof.Gen.InEvenIdeal
public import proofs.«01_k».proof.Proof.Gen.InEvenIdeal.Frame
public import proofs.«01_k».proof.Proof.Gen.InEvenIdeal.Value
public import proofs.«01_k».proof.Proof.Gen.InEvenRefIdeal
public import proofs.«01_k».proof.Proof.Gen.InEvenRefIdeal.Run
public import proofs.«01_k».proof.Proof.Gen.InEvenRefIdeal.Read
public import proofs.«01_k».proof.Proof.Gen.Mods
public import proofs.«01_k».proof.Proof.Gen.Mods.Frame
public import proofs.«01_k».proof.Proof.Gen.ModsIdeal
public import proofs.«01_k».proof.Proof.Gen.ModsIdeal.Frame
public import proofs.«01_k».proof.Proof.Gen.ModsIdeal.Value
public import proofs.«01_k».proof.Proof.Gen.ModsRefIdeal
public import proofs.«01_k».proof.Proof.Gen.ModsRefIdeal.Run
public import proofs.«01_k».proof.Proof.Gen.ModsRefIdeal.Read
public import proofs.«01_k».proof.Proof.Gen.InOdd
public import proofs.«01_k».proof.Proof.Gen.InOdd.Frame
public import proofs.«01_k».proof.Proof.Gen.InOddIdeal
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InOddRefIdeal.Read
public import proofs.«01_k».proof.Proof.Gen.Pre_even_attention_finite
public import proofs.«01_k».proof.Proof.Gen.Pre_project_odd_finite
public import proofs.«01_k».proof.Proof.PostClaims
public import proofs.«01_k».proof.Proof.EvenAttnClaims
public import proofs.«01_k».proof.Proof.InEvenClaims
public import proofs.«01_k».proof.Proof.ModsClaims
public import proofs.«01_k».proof.Proof.InOddClaims
public import Idealize.ShloMosaic.Adequacy
public import Idealize.ShloMosaic.Init

@[expose] public section

noncomputable section

namespace Cert.Proof

open Idealize.ShloMosaic Idealize.SL.Sem

theorem frame_EvenRefIdeal : Cert.quiescent_EvenRefIdeal := fun m ρ _ =>
  (θ_run Cert.EvenRefIdeal.defs _ _).mono
    (fun r h => ⟨fun c => (h c).2.2, sem_eq_zero_of_no_sems (by decide) r.2⟩)
    (Cert.EvenRefIdeal.Value.run (F := Ideal) m ρ)

theorem frame_PostRefIdeal : Cert.quiescent_PostRefIdeal := fun m ρ _ =>
  (θ_run Cert.PostRefIdeal.defs _ _).mono
    (fun r h => ⟨fun c => (h c).2.2.2.2, sem_eq_zero_of_no_sems (by decide) r.2⟩)
    (Cert.PostRefIdeal.Value.run (F := Ideal) m ρ)

theorem frame_InEvenRefIdeal : Cert.quiescent_InEvenRefIdeal := fun m ρ _ =>
  (θ_run Cert.InEvenRefIdeal.defs _ _).mono
    (fun r h => ⟨fun c => (h c).2.2.2.2.2.2.2.2.2.2, sem_eq_zero_of_no_sems (by decide) r.2⟩)
    (Cert.InEvenRefIdeal.Value.run (F := Ideal) m ρ)

theorem frame_ModsRefIdeal : Cert.quiescent_ModsRefIdeal := fun m ρ _ =>
  (θ_run Cert.ModsRefIdeal.defs _ _).mono
    (fun r h => ⟨fun c => (h c).2, sem_eq_zero_of_no_sems (by decide) r.2⟩)
    (Cert.ModsRefIdeal.Value.run (F := Ideal) m ρ)

theorem frame_InOddRefIdeal : Cert.quiescent_InOddRefIdeal := fun m ρ _ =>
  (θ_run Cert.InOddRefIdeal.defs _ _).mono
    (fun r h => ⟨fun c => (h c).2.2.2.2.2.2.2.2.2.2, sem_eq_zero_of_no_sems (by decide) r.2⟩)
    (Cert.InOddRefIdeal.Value.run (F := Ideal) m ρ)

theorem claim : Cert.Claim :=
  ⟨Cert.EvenAttn.Gen.facts,
    Cert.EvenAttnIdeal.Gen.facts,
    Cert.EvenRefIdeal.Gen.facts,
    Cert.Post.Gen.facts,
    Cert.PostIdeal.Gen.facts,
    Cert.PostRefIdeal.Gen.facts,
    Cert.InEven.Gen.facts,
    Cert.InEvenIdeal.Gen.facts,
    Cert.InEvenRefIdeal.Gen.facts,
    Cert.Mods.Gen.facts,
    Cert.ModsIdeal.Gen.facts,
    Cert.ModsRefIdeal.Gen.facts,
    Cert.InOdd.Gen.facts,
    Cert.InOddIdeal.Gen.facts,
    Cert.InOddRefIdeal.Gen.facts,
    Cert.Pre_even_attention_finite.Gen.facts,
    Cert.Pre_project_odd_finite.Gen.facts,
    fun m ρ _ => Cert.EvenAttn.Gen.frame m ρ,
    fun m ρ _ => Cert.EvenAttnIdeal.Gen.frame m ρ,
    fun m ρ _ => Cert.EvenAttnIdeal.Gen.frame m ρ,
    frame_EvenRefIdeal,
    fun m ρ _ => frame_EvenRefIdeal m ρ trivial,
    fun m ρ _ => Cert.Post.Gen.frame m ρ,
    fun m ρ _ => Cert.PostIdeal.Gen.frame m ρ,
    frame_PostRefIdeal,
    fun m ρ _ => Cert.InEven.Gen.frame m ρ,
    fun m ρ _ => Cert.InEvenIdeal.Gen.frame m ρ,
    frame_InEvenRefIdeal,
    fun m ρ _ => Cert.Mods.Gen.frame m ρ,
    fun m ρ _ => Cert.ModsIdeal.Gen.frame m ρ,
    frame_ModsRefIdeal,
    fun m ρ _ => Cert.InOdd.Gen.frame m ρ,
    fun m ρ _ => Cert.InOddIdeal.Gen.frame m ρ,
    fun m ρ _ => Cert.InOddIdeal.Gen.frame m ρ,
    frame_InOddRefIdeal,
    fun m ρ _ => frame_InOddRefIdeal m ρ trivial,
    trivial,
    EvenAttnClaims.algebraic,
    trivial,
    PostClaims.algebraic,
    trivial,
    InEvenClaims.algebraic,
    trivial,
    ModsClaims.algebraic,
    trivial,
    InOddClaims.algebraic⟩

end Cert.Proof

end
